-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_gain_and_keys [hPre_finite_gain_and_keys : Cert.Pre_finite_gain_and_keys.Facts] (m : (ℓ : Loc Cert.AttnIdeal.nD Cert.AttnIdeal.τ Cert.AttnIdeal.sig) → Buf (Elt Ideal) ℓ) : Prop :=
  ∀ c : Dev Cert.AttnIdeal.nD,
    (Cert.Pre_finite_gain_and_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_gain_and_keys [hPre_finite_gain_and_keys : Cert.Pre_finite_gain_and_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_gain_and_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_gains [hPre_finite_gains : Cert.Pre_finite_gains.Facts] (m : (ℓ : Loc Cert.CtxIdeal.nD Cert.CtxIdeal.τ Cert.CtxIdeal.sig) → Buf (Elt Ideal) ℓ) : Prop :=
  ∀ c : Dev Cert.CtxIdeal.nD,
    (Cert.Pre_finite_gains.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1))) = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite_gains [hPre_finite_gains : Cert.Pre_finite_gains.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite_gains.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1))) = (fun _ => 1#1)

def Pre_Streams (m : (ℓ : Loc Cert.Streams.nD Cert.Streams.τ Cert.Streams.sig) → Buf (Elt Bits) ℓ) : Prop :=
  True

def Pre_StreamsIdeal (m : (ℓ : Loc Cert.StreamsIdeal.nD Cert.StreamsIdeal.τ Cert.StreamsIdeal.sig) → Buf (Elt Ideal) ℓ) : Prop :=
  True

def Pre_StreamsRefIdeal (m : (ℓ : Loc Cert.StreamsRefIdeal.nD Cert.StreamsRefIdeal.τ Cert.StreamsRefIdeal.sig) → Buf (Elt Ideal) ℓ) : Prop :=
  True

def Pre_Modu (m : (ℓ : Loc Cert.Modu.nD Cert.Modu.τ Cert.Modu.sig) → Buf (Elt Bits) ℓ) : Prop :=
  True

def Pre_ModuIdeal (m : (ℓ : Loc Cert.ModuIdeal.nD Cert.ModuIdeal.τ Cert.ModuIdeal.sig) → Buf (Elt Ideal) ℓ) : Prop :=
  True

def Pre_ModuRefIdeal (m : (ℓ : Loc Cert.ModuRefIdeal.nD Cert.ModuRefIdeal.τ Cert.ModuRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_gain_and_keys [hAttnIdeal : Cert.AttnIdeal.Facts] [hPre_finite_gain_and_keys : Cert.Pre_finite_gain_and_keys.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_gain_and_keys m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_gain_and_keys [hAttnRefIdeal : Cert.AttnRefIdeal.Facts] [hPre_finite_gain_and_keys : Cert.Pre_finite_gain_and_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_gain_and_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3)
      ∧ r.2.mem ((c.tc : Thread Cert.OddInRefIdeal.nD Cert.OddInRefIdeal.τ).loc Cert.OddInRefIdeal.main_arg4) = m ((c.tc : Thread Cert.OddInRefIdeal.nD Cert.OddInRefIdeal.τ).loc Cert.OddInRefIdeal.main_arg4))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7)
      ∧ r.2.mem ((c.tc : Thread Cert.EvenOut.nD Cert.EvenOut.τ).loc Cert.EvenOut.main_arg8) = m ((c.tc : Thread Cert.EvenOut.nD Cert.EvenOut.τ).loc Cert.EvenOut.main_arg8))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
      ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6)
      ∧ r.2.mem ((c.tc : Thread Cert.EvenOutRefIdeal.nD Cert.EvenOutRefIdeal.τ).loc Cert.EvenOutRefIdeal.main_arg7) = m ((c.tc : Thread Cert.EvenOutRefIdeal.nD Cert.EvenOutRefIdeal.τ).loc Cert.EvenOutRefIdeal.main_arg7)
      ∧ r.2.mem ((c.tc : Thread Cert.EvenOutRefIdeal.nD Cert.EvenOutRefIdeal.τ).loc Cert.EvenOutRefIdeal.main_arg8) = m ((c.tc : Thread Cert.EvenOutRefIdeal.nD Cert.EvenOutRefIdeal.τ).loc Cert.EvenOutRefIdeal.main_arg8))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5)
      ∧ r.2.mem ((c.tc : Thread Cert.OddOut.nD Cert.OddOut.τ).loc Cert.OddOut.main_arg6) = m ((c.tc : Thread Cert.OddOut.nD Cert.OddOut.τ).loc Cert.OddOut.main_arg6)
      ∧ r.2.mem ((c.tc : Thread Cert.OddOut.nD Cert.OddOut.τ).loc Cert.OddOut.main_arg7) = m ((c.tc : Thread Cert.OddOut.nD Cert.OddOut.τ).loc Cert.OddOut.main_arg7)
      ∧ r.2.mem ((c.tc : Thread Cert.OddOut.nD Cert.OddOut.τ).loc Cert.OddOut.main_arg8) = m ((c.tc : Thread Cert.OddOut.nD Cert.OddOut.τ).loc Cert.OddOut.main_arg8))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
      ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7)
      ∧ r.2.mem ((c.tc : Thread Cert.OddOutIdeal.nD Cert.OddOutIdeal.τ).loc Cert.OddOutIdeal.main_arg8) = m ((c.tc : Thread Cert.OddOutIdeal.nD Cert.OddOutIdeal.τ).loc Cert.OddOutIdeal.main_arg8))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5)
      ∧ r.2.mem ((c.tc : Thread Cert.OddOutRefIdeal.nD Cert.OddOutRefIdeal.τ).loc Cert.OddOutRefIdeal.main_arg6) = m ((c.tc : Thread Cert.OddOutRefIdeal.nD Cert.OddOutRefIdeal.τ).loc Cert.OddOutRefIdeal.main_arg6)
      ∧ r.2.mem ((c.tc : Thread Cert.OddOutRefIdeal.nD Cert.OddOutRefIdeal.τ).loc Cert.OddOutRefIdeal.main_arg7) = m ((c.tc : Thread Cert.OddOutRefIdeal.nD Cert.OddOutRefIdeal.τ).loc Cert.OddOutRefIdeal.main_arg7)
      ∧ r.2.mem ((c.tc : Thread Cert.OddOutRefIdeal.nD Cert.OddOutRefIdeal.τ).loc Cert.OddOutRefIdeal.main_arg8) = m ((c.tc : Thread Cert.OddOutRefIdeal.nD Cert.OddOutRefIdeal.τ).loc Cert.OddOutRefIdeal.main_arg8))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3)
      ∧ r.2.mem ((c.tc : Thread Cert.QueryRefIdeal.nD Cert.QueryRefIdeal.τ).loc Cert.QueryRefIdeal.main_arg4) = m ((c.tc : Thread Cert.QueryRefIdeal.nD Cert.QueryRefIdeal.τ).loc Cert.QueryRefIdeal.main_arg4))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1))
      ∧ r.2.sem = fun _ => 0)

def quiescent_CtxIdeal_pre_finite_gains [hCtxIdeal : Cert.CtxIdeal.Facts] [hPre_finite_gains : Cert.Pre_finite_gains.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_gains m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1))
      ∧ r.2.sem = fun _ => 0)

def quiescent_CtxRefIdeal_pre_finite_gains [hCtxRefIdeal : Cert.CtxRefIdeal.Facts] [hPre_finite_gains : Cert.Pre_finite_gains.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite_gains m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1))
      ∧ r.2.sem = fun _ => 0)

def quiescent_Streams [hStreams : Cert.Streams.Facts] : Prop :=
  ∀ (m : (ℓ : Loc Cert.Streams.nD Cert.Streams.τ Cert.Streams.sig) → Buf (Elt Bits) ℓ) (g : Dev Cert.Streams.nD → PrngReg), Pre_Streams m →
    θ_run (Cert.Streams.defs (F := Bits)) (onTc (τ := Cert.Streams.τ) (Cert.Streams.main (F := Bits))) ⟨m, fun _ => 0, g⟩ (fun r => (∀ c : Dev Cert.Streams.nD,
      r.2.mem ((c.tc : Thread Cert.Streams.nD Cert.Streams.τ).loc Cert.Streams.main_arg0) = m ((c.tc : Thread Cert.Streams.nD Cert.Streams.τ).loc Cert.Streams.main_arg0)
      ∧ r.2.mem ((c.tc : Thread Cert.Streams.nD Cert.Streams.τ).loc Cert.Streams.main_arg1) = m ((c.tc : Thread Cert.Streams.nD Cert.Streams.τ).loc Cert.Streams.main_arg1)
      ∧ r.2.mem ((c.tc : Thread Cert.Streams.nD Cert.Streams.τ).loc Cert.Streams.main_arg2) = m ((c.tc : Thread Cert.Streams.nD Cert.Streams.τ).loc Cert.Streams.main_arg2)
      ∧ r.2.mem ((c.tc : Thread Cert.Streams.nD Cert.Streams.τ).loc Cert.Streams.main_arg3) = m ((c.tc : Thread Cert.Streams.nD Cert.Streams.τ).loc Cert.Streams.main_arg3))
      ∧ r.2.sem = fun _ => 0)

def quiescent_StreamsIdeal [hStreamsIdeal : Cert.StreamsIdeal.Facts] : Prop :=
  ∀ (m : (ℓ : Loc Cert.StreamsIdeal.nD Cert.StreamsIdeal.τ Cert.StreamsIdeal.sig) → Buf (Elt Ideal) ℓ) (g : Dev Cert.StreamsIdeal.nD → PrngReg), Pre_StreamsIdeal m →
    θ_run (Cert.StreamsIdeal.defs (F := Ideal)) (onTc (τ := Cert.StreamsIdeal.τ) (Cert.StreamsIdeal.main (F := Ideal))) ⟨m, fun _ => 0, g⟩ (fun r => (∀ c : Dev Cert.StreamsIdeal.nD,
      r.2.mem ((c.tc : Thread Cert.StreamsIdeal.nD Cert.StreamsIdeal.τ).loc Cert.StreamsIdeal.main_arg0) = m ((c.tc : Thread Cert.StreamsIdeal.nD Cert.StreamsIdeal.τ).loc Cert.StreamsIdeal.main_arg0)
      ∧ r.2.mem ((c.tc : Thread Cert.StreamsIdeal.nD Cert.StreamsIdeal.τ).loc Cert.StreamsIdeal.main_arg1) = m ((c.tc : Thread Cert.StreamsIdeal.nD Cert.StreamsIdeal.τ).loc Cert.StreamsIdeal.main_arg1)
      ∧ r.2.mem ((c.tc : Thread Cert.StreamsIdeal.nD Cert.StreamsIdeal.τ).loc Cert.StreamsIdeal.main_arg2) = m ((c.tc : Thread Cert.StreamsIdeal.nD Cert.StreamsIdeal.τ).loc Cert.StreamsIdeal.main_arg2)
      ∧ r.2.mem ((c.tc : Thread Cert.StreamsIdeal.nD Cert.StreamsIdeal.τ).loc Cert.StreamsIdeal.main_arg3) = m ((c.tc : Thread Cert.StreamsIdeal.nD Cert.StreamsIdeal.τ).loc Cert.StreamsIdeal.main_arg3))
      ∧ r.2.sem = fun _ => 0)

def quiescent_StreamsRefIdeal [hStreamsRefIdeal : Cert.StreamsRefIdeal.Facts] : Prop :=
  ∀ (m : (ℓ : Loc Cert.StreamsRefIdeal.nD Cert.StreamsRefIdeal.τ Cert.StreamsRefIdeal.sig) → Buf (Elt Ideal) ℓ) (g : Dev Cert.StreamsRefIdeal.nD → PrngReg), Pre_StreamsRefIdeal m →
    θ_run (Cert.StreamsRefIdeal.defs (F := Ideal)) (onTc (τ := Cert.StreamsRefIdeal.τ) (Cert.StreamsRefIdeal.main (F := Ideal))) ⟨m, fun _ => 0, g⟩ (fun r => (∀ c : Dev Cert.StreamsRefIdeal.nD,
      r.2.mem ((c.tc : Thread Cert.StreamsRefIdeal.nD Cert.StreamsRefIdeal.τ).loc Cert.StreamsRefIdeal.main_arg0) = m ((c.tc : Thread Cert.StreamsRefIdeal.nD Cert.StreamsRefIdeal.τ).loc Cert.StreamsRefIdeal.main_arg0)
      ∧ r.2.mem ((c.tc : Thread Cert.StreamsRefIdeal.nD Cert.StreamsRefIdeal.τ).loc Cert.StreamsRefIdeal.main_arg1) = m ((c.tc : Thread Cert.StreamsRefIdeal.nD Cert.StreamsRefIdeal.τ).loc Cert.StreamsRefIdeal.main_arg1)
      ∧ r.2.mem ((c.tc : Thread Cert.StreamsRefIdeal.nD Cert.StreamsRefIdeal.τ).loc Cert.StreamsRefIdeal.main_arg2) = m ((c.tc : Thread Cert.StreamsRefIdeal.nD Cert.StreamsRefIdeal.τ).loc Cert.StreamsRefIdeal.main_arg2)
      ∧ r.2.mem ((c.tc : Thread Cert.StreamsRefIdeal.nD Cert.StreamsRefIdeal.τ).loc Cert.StreamsRefIdeal.main_arg3) = m ((c.tc : Thread Cert.StreamsRefIdeal.nD Cert.StreamsRefIdeal.τ).loc Cert.StreamsRefIdeal.main_arg3))
      ∧ r.2.sem = fun _ => 0)

def quiescent_Modu [hModu : Cert.Modu.Facts] : Prop :=
  ∀ (m : (ℓ : Loc Cert.Modu.nD Cert.Modu.τ Cert.Modu.sig) → Buf (Elt Bits) ℓ) (g : Dev Cert.Modu.nD → PrngReg), Pre_Modu m →
    θ_run (Cert.Modu.defs (F := Bits)) (onTc (τ := Cert.Modu.τ) (Cert.Modu.main (F := Bits))) ⟨m, fun _ => 0, g⟩ (fun r => (∀ c : Dev Cert.Modu.nD,
      r.2.mem ((c.tc : Thread Cert.Modu.nD Cert.Modu.τ).loc Cert.Modu.main_arg0) = m ((c.tc : Thread Cert.Modu.nD Cert.Modu.τ).loc Cert.Modu.main_arg0)
      ∧ r.2.mem ((c.tc : Thread Cert.Modu.nD Cert.Modu.τ).loc Cert.Modu.main_arg1) = m ((c.tc : Thread Cert.Modu.nD Cert.Modu.τ).loc Cert.Modu.main_arg1)
      ∧ r.2.mem ((c.tc : Thread Cert.Modu.nD Cert.Modu.τ).loc Cert.Modu.main_arg2) = m ((c.tc : Thread Cert.Modu.nD Cert.Modu.τ).loc Cert.Modu.main_arg2)
      ∧ r.2.mem ((c.tc : Thread Cert.Modu.nD Cert.Modu.τ).loc Cert.Modu.main_arg3) = m ((c.tc : Thread Cert.Modu.nD Cert.Modu.τ).loc Cert.Modu.main_arg3))
      ∧ r.2.sem = fun _ => 0)

def quiescent_ModuIdeal [hModuIdeal : Cert.ModuIdeal.Facts] : Prop :=
  ∀ (m : (ℓ : Loc Cert.ModuIdeal.nD Cert.ModuIdeal.τ Cert.ModuIdeal.sig) → Buf (Elt Ideal) ℓ) (g : Dev Cert.ModuIdeal.nD → PrngReg), Pre_ModuIdeal m →
    θ_run (Cert.ModuIdeal.defs (F := Ideal)) (onTc (τ := Cert.ModuIdeal.τ) (Cert.ModuIdeal.main (F := Ideal))) ⟨m, fun _ => 0, g⟩ (fun r => (∀ c : Dev Cert.ModuIdeal.nD,
      r.2.mem ((c.tc : Thread Cert.ModuIdeal.nD Cert.ModuIdeal.τ).loc Cert.ModuIdeal.main_arg0) = m ((c.tc : Thread Cert.ModuIdeal.nD Cert.ModuIdeal.τ).loc Cert.ModuIdeal.main_arg0)
      ∧ r.2.mem ((c.tc : Thread Cert.ModuIdeal.nD Cert.ModuIdeal.τ).loc Cert.ModuIdeal.main_arg1) = m ((c.tc : Thread Cert.ModuIdeal.nD Cert.ModuIdeal.τ).loc Cert.ModuIdeal.main_arg1)
      ∧ r.2.mem ((c.tc : Thread Cert.ModuIdeal.nD Cert.ModuIdeal.τ).loc Cert.ModuIdeal.main_arg2) = m ((c.tc : Thread Cert.ModuIdeal.nD Cert.ModuIdeal.τ).loc Cert.ModuIdeal.main_arg2)
      ∧ r.2.mem ((c.tc : Thread Cert.ModuIdeal.nD Cert.ModuIdeal.τ).loc Cert.ModuIdeal.main_arg3) = m ((c.tc : Thread Cert.ModuIdeal.nD Cert.ModuIdeal.τ).loc Cert.ModuIdeal.main_arg3))
      ∧ r.2.sem = fun _ => 0)

def quiescent_ModuRefIdeal [hModuRefIdeal : Cert.ModuRefIdeal.Facts] : Prop :=
  ∀ (m : (ℓ : Loc Cert.ModuRefIdeal.nD Cert.ModuRefIdeal.τ Cert.ModuRefIdeal.sig) → Buf (Elt Ideal) ℓ) (g : Dev Cert.ModuRefIdeal.nD → PrngReg), Pre_ModuRefIdeal m →
    θ_run (Cert.ModuRefIdeal.defs (F := Ideal)) (onTc (τ := Cert.ModuRefIdeal.τ) (Cert.ModuRefIdeal.main (F := Ideal))) ⟨m, fun _ => 0, g⟩ (fun r => (∀ c : Dev Cert.ModuRefIdeal.nD,
      r.2.mem ((c.tc : Thread Cert.ModuRefIdeal.nD Cert.ModuRefIdeal.τ).loc Cert.ModuRefIdeal.main_arg0) = m ((c.tc : Thread Cert.ModuRefIdeal.nD Cert.ModuRefIdeal.τ).loc Cert.ModuRefIdeal.main_arg0)
      ∧ r.2.mem ((c.tc : Thread Cert.ModuRefIdeal.nD Cert.ModuRefIdeal.τ).loc Cert.ModuRefIdeal.main_arg1) = m ((c.tc : Thread Cert.ModuRefIdeal.nD Cert.ModuRefIdeal.τ).loc Cert.ModuRefIdeal.main_arg1)
      ∧ r.2.mem ((c.tc : Thread Cert.ModuRefIdeal.nD Cert.ModuRefIdeal.τ).loc Cert.ModuRefIdeal.main_arg2) = m ((c.tc : Thread Cert.ModuRefIdeal.nD Cert.ModuRefIdeal.τ).loc Cert.ModuRefIdeal.main_arg2)
      ∧ r.2.mem ((c.tc : Thread Cert.ModuRefIdeal.nD Cert.ModuRefIdeal.τ).loc Cert.ModuRefIdeal.main_arg3) = m ((c.tc : Thread Cert.ModuRefIdeal.nD Cert.ModuRefIdeal.τ).loc Cert.ModuRefIdeal.main_arg3))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2))
      ∧ r.2.sem = fun _ => 0)

def preserves_Attn_AttnIdeal : Prop :=
  True

def algebraic_AttnIdeal_AttnRefIdeal_pre_finite_gain_and_keys [hAttnIdeal : Cert.AttnIdeal.Facts] [hAttnRefIdeal : Cert.AttnRefIdeal.Facts] [hPre_finite_gain_and_keys : Cert.Pre_finite_gain_and_keys.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_gain_and_keys m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v33)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v33) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v103) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)) →
    ∃ (v0 : (c : Dev Cert.EvenInIdeal.nD) → Buf (Elt Ideal) ((c.tc : Thread Cert.EvenInIdeal.nD Cert.EvenInIdeal.τ).loc Cert.EvenInIdeal.main_v2)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v2) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v21) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)
      ∧ m' ((c.tc : Thread Cert.OddInRefIdeal.nD Cert.OddInRefIdeal.τ).loc Cert.OddInRefIdeal.main_arg4) = m ((c.tc : Thread Cert.OddInIdeal.nD Cert.OddInIdeal.τ).loc Cert.OddInIdeal.main_arg4)) →
    ∃ (v0 : (c : Dev Cert.OddInIdeal.nD) → Buf (Elt Ideal) ((c.tc : Thread Cert.OddInIdeal.nD Cert.OddInIdeal.τ).loc Cert.OddInIdeal.main_v2)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v2) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v21) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3)
          ∧ r.2.mem ((c.tc : Thread Cert.OddInRefIdeal.nD Cert.OddInRefIdeal.τ).loc Cert.OddInRefIdeal.main_arg4) = m' ((c.tc : Thread Cert.OddInRefIdeal.nD Cert.OddInRefIdeal.τ).loc Cert.OddInRefIdeal.main_arg4))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)
      ∧ m' ((c.tc : Thread Cert.EvenOutRefIdeal.nD Cert.EvenOutRefIdeal.τ).loc Cert.EvenOutRefIdeal.main_arg7) = m ((c.tc : Thread Cert.EvenOutIdeal.nD Cert.EvenOutIdeal.τ).loc Cert.EvenOutIdeal.main_arg7)
      ∧ m' ((c.tc : Thread Cert.EvenOutRefIdeal.nD Cert.EvenOutRefIdeal.τ).loc Cert.EvenOutRefIdeal.main_arg8) = m ((c.tc : Thread Cert.EvenOutIdeal.nD Cert.EvenOutIdeal.τ).loc Cert.EvenOutIdeal.main_arg8)) →
    ∃ (v0 : (c : Dev Cert.EvenOutIdeal.nD) → Buf (Elt Ideal) ((c.tc : Thread Cert.EvenOutIdeal.nD Cert.EvenOutIdeal.τ).loc Cert.EvenOutIdeal.main_v1)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v1) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
          ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v39) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6)
          ∧ r.2.mem ((c.tc : Thread Cert.EvenOutRefIdeal.nD Cert.EvenOutRefIdeal.τ).loc Cert.EvenOutRefIdeal.main_arg7) = m' ((c.tc : Thread Cert.EvenOutRefIdeal.nD Cert.EvenOutRefIdeal.τ).loc Cert.EvenOutRefIdeal.main_arg7)
          ∧ r.2.mem ((c.tc : Thread Cert.EvenOutRefIdeal.nD Cert.EvenOutRefIdeal.τ).loc Cert.EvenOutRefIdeal.main_arg8) = m' ((c.tc : Thread Cert.EvenOutRefIdeal.nD Cert.EvenOutRefIdeal.τ).loc Cert.EvenOutRefIdeal.main_arg8))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)
      ∧ m' ((c.tc : Thread Cert.OddOutRefIdeal.nD Cert.OddOutRefIdeal.τ).loc Cert.OddOutRefIdeal.main_arg6) = m ((c.tc : Thread Cert.OddOutIdeal.nD Cert.OddOutIdeal.τ).loc Cert.OddOutIdeal.main_arg6)
      ∧ m' ((c.tc : Thread Cert.OddOutRefIdeal.nD Cert.OddOutRefIdeal.τ).loc Cert.OddOutRefIdeal.main_arg7) = m ((c.tc : Thread Cert.OddOutIdeal.nD Cert.OddOutIdeal.τ).loc Cert.OddOutIdeal.main_arg7)
      ∧ m' ((c.tc : Thread Cert.OddOutRefIdeal.nD Cert.OddOutRefIdeal.τ).loc Cert.OddOutRefIdeal.main_arg8) = m ((c.tc : Thread Cert.OddOutIdeal.nD Cert.OddOutIdeal.τ).loc Cert.OddOutIdeal.main_arg8)) →
    ∃ (v0 : (c : Dev Cert.OddOutIdeal.nD) → Buf (Elt Ideal) ((c.tc : Thread Cert.OddOutIdeal.nD Cert.OddOutIdeal.τ).loc Cert.OddOutIdeal.main_v1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v1) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
          ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
          ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7)
          ∧ r.2.mem ((c.tc : Thread Cert.OddOutIdeal.nD Cert.OddOutIdeal.τ).loc Cert.OddOutIdeal.main_arg8) = m ((c.tc : Thread Cert.OddOutIdeal.nD Cert.OddOutIdeal.τ).loc Cert.OddOutIdeal.main_arg8))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v39) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5)
          ∧ r.2.mem ((c.tc : Thread Cert.OddOutRefIdeal.nD Cert.OddOutRefIdeal.τ).loc Cert.OddOutRefIdeal.main_arg6) = m' ((c.tc : Thread Cert.OddOutRefIdeal.nD Cert.OddOutRefIdeal.τ).loc Cert.OddOutRefIdeal.main_arg6)
          ∧ r.2.mem ((c.tc : Thread Cert.OddOutRefIdeal.nD Cert.OddOutRefIdeal.τ).loc Cert.OddOutRefIdeal.main_arg7) = m' ((c.tc : Thread Cert.OddOutRefIdeal.nD Cert.OddOutRefIdeal.τ).loc Cert.OddOutRefIdeal.main_arg7)
          ∧ r.2.mem ((c.tc : Thread Cert.OddOutRefIdeal.nD Cert.OddOutRefIdeal.τ).loc Cert.OddOutRefIdeal.main_arg8) = m' ((c.tc : Thread Cert.OddOutRefIdeal.nD Cert.OddOutRefIdeal.τ).loc Cert.OddOutRefIdeal.main_arg8))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)
      ∧ m' ((c.tc : Thread Cert.QueryRefIdeal.nD Cert.QueryRefIdeal.τ).loc Cert.QueryRefIdeal.main_arg4) = m ((c.tc : Thread Cert.QueryIdeal.nD Cert.QueryIdeal.τ).loc Cert.QueryIdeal.main_arg4)) →
    ∃ (v0 : (c : Dev Cert.QueryIdeal.nD) → Buf (Elt Ideal) ((c.tc : Thread Cert.QueryIdeal.nD Cert.QueryIdeal.τ).loc Cert.QueryIdeal.main_v3_0)) (v1 : (c : Dev Cert.QueryIdeal.nD) → Buf (Elt Ideal) ((c.tc : Thread Cert.QueryIdeal.nD Cert.QueryIdeal.τ).loc Cert.QueryIdeal.main_v3_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v3_0) = v0 c
          ∧ r.2.mem ((c.tc : Thread Cert.QueryIdeal.nD Cert.QueryIdeal.τ).loc Cert.QueryIdeal.main_v3_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v20) = v0 c
          ∧ r.2.mem ((c.tc : Thread Cert.QueryRefIdeal.nD Cert.QueryRefIdeal.τ).loc Cert.QueryRefIdeal.main_v21) = v1 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3)
          ∧ r.2.mem ((c.tc : Thread Cert.QueryRefIdeal.nD Cert.QueryRefIdeal.τ).loc Cert.QueryRefIdeal.main_arg4) = m' ((c.tc : Thread Cert.QueryRefIdeal.nD Cert.QueryRefIdeal.τ).loc Cert.QueryRefIdeal.main_arg4))

def preserves_Ctx_CtxIdeal : Prop :=
  True

def algebraic_CtxIdeal_CtxRefIdeal_pre_finite_gains [hCtxIdeal : Cert.CtxIdeal.Facts] [hCtxRefIdeal : Cert.CtxRefIdeal.Facts] [hPre_finite_gains : Cert.Pre_finite_gains.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite_gains m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)) →
    ∃ (v0 : (c : Dev Cert.CtxIdeal.nD) → Buf (Elt Ideal) ((c.tc : Thread Cert.CtxIdeal.nD Cert.CtxIdeal.τ).loc Cert.CtxIdeal.main_v63)) (v1 : (c : Dev Cert.CtxIdeal.nD) → Buf (Elt Ideal) ((c.tc : Thread Cert.CtxIdeal.nD Cert.CtxIdeal.τ).loc Cert.CtxIdeal.main_v64)) (v2 : (c : Dev Cert.CtxIdeal.nD) → Buf (Elt Ideal) ((c.tc : Thread Cert.CtxIdeal.nD Cert.CtxIdeal.τ).loc Cert.CtxIdeal.main_v65)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v63) = v0 c
          ∧ r.2.mem ((c.tc : Thread Cert.CtxIdeal.nD Cert.CtxIdeal.τ).loc Cert.CtxIdeal.main_v64) = v1 c
          ∧ r.2.mem ((c.tc : Thread Cert.CtxIdeal.nD Cert.CtxIdeal.τ).loc Cert.CtxIdeal.main_v65) = v2 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v57) = v0 c
          ∧ r.2.mem ((c.tc : Thread Cert.CtxRefIdeal.nD Cert.CtxRefIdeal.τ).loc Cert.CtxRefIdeal.main_v58) = v1 c
          ∧ r.2.mem ((c.tc : Thread Cert.CtxRefIdeal.nD Cert.CtxRefIdeal.τ).loc Cert.CtxRefIdeal.main_v59) = v2 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1))

def preserves_Streams_StreamsIdeal : Prop :=
  True

def algebraic_StreamsIdeal_StreamsRefIdeal [hStreamsIdeal : Cert.StreamsIdeal.Facts] [hStreamsRefIdeal : Cert.StreamsRefIdeal.Facts] : Prop :=
  ∀ (m : (ℓ : Loc Cert.StreamsIdeal.nD Cert.StreamsIdeal.τ Cert.StreamsIdeal.sig) → Buf (Elt Ideal) ℓ) (g : Dev Cert.StreamsIdeal.nD → PrngReg)
    (m' : (ℓ : Loc Cert.StreamsRefIdeal.nD Cert.StreamsRefIdeal.τ Cert.StreamsRefIdeal.sig) → Buf (Elt Ideal) ℓ) (g' : Dev Cert.StreamsRefIdeal.nD → PrngReg), Pre_StreamsIdeal m →
    (∀ c : Dev Cert.StreamsIdeal.nD,
      m' ((c.tc : Thread Cert.StreamsRefIdeal.nD Cert.StreamsRefIdeal.τ).loc Cert.StreamsRefIdeal.main_arg0) = m ((c.tc : Thread Cert.StreamsIdeal.nD Cert.StreamsIdeal.τ).loc Cert.StreamsIdeal.main_arg0)
      ∧ m' ((c.tc : Thread Cert.StreamsRefIdeal.nD Cert.StreamsRefIdeal.τ).loc Cert.StreamsRefIdeal.main_arg1) = m ((c.tc : Thread Cert.StreamsIdeal.nD Cert.StreamsIdeal.τ).loc Cert.StreamsIdeal.main_arg1)
      ∧ m' ((c.tc : Thread Cert.StreamsRefIdeal.nD Cert.StreamsRefIdeal.τ).loc Cert.StreamsRefIdeal.main_arg2) = m ((c.tc : Thread Cert.StreamsIdeal.nD Cert.StreamsIdeal.τ).loc Cert.StreamsIdeal.main_arg2)
      ∧ m' ((c.tc : Thread Cert.StreamsRefIdeal.nD Cert.StreamsRefIdeal.τ).loc Cert.StreamsRefIdeal.main_arg3) = m ((c.tc : Thread Cert.StreamsIdeal.nD Cert.StreamsIdeal.τ).loc Cert.StreamsIdeal.main_arg3)) →
    ∃ (v0 : (c : Dev Cert.StreamsIdeal.nD) → Buf (Elt Ideal) ((c.tc : Thread Cert.StreamsIdeal.nD Cert.StreamsIdeal.τ).loc Cert.StreamsIdeal.main_v5)) (v1 : (c : Dev Cert.StreamsIdeal.nD) → Buf (Elt Ideal) ((c.tc : Thread Cert.StreamsIdeal.nD Cert.StreamsIdeal.τ).loc Cert.StreamsIdeal.main_v6)),
      θ_run (Cert.StreamsIdeal.defs (F := Ideal)) (onTc (τ := Cert.StreamsIdeal.τ) (Cert.StreamsIdeal.main (F := Ideal))) ⟨m, fun _ => 0, g⟩ (fun r => ∀ c : Dev Cert.StreamsIdeal.nD,
          r.2.mem ((c.tc : Thread Cert.StreamsIdeal.nD Cert.StreamsIdeal.τ).loc Cert.StreamsIdeal.main_v5) = v0 c
          ∧ r.2.mem ((c.tc : Thread Cert.StreamsIdeal.nD Cert.StreamsIdeal.τ).loc Cert.StreamsIdeal.main_v6) = v1 c
          ∧ r.2.mem ((c.tc : Thread Cert.StreamsIdeal.nD Cert.StreamsIdeal.τ).loc Cert.StreamsIdeal.main_arg0) = m ((c.tc : Thread Cert.StreamsIdeal.nD Cert.StreamsIdeal.τ).loc Cert.StreamsIdeal.main_arg0)
          ∧ r.2.mem ((c.tc : Thread Cert.StreamsIdeal.nD Cert.StreamsIdeal.τ).loc Cert.StreamsIdeal.main_arg1) = m ((c.tc : Thread Cert.StreamsIdeal.nD Cert.StreamsIdeal.τ).loc Cert.StreamsIdeal.main_arg1)
          ∧ r.2.mem ((c.tc : Thread Cert.StreamsIdeal.nD Cert.StreamsIdeal.τ).loc Cert.StreamsIdeal.main_arg2) = m ((c.tc : Thread Cert.StreamsIdeal.nD Cert.StreamsIdeal.τ).loc Cert.StreamsIdeal.main_arg2)
          ∧ r.2.mem ((c.tc : Thread Cert.StreamsIdeal.nD Cert.StreamsIdeal.τ).loc Cert.StreamsIdeal.main_arg3) = m ((c.tc : Thread Cert.StreamsIdeal.nD Cert.StreamsIdeal.τ).loc Cert.StreamsIdeal.main_arg3))
      ∧ θ_run (Cert.StreamsRefIdeal.defs (F := Ideal)) (onTc (τ := Cert.StreamsRefIdeal.τ) (Cert.StreamsRefIdeal.main (F := Ideal))) ⟨m', fun _ => 0, g'⟩ (fun r => ∀ c : Dev Cert.StreamsRefIdeal.nD,
          r.2.mem ((c.tc : Thread Cert.StreamsRefIdeal.nD Cert.StreamsRefIdeal.τ).loc Cert.StreamsRefIdeal.main_v26) = v0 c
          ∧ r.2.mem ((c.tc : Thread Cert.StreamsRefIdeal.nD Cert.StreamsRefIdeal.τ).loc Cert.StreamsRefIdeal.main_v44) = v1 c
          ∧ r.2.mem ((c.tc : Thread Cert.StreamsRefIdeal.nD Cert.StreamsRefIdeal.τ).loc Cert.StreamsRefIdeal.main_arg0) = m' ((c.tc : Thread Cert.StreamsRefIdeal.nD Cert.StreamsRefIdeal.τ).loc Cert.StreamsRefIdeal.main_arg0)
          ∧ r.2.mem ((c.tc : Thread Cert.StreamsRefIdeal.nD Cert.StreamsRefIdeal.τ).loc Cert.StreamsRefIdeal.main_arg1) = m' ((c.tc : Thread Cert.StreamsRefIdeal.nD Cert.StreamsRefIdeal.τ).loc Cert.StreamsRefIdeal.main_arg1)
          ∧ r.2.mem ((c.tc : Thread Cert.StreamsRefIdeal.nD Cert.StreamsRefIdeal.τ).loc Cert.StreamsRefIdeal.main_arg2) = m' ((c.tc : Thread Cert.StreamsRefIdeal.nD Cert.StreamsRefIdeal.τ).loc Cert.StreamsRefIdeal.main_arg2)
          ∧ r.2.mem ((c.tc : Thread Cert.StreamsRefIdeal.nD Cert.StreamsRefIdeal.τ).loc Cert.StreamsRefIdeal.main_arg3) = m' ((c.tc : Thread Cert.StreamsRefIdeal.nD Cert.StreamsRefIdeal.τ).loc Cert.StreamsRefIdeal.main_arg3))

def preserves_Modu_ModuIdeal : Prop :=
  True

def algebraic_ModuIdeal_ModuRefIdeal [hModuIdeal : Cert.ModuIdeal.Facts] [hModuRefIdeal : Cert.ModuRefIdeal.Facts] : Prop :=
  ∀ (m : (ℓ : Loc Cert.ModuIdeal.nD Cert.ModuIdeal.τ Cert.ModuIdeal.sig) → Buf (Elt Ideal) ℓ) (g : Dev Cert.ModuIdeal.nD → PrngReg)
    (m' : (ℓ : Loc Cert.ModuRefIdeal.nD Cert.ModuRefIdeal.τ Cert.ModuRefIdeal.sig) → Buf (Elt Ideal) ℓ) (g' : Dev Cert.ModuRefIdeal.nD → PrngReg), Pre_ModuIdeal m →
    (∀ c : Dev Cert.ModuIdeal.nD,
      m' ((c.tc : Thread Cert.ModuRefIdeal.nD Cert.ModuRefIdeal.τ).loc Cert.ModuRefIdeal.main_arg0) = m ((c.tc : Thread Cert.ModuIdeal.nD Cert.ModuIdeal.τ).loc Cert.ModuIdeal.main_arg0)
      ∧ m' ((c.tc : Thread Cert.ModuRefIdeal.nD Cert.ModuRefIdeal.τ).loc Cert.ModuRefIdeal.main_arg1) = m ((c.tc : Thread Cert.ModuIdeal.nD Cert.ModuIdeal.τ).loc Cert.ModuIdeal.main_arg1)
      ∧ m' ((c.tc : Thread Cert.ModuRefIdeal.nD Cert.ModuRefIdeal.τ).loc Cert.ModuRefIdeal.main_arg2) = m ((c.tc : Thread Cert.ModuIdeal.nD Cert.ModuIdeal.τ).loc Cert.ModuIdeal.main_arg2)
      ∧ m' ((c.tc : Thread Cert.ModuRefIdeal.nD Cert.ModuRefIdeal.τ).loc Cert.ModuRefIdeal.main_arg3) = m ((c.tc : Thread Cert.ModuIdeal.nD Cert.ModuIdeal.τ).loc Cert.ModuIdeal.main_arg3)) →
    ∃ (v0 : (c : Dev Cert.ModuIdeal.nD) → Buf (Elt Ideal) ((c.tc : Thread Cert.ModuIdeal.nD Cert.ModuIdeal.τ).loc Cert.ModuIdeal.main_v8)),
      θ_run (Cert.ModuIdeal.defs (F := Ideal)) (onTc (τ := Cert.ModuIdeal.τ) (Cert.ModuIdeal.main (F := Ideal))) ⟨m, fun _ => 0, g⟩ (fun r => ∀ c : Dev Cert.ModuIdeal.nD,
          r.2.mem ((c.tc : Thread Cert.ModuIdeal.nD Cert.ModuIdeal.τ).loc Cert.ModuIdeal.main_v8) = v0 c
          ∧ r.2.mem ((c.tc : Thread Cert.ModuIdeal.nD Cert.ModuIdeal.τ).loc Cert.ModuIdeal.main_arg0) = m ((c.tc : Thread Cert.ModuIdeal.nD Cert.ModuIdeal.τ).loc Cert.ModuIdeal.main_arg0)
          ∧ r.2.mem ((c.tc : Thread Cert.ModuIdeal.nD Cert.ModuIdeal.τ).loc Cert.ModuIdeal.main_arg1) = m ((c.tc : Thread Cert.ModuIdeal.nD Cert.ModuIdeal.τ).loc Cert.ModuIdeal.main_arg1)
          ∧ r.2.mem ((c.tc : Thread Cert.ModuIdeal.nD Cert.ModuIdeal.τ).loc Cert.ModuIdeal.main_arg2) = m ((c.tc : Thread Cert.ModuIdeal.nD Cert.ModuIdeal.τ).loc Cert.ModuIdeal.main_arg2)
          ∧ r.2.mem ((c.tc : Thread Cert.ModuIdeal.nD Cert.ModuIdeal.τ).loc Cert.ModuIdeal.main_arg3) = m ((c.tc : Thread Cert.ModuIdeal.nD Cert.ModuIdeal.τ).loc Cert.ModuIdeal.main_arg3))
      ∧ θ_run (Cert.ModuRefIdeal.defs (F := Ideal)) (onTc (τ := Cert.ModuRefIdeal.τ) (Cert.ModuRefIdeal.main (F := Ideal))) ⟨m', fun _ => 0, g'⟩ (fun r => ∀ c : Dev Cert.ModuRefIdeal.nD,
          r.2.mem ((c.tc : Thread Cert.ModuRefIdeal.nD Cert.ModuRefIdeal.τ).loc Cert.ModuRefIdeal.main_v10) = v0 c
          ∧ r.2.mem ((c.tc : Thread Cert.ModuRefIdeal.nD Cert.ModuRefIdeal.τ).loc Cert.ModuRefIdeal.main_arg0) = m' ((c.tc : Thread Cert.ModuRefIdeal.nD Cert.ModuRefIdeal.τ).loc Cert.ModuRefIdeal.main_arg0)
          ∧ r.2.mem ((c.tc : Thread Cert.ModuRefIdeal.nD Cert.ModuRefIdeal.τ).loc Cert.ModuRefIdeal.main_arg1) = m' ((c.tc : Thread Cert.ModuRefIdeal.nD Cert.ModuRefIdeal.τ).loc Cert.ModuRefIdeal.main_arg1)
          ∧ r.2.mem ((c.tc : Thread Cert.ModuRefIdeal.nD Cert.ModuRefIdeal.τ).loc Cert.ModuRefIdeal.main_arg2) = m' ((c.tc : Thread Cert.ModuRefIdeal.nD Cert.ModuRefIdeal.τ).loc Cert.ModuRefIdeal.main_arg2)
          ∧ r.2.mem ((c.tc : Thread Cert.ModuRefIdeal.nD Cert.ModuRefIdeal.τ).loc Cert.ModuRefIdeal.main_arg3) = m' ((c.tc : Thread Cert.ModuRefIdeal.nD Cert.ModuRefIdeal.τ).loc Cert.ModuRefIdeal.main_arg3))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)) →
    ∃ (v0 : (c : Dev Cert.GlaIdeal.nD) → Buf (Elt Ideal) ((c.tc : Thread Cert.GlaIdeal.nD Cert.GlaIdeal.τ).loc Cert.GlaIdeal.main_v17)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v17) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v121) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2))

def Claim : Prop :=
  ∃ (hAttn : Cert.Attn.Facts) (hAttnIdeal : Cert.AttnIdeal.Facts) (hAttnRefIdeal : Cert.AttnRefIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hQuery : Cert.Query.Facts) (hQueryIdeal : Cert.QueryIdeal.Facts) (hQueryRefIdeal : Cert.QueryRefIdeal.Facts) (hCtx : Cert.Ctx.Facts) (hCtxIdeal : Cert.CtxIdeal.Facts) (hCtxRefIdeal : Cert.CtxRefIdeal.Facts) (hStreams : Cert.Streams.Facts) (hStreamsIdeal : Cert.StreamsIdeal.Facts) (hStreamsRefIdeal : Cert.StreamsRefIdeal.Facts) (hModu : Cert.Modu.Facts) (hModuIdeal : Cert.ModuIdeal.Facts) (hModuRefIdeal : Cert.ModuRefIdeal.Facts) (hGla : Cert.Gla.Facts) (hGlaIdeal : Cert.GlaIdeal.Facts) (hGlaRefIdeal : Cert.GlaRefIdeal.Facts) (hPre_finite_gain_and_keys : Cert.Pre_finite_gain_and_keys.Facts) (hPre_finite_gains : Cert.Pre_finite_gains.Facts),
    quiescent_Attn (hAttn := hAttn)
    ∧ quiescent_AttnIdeal (hAttnIdeal := hAttnIdeal)
    ∧ quiescent_AttnIdeal_pre_finite_gain_and_keys (hAttnIdeal := hAttnIdeal) (hPre_finite_gain_and_keys := hPre_finite_gain_and_keys)
    ∧ quiescent_AttnRefIdeal (hAttnRefIdeal := hAttnRefIdeal)
    ∧ quiescent_AttnRefIdeal_pre_finite_gain_and_keys (hAttnRefIdeal := hAttnRefIdeal) (hPre_finite_gain_and_keys := hPre_finite_gain_and_keys)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_Query (hQuery := hQuery)
    ∧ quiescent_QueryIdeal (hQueryIdeal := hQueryIdeal)
    ∧ quiescent_QueryRefIdeal (hQueryRefIdeal := hQueryRefIdeal)
    ∧ quiescent_Ctx (hCtx := hCtx)
    ∧ quiescent_CtxIdeal (hCtxIdeal := hCtxIdeal)
    ∧ quiescent_CtxIdeal_pre_finite_gains (hCtxIdeal := hCtxIdeal) (hPre_finite_gains := hPre_finite_gains)
    ∧ quiescent_CtxRefIdeal (hCtxRefIdeal := hCtxRefIdeal)
    ∧ quiescent_CtxRefIdeal_pre_finite_gains (hCtxRefIdeal := hCtxRefIdeal) (hPre_finite_gains := hPre_finite_gains)
    ∧ quiescent_Streams (hStreams := hStreams)
    ∧ quiescent_StreamsIdeal (hStreamsIdeal := hStreamsIdeal)
    ∧ quiescent_StreamsRefIdeal (hStreamsRefIdeal := hStreamsRefIdeal)
    ∧ quiescent_Modu (hModu := hModu)
    ∧ quiescent_ModuIdeal (hModuIdeal := hModuIdeal)
    ∧ quiescent_ModuRefIdeal (hModuRefIdeal := hModuRefIdeal)
    ∧ quiescent_Gla (hGla := hGla)
    ∧ quiescent_GlaIdeal (hGlaIdeal := hGlaIdeal)
    ∧ quiescent_GlaRefIdeal (hGlaRefIdeal := hGlaRefIdeal)
    ∧ preserves_Attn_AttnIdeal
    ∧ algebraic_AttnIdeal_AttnRefIdeal_pre_finite_gain_and_keys (hAttnIdeal := hAttnIdeal) (hAttnRefIdeal := hAttnRefIdeal) (hPre_finite_gain_and_keys := hPre_finite_gain_and_keys)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_Query_QueryIdeal
    ∧ algebraic_QueryIdeal_QueryRefIdeal (hQueryIdeal := hQueryIdeal) (hQueryRefIdeal := hQueryRefIdeal)
    ∧ preserves_Ctx_CtxIdeal
    ∧ algebraic_CtxIdeal_CtxRefIdeal_pre_finite_gains (hCtxIdeal := hCtxIdeal) (hCtxRefIdeal := hCtxRefIdeal) (hPre_finite_gains := hPre_finite_gains)
    ∧ preserves_Streams_StreamsIdeal
    ∧ algebraic_StreamsIdeal_StreamsRefIdeal (hStreamsIdeal := hStreamsIdeal) (hStreamsRefIdeal := hStreamsRefIdeal)
    ∧ preserves_Modu_ModuIdeal
    ∧ algebraic_ModuIdeal_ModuRefIdeal (hModuIdeal := hModuIdeal) (hModuRefIdeal := hModuRefIdeal)
    ∧ preserves_Gla_GlaIdeal
    ∧ algebraic_GlaIdeal_GlaRefIdeal (hGlaIdeal := hGlaIdeal) (hGlaRefIdeal := hGlaRefIdeal)
-- ==== Pre_finite_gain_and_keys.lean ====
abbrev S5x4096x6144 : Shape := ⟨3, ![5, 4096, 6144]⟩
abbrev S1x128 : Shape := ⟨2, ![1, 128]⟩
abbrev S4x4608x256 : Shape := ⟨3, ![4, 4608, 256]⟩
abbrev S80x256x1024 : Shape := ⟨3, ![80, 256, 1024]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bitsLt_bf16_f32 : FTy.bits .bf16 < FTy.bits .f32
  bcast_S_S4x4608x256 : S_.BroadcastsInDim S4x4608x256 (![] : Fin 0 → Fin S4x4608x256.rank)
  reducesTo_S4x4608x256_S_d0_1_2 : S4x4608x256.ReducesTo [0, 1, 2] S_

variable [Facts]

def fn {F : FTy → Type} [FloatOps F] (main_arg0 : FVec F S5x4096x6144 .f32) (main_arg1 : FVec F S1x128 .f32) (main_arg2 : FVec F S4x4608x256 .bf16) (main_arg3 : FVec F S4x4608x256 .bf16) (main_arg4 : FVec F S80x256x1024 .f32) : IVec S_ 1 :=
  let main_v0 : FVec F S1x128 .f32 := Host.absf main_arg1
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S4x4608x256 .f32 := (extf .f32 · bitsLt_bf16_f32) main_arg2
  let main_v5 : FVec F S4x4608x256 .f32 := Host.absf main_v4
  let main_cst_0 : FVec F S_ .f32 := constant S_ .f32 0x7F800000#32
  let main_v6 : FVec F S4x4608x256 .f32 := broadcastInDim S4x4608x256 ![] bcast_S_S4x4608x256 main_cst_0
  let main_v7 : IVec S4x4608x256 1 := cmpf .olt main_v5 main_v6
  let main_c_1 : IVec S_ 1 := constantI S_ 1 1#1
  let main_v8 : IVec S_ 1 := (fun x v => Host.reduce IntOp.andi x v reducesTo_S4x4608x256_S_d0_1_2 h_S_) main_v7 main_c_1
  let main_v9 : IVec S_ 1 := andi main_v3 main_v8
  main_v9
-- ==== Pre_finite_gains.lean ====
abbrev S5x4096x6144 : Shape := ⟨3, ![5, 4096, 6144]⟩
abbrev S2x128 : Shape := ⟨2, ![2, 128]⟩
abbrev S_ : Shape := ⟨0, ![]⟩

class Facts : Prop where
  bcast_S_S2x128 : S_.BroadcastsInDim S2x128 (![] : Fin 0 → Fin S2x128.rank)
  reducesTo_S2x128_S_d0_1 : S2x128.ReducesTo [0, 1] S_
  h_S_ : 0 < S_.numel

variable [Facts]

def fn {F : FTy → Type} [FloatOps F] (main_arg0 : FVec F S5x4096x6144 .f32) (main_arg1 : FVec F S2x128 .f32) : IVec S_ 1 :=
  let main_v0 : FVec F S2x128 .f32 := Host.absf main_arg1
  let main_cst : FVec F S_ .f32 := constant S_ .f32 0x7F800000#32
  let main_v1 : FVec F S2x128 .f32 := broadcastInDim S2x128 ![] bcast_S_S2x128 main_cst
  let main_v2 : IVec S2x128 1 := cmpf .olt main_v0 main_v1
  let main_c : IVec S_ 1 := constantI S_ 1 1#1
  let main_v3 : IVec S_ 1 := (fun x v => Host.reduce IntOp.andi x v reducesTo_S2x128_S_d0_1 h_S_) main_v2 main_c
  main_v3
-- ==== Attn.lean ====
abbrev S5x4096x6144 : Shape := ⟨3, ![5, 4096, 6144]⟩
abbrev S1x128 : Shape := ⟨2, ![1, 128]⟩
abbrev S4x4608x256 : Shape := ⟨3, ![4, 4608, 256]⟩
abbrev S80x256x1024 : Shape := ⟨3, ![80, 256, 1024]⟩
abbrev S4096 : Shape := ⟨1, ![4096]⟩
abbrev S128 : Shape := ⟨1, ![128]⟩
abbrev S_ : Shape := ⟨0, ![]⟩
abbrev S4096x1 : Shape := ⟨2, ![4096, 1]⟩
abbrev S4096x128 : Shape := ⟨2, ![4096, 128]⟩
abbrev S5x4096x1024 : Shape := ⟨3, ![5, 4096, 1024]⟩
abbrev S1x256x512 : Shape := ⟨3, ![1, 256, 512]⟩
abbrev S256x128 : Shape := ⟨2, ![256, 128]⟩
abbrev S1x4608x128 : Shape := ⟨3, ![1, 4608, 128]⟩
abbrev S4608x128 : Shape := ⟨2, ![4608, 128]⟩
abbrev S1x256x128 : Shape := ⟨3, ![1, 256, 128]⟩
abbrev S256 : Shape := ⟨1, ![256]⟩
abbrev S256x1 : Shape := ⟨2, ![256, 1]⟩
abbrev S256x4608 : Shape := ⟨2, ![256, 4608]⟩

abbrev nBuf : Space → Nat
  | .hbm => 135
  | .vmem => 15
  | .smem => 0
  | _ => 0

abbrev hbmTy0_0 (i : Nat) : BufTy := match i % 128 with
  | 0 => ⟨S5x4096x6144, .f32⟩
  | 1 => ⟨S1x128, .f32⟩
  | 2 => ⟨S4x4608x256, .bf16⟩
  | 3 => ⟨S4x4608x256, .bf16⟩
  | 4 => ⟨S80x256x1024, .f32⟩
  | 5 => ⟨S4096, .i32⟩
  | 6 => ⟨S128, .i32⟩
  | 7 => ⟨S1x128, .i32⟩
  | 8 => ⟨S_, .i32⟩
  | 9 => ⟨S1x128, .i32⟩
  | 10 => ⟨S1x128, .i1⟩
  | 11 => ⟨S4096x1, .i32⟩
  | 12 => ⟨S_, .i32⟩
  | 13 => ⟨S_, .i32⟩
  | 14 => ⟨S4096x1, .i32⟩
  | 15 => ⟨S4096x1, .i32⟩
  | 16 => ⟨S4096x1, .i32⟩
  | 17 => ⟨S_, .i32⟩
  | 18 => ⟨S4096x1, .i32⟩
  | 19 => ⟨S4096x1, .i1⟩
  | 20 => ⟨S4096x1, .i32⟩
  | 21 => ⟨S4096x1, .i32⟩
  | 22 => ⟨S_, .i32⟩
  | 23 => ⟨S4096x1, .i32⟩
  | 24 => ⟨S4096x1, .i1⟩
  | 25 => ⟨S4096x1, .i1⟩
  | 26 => ⟨S_, .i32⟩
  | 27 => ⟨S4096x1, .i32⟩
  | 28 => ⟨S4096x1, .i32⟩
  | 29 => ⟨S4096x1, .i32⟩
  | 30 => ⟨S4096x1, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S4096x1, .i32⟩
  | 38 => ⟨S4096x1, .i32⟩
  | 39 => ⟨S_, .i32⟩
  | 40 => ⟨S4096x1, .i32⟩
  | 41 => ⟨S4096x1, .i1⟩
  | 42 => ⟨S_, .i32⟩
  | 43 => ⟨S4096x1, .i32⟩
  | 44 => ⟨S4096x1, .i1⟩
  | 45 => ⟨S_, .i32⟩
  | 46 => ⟨S_, .i1⟩
  | 47 => ⟨S4096x1, .i1⟩
  | 48 => ⟨S4096x1, .i1⟩
  | 49 => ⟨S4096x1, .i1⟩
  | 50 => ⟨S4096x1, .i32⟩
  | 51 => ⟨S4096x1, .i32⟩
  | 52 => ⟨S4096x1, .i32⟩
  | 53 => ⟨S4096x128, .i1⟩
  | 54 => ⟨S4096x128, .i32⟩
  | 55 => ⟨S4096x128, .i32⟩
  | 56 => ⟨S4096x128, .i32⟩
  | 57 => ⟨S4096x128, .f32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S128, .i32⟩
  | 65 => ⟨S128, .i32⟩
  | 66 => ⟨S_, .i32⟩
  | 67 => ⟨S128, .i32⟩
  | 68 => ⟨S128, .i1⟩
  | 69 => ⟨S_, .i32⟩
  | 70 => ⟨S128, .i32⟩
  | 71 => ⟨S128, .i1⟩
  | 72 => ⟨S_, .i32⟩
  | 73 => ⟨S_, .i1⟩
  | 74 => ⟨S128, .i1⟩
  | 75 => ⟨S128, .i1⟩
  | 76 => ⟨S128, .i1⟩
  | 77 => ⟨S128, .i32⟩
  | 78 => ⟨S128, .i32⟩
  | 79 => ⟨S128, .i32⟩
  | 80 => ⟨S128, .f32⟩
  | 81 => ⟨S128, .f32⟩
  | 82 => ⟨S_, .f32⟩
  | 83 => ⟨S128, .f32⟩
  | 84 => ⟨S128, .f32⟩
  | 85 => ⟨S_, .f32⟩
  | 86 => ⟨S128, .f32⟩
  | 87 => ⟨S128, .f32⟩
  | 88 => ⟨S_, .f32⟩
  | 89 => ⟨S128, .f32⟩
  | 90 => ⟨S128, .f32⟩
  | 91 => ⟨S1x128, .f32⟩
  | 92 => ⟨S4096x128, .f32⟩
  | 93 => ⟨S4096x128, .f32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S128, .i32⟩
  | 101 => ⟨S128, .i32⟩
  | 102 => ⟨S_, .i32⟩
  | 103 => ⟨S128, .i32⟩
  | 104 => ⟨S128, .i1⟩
  | 105 => ⟨S_, .i32⟩
  | 106 => ⟨S128, .i32⟩
  | 107 => ⟨S128, .i1⟩
  | 108 => ⟨S_, .i32⟩
  | 109 => ⟨S_, .i1⟩
  | 110 => ⟨S128, .i1⟩
  | 111 => ⟨S128, .i1⟩
  | 112 => ⟨S128, .i1⟩
  | 113 => ⟨S128, .i32⟩
  | 114 => ⟨S128, .i32⟩
  | 115 => ⟨S128, .i32⟩
  | 116 => ⟨S_, .i32⟩
  | 117 => ⟨S128, .i32⟩
  | 118 => ⟨S128, .i1⟩
  | 119 => ⟨S1x128, .i1⟩
  | 120 => ⟨S4096x128, .f32⟩
  | 121 => ⟨S4096x128, .f32⟩
  | 122 => ⟨S4096x128, .f32⟩
  | 123 => ⟨S_, .f32⟩
  | 124 => ⟨S_, .f32⟩
  | 125 => ⟨S4096x128, .i1⟩
  | 126 => ⟨S4096x128, .f32⟩
  | 127 => ⟨S4096x128, .f32⟩
  | _ => ⟨S5x4096x6144, .f32⟩

abbrev hbmTy0_1 (i : Nat) : BufTy := match i % 128 with
  | 0 => ⟨S_, .f32⟩
  | 1 => ⟨S_, .f32⟩
  | 2 => ⟨S4096x128, .i1⟩
  | 3 => ⟨S4096x128, .f32⟩
  | 4 => ⟨S4096x128, .f32⟩
  | 5 => ⟨S5x4096x1024, .f32⟩
  | 6 => ⟨S5x4096x1024, .f32⟩
  | _ => ⟨S5x4096x6144, .f32⟩

abbrev hbmTy (i : Nat) : BufTy := match i / 128 with
  | 0 => hbmTy0_0 i
  | 1 => hbmTy0_1 i
  | _ => ⟨S5x4096x6144, .f32⟩

abbrev bufTy : (tb : Table) → Fin (tcTables nBuf tb) → BufTy
  | .hbm, ⟨i, _⟩ => hbmTy i
  | .local _ .vmem, ⟨0, _⟩ => ⟨S1x256x512, .f32⟩
  | .local _ .vmem, ⟨1, _⟩ => ⟨S1x256x512, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S1x4608x128, .bf16⟩
  | .local _ .vmem, ⟨10, _⟩ => ⟨S1x4608x128, .bf16⟩
  | .local _ .vmem, ⟨11, _⟩ => ⟨S1x4608x128, .bf16⟩
  | .local _ .vmem, ⟨12, _⟩ => ⟨S1x4608x128, .bf16⟩
  | .local _ .vmem, ⟨13, _⟩ => ⟨S1x256x512, .f32⟩
  | .local _ .vmem, ⟨14, _⟩ => ⟨S1x256x512, .f32⟩
  | _, _ => ⟨S5x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v8 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v9 : Ref sig .tc := ⟨.hbm, 56, rfl⟩
abbrev main_v10 : Ref sig .tc := ⟨.hbm, 57, rfl⟩
abbrev main_c_2 : Ref sig .tc := ⟨.hbm, 58, rfl⟩
abbrev main_call3_v0 : Ref sig .tc := ⟨.hbm, 59, rfl⟩
abbrev main_call3_c : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_c_1 : Ref sig .tc := ⟨.hbm, 66, rfl⟩
abbrev main_call3_v5 : Ref sig .tc := ⟨.hbm, 67, rfl⟩
abbrev main_call3_v6 : Ref sig .tc := ⟨.hbm, 68, rfl⟩
abbrev main_call3_c_2 : Ref sig .tc := ⟨.hbm, 69, rfl⟩
abbrev main_call3_v7 : Ref sig .tc := ⟨.hbm, 70, rfl⟩
abbrev main_call3_v8 : Ref sig .tc := ⟨.hbm, 71, rfl⟩
abbrev main_call3_c_3 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_v12 : Ref sig .tc := ⟨.hbm, 76, rfl⟩
abbrev main_call3_v13 : Ref sig .tc := ⟨.hbm, 77, rfl⟩
abbrev main_call3_v14 : Ref sig .tc := ⟨.hbm, 78, rfl⟩
abbrev main_v11 : Ref sig .tc := ⟨.hbm, 79, rfl⟩
abbrev main_v12 : Ref sig .tc := ⟨.hbm, 80, rfl⟩
abbrev main_v13 : Ref sig .tc := ⟨.hbm, 81, rfl⟩
abbrev main_cst : Ref sig .tc := ⟨.hbm, 82, rfl⟩
abbrev main_v14 : Ref sig .tc := ⟨.hbm, 83, rfl⟩
abbrev main_v15 : Ref sig .tc := ⟨.hbm, 84, rfl⟩
abbrev main_cst_3 : Ref sig .tc := ⟨.hbm, 85, rfl⟩
abbrev main_v16 : Ref sig .tc := ⟨.hbm, 86, rfl⟩
abbrev main_v17 : Ref sig .tc := ⟨.hbm, 87, rfl⟩
abbrev main_cst_4 : Ref sig .tc := ⟨.hbm, 88, rfl⟩
abbrev main_v18 : Ref sig .tc := ⟨.hbm, 89, rfl⟩
abbrev main_v19 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_c_5 : Ref sig .tc := ⟨.hbm, 94, rfl⟩
abbrev main_call4_v0 : Ref sig .tc := ⟨.hbm, 95, rfl⟩
abbrev main_call4_c : Ref sig .tc := ⟨.hbm, 96, rfl⟩
abbrev main_call4_v1 : Ref sig .tc := ⟨.hbm, 97, rfl⟩
abbrev main_call4_c_0 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_c_1 : Ref sig .tc := ⟨.hbm, 102, rfl⟩
abbrev main_call4_v5 : Ref sig .tc := ⟨.hbm, 103, rfl⟩
abbrev main_call4_v6 : Ref sig .tc := ⟨.hbm, 104, rfl⟩
abbrev main_call4_c_2 : Ref sig .tc := ⟨.hbm, 105, rfl⟩
abbrev main_call4_v7 : Ref sig .tc := ⟨.hbm, 106, rfl⟩
abbrev main_call4_v8 : Ref sig .tc := ⟨.hbm, 107, rfl⟩
abbrev main_call4_c_3 : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_v12 : Ref sig .tc := ⟨.hbm, 112, rfl⟩
abbrev main_call4_v13 : Ref sig .tc := ⟨.hbm, 113, rfl⟩
abbrev main_call4_v14 : Ref sig .tc := ⟨.hbm, 114, rfl⟩
abbrev main_v23 : Ref sig .tc := ⟨.hbm, 115, rfl⟩
abbrev main_c_6 : Ref sig .tc := ⟨.hbm, 116, rfl⟩
abbrev main_v24 : Ref sig .tc := ⟨.hbm, 117, rfl⟩
abbrev main_v25 : Ref sig .tc := ⟨.hbm, 118, rfl⟩
abbrev main_v26 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v30 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg2.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x4608x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4608x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnRefIdeal.lean ====
abbrev S5x4096x6144 : Shape := ⟨3, ![5, 4096, 6144]⟩
abbrev S1x128 : Shape := ⟨2, ![1, 128]⟩
abbrev S4x4608x256 : Shape := ⟨3, ![4, 4608, 256]⟩
abbrev S80x256x1024 : Shape := ⟨3, ![80, 256, 1024]⟩
abbrev S4x4096x1024 : Shape := ⟨3, ![4, 4096, 1024]⟩
abbrev S4x4096x8x128 : Shape := ⟨4, ![4, 4096, 8, 128]⟩
abbrev S128 : Shape := ⟨1, ![128]⟩
abbrev S_ : Shape := ⟨0, ![]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4x4096x8x64 : Shape := ⟨4, ![4, 4096, 8, 64]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x32 : Shape := ⟨4, ![4, 4096, 8, 32]⟩
abbrev S4x4096x2x4x128 : Shape := ⟨5, ![4, 4096, 2, 4, 128]⟩
abbrev S4x4608x2x128 : Shape := ⟨4, ![4, 4608, 2, 128]⟩
abbrev S4x2x4608x4096x4 : Shape := ⟨5, ![4, 2, 4608, 4096, 4]⟩
abbrev S4x2x4x4096x4608 : Shape := ⟨5, ![4, 2, 4, 4096, 4608]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S5x4096x1024 : Shape := ⟨3, ![5, 4096, 1024]⟩
abbrev S1x4096x1024 : Shape := ⟨3, ![1, 4096, 1024]⟩

abbrev nBuf : Space → Nat
  | .hbm => 119
  | .vmem => 0
  | .smem => 0
  | _ => 0

abbrev bufTy : (tb : Table) → Fin (tcTables nBuf tb) → BufTy
  | .hbm, ⟨0, _⟩ => ⟨S5x4096x6144, .f32⟩
  | .hbm, ⟨1, _⟩ => ⟨S1x128, .f32⟩
  | .hbm, ⟨2, _⟩ => ⟨S4x4608x256, .bf16⟩
  | .hbm, ⟨3, _⟩ => ⟨S4x4608x256, .bf16⟩
  | .hbm, ⟨4, _⟩ => ⟨S80x256x1024, .f32⟩
  | .hbm, ⟨5, _⟩ => ⟨S4x4096x1024, .f32⟩
  | .hbm, ⟨6, _⟩ => ⟨S4x4096x8x128, .f32⟩
  | .hbm, ⟨7, _⟩ => ⟨S128, .f32⟩
  | .hbm, ⟨8, _⟩ => ⟨S4x4096x8x128, .f32⟩
  | .hbm, ⟨9, _⟩ => ⟨S_, .f32⟩
  | .hbm, ⟨10, _⟩ => ⟨S4x4096x8, .f32⟩
  | .hbm, ⟨11, _⟩ => ⟨S4x4096x8x1, .f32⟩
  | .hbm, ⟨12, _⟩ => ⟨S_, .f32⟩
  | .hbm, ⟨13, _⟩ => ⟨S4x4096x8x1, .f32⟩
  | .hbm, ⟨14, _⟩ => ⟨S4x4096x8x1, .f32⟩
  | .hbm, ⟨15, _⟩ => ⟨S_, .f32⟩
  | .hbm, ⟨16, _⟩ => ⟨S4x4096x8x1, .f32⟩
  | .hbm, ⟨17, _⟩ => ⟨S4x4096x8x1, .f32⟩
  | .hbm, ⟨18, _⟩ => ⟨S4x4096x8x1, .f32⟩
  | .hbm, ⟨19, _⟩ => ⟨S4x4096x8x128, .f32⟩
  | .hbm, ⟨20, _⟩ => ⟨S4x4096x8x128, .f32⟩
  | .hbm, ⟨21, _⟩ => ⟨S1x1x1x128, .f32⟩
  | .hbm, ⟨22, _⟩ => ⟨S4x4096x8x128, .f32⟩
  | .hbm, ⟨23, _⟩ => ⟨S4x4096x8x128, .f32⟩
  | .hbm, ⟨24, _⟩ => ⟨S64, .f32⟩
  | .hbm, ⟨25, _⟩ => ⟨S64x64, .f32⟩
  | .hbm, ⟨26, _⟩ => ⟨S4096, .f32⟩
  | .hbm, ⟨27, _⟩ => ⟨S64, .f32⟩
  | .hbm, ⟨28, _⟩ => ⟨S1x64, .f32⟩
  | .hbm, ⟨29, _⟩ => ⟨S64x64, .f32⟩
  | .hbm, ⟨30, _⟩ => ⟨S4096, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S4x4096x8x64, .f32⟩
  | .hbm, ⟨43, _⟩ => ⟨S4096x1, .f32⟩
  | .hbm, ⟨44, _⟩ => ⟨S1x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S1x4096x1x32, .f32⟩
  | .hbm, ⟨50, _⟩ => ⟨S4096x32, .f32⟩
  | .hbm, ⟨51, _⟩ => ⟨S1x4096x1x32, .f32⟩
  | .hbm, ⟨52, _⟩ => ⟨S4x4096x8x32, .f32⟩
  | .hbm, ⟨53, _⟩ => ⟨S4x4096x8x32, .f32⟩
  | .hbm, ⟨54, _⟩ => ⟨S4x4096x8x32, .f32⟩
  | .hbm, ⟨55, _⟩ => ⟨S4x4096x8x32, .f32⟩
  | .hbm, ⟨56, _⟩ => ⟨S4x4096x8x32, .f32⟩
  | .hbm, ⟨57, _⟩ => ⟨S4x4096x8x32, .f32⟩
  | .hbm, ⟨58, _⟩ => ⟨S4x4096x8x32, .f32⟩
  | .hbm, ⟨59, _⟩ => ⟨S4x4096x8x32, .f32⟩
  | .hbm, ⟨60, _⟩ => ⟨S4x4096x8x32, .f32⟩
  | .hbm, ⟨61, _⟩ => ⟨S4x4096x8x32, .f32⟩
  | .hbm, ⟨62, _⟩ => ⟨S4x4096x8x32, .f32⟩
  | .hbm, ⟨63, _⟩ => ⟨S4x4096x8x32, .f32⟩
  | .hbm, ⟨64, _⟩ => ⟨S4x4096x8x64, .f32⟩
  | .hbm, ⟨65, _⟩ => ⟨S4x4096x8x64, .f32⟩
  | .hbm, ⟨66, _⟩ => ⟨S4096x1, .f32⟩
  | .hbm, ⟨67, _⟩ => ⟨S1x32, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S1x4096x1x32, .f32⟩
  | .hbm, ⟨73, _⟩ => ⟨S4096x32, .f32⟩
  | .hbm, ⟨74, _⟩ => ⟨S1x4096x1x32, .f32⟩
  | .hbm, ⟨75, _⟩ => ⟨S4x4096x8x32, .f32⟩
  | .hbm, ⟨76, _⟩ => ⟨S4x4096x8x32, .f32⟩
  | .hbm, ⟨77, _⟩ => ⟨S4x4096x8x32, .f32⟩
  | .hbm, ⟨78, _⟩ => ⟨S4x4096x8x32, .f32⟩
  | .hbm, ⟨79, _⟩ => ⟨S4x4096x8x32, .f32⟩
  | .hbm, ⟨80, _⟩ => ⟨S4x4096x8x32, .f32⟩
  | .hbm, ⟨81, _⟩ => ⟨S4x4096x8x32, .f32⟩
  | .hbm, ⟨82, _⟩ => ⟨S4x4096x8x32, .f32⟩
  | .hbm, ⟨83, _⟩ => ⟨S4x4096x8x32, .f32⟩
  | .hbm, ⟨84, _⟩ => ⟨S4x4096x8x32, .f32⟩
  | .hbm, ⟨85, _⟩ => ⟨S4x4096x8x32, .f32⟩
  | .hbm, ⟨86, _⟩ => ⟨S4x4096x8x32, .f32⟩
  | .hbm, ⟨87, _⟩ => ⟨S4x4096x8x64, .f32⟩
  | .hbm, ⟨88, _⟩ => ⟨S4x4096x8x128, .f32⟩
  | .hbm, ⟨89, _⟩ => ⟨S4x4096x2x4x128, .f32⟩
  | .hbm, ⟨90, _⟩ => ⟨S4x4608x256, .f32⟩
  | .hbm, ⟨91, _⟩ => ⟨S4x4608x2x128, .f32⟩
  | .hbm, ⟨92, _⟩ => ⟨S4x4608x256, .f32⟩
  | .hbm, ⟨93, _⟩ => ⟨S4x4608x2x128, .f32⟩
  | .hbm, ⟨94, _⟩ => ⟨S4x2x4608x4096x4, .f32⟩
  | .hbm, ⟨95, _⟩ => ⟨S4x2x4x4096x4608, .f32⟩
  | .hbm, ⟨96, _⟩ => ⟨S_, .f32⟩
  | .hbm, ⟨97, _⟩ => ⟨S4x2x4x4096x4608, .f32⟩
  | .hbm, ⟨98, _⟩ => ⟨S4x2x4x4096x4608, .f32⟩
  | .hbm, ⟨99, _⟩ => ⟨S_, .f32⟩
  | .hbm, ⟨100, _⟩ => ⟨S4x2x4x4096, .f32⟩
  | .hbm, ⟨101, _⟩ => ⟨S_, .f32⟩
  | .hbm, ⟨102, _⟩ => ⟨S4x2x4x4096, .f32⟩
  | .hbm, ⟨103, _⟩ => ⟨S4x2x4x4096, .f32⟩
  | .hbm, ⟨104, _⟩ => ⟨S4x2x4x4096x1, .f32⟩
  | .hbm, ⟨105, _⟩ => ⟨S4x2x4x4096x4608, .f32⟩
  | .hbm, ⟨106, _⟩ => ⟨S4x2x4x4096x4608, .f32⟩
  | .hbm, ⟨107, _⟩ => ⟨S4x2x4x4096x4608, .f32⟩
  | .hbm, ⟨108, _⟩ => ⟨S_, .f32⟩
  | .hbm, ⟨109, _⟩ => ⟨S4x2x4x4096, .f32⟩
  | .hbm, ⟨110, _⟩ => ⟨S4x2x4x4096x1, .f32⟩
  | .hbm, ⟨111, _⟩ => ⟨S4x2x4x4096x4608, .f32⟩
  | .hbm, ⟨112, _⟩ => ⟨S4x2x4x4096x4608, .f32⟩
  | .hbm, ⟨113, _⟩ => ⟨S4x2x128x4x4096, .f32⟩
  | .hbm, ⟨114, _⟩ => ⟨S4x4096x2x4x128, .f32⟩
  | .hbm, ⟨115, _⟩ => ⟨S4x4096x1024, .f32⟩
  | .hbm, ⟨116, _⟩ => ⟨S5x4096x1024, .f32⟩
  | .hbm, ⟨117, _⟩ => ⟨S1x4096x1024, .f32⟩
  | .hbm, ⟨118, _⟩ => ⟨S5x4096x1024, .f32⟩
  | _, _ => ⟨S5x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst_5 : Ref sig .tc := ⟨.hbm, 96, rfl⟩
abbrev main_v85 : Ref sig .tc := ⟨.hbm, 97, rfl⟩
abbrev main_v86 : Ref sig .tc := ⟨.hbm, 98, rfl⟩
abbrev main_cst_6 : Ref sig .tc := ⟨.hbm, 99, rfl⟩
abbrev main_v87 : Ref sig .tc := ⟨.hbm, 100, rfl⟩
abbrev main_cst_7 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_8 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩

abbrev nD : Nat := 1
abbrev τ : Topo := Topo.v7x

variable {F : FTy → Type} [FloatOps F]
-- ==== EvenIn.lean ====
abbrev S5x4096x2048 : Shape := ⟨3, ![5, 4096, 2048]⟩
abbrev S1x2048 : Shape := ⟨2, ![1, 2048]⟩
abbrev S5x1x2048 : Shape := ⟨3, ![5, 1, 2048]⟩
abbrev S2048x5376 : Shape := ⟨2, ![2048, 5376]⟩
abbrev S_ : Shape := ⟨0, ![]⟩
abbrev S5x4096x5376 : Shape := ⟨3, ![5, 4096, 5376]⟩
abbrev S1x1024x2048 : Shape := ⟨3, ![1, 1024, 2048]⟩
abbrev S1x1x2048 : Shape := ⟨3, ![1, 1, 2048]⟩
abbrev S2048x768 : Shape := ⟨2, ![2048, 768]⟩
abbrev S1x1024x768 : Shape := ⟨3, ![1, 1024, 768]⟩
abbrev S1024x2048 : Shape := ⟨2, ![1024, 2048]⟩
abbrev S1024 : Shape := ⟨1, ![1024]⟩
abbrev S1024x1 : Shape := ⟨2, ![1024, 1]⟩
abbrev S1024x768 : Shape := ⟨2, ![1024, 768]⟩

abbrev nBuf : Space → Nat
  | .hbm => 9
  | .vmem => 12
  | .smem => 0
  | _ => 0

abbrev bufTy : (tb : Table) → Fin (tcTables nBuf tb) → BufTy
  | .hbm, ⟨0, _⟩ => ⟨S5x4096x2048, .f32⟩
  | .hbm, ⟨1, _⟩ => ⟨S1x2048, .f32⟩
  | .hbm, ⟨2, _⟩ => ⟨S5x1x2048, .f32⟩
  | .hbm, ⟨3, _⟩ => ⟨S5x1x2048, .f32⟩
  | .hbm, ⟨4, _⟩ => ⟨S2048x5376, .bf16⟩
  | .hbm, ⟨5, _⟩ => ⟨S_, .f32⟩
  | .hbm, ⟨6, _⟩ => ⟨S5x1x2048, .f32⟩
  | .hbm, ⟨7, _⟩ => ⟨S5x1x2048, .f32⟩
  | .hbm, ⟨8, _⟩ => ⟨S5x4096x5376, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x768, .bf16⟩
  | .local _ .vmem, ⟨8, _⟩ => ⟨S2048x768, .bf16⟩
  | .local _ .vmem, ⟨9, _⟩ => ⟨S1x1024x768, .f32⟩
  | .local _ .vmem, ⟨10, _⟩ => ⟨S1x1024x768, .f32⟩
  | .local _ .vmem, ⟨11, _⟩ => ⟨S1024x2048, .bf16⟩
  | _, _ => ⟨S5x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![5, 4, 7], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== EvenInIdeal.lean ====
abbrev S5x4096x2048 : Shape := ⟨3, ![5, 4096, 2048]⟩
abbrev S1x2048 : Shape := ⟨2, ![1, 2048]⟩
abbrev S5x1x2048 : Shape := ⟨3, ![5, 1, 2048]⟩
abbrev S2048x5376 : Shape := ⟨2, ![2048, 5376]⟩
abbrev S_ : Shape := ⟨0, ![]⟩
abbrev S5x4096x5376 : Shape := ⟨3, ![5, 4096, 5376]⟩
abbrev S1x1024x2048 : Shape := ⟨3, ![1, 1024, 2048]⟩
abbrev S1x1x2048 : Shape := ⟨3, ![1, 1, 2048]⟩
abbrev S2048x768 : Shape := ⟨2, ![2048, 768]⟩
abbrev S1x1024x768 : Shape := ⟨3, ![1, 1024, 768]⟩
abbrev S1024x2048 : Shape := ⟨2, ![1024, 2048]⟩
abbrev S1024 : Shape := ⟨1, ![1024]⟩
abbrev S1024x1 : Shape := ⟨2, ![1024, 1]⟩
abbrev S1024x768 : Shape := ⟨2, ![1024, 768]⟩

abbrev nBuf : Space → Nat
  | .hbm => 9
  | .vmem => 12
  | .smem => 0
  | _ => 0

abbrev bufTy : (tb : Table) → Fin (tcTables nBuf tb) → BufTy
  | .hbm, ⟨0, _⟩ => ⟨S5x4096x2048, .f32⟩
  | .hbm, ⟨1, _⟩ => ⟨S1x2048, .f32⟩
  | .hbm, ⟨2, _⟩ => ⟨S5x1x2048, .f32⟩
  | .hbm, ⟨3, _⟩ => ⟨S5x1x2048, .f32⟩
  | .hbm, ⟨4, _⟩ => ⟨S2048x5376, .bf16⟩
  | .hbm, ⟨5, _⟩ => ⟨S_, .f32⟩
  | .hbm, ⟨6, _⟩ => ⟨S5x1x2048, .f32⟩
  | .hbm, ⟨7, _⟩ => ⟨S5x1x2048, .f32⟩
  | .hbm, ⟨8, _⟩ => ⟨S5x4096x5376, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x768, .bf16⟩
  | .local _ .vmem, ⟨8, _⟩ => ⟨S2048x768, .bf16⟩
  | .local _ .vmem, ⟨9, _⟩ => ⟨S1x1024x768, .f32⟩
  | .local _ .vmem, ⟨10, _⟩ => ⟨S1x1024x768, .f32⟩
  | .local _ .vmem, ⟨11, _⟩ => ⟨S1024x2048, .bf16⟩
  | _, _ => ⟨S5x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![5, 4, 7], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== EvenInRefIdeal.lean ====
abbrev S5x4096x2048 : Shape := ⟨3, ![5, 4096, 2048]⟩
abbrev S1x2048 : Shape := ⟨2, ![1, 2048]⟩
abbrev S5x1x2048 : Shape := ⟨3, ![5, 1, 2048]⟩
abbrev S2048x5376 : Shape := ⟨2, ![2048, 5376]⟩
abbrev S2048 : Shape := ⟨1, ![2048]⟩
abbrev S_ : Shape := ⟨0, ![]⟩
abbrev S5x4096 : Shape := ⟨2, ![5, 4096]⟩
abbrev S5x4096x1 : Shape := ⟨3, ![5, 4096, 1]⟩
abbrev S1x1x2048 : Shape := ⟨3, ![1, 1, 2048]⟩
abbrev S5x4096x5376 : Shape := ⟨3, ![5, 4096, 5376]⟩

abbrev nBuf : Space → Nat
  | .hbm => 31
  | .vmem => 0
  | .smem => 0
  | _ => 0

abbrev bufTy : (tb : Table) → Fin (tcTables nBuf tb) → BufTy
  | .hbm, ⟨0, _⟩ => ⟨S5x4096x2048, .f32⟩
  | .hbm, ⟨1, _⟩ => ⟨S1x2048, .f32⟩
  | .hbm, ⟨2, _⟩ => ⟨S5x1x2048, .f32⟩
  | .hbm, ⟨3, _⟩ => ⟨S5x1x2048, .f32⟩
  | .hbm, ⟨4, _⟩ => ⟨S2048x5376, .bf16⟩
  | .hbm, ⟨5, _⟩ => ⟨S2048, .f32⟩
  | .hbm, ⟨6, _⟩ => ⟨S5x4096x2048, .f32⟩
  | .hbm, ⟨7, _⟩ => ⟨S_, .f32⟩
  | .hbm, ⟨8, _⟩ => ⟨S5x4096, .f32⟩
  | .hbm, ⟨9, _⟩ => ⟨S5x4096x1, .f32⟩
  | .hbm, ⟨10, _⟩ => ⟨S_, .f32⟩
  | .hbm, ⟨11, _⟩ => ⟨S5x4096x1, .f32⟩
  | .hbm, ⟨12, _⟩ => ⟨S5x4096x1, .f32⟩
  | .hbm, ⟨13, _⟩ => ⟨S_, .f32⟩
  | .hbm, ⟨14, _⟩ => ⟨S5x4096x1, .f32⟩
  | .hbm, ⟨15, _⟩ => ⟨S5x4096x1, .f32⟩
  | .hbm, ⟨16, _⟩ => ⟨S5x4096x1, .f32⟩
  | .hbm, ⟨17, _⟩ => ⟨S5x4096x2048, .f32⟩
  | .hbm, ⟨18, _⟩ => ⟨S5x4096x2048, .f32⟩
  | .hbm, ⟨19, _⟩ => ⟨S1x1x2048, .f32⟩
  | .hbm, ⟨20, _⟩ => ⟨S5x4096x2048, .f32⟩
  | .hbm, ⟨21, _⟩ => ⟨S5x4096x2048, .f32⟩
  | .hbm, ⟨22, _⟩ => ⟨S_, .f32⟩
  | .hbm, ⟨23, _⟩ => ⟨S5x1x2048, .f32⟩
  | .hbm, ⟨24, _⟩ => ⟨S5x1x2048, .f32⟩
  | .hbm, ⟨25, _⟩ => ⟨S5x4096x2048, .f32⟩
  | .hbm, ⟨26, _⟩ => ⟨S5x4096x2048, .f32⟩
  | .hbm, ⟨27, _⟩ => ⟨S5x4096x2048, .f32⟩
  | .hbm, ⟨28, _⟩ => ⟨S5x4096x2048, .f32⟩
  | .hbm, ⟨29, _⟩ => ⟨S2048x5376, .f32⟩
  | .hbm, ⟨30, _⟩ => ⟨S5x4096x5376, .f32⟩
  | _, _ => ⟨S5x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OddIn.lean ====
abbrev S5x4096x2048 : Shape := ⟨3, ![5, 4096, 2048]⟩
abbrev S1x2048 : Shape := ⟨2, ![1, 2048]⟩
abbrev S5x1x2048 : Shape := ⟨3, ![5, 1, 2048]⟩
abbrev S2048x6144 : Shape := ⟨2, ![2048, 6144]⟩
abbrev S_ : Shape := ⟨0, ![]⟩
abbrev S5x4096x6144 : Shape := ⟨3, ![5, 4096, 6144]⟩
abbrev S1x1024x2048 : Shape := ⟨3, ![1, 1024, 2048]⟩
abbrev S1x1x2048 : Shape := ⟨3, ![1, 1, 2048]⟩
abbrev S2048x768 : Shape := ⟨2, ![2048, 768]⟩
abbrev S1x1024x768 : Shape := ⟨3, ![1, 1024, 768]⟩
abbrev S1024x2048 : Shape := ⟨2, ![1024, 2048]⟩
abbrev S1024 : Shape := ⟨1, ![1024]⟩
abbrev S1024x1 : Shape := ⟨2, ![1024, 1]⟩
abbrev S1024x768 : Shape := ⟨2, ![1024, 768]⟩

abbrev nBuf : Space → Nat
  | .hbm => 9
  | .vmem => 12
  | .smem => 0
  | _ => 0

abbrev bufTy : (tb : Table) → Fin (tcTables nBuf tb) → BufTy
  | .hbm, ⟨0, _⟩ => ⟨S5x4096x2048, .f32⟩
  | .hbm, ⟨1, _⟩ => ⟨S1x2048, .f32⟩
  | .hbm, ⟨2, _⟩ => ⟨S5x1x2048, .f32⟩
  | .hbm, ⟨3, _⟩ => ⟨S5x1x2048, .f32⟩
  | .hbm, ⟨4, _⟩ => ⟨S2048x6144, .bf16⟩
  | .hbm, ⟨5, _⟩ => ⟨S_, .f32⟩
  | .hbm, ⟨6, _⟩ => ⟨S5x1x2048, .f32⟩
  | .hbm, ⟨7, _⟩ => ⟨S5x1x2048, .f32⟩
  | .hbm, ⟨8, _⟩ => ⟨S5x4096x6144, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x768, .bf16⟩
  | .local _ .vmem, ⟨8, _⟩ => ⟨S2048x768, .bf16⟩
  | .local _ .vmem, ⟨9, _⟩ => ⟨S1x1024x768, .f32⟩
  | .local _ .vmem, ⟨10, _⟩ => ⟨S1x1024x768, .f32⟩
  | .local _ .vmem, ⟨11, _⟩ => ⟨S1024x2048, .bf16⟩
  | _, _ => ⟨S5x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![5, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== OddInRefIdeal.lean ====
abbrev S5x4096x2048 : Shape := ⟨3, ![5, 4096, 2048]⟩
abbrev S1x2048 : Shape := ⟨2, ![1, 2048]⟩
abbrev S5x1x2048 : Shape := ⟨3, ![5, 1, 2048]⟩
abbrev S2048x6144 : Shape := ⟨2, ![2048, 6144]⟩
abbrev S2048 : Shape := ⟨1, ![2048]⟩
abbrev S_ : Shape := ⟨0, ![]⟩
abbrev S5x4096 : Shape := ⟨2, ![5, 4096]⟩
abbrev S5x4096x1 : Shape := ⟨3, ![5, 4096, 1]⟩
abbrev S1x1x2048 : Shape := ⟨3, ![1, 1, 2048]⟩
abbrev S5x4096x6144 : Shape := ⟨3, ![5, 4096, 6144]⟩

abbrev nBuf : Space → Nat
  | .hbm => 31
  | .vmem => 0
  | .smem => 0
  | _ => 0

abbrev bufTy : (tb : Table) → Fin (tcTables nBuf tb) → BufTy
  | .hbm, ⟨0, _⟩ => ⟨S5x4096x2048, .f32⟩
  | .hbm, ⟨1, _⟩ => ⟨S1x2048, .f32⟩
  | .hbm, ⟨2, _⟩ => ⟨S5x1x2048, .f32⟩
  | .hbm, ⟨3, _⟩ => ⟨S5x1x2048, .f32⟩
  | .hbm, ⟨4, _⟩ => ⟨S2048x6144, .bf16⟩
  | .hbm, ⟨5, _⟩ => ⟨S2048, .f32⟩
  | .hbm, ⟨6, _⟩ => ⟨S5x4096x2048, .f32⟩
  | .hbm, ⟨7, _⟩ => ⟨S_, .f32⟩
  | .hbm, ⟨8, _⟩ => ⟨S5x4096, .f32⟩
  | .hbm, ⟨9, _⟩ => ⟨S5x4096x1, .f32⟩
  | .hbm, ⟨10, _⟩ => ⟨S_, .f32⟩
  | .hbm, ⟨11, _⟩ => ⟨S5x4096x1, .f32⟩
  | .hbm, ⟨12, _⟩ => ⟨S5x4096x1, .f32⟩
  | .hbm, ⟨13, _⟩ => ⟨S_, .f32⟩
  | .hbm, ⟨14, _⟩ => ⟨S5x4096x1, .f32⟩
  | .hbm, ⟨15, _⟩ => ⟨S5x4096x1, .f32⟩
  | .hbm, ⟨16, _⟩ => ⟨S5x4096x1, .f32⟩
  | .hbm, ⟨17, _⟩ => ⟨S5x4096x2048, .f32⟩
  | .hbm, ⟨18, _⟩ => ⟨S5x4096x2048, .f32⟩
  | .hbm, ⟨19, _⟩ => ⟨S1x1x2048, .f32⟩
  | .hbm, ⟨20, _⟩ => ⟨S5x4096x2048, .f32⟩
  | .hbm, ⟨21, _⟩ => ⟨S5x4096x2048, .f32⟩
  | .hbm, ⟨22, _⟩ => ⟨S_, .f32⟩
  | .hbm, ⟨23, _⟩ => ⟨S5x1x2048, .f32⟩
  | .hbm, ⟨24, _⟩ => ⟨S5x1x2048, .f32⟩
  | .hbm, ⟨25, _⟩ => ⟨S5x4096x2048, .f32⟩
  | .hbm, ⟨26, _⟩ => ⟨S5x4096x2048, .f32⟩
  | .hbm, ⟨27, _⟩ => ⟨S5x4096x2048, .f32⟩
  | .hbm, ⟨28, _⟩ => ⟨S5x4096x2048, .f32⟩
  | .hbm, ⟨29, _⟩ => ⟨S2048x6144, .f32⟩
  | .hbm, ⟨30, _⟩ => ⟨S5x4096x6144, .f32⟩
  | _, _ => ⟨S5x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== EvenOut.lean ====
abbrev S5x4096x1536 : Shape := ⟨3, ![5, 4096, 1536]⟩
abbrev S5x4096x5376 : Shape := ⟨3, ![5, 4096, 5376]⟩
abbrev S1x256 : Shape := ⟨2, ![1, 256]⟩
abbrev S5x4096x512 : Shape := ⟨3, ![5, 4096, 512]⟩
abbrev S2048x2048 : Shape := ⟨2, ![2048, 2048]⟩
abbrev S5x4096x2048 : Shape := ⟨3, ![5, 4096, 2048]⟩
abbrev S1x2048 : Shape := ⟨2, ![1, 2048]⟩
abbrev S5x1x2048 : Shape := ⟨3, ![5, 1, 2048]⟩
abbrev S1x256x1536 : Shape := ⟨3, ![1, 256, 1536]⟩
abbrev S1x256x512 : Shape := ⟨3, ![1, 256, 512]⟩
abbrev S1x256x2048 : Shape := ⟨3, ![1, 256, 2048]⟩
abbrev S1x1x2048 : Shape := ⟨3, ![1, 1, 2048]⟩
abbrev S256x1536 : Shape := ⟨2, ![256, 1536]⟩
abbrev S256x256 : Shape := ⟨2, ![256, 256]⟩
abbrev S256 : Shape := ⟨1, ![256]⟩
abbrev S256x1 : Shape := ⟨2, ![256, 1]⟩
abbrev S1536x2048 : Shape := ⟨2, ![1536, 2048]⟩
abbrev S512x2048 : Shape := ⟨2, ![512, 2048]⟩
abbrev S256x2048 : Shape := ⟨2, ![256, 2048]⟩
abbrev S256x512 : Shape := ⟨2, ![256, 512]⟩

abbrev nBuf : Space → Nat
  | .hbm => 11
  | .vmem => 17
  | .smem => 0
  | _ => 0

abbrev bufTy : (tb : Table) → Fin (tcTables nBuf tb) → BufTy
  | .hbm, ⟨0, _⟩ => ⟨S5x4096x1536, .f32⟩
  | .hbm, ⟨1, _⟩ => ⟨S5x4096x1536, .f32⟩
  | .hbm, ⟨2, _⟩ => ⟨S5x4096x5376, .f32⟩
  | .hbm, ⟨3, _⟩ => ⟨S1x256, .f32⟩
  | .hbm, ⟨4, _⟩ => ⟨S5x4096x512, .f32⟩
  | .hbm, ⟨5, _⟩ => ⟨S2048x2048, .f32⟩
  | .hbm, ⟨6, _⟩ => ⟨S5x4096x2048, .f32⟩
  | .hbm, ⟨7, _⟩ => ⟨S1x2048, .f32⟩
  | .hbm, ⟨8, _⟩ => ⟨S5x1x2048, .f32⟩
  | .hbm, ⟨9, _⟩ => ⟨S2048x2048, .bf16⟩
  | .hbm, ⟨10, _⟩ => ⟨S5x4096x2048, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256, .f32⟩
  | .local _ .vmem, ⟨7, _⟩ => ⟨S1x256x512, .f32⟩
  | .local _ .vmem, ⟨8, _⟩ => ⟨S1x256x512, .f32⟩
  | .local _ .vmem, ⟨9, _⟩ => ⟨S2048x2048, .bf16⟩
  | .local _ .vmem, ⟨10, _⟩ => ⟨S1x256x2048, .f32⟩
  | .local _ .vmem, ⟨11, _⟩ => ⟨S1x256x2048, .f32⟩
  | .local _ .vmem, ⟨12, _⟩ => ⟨S1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x256x2048, .f32⟩
  | .local _ .vmem, ⟨16, _⟩ => ⟨S1x256x2048, .f32⟩
  | _, _ => ⟨S5x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![5, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== EvenOutRefIdeal.lean ====
abbrev S5x4096x1536 : Shape := ⟨3, ![5, 4096, 1536]⟩
abbrev S5x4096x5376 : Shape := ⟨3, ![5, 4096, 5376]⟩
abbrev S1x256 : Shape := ⟨2, ![1, 256]⟩
abbrev S5x4096x512 : Shape := ⟨3, ![5, 4096, 512]⟩
abbrev S2048x2048 : Shape := ⟨2, ![2048, 2048]⟩
abbrev S5x4096x2048 : Shape := ⟨3, ![5, 4096, 2048]⟩
abbrev S1x2048 : Shape := ⟨2, ![1, 2048]⟩
abbrev S5x1x2048 : Shape := ⟨3, ![5, 1, 2048]⟩
abbrev S5x4096x6x256 : Shape := ⟨4, ![5, 4096, 6, 256]⟩
abbrev S256 : Shape := ⟨1, ![256]⟩
abbrev S_ : Shape := ⟨0, ![]⟩
abbrev S5x4096x6 : Shape := ⟨3, ![5, 4096, 6]⟩
abbrev S5x4096x6x1 : Shape := ⟨4, ![5, 4096, 6, 1]⟩
abbrev S1x1x1x256 : Shape := ⟨4, ![1, 1, 1, 256]⟩
abbrev S2048 : Shape := ⟨1, ![2048]⟩
abbrev S5x4096 : Shape := ⟨2, ![5, 4096]⟩
abbrev S5x4096x1 : Shape := ⟨3, ![5, 4096, 1]⟩
abbrev S1x1x2048 : Shape := ⟨3, ![1, 1, 2048]⟩

abbrev nBuf : Space → Nat
  | .hbm => 63
  | .vmem => 0
  | .smem => 0
  | _ => 0

abbrev bufTy : (tb : Table) → Fin (tcTables nBuf tb) → BufTy
  | .hbm, ⟨0, _⟩ => ⟨S5x4096x1536, .f32⟩
  | .hbm, ⟨1, _⟩ => ⟨S5x4096x1536, .f32⟩
  | .hbm, ⟨2, _⟩ => ⟨S5x4096x5376, .f32⟩
  | .hbm, ⟨3, _⟩ => ⟨S1x256, .f32⟩
  | .hbm, ⟨4, _⟩ => ⟨S5x4096x512, .f32⟩
  | .hbm, ⟨5, _⟩ => ⟨S2048x2048, .f32⟩
  | .hbm, ⟨6, _⟩ => ⟨S5x4096x2048, .f32⟩
  | .hbm, ⟨7, _⟩ => ⟨S1x2048, .f32⟩
  | .hbm, ⟨8, _⟩ => ⟨S5x1x2048, .f32⟩
  | .hbm, ⟨9, _⟩ => ⟨S5x4096x1536, .f32⟩
  | .hbm, ⟨10, _⟩ => ⟨S5x4096x1536, .f32⟩
  | .hbm, ⟨11, _⟩ => ⟨S5x4096x6x256, .f32⟩
  | .hbm, ⟨12, _⟩ => ⟨S256, .f32⟩
  | .hbm, ⟨13, _⟩ => ⟨S5x4096x6x256, .f32⟩
  | .hbm, ⟨14, _⟩ => ⟨S_, .f32⟩
  | .hbm, ⟨15, _⟩ => ⟨S5x4096x6, .f32⟩
  | .hbm, ⟨16, _⟩ => ⟨S5x4096x6x1, .f32⟩
  | .hbm, ⟨17, _⟩ => ⟨S_, .f32⟩
  | .hbm, ⟨18, _⟩ => ⟨S5x4096x6x1, .f32⟩
  | .hbm, ⟨19, _⟩ => ⟨S5x4096x6x1, .f32⟩
  | .hbm, ⟨20, _⟩ => ⟨S_, .f32⟩
  | .hbm, ⟨21, _⟩ => ⟨S5x4096x6x1, .f32⟩
  | .hbm, ⟨22, _⟩ => ⟨S5x4096x6x1, .f32⟩
  | .hbm, ⟨23, _⟩ => ⟨S5x4096x6x1, .f32⟩
  | .hbm, ⟨24, _⟩ => ⟨S5x4096x6x256, .f32⟩
  | .hbm, ⟨25, _⟩ => ⟨S5x4096x6x256, .f32⟩
  | .hbm, ⟨26, _⟩ => ⟨S1x1x1x256, .f32⟩
  | .hbm, ⟨27, _⟩ => ⟨S5x4096x6x256, .f32⟩
  | .hbm, ⟨28, _⟩ => ⟨S5x4096x6x256, .f32⟩
  | .hbm, ⟨29, _⟩ => ⟨S5x4096x6x256, .f32⟩
  | .hbm, ⟨30, _⟩ => ⟨S5x4096x6x256, .f32⟩
  | .hbm, ⟨31, _⟩ => ⟨S5x4096x6x256, .f32⟩
  | .hbm, ⟨32, _⟩ => ⟨S_, .f32⟩
  | .hbm, ⟨33, _⟩ => ⟨S5x4096x6x256, .f32⟩
  | .hbm, ⟨34, _⟩ => ⟨S5x4096x6x256, .f32⟩
  | .hbm, ⟨35, _⟩ => ⟨S_, .f32⟩
  | .hbm, ⟨36, _⟩ => ⟨S5x4096x6x256, .f32⟩
  | .hbm, ⟨37, _⟩ => ⟨S5x4096x6x256, .f32⟩
  | .hbm, ⟨38, _⟩ => ⟨S5x4096x6x256, .f32⟩
  | .hbm, ⟨39, _⟩ => ⟨S5x4096x6x256, .f32⟩
  | .hbm, ⟨40, _⟩ => ⟨S5x4096x1536, .f32⟩
  | .hbm, ⟨41, _⟩ => ⟨S5x4096x2048, .f32⟩
  | .hbm, ⟨42, _⟩ => ⟨S5x4096x2048, .f32⟩
  | .hbm, ⟨43, _⟩ => ⟨S2048, .f32⟩
  | .hbm, ⟨44, _⟩ => ⟨S5x4096x2048, .f32⟩
  | .hbm, ⟨45, _⟩ => ⟨S_, .f32⟩
  | .hbm, ⟨46, _⟩ => ⟨S5x4096, .f32⟩
  | .hbm, ⟨47, _⟩ => ⟨S5x4096x1, .f32⟩
  | .hbm, ⟨48, _⟩ => ⟨S_, .f32⟩
  | .hbm, ⟨49, _⟩ => ⟨S5x4096x1, .f32⟩
  | .hbm, ⟨50, _⟩ => ⟨S5x4096x1, .f32⟩
  | .hbm, ⟨51, _⟩ => ⟨S_, .f32⟩
  | .hbm, ⟨52, _⟩ => ⟨S5x4096x1, .f32⟩
  | .hbm, ⟨53, _⟩ => ⟨S5x4096x1, .f32⟩
  | .hbm, ⟨54, _⟩ => ⟨S5x4096x1, .f32⟩
  | .hbm, ⟨55, _⟩ => ⟨S5x4096x2048, .f32⟩
  | .hbm, ⟨56, _⟩ => ⟨S5x4096x2048, .f32⟩
  | .hbm, ⟨57, _⟩ => ⟨S1x1x2048, .f32⟩
  | .hbm, ⟨58, _⟩ => ⟨S5x4096x2048, .f32⟩
  | .hbm, ⟨59, _⟩ => ⟨S5x4096x2048, .f32⟩
  | .hbm, ⟨60, _⟩ => ⟨S5x4096x2048, .f32⟩
  | .hbm, ⟨61, _⟩ => ⟨S5x4096x2048, .f32⟩
  | .hbm, ⟨62, _⟩ => ⟨S5x4096x2048, .f32⟩
  | _, _ => ⟨S5x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== OddOut.lean ====
abbrev S5x4096x1024 : Shape := ⟨3, ![5, 4096, 1024]⟩
abbrev S5x4096x6144 : Shape := ⟨3, ![5, 4096, 6144]⟩
abbrev S1x128 : Shape := ⟨2, ![1, 128]⟩
abbrev S2048x2048 : Shape := ⟨2, ![2048, 2048]⟩
abbrev S5x4096x2048 : Shape := ⟨3, ![5, 4096, 2048]⟩
abbrev S1x2048 : Shape := ⟨2, ![1, 2048]⟩
abbrev S5x1x2048 : Shape := ⟨3, ![5, 1, 2048]⟩
abbrev S1x256x1024 : Shape := ⟨3, ![1, 256, 1024]⟩
abbrev S1x256x2048 : Shape := ⟨3, ![1, 256, 2048]⟩
abbrev S1x1x2048 : Shape := ⟨3, ![1, 1, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 11
  | .vmem => 17
  | .smem => 0
  | _ => 0

abbrev bufTy : (tb : Table) → Fin (tcTables nBuf tb) → BufTy
  | .hbm, ⟨0, _⟩ => ⟨S5x4096x1024, .f32⟩
  | .hbm, ⟨1, _⟩ => ⟨S5x4096x1024, .f32⟩
  | .hbm, ⟨2, _⟩ => ⟨S5x4096x6144, .f32⟩
  | .hbm, ⟨3, _⟩ => ⟨S1x128, .f32⟩
  | .hbm, ⟨4, _⟩ => ⟨S5x4096x1024, .f32⟩
  | .hbm, ⟨5, _⟩ => ⟨S2048x2048, .f32⟩
  | .hbm, ⟨6, _⟩ => ⟨S5x4096x2048, .f32⟩
  | .hbm, ⟨7, _⟩ => ⟨S1x2048, .f32⟩
  | .hbm, ⟨8, _⟩ => ⟨S5x1x2048, .f32⟩
  | .hbm, ⟨9, _⟩ => ⟨S2048x2048, .bf16⟩
  | .hbm, ⟨10, _⟩ => ⟨S5x4096x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x128, .f32⟩
  | .local _ .vmem, ⟨7, _⟩ => ⟨S1x256x1024, .f32⟩
  | .local _ .vmem, ⟨8, _⟩ => ⟨S1x256x1024, .f32⟩
  | .local _ .vmem, ⟨9, _⟩ => ⟨S2048x2048, .bf16⟩
  | .local _ .vmem, ⟨10, _⟩ => ⟨S1x256x2048, .f32⟩
  | .local _ .vmem, ⟨11, _⟩ => ⟨S1x256x2048, .f32⟩
  | .local _ .vmem, ⟨12, _⟩ => ⟨S1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x256x2048, .f32⟩
  | .local _ .vmem, ⟨16, _⟩ => ⟨S1x256x2048, .f32⟩
  | _, _ => ⟨S5x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![5, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OddOutRefIdeal.lean ====
abbrev S5x4096x1024 : Shape := ⟨3, ![5, 4096, 1024]⟩
abbrev S5x4096x6144 : Shape := ⟨3, ![5, 4096, 6144]⟩
abbrev S1x128 : Shape := ⟨2, ![1, 128]⟩
abbrev S2048x2048 : Shape := ⟨2, ![2048, 2048]⟩
abbrev S5x4096x2048 : Shape := ⟨3, ![5, 4096, 2048]⟩
abbrev S1x2048 : Shape := ⟨2, ![1, 2048]⟩
abbrev S5x1x2048 : Shape := ⟨3, ![5, 1, 2048]⟩
abbrev S5x4096x8x128 : Shape := ⟨4, ![5, 4096, 8, 128]⟩
abbrev S128 : Shape := ⟨1, ![128]⟩
abbrev S_ : Shape := ⟨0, ![]⟩
abbrev S5x4096x8 : Shape := ⟨3, ![5, 4096, 8]⟩
abbrev S5x4096x8x1 : Shape := ⟨4, ![5, 4096, 8, 1]⟩
abbrev S1x1x1x128 : Shape := ⟨4, ![1, 1, 1, 128]⟩
abbrev S2048 : Shape := ⟨1, ![2048]⟩
abbrev S5x4096 : Shape := ⟨2, ![5, 4096]⟩
abbrev S5x4096x1 : Shape := ⟨3, ![5, 4096, 1]⟩
abbrev S1x1x2048 : Shape := ⟨3, ![1, 1, 2048]⟩

abbrev nBuf : Space → Nat
  | .hbm => 63
  | .vmem => 0
  | .smem => 0
  | _ => 0

abbrev bufTy : (tb : Table) → Fin (tcTables nBuf tb) → BufTy
  | .hbm, ⟨0, _⟩ => ⟨S5x4096x1024, .f32⟩
  | .hbm, ⟨1, _⟩ => ⟨S5x4096x1024, .f32⟩
  | .hbm, ⟨2, _⟩ => ⟨S5x4096x6144, .f32⟩
  | .hbm, ⟨3, _⟩ => ⟨S1x128, .f32⟩
  | .hbm, ⟨4, _⟩ => ⟨S5x4096x1024, .f32⟩
  | .hbm, ⟨5, _⟩ => ⟨S2048x2048, .f32⟩
  | .hbm, ⟨6, _⟩ => ⟨S5x4096x2048, .f32⟩
  | .hbm, ⟨7, _⟩ => ⟨S1x2048, .f32⟩
  | .hbm, ⟨8, _⟩ => ⟨S5x1x2048, .f32⟩
  | .hbm, ⟨9, _⟩ => ⟨S5x4096x1024, .f32⟩
  | .hbm, ⟨10, _⟩ => ⟨S5x4096x1024, .f32⟩
  | .hbm, ⟨11, _⟩ => ⟨S5x4096x8x128, .f32⟩
  | .hbm, ⟨12, _⟩ => ⟨S128, .f32⟩
  | .hbm, ⟨13, _⟩ => ⟨S5x4096x8x128, .f32⟩
  | .hbm, ⟨14, _⟩ => ⟨S_, .f32⟩
  | .hbm, ⟨15, _⟩ => ⟨S5x4096x8, .f32⟩
  | .hbm, ⟨16, _⟩ => ⟨S5x4096x8x1, .f32⟩
  | .hbm, ⟨17, _⟩ => ⟨S_, .f32⟩
  | .hbm, ⟨18, _⟩ => ⟨S5x4096x8x1, .f32⟩
  | .hbm, ⟨19, _⟩ => ⟨S5x4096x8x1, .f32⟩
  | .hbm, ⟨20, _⟩ => ⟨S_, .f32⟩
  | .hbm, ⟨21, _⟩ => ⟨S5x4096x8x1, .f32⟩
  | .hbm, ⟨22, _⟩ => ⟨S5x4096x8x1, .f32⟩
  | .hbm, ⟨23, _⟩ => ⟨S5x4096x8x1, .f32⟩
  | .hbm, ⟨24, _⟩ => ⟨S5x4096x8x128, .f32⟩
  | .hbm, ⟨25, _⟩ => ⟨S5x4096x8x128, .f32⟩
  | .hbm, ⟨26, _⟩ => ⟨S1x1x1x128, .f32⟩
  | .hbm, ⟨27, _⟩ => ⟨S5x4096x8x128, .f32⟩
  | .hbm, ⟨28, _⟩ => ⟨S5x4096x8x128, .f32⟩
  | .hbm, ⟨29, _⟩ => ⟨S5x4096x8x128, .f32⟩
  | .hbm, ⟨30, _⟩ => ⟨S5x4096x8x128, .f32⟩
  | .hbm, ⟨31, _⟩ => ⟨S5x4096x8x128, .f32⟩
  | .hbm, ⟨32, _⟩ => ⟨S_, .f32⟩
  | .hbm, ⟨33, _⟩ => ⟨S5x4096x8x128, .f32⟩
  | .hbm, ⟨34, _⟩ => ⟨S5x4096x8x128, .f32⟩
  | .hbm, ⟨35, _⟩ => ⟨S_, .f32⟩
  | .hbm, ⟨36, _⟩ => ⟨S5x4096x8x128, .f32⟩
  | .hbm, ⟨37, _⟩ => ⟨S5x4096x8x128, .f32⟩
  | .hbm, ⟨38, _⟩ => ⟨S5x4096x8x128, .f32⟩
  | .hbm, ⟨39, _⟩ => ⟨S5x4096x8x128, .f32⟩
  | .hbm, ⟨40, _⟩ => ⟨S5x4096x1024, .f32⟩
  | .hbm, ⟨41, _⟩ => ⟨S5x4096x2048, .f32⟩
  | .hbm, ⟨42, _⟩ => ⟨S5x4096x2048, .f32⟩
  | .hbm, ⟨43, _⟩ => ⟨S2048, .f32⟩
  | .hbm, ⟨44, _⟩ => ⟨S5x4096x2048, .f32⟩
  | .hbm, ⟨45, _⟩ => ⟨S_, .f32⟩
  | .hbm, ⟨46, _⟩ => ⟨S5x4096, .f32⟩
  | .hbm, ⟨47, _⟩ => ⟨S5x4096x1, .f32⟩
  | .hbm, ⟨48, _⟩ => ⟨S_, .f32⟩
  | .hbm, ⟨49, _⟩ => ⟨S5x4096x1, .f32⟩
  | .hbm, ⟨50, _⟩ => ⟨S5x4096x1, .f32⟩
  | .hbm, ⟨51, _⟩ => ⟨S_, .f32⟩
  | .hbm, ⟨52, _⟩ => ⟨S5x4096x1, .f32⟩
  | .hbm, ⟨53, _⟩ => ⟨S5x4096x1, .f32⟩
  | .hbm, ⟨54, _⟩ => ⟨S5x4096x1, .f32⟩
  | .hbm, ⟨55, _⟩ => ⟨S5x4096x2048, .f32⟩
  | .hbm, ⟨56, _⟩ => ⟨S5x4096x2048, .f32⟩
  | .hbm, ⟨57, _⟩ => ⟨S1x1x2048, .f32⟩
  | .hbm, ⟨58, _⟩ => ⟨S5x4096x2048, .f32⟩
  | .hbm, ⟨59, _⟩ => ⟨S5x4096x2048, .f32⟩
  | .hbm, ⟨60, _⟩ => ⟨S5x4096x2048, .f32⟩
  | .hbm, ⟨61, _⟩ => ⟨S5x4096x2048, .f32⟩
  | .hbm, ⟨62, _⟩ => ⟨S5x4096x2048, .f32⟩
  | _, _ => ⟨S5x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== Query.lean ====
abbrev S5x4096x2048 : Shape := ⟨3, ![5, 4096, 2048]⟩
abbrev S1x2048 : Shape := ⟨2, ![1, 2048]⟩
abbrev S5x1x2048 : Shape := ⟨3, ![5, 1, 2048]⟩
abbrev S2048x2048 : Shape := ⟨2, ![2048, 2048]⟩
abbrev S_ : Shape := ⟨0, ![]⟩
abbrev S1x512x2048 : Shape := ⟨3, ![1, 512, 2048]⟩
abbrev S1x1x2048 : Shape := ⟨3, ![1, 1, 2048]⟩
abbrev S2048x1024 : Shape := ⟨2, ![2048, 1024]⟩
abbrev S1x512x1024 : Shape := ⟨3, ![1, 512, 1024]⟩
abbrev S512x2048 : Shape := ⟨2, ![512, 2048]⟩
abbrev S512 : Shape := ⟨1, ![512]⟩
abbrev S512x1 : Shape := ⟨2, ![512, 1]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S5x4096x2048, .f32⟩
  | .hbm, ⟨1, _⟩ => ⟨S1x2048, .f32⟩
  | .hbm, ⟨2, _⟩ => ⟨S5x1x2048, .f32⟩
  | .hbm, ⟨3, _⟩ => ⟨S5x1x2048, .f32⟩
  | .hbm, ⟨4, _⟩ => ⟨S2048x2048, .f32⟩
  | .hbm, ⟨5, _⟩ => ⟨S_, .f32⟩
  | .hbm, ⟨6, _⟩ => ⟨S5x1x2048, .f32⟩
  | .hbm, ⟨7, _⟩ => ⟨S5x1x2048, .f32⟩
  | .hbm, ⟨8, _⟩ => ⟨S2048x2048, .bf16⟩
  | .hbm, ⟨9, _⟩ => ⟨S5x4096x2048, .f32⟩
  | .hbm, ⟨10, _⟩ => ⟨S5x4096x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1x512x2048, .bf16⟩
  | .local _ .vmem, ⟨12, _⟩ => ⟨S1x512x2048, .bf16⟩
  | .local _ .vmem, ⟨13, _⟩ => ⟨S512x2048, .bf16⟩
  | _, _ => ⟨S5x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![5, 8, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== QueryRefIdeal.lean ====
abbrev S5x4096x2048 : Shape := ⟨3, ![5, 4096, 2048]⟩
abbrev S1x2048 : Shape := ⟨2, ![1, 2048]⟩
abbrev S5x1x2048 : Shape := ⟨3, ![5, 1, 2048]⟩
abbrev S2048x2048 : Shape := ⟨2, ![2048, 2048]⟩
abbrev S2048 : Shape := ⟨1, ![2048]⟩
abbrev S_ : Shape := ⟨0, ![]⟩
abbrev S5x4096 : Shape := ⟨2, ![5, 4096]⟩
abbrev S5x4096x1 : Shape := ⟨3, ![5, 4096, 1]⟩
abbrev S1x1x2048 : Shape := ⟨3, ![1, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S5x4096x2048, .f32⟩
  | .hbm, ⟨1, _⟩ => ⟨S1x2048, .f32⟩
  | .hbm, ⟨2, _⟩ => ⟨S5x1x2048, .f32⟩
  | .hbm, ⟨3, _⟩ => ⟨S5x1x2048, .f32⟩
  | .hbm, ⟨4, _⟩ => ⟨S2048x2048, .f32⟩
  | .hbm, ⟨5, _⟩ => ⟨S2048, .f32⟩
  | .hbm, ⟨6, _⟩ => ⟨S5x4096x2048, .f32⟩
  | .hbm, ⟨7, _⟩ => ⟨S_, .f32⟩
  | .hbm, ⟨8, _⟩ => ⟨S5x4096, .f32⟩
  | .hbm, ⟨9, _⟩ => ⟨S5x4096x1, .f32⟩
  | .hbm, ⟨10, _⟩ => ⟨S_, .f32⟩
  | .hbm, ⟨11, _⟩ => ⟨S5x4096x1, .f32⟩
  | .hbm, ⟨12, _⟩ => ⟨S5x4096x1, .f32⟩
  | .hbm, ⟨13, _⟩ => ⟨S_, .f32⟩
  | .hbm, ⟨14, _⟩ => ⟨S5x4096x1, .f32⟩
  | .hbm, ⟨15, _⟩ => ⟨S5x4096x1, .f32⟩
  | .hbm, ⟨16, _⟩ => ⟨S5x4096x1, .f32⟩
  | .hbm, ⟨17, _⟩ => ⟨S5x4096x2048, .f32⟩
  | .hbm, ⟨18, _⟩ => ⟨S5x4096x2048, .f32⟩
  | .hbm, ⟨19, _⟩ => ⟨S1x1x2048, .f32⟩
  | .hbm, ⟨20, _⟩ => ⟨S5x4096x2048, .f32⟩
  | .hbm, ⟨21, _⟩ => ⟨S5x4096x2048, .f32⟩
  | .hbm, ⟨22, _⟩ => ⟨S_, .f32⟩
  | .hbm, ⟨23, _⟩ => ⟨S5x1x2048, .f32⟩
  | .hbm, ⟨24, _⟩ => ⟨S5x1x2048, .f32⟩
  | .hbm, ⟨25, _⟩ => ⟨S5x4096x2048, .f32⟩
  | .hbm, ⟨26, _⟩ => ⟨S5x4096x2048, .f32⟩
  | .hbm, ⟨27, _⟩ => ⟨S5x4096x2048, .f32⟩
  | .hbm, ⟨28, _⟩ => ⟨S5x4096x2048, .f32⟩
  | .hbm, ⟨29, _⟩ => ⟨S5x4096x2048, .f32⟩
  | .hbm, ⟨30, _⟩ => ⟨S5x4096x2048, .bf16⟩
  | _, _ => ⟨S5x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Ctx.lean ====
abbrev S5x4096x6144 : Shape := ⟨3, ![5, 4096, 6144]⟩
abbrev S2x128 : Shape := ⟨2, ![2, 128]⟩
abbrev S5x4096x512 : Shape := ⟨3, ![5, 4096, 512]⟩
abbrev S5x4096x256 : Shape := ⟨3, ![5, 4096, 256]⟩
abbrev S1x4096x256 : Shape := ⟨3, ![1, 4096, 256]⟩
abbrev S16x256x2x128 : Shape := ⟨4, ![16, 256, 2, 128]⟩
abbrev S1x128 : Shape := ⟨2, ![1, 128]⟩
abbrev S128 : Shape := ⟨1, ![128]⟩
abbrev S_ : Shape := ⟨0, ![]⟩
abbrev S16x256x2 : Shape := ⟨3, ![16, 256, 2]⟩
abbrev S16x256x2x1 : Shape := ⟨4, ![16, 256, 2, 1]⟩
abbrev S1x1x1x128 : Shape := ⟨4, ![1, 1, 1, 128]⟩
abbrev S16x256x256 : Shape := ⟨3, ![16, 256, 256]⟩
abbrev S80x256x6144 : Shape := ⟨3, ![80, 256, 6144]⟩
abbrev S256 : Shape := ⟨1, ![256]⟩
abbrev S256x1 : Shape := ⟨2, ![256, 1]⟩
abbrev S256x128 : Shape := ⟨2, ![256, 128]⟩
abbrev S80x256x1024 : Shape := ⟨3, ![80, 256, 1024]⟩
abbrev S1x256x512 : Shape := ⟨3, ![1, 256, 512]⟩
abbrev S1x256x128 : Shape := ⟨3, ![1, 256, 128]⟩
abbrev S256x256 : Shape := ⟨2, ![256, 256]⟩
abbrev S16x256x1024 : Shape := ⟨3, ![16, 256, 1024]⟩
abbrev S16x1x256x2x128 : Shape := ⟨5, ![16, 1, 256, 2, 128]⟩

abbrev nBuf : Space → Nat
  | .hbm => 167
  | .vmem => 12
  | .smem => 0
  | _ => 0

abbrev hbmTy0_0 (i : Nat) : BufTy := match i % 128 with
  | 0 => ⟨S5x4096x6144, .f32⟩
  | 1 => ⟨S2x128, .f32⟩
  | 2 => ⟨S5x4096x512, .f32⟩
  | 3 => ⟨S5x4096x256, .f32⟩
  | 4 => ⟨S5x4096x256, .f32⟩
  | 5 => ⟨S1x4096x256, .f32⟩
  | 6 => ⟨S16x256x2x128, .f32⟩
  | 7 => ⟨S1x128, .f32⟩
  | 8 => ⟨S128, .f32⟩
  | 9 => ⟨S16x256x2x128, .f32⟩
  | 10 => ⟨S_, .f32⟩
  | 11 => ⟨S16x256x2, .f32⟩
  | 12 => ⟨S16x256x2x1, .f32⟩
  | 13 => ⟨S_, .f32⟩
  | 14 => ⟨S16x256x2x1, .f32⟩
  | 15 => ⟨S16x256x2x1, .f32⟩
  | 16 => ⟨S_, .f32⟩
  | 17 => ⟨S16x256x2x1, .f32⟩
  | 18 => ⟨S16x256x2x1, .f32⟩
  | 19 => ⟨S16x256x2x1, .f32⟩
  | 20 => ⟨S16x256x2x128, .f32⟩
  | 21 => ⟨S16x256x2x128, .f32⟩
  | 22 => ⟨S1x1x1x128, .f32⟩
  | 23 => ⟨S16x256x2x128, .f32⟩
  | 24 => ⟨S16x256x2x128, .f32⟩
  | 25 => ⟨S1x4096x256, .f32⟩
  | 26 => ⟨S16x256x2x128, .f32⟩
  | 27 => ⟨S16x256x256, .f32⟩
  | 28 => ⟨S16x256x256, .bf16⟩
  | 29 => ⟨S16x256x256, .f32⟩
  | 30 => ⟨S16x256x256, .bf16⟩
  | 31 => ⟨S80x256x6144, .f32⟩
  | 32 => ⟨S1x128, .f32⟩
  | 33 => ⟨S128, .f32⟩
  | 34 => ⟨S1x128, .f32⟩
  | 35 => ⟨S256, .i32⟩
  | 36 => ⟨S128, .i32⟩
  | 37 => ⟨S1x128, .i32⟩
  | 38 => ⟨S_, .i32⟩
  | 39 => ⟨S1x128, .i32⟩
  | 40 => ⟨S1x128, .i1⟩
  | 41 => ⟨S256x1, .i32⟩
  | 42 => ⟨S_, .i32⟩
  | 43 => ⟨S_, .i32⟩
  | 44 => ⟨S256x1, .i32⟩
  | 45 => ⟨S256x1, .i32⟩
  | 46 => ⟨S256x1, .i32⟩
  | 47 => ⟨S_, .i32⟩
  | 48 => ⟨S256x1, .i32⟩
  | 49 => ⟨S256x1, .i1⟩
  | 50 => ⟨S256x1, .i32⟩
  | 51 => ⟨S256x1, .i32⟩
  | 52 => ⟨S_, .i32⟩
  | 53 => ⟨S256x1, .i32⟩
  | 54 => ⟨S256x1, .i1⟩
  | 55 => ⟨S256x1, .i1⟩
  | 56 => ⟨S_, .i32⟩
  | 57 => ⟨S256x1, .i32⟩
  | 58 => ⟨S256x1, .i32⟩
  | 59 => ⟨S256x1, .i32⟩
  | 60 => ⟨S256x1, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S256x1, .i32⟩
  | 68 => ⟨S256x1, .i32⟩
  | 69 => ⟨S_, .i32⟩
  | 70 => ⟨S256x1, .i32⟩
  | 71 => ⟨S256x1, .i1⟩
  | 72 => ⟨S_, .i32⟩
  | 73 => ⟨S256x1, .i32⟩
  | 74 => ⟨S256x1, .i1⟩
  | 75 => ⟨S_, .i32⟩
  | 76 => ⟨S_, .i1⟩
  | 77 => ⟨S256x1, .i1⟩
  | 78 => ⟨S256x1, .i1⟩
  | 79 => ⟨S256x1, .i1⟩
  | 80 => ⟨S256x1, .i32⟩
  | 81 => ⟨S256x1, .i32⟩
  | 82 => ⟨S256x1, .i32⟩
  | 83 => ⟨S256x128, .i1⟩
  | 84 => ⟨S256x128, .i32⟩
  | 85 => ⟨S256x128, .i32⟩
  | 86 => ⟨S256x128, .i32⟩
  | 87 => ⟨S256x128, .f32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S128, .i32⟩
  | 95 => ⟨S128, .i32⟩
  | 96 => ⟨S_, .i32⟩
  | 97 => ⟨S128, .i32⟩
  | 98 => ⟨S128, .i1⟩
  | 99 => ⟨S_, .i32⟩
  | 100 => ⟨S128, .i32⟩
  | 101 => ⟨S128, .i1⟩
  | 102 => ⟨S_, .i32⟩
  | 103 => ⟨S_, .i1⟩
  | 104 => ⟨S128, .i1⟩
  | 105 => ⟨S128, .i1⟩
  | 106 => ⟨S128, .i1⟩
  | 107 => ⟨S128, .i32⟩
  | 108 => ⟨S128, .i32⟩
  | 109 => ⟨S128, .i32⟩
  | 110 => ⟨S128, .f32⟩
  | 111 => ⟨S128, .f32⟩
  | 112 => ⟨S_, .f32⟩
  | 113 => ⟨S128, .f32⟩
  | 114 => ⟨S128, .f32⟩
  | 115 => ⟨S_, .f32⟩
  | 116 => ⟨S128, .f32⟩
  | 117 => ⟨S128, .f32⟩
  | 118 => ⟨S_, .f32⟩
  | 119 => ⟨S128, .f32⟩
  | 120 => ⟨S128, .f32⟩
  | 121 => ⟨S1x128, .f32⟩
  | 122 => ⟨S256x128, .f32⟩
  | 123 => ⟨S256x128, .f32⟩
  | 124 => ⟨S_, .i32⟩
  | 125 => ⟨S_, .i32⟩
  | 126 => ⟨S_, .i32⟩
  | 127 => ⟨S_, .i1⟩
  | _ => ⟨S5x4096x6144, .f32⟩

abbrev hbmTy0_1 (i : Nat) : BufTy := match i % 128 with
  | 0 => ⟨S_, .i32⟩
  | 1 => ⟨S_, .i32⟩
  | 2 => ⟨S128, .i32⟩
  | 3 => ⟨S128, .i32⟩
  | 4 => ⟨S_, .i32⟩
  | 5 => ⟨S128, .i32⟩
  | 6 => ⟨S128, .i1⟩
  | 7 => ⟨S_, .i32⟩
  | 8 => ⟨S128, .i32⟩
  | 9 => ⟨S128, .i1⟩
  | 10 => ⟨S_, .i32⟩
  | 11 => ⟨S_, .i1⟩
  | 12 => ⟨S128, .i1⟩
  | 13 => ⟨S128, .i1⟩
  | 14 => ⟨S128, .i1⟩
  | 15 => ⟨S128, .i32⟩
  | 16 => ⟨S128, .i32⟩
  | 17 => ⟨S128, .i32⟩
  | 18 => ⟨S_, .i32⟩
  | 19 => ⟨S128, .i32⟩
  | 20 => ⟨S128, .i1⟩
  | 21 => ⟨S1x128, .i1⟩
  | 22 => ⟨S256x128, .f32⟩
  | 23 => ⟨S256x128, .f32⟩
  | 24 => ⟨S256x128, .f32⟩
  | 25 => ⟨S_, .f32⟩
  | 26 => ⟨S_, .f32⟩
  | 27 => ⟨S256x128, .i1⟩
  | 28 => ⟨S256x128, .f32⟩
  | 29 => ⟨S256x128, .f32⟩
  | 30 => ⟨S_, .f32⟩
  | 31 => ⟨S_, .f32⟩
  | 32 => ⟨S256x128, .i1⟩
  | 33 => ⟨S256x128, .f32⟩
  | 34 => ⟨S256x128, .f32⟩
  | 35 => ⟨S80x256x1024, .f32⟩
  | 36 => ⟨S16x256x1024, .f32⟩
  | 37 => ⟨S16x1x256x2x128, .f32⟩
  | 38 => ⟨S16x1x256x2x128, .f32⟩
  | _ => ⟨S5x4096x6144, .f32⟩

abbrev hbmTy (i : Nat) : BufTy := match i / 128 with
  | 0 => hbmTy0_0 i
  | 1 => hbmTy0_1 i
  | _ => ⟨S5x4096x6144, .f32⟩

abbrev bufTy : (tb : Table) → Fin (tcTables nBuf tb) → BufTy
  | .hbm, ⟨i, _⟩ => hbmTy i
  | .local _ .vmem, ⟨0, _⟩ => ⟨S1x256x512, .f32⟩
  | .local _ .vmem, ⟨1, _⟩ => ⟨S1x256x512, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x512, .f32⟩
  | .local _ .vmem, ⟨11, _⟩ => ⟨S1x256x512, .f32⟩
  | _, _ => ⟨S5x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_c : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_c : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_0 : Ref sig .tc := ⟨.hbm, 56, rfl⟩
abbrev main_call0_v12 : Ref sig .tc := ⟨.hbm, 57, rfl⟩
abbrev main_call0_v13 : Ref sig .tc := ⟨.hbm, 58, rfl⟩
abbrev main_v36 : Ref sig .tc := ⟨.hbm, 59, rfl⟩
abbrev main_v37 : Ref sig .tc := ⟨.hbm, 60, rfl⟩
abbrev main_c_3 : Ref sig .tc := ⟨.hbm, 61, rfl⟩
abbrev main_call1_v0 : Ref sig .tc := ⟨.hbm, 62, rfl⟩
abbrev main_call1_c : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_c_1 : Ref sig .tc := ⟨.hbm, 69, rfl⟩
abbrev main_call1_v5 : Ref sig .tc := ⟨.hbm, 70, rfl⟩
abbrev main_call1_v6 : Ref sig .tc := ⟨.hbm, 71, rfl⟩
abbrev main_call1_c_2 : Ref sig .tc := ⟨.hbm, 72, rfl⟩
abbrev main_call1_v7 : Ref sig .tc := ⟨.hbm, 73, rfl⟩
abbrev main_call1_v8 : Ref sig .tc := ⟨.hbm, 74, rfl⟩
abbrev main_call1_c_3 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_v38 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v39 : Ref sig .tc := ⟨.hbm, 86, rfl⟩
abbrev main_v40 : Ref sig .tc := ⟨.hbm, 87, rfl⟩
abbrev main_c_4 : Ref sig .tc := ⟨.hbm, 88, rfl⟩
abbrev main_call3_v0 : Ref sig .tc := ⟨.hbm, 89, rfl⟩
abbrev main_call3_c : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_c_1 : Ref sig .tc := ⟨.hbm, 96, rfl⟩
abbrev main_call3_v5 : Ref sig .tc := ⟨.hbm, 97, rfl⟩
abbrev main_call3_v6 : Ref sig .tc := ⟨.hbm, 98, rfl⟩
abbrev main_call3_c_2 : Ref sig .tc := ⟨.hbm, 99, rfl⟩
abbrev main_call3_v7 : Ref sig .tc := ⟨.hbm, 100, rfl⟩
abbrev main_call3_v8 : Ref sig .tc := ⟨.hbm, 101, rfl⟩
abbrev main_call3_c_3 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_cst_5 : Ref sig .tc := ⟨.hbm, 112, rfl⟩
abbrev main_v44 : Ref sig .tc := ⟨.hbm, 113, rfl⟩
abbrev main_v45 : Ref sig .tc := ⟨.hbm, 114, rfl⟩
abbrev main_cst_6 : Ref sig .tc := ⟨.hbm, 115, rfl⟩
abbrev main_v46 : Ref sig .tc := ⟨.hbm, 116, rfl⟩
abbrev main_v47 : Ref sig .tc := ⟨.hbm, 117, rfl⟩
abbrev main_cst_7 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_c_8 : Ref sig .tc := ⟨.hbm, 124, rfl⟩
abbrev main_call4_v0 : Ref sig .tc := ⟨.hbm, 125, rfl⟩
abbrev main_call4_c : Ref sig .tc := ⟨.hbm, 126, rfl⟩
abbrev main_call4_v1 : Ref sig .tc := ⟨.hbm, 127, rfl⟩
abbrev main_call4_c_0 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_c_1 : Ref sig .tc := ⟨.hbm, 132, rfl⟩
abbrev main_call4_v5 : Ref sig .tc := ⟨.hbm, 133, rfl⟩
abbrev main_call4_v6 : Ref sig .tc := ⟨.hbm, 134, rfl⟩
abbrev main_call4_c_2 : Ref sig .tc := ⟨.hbm, 135, rfl⟩
abbrev main_call4_v7 : Ref sig .tc := ⟨.hbm, 136, rfl⟩
abbrev main_call4_v8 : Ref sig .tc := ⟨.hbm, 137, rfl⟩
abbrev main_call4_c_3 : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_v12 : Ref sig .tc := ⟨.hbm, 142, rfl⟩
abbrev main_call4_v13 : Ref sig .tc := ⟨.hbm, 143, rfl⟩
abbrev main_call4_v14 : Ref sig .tc := ⟨.hbm, 144, rfl⟩
abbrev main_v53 : Ref sig .tc := ⟨.hbm, 145, rfl⟩
abbrev main_c_9 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_cst_10 : Ref sig .tc := ⟨.hbm, 153, rfl⟩
abbrev main_call5_v0 : Ref sig .tc := ⟨.hbm, 154, rfl⟩
abbrev main_call5_v1 : Ref sig .tc := ⟨.hbm, 155, rfl⟩
abbrev main_call5_v2 : Ref sig .tc := ⟨.hbm, 156, rfl⟩
abbrev main_v60 : Ref sig .tc := ⟨.hbm, 157, rfl⟩
abbrev main_cst_11 : Ref sig .tc := ⟨.hbm, 158, rfl⟩
abbrev main_call6_v0 : Ref sig .tc := ⟨.hbm, 159, rfl⟩
abbrev main_call6_v1 : Ref sig .tc := ⟨.hbm, 160, rfl⟩
abbrev main_call6_v2 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== CtxRefIdeal.lean ====
abbrev S5x4096x6144 : Shape := ⟨3, ![5, 4096, 6144]⟩
abbrev S2x128 : Shape := ⟨2, ![2, 128]⟩
abbrev S1x4096x6144 : Shape := ⟨3, ![1, 4096, 6144]⟩
abbrev S4096x6144 : Shape := ⟨2, ![4096, 6144]⟩
abbrev S16x256x6144 : Shape := ⟨3, ![16, 256, 6144]⟩
abbrev S16x256x1024 : Shape := ⟨3, ![16, 256, 1024]⟩
abbrev S16x256x8x128 : Shape := ⟨4, ![16, 256, 8, 128]⟩
abbrev S1x128 : Shape := ⟨2, ![1, 128]⟩
abbrev S128 : Shape := ⟨1, ![128]⟩
abbrev S_ : Shape := ⟨0, ![]⟩
abbrev S16x256x8 : Shape := ⟨3, ![16, 256, 8]⟩
abbrev S16x256x8x1 : Shape := ⟨4, ![16, 256, 8, 1]⟩
abbrev S1x1x1x128 : Shape := ⟨4, ![1, 1, 1, 128]⟩
abbrev S16x256x256 : Shape := ⟨3, ![16, 256, 256]⟩
abbrev S16x256x2x128 : Shape := ⟨4, ![16, 256, 2, 128]⟩
abbrev S16x256x2 : Shape := ⟨3, ![16, 256, 2]⟩
abbrev S16x256x2x1 : Shape := ⟨4, ![16, 256, 2, 1]⟩
abbrev S16x256x2x4x128 : Shape := ⟨5, ![16, 256, 2, 4, 128]⟩
abbrev S16x2x256x256x4 : Shape := ⟨5, ![16, 2, 256, 256, 4]⟩
abbrev S16x2x4x256x256 : Shape := ⟨5, ![16, 2, 4, 256, 256]⟩
abbrev S16x2x4x256 : Shape := ⟨4, ![16, 2, 4, 256]⟩
abbrev S16x2x4x256x1 : Shape := ⟨5, ![16, 2, 4, 256, 1]⟩
abbrev S16x2x128x4x256 : Shape := ⟨5, ![16, 2, 128, 4, 256]⟩
abbrev S16x1x256x2x128 : Shape := ⟨5, ![16, 1, 256, 2, 128]⟩

abbrev nBuf : Space → Nat
  | .hbm => 72
  | .vmem => 0
  | .smem => 0
  | _ => 0

abbrev bufTy : (tb : Table) → Fin (tcTables nBuf tb) → BufTy
  | .hbm, ⟨0, _⟩ => ⟨S5x4096x6144, .f32⟩
  | .hbm, ⟨1, _⟩ => ⟨S2x128, .f32⟩
  | .hbm, ⟨2, _⟩ => ⟨S1x4096x6144, .f32⟩
  | .hbm, ⟨3, _⟩ => ⟨S4096x6144, .f32⟩
  | .hbm, ⟨4, _⟩ => ⟨S16x256x6144, .f32⟩
  | .hbm, ⟨5, _⟩ => ⟨S16x256x1024, .f32⟩
  | .hbm, ⟨6, _⟩ => ⟨S16x256x8x128, .f32⟩
  | .hbm, ⟨7, _⟩ => ⟨S1x128, .f32⟩
  | .hbm, ⟨8, _⟩ => ⟨S128, .f32⟩
  | .hbm, ⟨9, _⟩ => ⟨S16x256x8x128, .f32⟩
  | .hbm, ⟨10, _⟩ => ⟨S_, .f32⟩
  | .hbm, ⟨11, _⟩ => ⟨S16x256x8, .f32⟩
  | .hbm, ⟨12, _⟩ => ⟨S16x256x8x1, .f32⟩
  | .hbm, ⟨13, _⟩ => ⟨S_, .f32⟩
  | .hbm, ⟨14, _⟩ => ⟨S16x256x8x1, .f32⟩
  | .hbm, ⟨15, _⟩ => ⟨S16x256x8x1, .f32⟩
  | .hbm, ⟨16, _⟩ => ⟨S_, .f32⟩
  | .hbm, ⟨17, _⟩ => ⟨S16x256x8x1, .f32⟩
  | .hbm, ⟨18, _⟩ => ⟨S16x256x8x1, .f32⟩
  | .hbm, ⟨19, _⟩ => ⟨S16x256x8x1, .f32⟩
  | .hbm, ⟨20, _⟩ => ⟨S16x256x8x128, .f32⟩
  | .hbm, ⟨21, _⟩ => ⟨S16x256x8x128, .f32⟩
  | .hbm, ⟨22, _⟩ => ⟨S1x1x1x128, .f32⟩
  | .hbm, ⟨23, _⟩ => ⟨S16x256x8x128, .f32⟩
  | .hbm, ⟨24, _⟩ => ⟨S16x256x8x128, .f32⟩
  | .hbm, ⟨25, _⟩ => ⟨S16x256x256, .f32⟩
  | .hbm, ⟨26, _⟩ => ⟨S16x256x2x128, .f32⟩
  | .hbm, ⟨27, _⟩ => ⟨S1x128, .f32⟩
  | .hbm, ⟨28, _⟩ => ⟨S128, .f32⟩
  | .hbm, ⟨29, _⟩ => ⟨S16x256x2x128, .f32⟩
  | .hbm, ⟨30, _⟩ => ⟨S_, .f32⟩
  | .hbm, ⟨31, _⟩ => ⟨S16x256x2, .f32⟩
  | .hbm, ⟨32, _⟩ => ⟨S16x256x2x1, .f32⟩
  | .hbm, ⟨33, _⟩ => ⟨S_, .f32⟩
  | .hbm, ⟨34, _⟩ => ⟨S16x256x2x1, .f32⟩
  | .hbm, ⟨35, _⟩ => ⟨S16x256x2x1, .f32⟩
  | .hbm, ⟨36, _⟩ => ⟨S_, .f32⟩
  | .hbm, ⟨37, _⟩ => ⟨S16x256x2x1, .f32⟩
  | .hbm, ⟨38, _⟩ => ⟨S16x256x2x1, .f32⟩
  | .hbm, ⟨39, _⟩ => ⟨S16x256x2x1, .f32⟩
  | .hbm, ⟨40, _⟩ => ⟨S16x256x2x128, .f32⟩
  | .hbm, ⟨41, _⟩ => ⟨S16x256x2x128, .f32⟩
  | .hbm, ⟨42, _⟩ => ⟨S1x1x1x128, .f32⟩
  | .hbm, ⟨43, _⟩ => ⟨S16x256x2x128, .f32⟩
  | .hbm, ⟨44, _⟩ => ⟨S16x256x2x128, .f32⟩
  | .hbm, ⟨45, _⟩ => ⟨S16x256x256, .f32⟩
  | .hbm, ⟨46, _⟩ => ⟨S16x256x2x128, .f32⟩
  | .hbm, ⟨47, _⟩ => ⟨S16x256x2x4x128, .f32⟩
  | .hbm, ⟨48, _⟩ => ⟨S16x2x256x256x4, .f32⟩
  | .hbm, ⟨49, _⟩ => ⟨S16x2x4x256x256, .f32⟩
  | .hbm, ⟨50, _⟩ => ⟨S_, .f32⟩
  | .hbm, ⟨51, _⟩ => ⟨S16x2x4x256x256, .f32⟩
  | .hbm, ⟨52, _⟩ => ⟨S16x2x4x256x256, .f32⟩
  | .hbm, ⟨53, _⟩ => ⟨S_, .f32⟩
  | .hbm, ⟨54, _⟩ => ⟨S16x2x4x256, .f32⟩
  | .hbm, ⟨55, _⟩ => ⟨S_, .f32⟩
  | .hbm, ⟨56, _⟩ => ⟨S16x2x4x256, .f32⟩
  | .hbm, ⟨57, _⟩ => ⟨S16x2x4x256, .f32⟩
  | .hbm, ⟨58, _⟩ => ⟨S16x2x4x256x1, .f32⟩
  | .hbm, ⟨59, _⟩ => ⟨S16x2x4x256x256, .f32⟩
  | .hbm, ⟨60, _⟩ => ⟨S16x2x4x256x256, .f32⟩
  | .hbm, ⟨61, _⟩ => ⟨S16x2x4x256x256, .f32⟩
  | .hbm, ⟨62, _⟩ => ⟨S_, .f32⟩
  | .hbm, ⟨63, _⟩ => ⟨S16x2x4x256, .f32⟩
  | .hbm, ⟨64, _⟩ => ⟨S16x2x4x256x1, .f32⟩
  | .hbm, ⟨65, _⟩ => ⟨S16x2x4x256x256, .f32⟩
  | .hbm, ⟨66, _⟩ => ⟨S16x2x4x256x256, .f32⟩
  | .hbm, ⟨67, _⟩ => ⟨S16x2x128x4x256, .f32⟩
  | .hbm, ⟨68, _⟩ => ⟨S16x256x2x4x128, .f32⟩
  | .hbm, ⟨69, _⟩ => ⟨S16x256x1024, .f32⟩
  | .hbm, ⟨70, _⟩ => ⟨S16x1x256x2x128, .f32⟩
  | .hbm, ⟨71, _⟩ => ⟨S16x1x256x2x128, .f32⟩
  | _, _ => ⟨S5x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_5 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_v44 : Ref sig .tc := ⟨.hbm, 54, rfl⟩
abbrev main_cst_7 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_8 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩

abbrev nD : Nat := 1
abbrev τ : Topo := Topo.v7x

variable {F : FTy → Type} [FloatOps F]
-- ==== Streams.lean ====
abbrev S5x4096x2048 : Shape := ⟨3, ![5, 4096, 2048]⟩
abbrev S2048x20480 : Shape := ⟨2, ![2048, 20480]⟩
abbrev S1x2048 : Shape := ⟨2, ![1, 2048]⟩
abbrev S5x1x2048 : Shape := ⟨3, ![5, 1, 2048]⟩
abbrev S20480x2048 : Shape := ⟨2, ![20480, 2048]⟩
abbrev S256x2048 : Shape := ⟨2, ![256, 2048]⟩
abbrev S2048x256 : Shape := ⟨2, ![2048, 256]⟩
abbrev S1x1x2048 : Shape := ⟨3, ![1, 1, 2048]⟩
abbrev S256 : Shape := ⟨1, ![256]⟩
abbrev S256x1 : Shape := ⟨2, ![256, 1]⟩
abbrev S1x4096x2048 : Shape := ⟨3, ![1, 4096, 2048]⟩
abbrev S4096x2048 : Shape := ⟨2, ![4096, 2048]⟩
abbrev S16x256x2048 : Shape := ⟨3, ![16, 256, 2048]⟩
abbrev S4x4096x2048 : Shape := ⟨3, ![4, 4096, 2048]⟩

abbrev nBuf : Space → Nat
  | .hbm => 11
  | .vmem => 9
  | .smem => 0
  | _ => 0

abbrev bufTy : (tb : Table) → Fin (tcTables nBuf tb) → BufTy
  | .hbm, ⟨0, _⟩ => ⟨S5x4096x2048, .f32⟩
  | .hbm, ⟨1, _⟩ => ⟨S2048x20480, .f32⟩
  | .hbm, ⟨2, _⟩ => ⟨S1x2048, .f32⟩
  | .hbm, ⟨3, _⟩ => ⟨S5x1x2048, .f32⟩
  | .hbm, ⟨4, _⟩ => ⟨S20480x2048, .f32⟩
  | .hbm, ⟨5, _⟩ => ⟨S20480x2048, .f32⟩
  | .hbm, ⟨6, _⟩ => ⟨S5x4096x2048, .f32⟩
  | .hbm, ⟨7, _⟩ => ⟨S1x4096x2048, .f32⟩
  | .hbm, ⟨8, _⟩ => ⟨S4096x2048, .f32⟩
  | .hbm, ⟨9, _⟩ => ⟨S16x256x2048, .f32⟩
  | .hbm, ⟨10, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .f32⟩
  | .local _ .vmem, ⟨8, _⟩ => ⟨S256x2048, .f32⟩
  | _, _ => ⟨S5x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== StreamsRefIdeal.lean ====
abbrev S5x4096x2048 : Shape := ⟨3, ![5, 4096, 2048]⟩
abbrev S2048x20480 : Shape := ⟨2, ![2048, 20480]⟩
abbrev S1x2048 : Shape := ⟨2, ![1, 2048]⟩
abbrev S5x1x2048 : Shape := ⟨3, ![5, 1, 2048]⟩
abbrev S1x4096x2048 : Shape := ⟨3, ![1, 4096, 2048]⟩
abbrev S4096x2048 : Shape := ⟨2, ![4096, 2048]⟩
abbrev S16x256x2048 : Shape := ⟨3, ![16, 256, 2048]⟩
abbrev S4x4096x2048 : Shape := ⟨3, ![4, 4096, 2048]⟩
abbrev S20480x2048 : Shape := ⟨2, ![20480, 2048]⟩
abbrev S16384x2048 : Shape := ⟨2, ![16384, 2048]⟩
abbrev S1x1x2048 : Shape := ⟨3, ![1, 1, 2048]⟩
abbrev S2048 : Shape := ⟨1, ![2048]⟩
abbrev S_ : Shape := ⟨0, ![]⟩
abbrev S16x256 : Shape := ⟨2, ![16, 256]⟩
abbrev S16x256x1 : Shape := ⟨3, ![16, 256, 1]⟩
abbrev S4x1x2048 : Shape := ⟨3, ![4, 1, 2048]⟩
abbrev S4x4096 : Shape := ⟨2, ![4, 4096]⟩
abbrev S4x4096x1 : Shape := ⟨3, ![4, 4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S5x4096x2048, .f32⟩
  | .hbm, ⟨1, _⟩ => ⟨S2048x20480, .f32⟩
  | .hbm, ⟨2, _⟩ => ⟨S1x2048, .f32⟩
  | .hbm, ⟨3, _⟩ => ⟨S5x1x2048, .f32⟩
  | .hbm, ⟨4, _⟩ => ⟨S1x4096x2048, .f32⟩
  | .hbm, ⟨5, _⟩ => ⟨S4096x2048, .f32⟩
  | .hbm, ⟨6, _⟩ => ⟨S16x256x2048, .f32⟩
  | .hbm, ⟨7, _⟩ => ⟨S4x4096x2048, .f32⟩
  | .hbm, ⟨8, _⟩ => ⟨S20480x2048, .f32⟩
  | .hbm, ⟨9, _⟩ => ⟨S4096x2048, .f32⟩
  | .hbm, ⟨10, _⟩ => ⟨S16x256x2048, .f32⟩
  | .hbm, ⟨11, _⟩ => ⟨S16384x2048, .f32⟩
  | .hbm, ⟨12, _⟩ => ⟨S4x4096x2048, .f32⟩
  | .hbm, ⟨13, _⟩ => ⟨S1x1x2048, .f32⟩
  | .hbm, ⟨14, _⟩ => ⟨S2048, .f32⟩
  | .hbm, ⟨15, _⟩ => ⟨S16x256x2048, .f32⟩
  | .hbm, ⟨16, _⟩ => ⟨S_, .f32⟩
  | .hbm, ⟨17, _⟩ => ⟨S16x256, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S16x256x1, .f32⟩
  | .hbm, ⟨26, _⟩ => ⟨S16x256x2048, .f32⟩
  | .hbm, ⟨27, _⟩ => ⟨S16x256x2048, .f32⟩
  | .hbm, ⟨28, _⟩ => ⟨S1x1x2048, .f32⟩
  | .hbm, ⟨29, _⟩ => ⟨S16x256x2048, .f32⟩
  | .hbm, ⟨30, _⟩ => ⟨S16x256x2048, .f32⟩
  | .hbm, ⟨31, _⟩ => ⟨S16x256x2048, .f32⟩
  | .hbm, ⟨32, _⟩ => ⟨S16x256x2048, .f32⟩
  | .hbm, ⟨33, _⟩ => ⟨S16x256x2048, .f32⟩
  | .hbm, ⟨34, _⟩ => ⟨S4x1x2048, .f32⟩
  | .hbm, ⟨35, _⟩ => ⟨S2048, .f32⟩
  | .hbm, ⟨36, _⟩ => ⟨S4x4096x2048, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x2048, .f32⟩
  | .hbm, ⟨48, _⟩ => ⟨S4x4096x2048, .f32⟩
  | .hbm, ⟨49, _⟩ => ⟨S1x1x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | _, _ => ⟨S5x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Modu.lean ====
abbrev S4x2048 : Shape := ⟨2, ![4, 2048]⟩
abbrev S2048 : Shape := ⟨1, ![2048]⟩
abbrev S2048x12288 : Shape := ⟨2, ![2048, 12288]⟩
abbrev S12288 : Shape := ⟨1, ![12288]⟩
abbrev S1x2048 : Shape := ⟨2, ![1, 2048]⟩
abbrev S5x2048 : Shape := ⟨2, ![5, 2048]⟩
abbrev S_ : Shape := ⟨0, ![]⟩
abbrev S8x2048 : Shape := ⟨2, ![8, 2048]⟩
abbrev S8x12288 : Shape := ⟨2, ![8, 12288]⟩
abbrev S2048x1024 : Shape := ⟨2, ![2048, 1024]⟩
abbrev S8x1024 : Shape := ⟨2, ![8, 1024]⟩
abbrev S5x12288 : Shape := ⟨2, ![5, 12288]⟩
abbrev S1x12288 : Shape := ⟨2, ![1, 12288]⟩

abbrev nBuf : Space → Nat
  | .hbm => 23
  | .vmem => 6
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S1x2048, .f32⟩
  | .hbm, ⟨5, _⟩ => ⟨S5x2048, .f32⟩
  | .hbm, ⟨6, _⟩ => ⟨S5x2048, .f32⟩
  | .hbm, ⟨7, _⟩ => ⟨S5x2048, .f32⟩
  | .hbm, ⟨8, _⟩ => ⟨S_, .f32⟩
  | .hbm, ⟨9, _⟩ => ⟨S5x2048, .f32⟩
  | .hbm, ⟨10, _⟩ => ⟨S5x2048, .f32⟩
  | .hbm, ⟨11, _⟩ => ⟨S_, .f32⟩
  | .hbm, ⟨12, _⟩ => ⟨S5x2048, .f32⟩
  | .hbm, ⟨13, _⟩ => ⟨S5x2048, .f32⟩
  | .hbm, ⟨14, _⟩ => ⟨S5x2048, .f32⟩
  | .hbm, ⟨15, _⟩ => ⟨S_, .i32⟩
  | .hbm, ⟨16, _⟩ => ⟨S_, .f32⟩
  | .hbm, ⟨17, _⟩ => ⟨S8x2048, .f32⟩
  | .hbm, ⟨18, _⟩ => ⟨S8x12288, .f32⟩
  | .hbm, ⟨19, _⟩ => ⟨S5x12288, .f32⟩
  | .hbm, ⟨20, _⟩ => ⟨S1x12288, .f32⟩
  | .hbm, ⟨21, _⟩ => ⟨S5x12288, .f32⟩
  | .hbm, ⟨22, _⟩ => ⟨S5x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_c : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModuRefIdeal.lean ====
abbrev S4x2048 : Shape := ⟨2, ![4, 2048]⟩
abbrev S2048 : Shape := ⟨1, ![2048]⟩
abbrev S2048x12288 : Shape := ⟨2, ![2048, 12288]⟩
abbrev S12288 : Shape := ⟨1, ![12288]⟩
abbrev S1x2048 : Shape := ⟨2, ![1, 2048]⟩
abbrev S_ : Shape := ⟨0, ![]⟩
abbrev S1x12288 : Shape := ⟨2, ![1, 12288]⟩
abbrev S4x12288 : Shape := ⟨2, ![4, 12288]⟩
abbrev S5x12288 : Shape := ⟨2, ![5, 12288]⟩

abbrev nBuf : Space → Nat
  | .hbm => 31
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x12288, .f32⟩
  | .hbm, ⟨15, _⟩ => ⟨S1x12288, .f32⟩
  | .hbm, ⟨16, _⟩ => ⟨S1x12288, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S4x12288, .f32⟩
  | .hbm, ⟨27, _⟩ => ⟨S1x12288, .f32⟩
  | .hbm, ⟨28, _⟩ => ⟨S4x12288, .f32⟩
  | .hbm, ⟨29, _⟩ => ⟨S4x12288, .f32⟩
  | .hbm, ⟨30, _⟩ => ⟨S5x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Gla.lean ====
abbrev S5x4096x5376 : Shape := ⟨3, ![5, 4096, 5376]⟩
abbrev S2x16x768 : Shape := ⟨3, ![2, 16, 768]⟩
abbrev S2x768 : Shape := ⟨2, ![2, 768]⟩
abbrev S1x16x768 : Shape := ⟨3, ![1, 16, 768]⟩
abbrev S16x768 : Shape := ⟨2, ![16, 768]⟩
abbrev S_ : Shape := ⟨0, ![]⟩
abbrev S32x768 : Shape := ⟨2, ![32, 768]⟩
abbrev S1x32x768 : Shape := ⟨3, ![1, 32, 768]⟩
abbrev S2x32x768 : Shape := ⟨3, ![2, 32, 768]⟩
abbrev S2x1x768 : Shape := ⟨3, ![2, 1, 768]⟩
abbrev S16x2x6x128x256 : Shape := ⟨5, ![16, 2, 6, 128, 256]⟩
abbrev S80x256x5376 : Shape := ⟨3, ![80, 256, 5376]⟩
abbrev S16x2x6x256x128 : Shape := ⟨5, ![16, 2, 6, 256, 128]⟩
abbrev S80x256x1536 : Shape := ⟨3, ![80, 256, 1536]⟩
abbrev S1x64x768 : Shape := ⟨3, ![1, 64, 768]⟩
abbrev S1x64x1536 : Shape := ⟨3, ![1, 64, 1536]⟩
abbrev S1x64x128 : Shape := ⟨3, ![1, 64, 128]⟩
abbrev S1x2x6x256x128 : Shape := ⟨5, ![1, 2, 6, 256, 128]⟩
abbrev S2x6x256x128 : Shape := ⟨4, ![2, 6, 256, 128]⟩
abbrev S64x64 : Shape := ⟨2, ![64, 64]⟩
abbrev S1x64x32 : Shape := ⟨3, ![1, 64, 32]⟩
abbrev S64x32 : Shape := ⟨2, ![64, 32]⟩
abbrev S64x768 : Shape := ⟨2, ![64, 768]⟩
abbrev S1x1x768 : Shape := ⟨3, ![1, 1, 768]⟩
abbrev S1x768 : Shape := ⟨2, ![1, 768]⟩
abbrev S64x128 : Shape := ⟨2, ![64, 128]⟩
abbrev S1x64x256 : Shape := ⟨3, ![1, 64, 256]⟩
abbrev S64x256 : Shape := ⟨2, ![64, 256]⟩
abbrev S1x128 : Shape := ⟨2, ![1, 128]⟩
abbrev S1x1x256x128 : Shape := ⟨4, ![1, 1, 256, 128]⟩
abbrev S256x128 : Shape := ⟨2, ![256, 128]⟩
abbrev S256x64 : Shape := ⟨2, ![256, 64]⟩

abbrev nBuf : Space → Nat
  | .hbm => 25
  | .vmem => 27
  | .smem => 0
  | _ => 0

abbrev bufTy : (tb : Table) → Fin (tcTables nBuf tb) → BufTy
  | .hbm, ⟨0, _⟩ => ⟨S5x4096x5376, .f32⟩
  | .hbm, ⟨1, _⟩ => ⟨S2x16x768, .f32⟩
  | .hbm, ⟨2, _⟩ => ⟨S2x768, .f32⟩
  | .hbm, ⟨3, _⟩ => ⟨S1x16x768, .f32⟩
  | .hbm, ⟨4, _⟩ => ⟨S16x768, .f32⟩
  | .hbm, ⟨5, _⟩ => ⟨S_, .f32⟩
  | .hbm, ⟨6, _⟩ => ⟨S16x768, .f32⟩
  | .hbm, ⟨7, _⟩ => ⟨S1x16x768, .f32⟩
  | .hbm, ⟨8, _⟩ => ⟨S16x768, .f32⟩
  | .hbm, ⟨9, _⟩ => ⟨S32x768, .f32⟩
  | .hbm, ⟨10, _⟩ => ⟨S1x16x768, .f32⟩
  | .hbm, ⟨11, _⟩ => ⟨S16x768, .f32⟩
  | .hbm, ⟨12, _⟩ => ⟨S32x768, .f32⟩
  | .hbm, ⟨13, _⟩ => ⟨S1x32x768, .f32⟩
  | .hbm, ⟨14, _⟩ => ⟨S1x32x768, .f32⟩
  | .hbm, ⟨15, _⟩ => ⟨S2x32x768, .f32⟩
  | .hbm, ⟨16, _⟩ => ⟨S2x1x768, .f32⟩
  | .hbm, ⟨17, _⟩ => ⟨S_, .f32⟩
  | .hbm, ⟨18, _⟩ => ⟨S16x2x6x128x256, .f32⟩
  | .hbm, ⟨19, _⟩ => ⟨S80x256x5376, .f32⟩
  | .hbm, ⟨20, _⟩ => ⟨S16x2x6x256x128, .f32⟩
  | .hbm, ⟨21, _⟩ => ⟨S80x256x1536, .f32⟩
  | .hbm, ⟨22, _⟩ => ⟨S80x256x1536, .f32⟩
  | .hbm, ⟨23, _⟩ => ⟨S16x2x6x256x128, .f32⟩
  | .hbm, ⟨24, _⟩ => ⟨S16x2x6x128x256, .f32⟩
  | .local _ .vmem, ⟨0, _⟩ => ⟨S1x64x768, .f32⟩
  | .local _ .vmem, ⟨1, _⟩ => ⟨S1x64x768, .f32⟩
  | .local _ .vmem, ⟨2, _⟩ => ⟨S1x64x768, .f32⟩
  | .local _ .vmem, ⟨3, _⟩ => ⟨S1x64x768, .f32⟩
  | .local _ .vmem, ⟨4, _⟩ => ⟨S1x64x1536, .f32⟩
  | .local _ .vmem, ⟨5, _⟩ => ⟨S1x64x1536, .f32⟩
  | .local _ .vmem, ⟨6, _⟩ => ⟨S1x64x128, .f32⟩
  | .local _ .vmem, ⟨7, _⟩ => ⟨S1x64x128, .f32⟩
  | .local _ .vmem, ⟨8, _⟩ => ⟨S1x64x768, .f32⟩
  | .local _ .vmem, ⟨9, _⟩ => ⟨S1x64x768, .f32⟩
  | .local _ .vmem, ⟨10, _⟩ => ⟨S1x64x768, .f32⟩
  | .local _ .vmem, ⟨11, _⟩ => ⟨S1x64x768, .f32⟩
  | .local _ .vmem, ⟨12, _⟩ => ⟨S1x64x1536, .f32⟩
  | .local _ .vmem, ⟨13, _⟩ => ⟨S1x64x1536, .f32⟩
  | .local _ .vmem, ⟨14, _⟩ => ⟨S1x64x128, .f32⟩
  | .local _ .vmem, ⟨15, _⟩ => ⟨S1x64x128, .f32⟩
  | .local _ .vmem, ⟨16, _⟩ => ⟨S2x32x768, .f32⟩
  | .local _ .vmem, ⟨17, _⟩ => ⟨S2x1x768, .f32⟩
  | .local _ .vmem, ⟨18, _⟩ => ⟨S1x2x6x256x128, .f32⟩
  | .local _ .vmem, ⟨19, _⟩ => ⟨S1x2x6x256x128, .f32⟩
  | .local _ .vmem, ⟨20, _⟩ => ⟨S1x64x1536, .f32⟩
  | .local _ .vmem, ⟨21, _⟩ => ⟨S1x64x1536, .f32⟩
  | .local _ .vmem, ⟨22, _⟩ => ⟨S1x64x1536, .f32⟩
  | .local _ .vmem, ⟨23, _⟩ => ⟨S1x64x1536, .f32⟩
  | .local _ .vmem, ⟨24, _⟩ => ⟨S1x2x6x256x128, .f32⟩
  | .local _ .vmem, ⟨25, _⟩ => ⟨S1x2x6x256x128, .f32⟩
  | .local _ .vmem, ⟨26, _⟩ => ⟨S2x6x256x128, .f32⟩
  | _, _ => ⟨S5x4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v613 : BitVec 1 := Scalar.cmpi .eq arg1 c3_i32
  let v614 : BitVec 32 := Scalar.extui v613
  let c0_i32_332 : BitVec 32 := 0#32
  let v615 : BitVec 1 := Scalar.cmpi .ne v614 c0_i32_332
  v615

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  ![v0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  ![v0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c40_i32 : BitVec 32 := 40#32
  let c0_i32_0 : BitVec 32 := 0#32
  ![v0.toNat, arg1.toNat, c40_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let v1 : BitVec 32 := Scalar.subi c3_i32 arg1
  let c0_i32_0 : BitVec 32 := 0#32
  let c0_i32_1 : BitVec 32 := 0#32
  ![v0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let v1 : BitVec 32 := Scalar.subi c3_i32 arg1
  let c1_i32 : BitVec 32 := 1#32
  let c0_i32_0 : BitVec 32 := 0#32
  ![v0.toNat, v1.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let v1 : BitVec 32 := Scalar.subi c3_i32 arg1
  let c1_i32 : BitVec 32 := 1#32
  let c0_i32_0 : BitVec 32 := 0#32
  ![v0.toNat, v1.toNat, c1_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let v1 : BitVec 32 := Scalar.subi c3_i32 arg1
  let c40_i32 : BitVec 32 := 40#32
  let c0_i32_0 : BitVec 32 := 0#32
  ![v0.toNat, v1.toNat, c40_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let v1 : BitVec 32 := Scalar.subi c3_i32 arg1
  let c0_i32_0 : BitVec 32 := 0#32
  let c0_i32_1 : BitVec 32 := 0#32
  ![v0.toNat, v1.toNat, c0_i32_0.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x32x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2x6x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x6x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== GlaRefIdeal.lean ====
abbrev S5x4096x5376 : Shape := ⟨3, ![5, 4096, 5376]⟩
abbrev S2x16x768 : Shape := ⟨3, ![2, 16, 768]⟩
abbrev S2x768 : Shape := ⟨2, ![2, 768]⟩
abbrev S1x4096x5376 : Shape := ⟨3, ![1, 4096, 5376]⟩
abbrev S4096x5376 : Shape := ⟨2, ![4096, 5376]⟩
abbrev S16x256x5376 : Shape := ⟨3, ![16, 256, 5376]⟩
abbrev S16x256x16 : Shape := ⟨3, ![16, 256, 16]⟩
abbrev S1x16x768 : Shape := ⟨3, ![1, 16, 768]⟩
abbrev S16x768 : Shape := ⟨2, ![16, 768]⟩
abbrev S1x768 : Shape := ⟨2, ![1, 768]⟩
abbrev S768 : Shape := ⟨1, ![768]⟩
abbrev S16x256x768 : Shape := ⟨3, ![16, 256, 768]⟩
abbrev S64x64x768 : Shape := ⟨3, ![64, 64, 768]⟩
abbrev S16x256x1536 : Shape := ⟨3, ![16, 256, 1536]⟩
abbrev S64x64x6x256 : Shape := ⟨4, ![64, 64, 6, 256]⟩
abbrev S1x1x768 : Shape := ⟨3, ![1, 1, 768]⟩
abbrev S_ : Shape := ⟨0, ![]⟩
abbrev S64x1x768 : Shape := ⟨3, ![64, 1, 768]⟩
abbrev S64x64x6x128 : Shape := ⟨4, ![64, 64, 6, 128]⟩
abbrev S64x6x128x256 : Shape := ⟨4, ![64, 6, 128, 256]⟩
abbrev S16x4x6x128x256 : Shape := ⟨5, ![16, 4, 6, 128, 256]⟩
abbrev S16x4x6x128x1 : Shape := ⟨5, ![16, 4, 6, 128, 1]⟩
abbrev S16x6x128x256 : Shape := ⟨4, ![16, 6, 128, 256]⟩
abbrev S16x1x6x128x1 : Shape := ⟨5, ![16, 1, 6, 128, 1]⟩
abbrev S16x6x128x1 : Shape := ⟨4, ![16, 6, 128, 1]⟩
abbrev S16x1x6x128x256 : Shape := ⟨5, ![16, 1, 6, 128, 256]⟩
abbrev S16x2x6x128x256 : Shape := ⟨5, ![16, 2, 6, 128, 256]⟩

abbrev nBuf : Space → Nat
  | .hbm => 163
  | .vmem => 0
  | .smem => 0
  | _ => 0

abbrev hbmTy0_0 (i : Nat) : BufTy := match i % 128 with
  | 0 => ⟨S5x4096x5376, .f32⟩
  | 1 => ⟨S2x16x768, .f32⟩
  | 2 => ⟨S2x768, .f32⟩
  | 3 => ⟨S1x4096x5376, .f32⟩
  | 4 => ⟨S4096x5376, .f32⟩
  | 5 => ⟨S16x256x5376, .f32⟩
  | 6 => ⟨S16x256x16, .f32⟩
  | 7 => ⟨S1x16x768, .f32⟩
  | 8 => ⟨S16x768, .f32⟩
  | 9 => ⟨S1x768, .f32⟩
  | 10 => ⟨S768, .f32⟩
  | 11 => ⟨S16x256x768, .f32⟩
  | 12 => ⟨S64x64x768, .f32⟩
  | 13 => ⟨S16x256x1536, .f32⟩
  | 14 => ⟨S64x64x6x256, .f32⟩
  | 15 => ⟨S16x256x768, .f32⟩
  | 16 => ⟨S1x1x768, .f32⟩
  | 17 => ⟨S16x256x768, .f32⟩
  | 18 => ⟨S16x256x768, .f32⟩
  | 19 => ⟨S16x256x768, .f32⟩
  | 20 => ⟨S_, .f32⟩
  | 21 => ⟨S16x256x768, .f32⟩
  | 22 => ⟨S16x256x768, .f32⟩
  | 23 => ⟨S16x256x768, .f32⟩
  | 24 => ⟨S16x256x768, .f32⟩
  | 25 => ⟨S16x256x768, .i1⟩
  | 26 => ⟨S16x256x768, .f32⟩
  | 27 => ⟨S16x256x768, .f32⟩
  | 28 => ⟨S16x256x768, .f32⟩
  | 29 => ⟨S16x256x768, .f32⟩
  | 30 => ⟨S16x256x768, .f32⟩
  | 31 => ⟨S16x256x768, .f32⟩
  | 32 => ⟨S16x256x768, .f32⟩
  | 33 => ⟨S16x256x768, .f32⟩
  | 34 => ⟨S16x256x768, .f32⟩
  | 35 => ⟨S_, .f32⟩
  | 36 => ⟨S16x256x768, .f32⟩
  | 37 => ⟨S16x256x768, .f32⟩
  | 38 => ⟨S64x64x768, .f32⟩
  | 39 => ⟨S_, .f32⟩
  | 40 => ⟨S_, .f32⟩
  | 41 => ⟨S64x64x768, .f32⟩
  | 42 => ⟨S64x1x768, .f32⟩
  | 43 => ⟨S64x64x768, .f32⟩
  | 44 => ⟨S64x64x768, .f32⟩
  | 45 => ⟨S64x64x768, .f32⟩
  | 46 => ⟨S64x64x768, .f32⟩
  | 47 => ⟨S64x64x6x128, .f32⟩
  | 48 => ⟨S64x6x128x256, .f32⟩
  | 49 => ⟨S16x4x6x128x256, .f32⟩
  | 50 => ⟨S64x1x768, .f32⟩
  | 51 => ⟨S16x4x6x128x1, .f32⟩
  | 52 => ⟨S_, .f32⟩
  | 53 => ⟨S16x6x128x256, .f32⟩
  | 54 => ⟨S16x1x6x128x1, .f32⟩
  | 55 => ⟨S16x6x128x1, .f32⟩
  | 56 => ⟨S16x6x128x256, .f32⟩
  | 57 => ⟨S16x6x128x256, .f32⟩
  | 58 => ⟨S16x1x6x128x256, .f32⟩
  | 59 => ⟨S16x6x128x256, .f32⟩
  | 60 => ⟨S16x6x128x256, .f32⟩
  | 61 => ⟨S16x1x6x128x1, .f32⟩
  | 62 => ⟨S16x6x128x1, .f32⟩
  | 63 => ⟨S16x6x128x256, .f32⟩
  | 64 => ⟨S16x6x128x256, .f32⟩
  | 65 => ⟨S16x1x6x128x256, .f32⟩
  | 66 => ⟨S16x6x128x256, .f32⟩
  | 67 => ⟨S16x6x128x256, .f32⟩
  | 68 => ⟨S16x1x6x128x1, .f32⟩
  | 69 => ⟨S16x6x128x1, .f32⟩
  | 70 => ⟨S16x6x128x256, .f32⟩
  | 71 => ⟨S16x6x128x256, .f32⟩
  | 72 => ⟨S16x1x6x128x256, .f32⟩
  | 73 => ⟨S16x6x128x256, .f32⟩
  | 74 => ⟨S16x6x128x256, .f32⟩
  | 75 => ⟨S16x1x6x128x1, .f32⟩
  | 76 => ⟨S16x6x128x1, .f32⟩
  | 77 => ⟨S16x6x128x256, .f32⟩
  | 78 => ⟨S16x6x128x256, .f32⟩
  | 79 => ⟨S16x1x6x128x256, .f32⟩
  | 80 => ⟨S16x6x128x256, .f32⟩
  | 81 => ⟨S16x6x128x256, .f32⟩
  | 82 => ⟨S16x256x5376, .f32⟩
  | 83 => ⟨S16x256x5376, .f32⟩
  | 84 => ⟨S16x256x16, .f32⟩
  | 85 => ⟨S1x16x768, .f32⟩
  | 86 => ⟨S16x768, .f32⟩
  | 87 => ⟨S1x768, .f32⟩
  | 88 => ⟨S768, .f32⟩
  | 89 => ⟨S16x256x768, .f32⟩
  | 90 => ⟨S64x64x768, .f32⟩
  | 91 => ⟨S16x256x1536, .f32⟩
  | 92 => ⟨S64x64x6x256, .f32⟩
  | 93 => ⟨S16x256x768, .f32⟩
  | 94 => ⟨S1x1x768, .f32⟩
  | 95 => ⟨S16x256x768, .f32⟩
  | 96 => ⟨S16x256x768, .f32⟩
  | 97 => ⟨S16x256x768, .f32⟩
  | 98 => ⟨S_, .f32⟩
  | 99 => ⟨S16x256x768, .f32⟩
  | 100 => ⟨S16x256x768, .f32⟩
  | 101 => ⟨S16x256x768, .f32⟩
  | 102 => ⟨S16x256x768, .f32⟩
  | 103 => ⟨S16x256x768, .i1⟩
  | 104 => ⟨S16x256x768, .f32⟩
  | 105 => ⟨S16x256x768, .f32⟩
  | 106 => ⟨S16x256x768, .f32⟩
  | 107 => ⟨S16x256x768, .f32⟩
  | 108 => ⟨S16x256x768, .f32⟩
  | 109 => ⟨S16x256x768, .f32⟩
  | 110 => ⟨S16x256x768, .f32⟩
  | 111 => ⟨S16x256x768, .f32⟩
  | 112 => ⟨S16x256x768, .f32⟩
  | 113 => ⟨S_, .f32⟩
  | 114 => ⟨S16x256x768, .f32⟩
  | 115 => ⟨S16x256x768, .f32⟩
  | 116 => ⟨S64x64x768, .f32⟩
  | 117 => ⟨S_, .f32⟩
  | 118 => ⟨S_, .f32⟩
  | 119 => ⟨S64x64x768, .f32⟩
  | 120 => ⟨S64x1x768, .f32⟩
  | 121 => ⟨S64x64x768, .f32⟩
  | 122 => ⟨S64x64x768, .f32⟩
  | 123 => ⟨S64x64x768, .f32⟩
  | 124 => ⟨S64x64x768, .f32⟩
  | 125 => ⟨S64x64x6x128, .f32⟩
  | 126 => ⟨S64x6x128x256, .f32⟩
  | 127 => ⟨S16x4x6x128x256, .f32⟩
  | _ => ⟨S5x4096x5376, .f32⟩

abbrev hbmTy0_1 (i : Nat) : BufTy := match i % 128 with
  | 0 => ⟨S64x1x768, .f32⟩
  | 1 => ⟨S16x4x6x128x1, .f32⟩
  | 2 => ⟨S_, .f32⟩
  | 3 => ⟨S16x6x128x256, .f32⟩
  | 4 => ⟨S16x1x6x128x1, .f32⟩
  | 5 => ⟨S16x6x128x1, .f32⟩
  | 6 => ⟨S16x6x128x256, .f32⟩
  | 7 => ⟨S16x6x128x256, .f32⟩
  | 8 => ⟨S16x1x6x128x256, .f32⟩
  | 9 => ⟨S16x6x128x256, .f32⟩
  | 10 => ⟨S16x6x128x256, .f32⟩
  | 11 => ⟨S16x1x6x128x1, .f32⟩
  | 12 => ⟨S16x6x128x1, .f32⟩
  | 13 => ⟨S16x6x128x256, .f32⟩
  | 14 => ⟨S16x6x128x256, .f32⟩
  | 15 => ⟨S16x1x6x128x256, .f32⟩
  | 16 => ⟨S16x6x128x256, .f32⟩
  | 17 => ⟨S16x6x128x256, .f32⟩
  | 18 => ⟨S16x1x6x128x1, .f32⟩
  | 19 => ⟨S16x6x128x1, .f32⟩
  | 20 => ⟨S16x6x128x256, .f32⟩
  | 21 => ⟨S16x6x128x256, .f32⟩
  | 22 => ⟨S16x1x6x128x256, .f32⟩
  | 23 => ⟨S16x6x128x256, .f32⟩
  | 24 => ⟨S16x6x128x256, .f32⟩
  | 25 => ⟨S16x1x6x128x1, .f32⟩
  | 26 => ⟨S16x6x128x1, .f32⟩
  | 27 => ⟨S16x6x128x256, .f32⟩
  | 28 => ⟨S16x6x128x256, .f32⟩
  | 29 => ⟨S16x1x6x128x256, .f32⟩
  | 30 => ⟨S16x6x128x256, .f32⟩
  | 31 => ⟨S16x6x128x256, .f32⟩
  | 32 => ⟨S16x1x6x128x256, .f32⟩
  | 33 => ⟨S16x1x6x128x256, .f32⟩
  | 34 => ⟨S16x2x6x128x256, .f32⟩
  | _ => ⟨S5x4096x5376, .f32⟩

abbrev hbmTy (i : Nat) : BufTy := match i / 128 with
  | 0 => hbmTy0_0 i
  | 1 => hbmTy0_1 i
  | _ => ⟨S5x4096x5376, .f32⟩

abbrev bufTy : (tb : Table) → Fin (tcTables nBuf tb) → BufTy
  | .hbm, ⟨i, _⟩ => hbmTy i
  | _, _ => ⟨S5x4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_call0_cst : Ref sig .tc := ⟨.hbm, 39, rfl⟩
abbrev main_call1_call0_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call4_v0 : Ref sig .tc := ⟨.hbm, 97, rfl⟩
abbrev main_call4_call0_cst : Ref sig .tc := ⟨.hbm, 98, rfl⟩
abbrev main_call4_call0_v0 : Ref sig .tc := ⟨.hbm, 99, rfl⟩
abbrev main_call4_call0_v1 : Ref sig .tc := ⟨.hbm, 100, rfl⟩
abbrev main_call4_call0_v2 : Ref sig .tc := ⟨.hbm, 101, rfl⟩
abbrev main_call4_call0_v3 : Ref sig .tc := ⟨.hbm, 102, rfl⟩
abbrev main_call4_call0_v4 : Ref sig .tc := ⟨.hbm, 103, rfl⟩
abbrev main_call4_call0_v5 : Ref sig .tc := ⟨.hbm, 104, rfl⟩
abbrev main_call4_call0_v6 : Ref sig .tc := ⟨.hbm, 105, rfl⟩
abbrev main_call4_call0_v7 : Ref sig .tc := ⟨.hbm, 106, rfl⟩
abbrev main_call4_call0_v8 : Ref sig .tc := ⟨.hbm, 107, rfl⟩
abbrev main_call4_call0_v9 : Ref sig .tc := ⟨.hbm, 108, rfl⟩
abbrev main_call4_call0_v10 : Ref sig .tc := ⟨.hbm, 109, rfl⟩
abbrev main_call4_call0_v11 : Ref sig .tc := ⟨.hbm, 110, rfl⟩
abbrev main_call4_v1 : Ref sig .tc := ⟨.hbm, 111, rfl⟩
abbrev main_v75 : Ref sig .tc := ⟨.hbm, 112, rfl⟩
abbrev main_cst_1 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_call5_call0_cst : Ref sig .tc := ⟨.hbm, 117, rfl⟩
abbrev main_call5_call0_v0 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_2 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩

abbrev nD : Nat := 1
abbrev τ : Topo := Topo.v7x

variable {F : FTy → Type} [FloatOps F]
-- ==== Proof.Attn.Math.lean ====
/- The mathematics of one row of the attention, over extended reals: a query row normalised, turned by the rotary
   tables, scored against the keys, and the values mixed by the exponentials of the scores. -/
module

public import Idealize.ShloMosaic.Lib.Pointwise
public import Idealize.ShloMosaic.PureOps.Ideal.Laws

@[expose] public section

noncomputable section

namespace Cert.AttnMath

open Idealize.ShloMosaic

/-- A row of 128 entries divided by the root of its mean square (and a small constant), times a gain. -/
def normed (x g : Fin 128 → EReal) (d : Fin 128) : EReal :=
  x d * Ideal.rsqrt (Ideal.div (∑ k, x k * x k) (Ideal.ofBits FTy.f32 1124073472#32)
    + Ideal.ofBits FTy.f32 897988541#32) * g d

/-- Lane `d` of a row turned `s` lanes to the right, cyclically. -/
def lane (s : Nat) (d : Fin 128) : Fin 128 := ⟨(d.val + 128 - s) % 128, Nat.mod_lt _ (by decide)⟩

/-- The rotary turn as two cyclic shifts: `hi` multiplies the lane 32 below, `lo` the lane 32 above. -/
def turned (y cs hi lo : Fin 128 → EReal) (d : Fin 128) : EReal :=
  y d * cs d + y (lane 32 d) * hi d + y (lane 96 d) * lo d

variable {N : Nat}

/-- The scaled product of a query row with key `n`. -/
def score (q : Fin 128 → EReal) (k : Fin N → Fin 128 → EReal) (n : Fin N) : EReal :=
  (∑ d, q d * k n d) * Ideal.ofBits FTy.f32 1035273459#32

/-- The largest score. -/
def peak (s : Fin N → EReal) : EReal := Finset.fold max (Ideal.ofBits FTy.f32 4286578688#32) s Finset.univ

/-- The exponential of a score less the largest. -/
def weight (s : Fin N → EReal) (n : Fin N) : EReal := Ideal.exp (s n - peak s)

/-- The weighted sum of a column of values, divided once by the sum of the weights. -/
def mixed (s v : Fin N → EReal) : EReal := Ideal.div (∑ n, weight s n * v n) (∑ n, weight s n)

/-- The weighted sum of a column of values, each weight divided by the sum of the weights. -/
def softly (s v : Fin N → EReal) : EReal := ∑ n, v n * Ideal.div (weight s n) (∑ j, weight s j)

end Cert.AttnMath

end
-- ==== Proof.Attn.Rotary.lean ====
/- The rotary turn of a row of 128 lanes: the angle of a lane at a position of the 64 x 64 grid, the turn as the
   reference writes it (halves of 64 lanes, pairs of lanes 32 apart), and its form as two cyclic shifts. -/
module

public import proofs.«01_k».proof.Proof.Attn.Math

@[expose] public section

noncomputable section

namespace Cert.AttnMath

open Idealize.ShloMosaic

/-- The frequency of pair `j` of the 32 pairs of a half. -/
def freq (j : Nat) : EReal :=
  Ideal.pow (Ideal.ofBits FTy.f32 1176256512#32)
    (Ideal.div (-(FloatOps.sitofp (F := Ideal) FTy.f32 (BitVec.ofNat 32 j)) * Ideal.ofBits FTy.f32 1073741824#32)
      (Ideal.ofBits FTy.f32 1115684864#32))

/-- The angle of pair `j` at the coordinate `a`. -/
def angle (a j : Nat) : EReal := FloatOps.sitofp (F := Ideal) FTy.f32 (BitVec.ofNat 32 a) * freq j

/-- The angle of lane `d` at position `p`: the lanes of the first half turn by the row, the others by the column. -/
def theta (p : Nat) (d : Fin 128) : EReal := angle (if d.val < 64 then p / 64 else p % 64) (d.val % 32)

/-- The rotary turn, lane by lane. -/
def roped (y : Fin 128 → EReal) (p : Nat) (d : Fin 128) : EReal :=
  if d.val % 64 < 32 then y d * Ideal.cos (theta p d) - y (lane 96 d) * Ideal.sin (theta p d)
  else y d * Ideal.cos (theta p d) + y (lane 32 d) * Ideal.sin (theta p d)

/-- The table of the lanes above: minus the sine in the lower half of each 64 lanes. -/
def sinLo (p : Nat) (d : Fin 128) : EReal := if d.val % 64 < 32 then -Ideal.sin (theta p d) else 0

/-- The table of the lanes below: the sine in the upper half of each 64 lanes. -/
def sinHi (p : Nat) (d : Fin 128) : EReal := if d.val % 64 < 32 then 0 else Ideal.sin (theta p d)

theorem turned_eq_roped (y : Fin 128 → EReal) (p : Nat) :
    turned y (fun d => Ideal.cos (theta p d)) (sinHi p) (sinLo p) = roped y p := by
  funext d
  unfold turned roped sinHi sinLo
  split_ifs
  · rw [mul_zero, add_zero, mul_neg, sub_eq_add_neg]
  · rw [mul_zero, add_zero]

end Cert.AttnMath

end
-- ==== Proof.Attn.Rows.lean ====
/- The reference's attention, read at an index: the normalised rows, the rotary turn, the scores, the exponentials and
   the mixed values. -/
module

public import proofs.«01_k».proof.Proof.Gen.AttnRefIdeal.Read
public import proofs.«01_k».proof.Proof.Attn.Rotary

public import Idealize.ShloMosaic.Lib.Pointwise

@[expose] public section

set_option maxRecDepth 16384

noncomputable section

namespace Cert.AttnRefIdeal.Rows

open Cert.AttnRefIdeal Cert.AttnRefIdeal.Gen Cert.AttnRefIdeal.Read Idealize.ShloMosaic Cert.AttnMath

variable (x0 : (⟨S5x4096x6144, .f32⟩ : BufTy).Contents (Elt Ideal)) (x1 : (⟨S1x128, .f32⟩ : BufTy).Contents (Elt Ideal))
  (x2 x3 : (⟨S4x4608x256, .bf16⟩ : BufTy).Contents (Elt Ideal)) (x4 : (⟨S80x256x1024, .f32⟩ : BufTy).Contents (Elt Ideal))

/-- Query head `h` of a batch at a position, as the projection holds it. -/
def query (b : Fin 4) (p : Fin 4096) (h : Fin 8) (d : Fin 128) : EReal :=
  x0 (ix3 (⟨1 + b.val, by omega⟩ : Fin 5) p (⟨h.val * 128 + d.val, by omega⟩ : Fin 6144))

theorem normed_apply (b : Fin 4) (p : Fin 4096) (h : Fin 8) (d : Fin 128) :
    val_main_v15 (F := Ideal) x0 x1 (ix4 b p h d) = normed (query x0 b p h) (fun d => x1 (ix2 0 d)) d := by
  simp only [val_main_v15, val_main_v14, val_main_v13, val_main_v12, val_main_v11, val_main_v10, val_main_v9, val_main_v8, val_main_v7, val_main_v6, val_main_v5, val_main_v4, val_main_v3, val_main_v2, val_main_v1, val_main_v0, val_main_cst,
    val_main_cst_0, val_main_cst_1]
  pointwise
  rfl

theorem row_apply (p : Fin 4096) :
    val_main_v18 (F := Ideal) (ix1 p) = FloatOps.sitofp (F := Ideal) FTy.f32 (BitVec.ofNat 32 (p.val / 64)) := by
  simp only [val_main_v18, val_main_v17, val_main_v16]
  pointwise

theorem col_apply (p : Fin 4096) :
    val_main_v22 (F := Ideal) (ix1 p) = FloatOps.sitofp (F := Ideal) FTy.f32 (BitVec.ofNat 32 (p.val % 64)) := by
  simp only [val_main_v22, val_main_v21, val_main_v20, val_main_v19]
  pointwise

theorem freq_apply (j : Fin 32) : val_main_v30 (F := Ideal) (ix1 j) = freq j.val := by
  simp only [val_main_v30, val_main_v29, val_main_v28, val_main_v27, val_main_v26, val_main_v25, val_main_v24, val_main_v23, val_main_cst_2, val_main_cst_3, val_main_cst_4]
  pointwise
  rfl

theorem row_lower (b : Fin 4) (p : Fin 4096) (h : Fin 8) (d : Fin 32) :
    val_main_v47 (F := Ideal) x0 x1 (ix4 b p h d)
      = val_main_v15 (F := Ideal) x0 x1 (ix4 b p h (⟨d.val, by omega⟩ : Fin 128)) * Ideal.cos (angle (p.val / 64) d.val)
        - val_main_v15 (F := Ideal) x0 x1 (ix4 b p h (⟨32 + d.val, by omega⟩ : Fin 128)) * Ideal.sin (angle (p.val / 64) d.val) := by
  have ha := row_apply p
  have hf := freq_apply d
  unfold angle
  rw [← ha, ← hf]
  simp only [val_main_v47, val_main_v46, val_main_v45, val_main_v44, val_main_v43, val_main_v42, val_main_v41, val_main_v40, val_main_v39, val_main_v38, val_main_v37, val_main_v36, val_main_v35, val_main_v34, val_main_v33, val_main_v32, val_main_v31]
  generalize val_main_v15 (F := Ideal) x0 x1 = y
  generalize val_main_v18 (F := Ideal) = a
  generalize val_main_v30 (F := Ideal) = f
  pointwise

theorem row_upper (b : Fin 4) (p : Fin 4096) (h : Fin 8) (d : Fin 32) :
    val_main_v52 (F := Ideal) x0 x1 (ix4 b p h d)
      = val_main_v15 (F := Ideal) x0 x1 (ix4 b p h (⟨32 + d.val, by omega⟩ : Fin 128)) * Ideal.cos (angle (p.val / 64) d.val)
        + val_main_v15 (F := Ideal) x0 x1 (ix4 b p h (⟨d.val, by omega⟩ : Fin 128)) * Ideal.sin (angle (p.val / 64) d.val) := by
  have ha := row_apply p
  have hf := freq_apply d
  unfold angle
  rw [← ha, ← hf]
  simp only [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31]
  generalize val_main_v15 (F := Ideal) x0 x1 = y
  generalize val_main_v18 (F := Ideal) = a
  generalize val_main_v30 (F := Ideal) = f
  pointwise

theorem col_lower (b : Fin 4) (p : Fin 4096) (h : Fin 8) (d : Fin 32) :
    val_main_v70 (F := Ideal) x0 x1 (ix4 b p h d)
      = val_main_v15 (F := Ideal) x0 x1 (ix4 b p h (⟨64 + d.val, by omega⟩ : Fin 128)) * Ideal.cos (angle (p.val % 64) d.val)
        - val_main_v15 (F := Ideal) x0 x1 (ix4 b p h (⟨64 + (32 + d.val), by omega⟩ : Fin 128)) * Ideal.sin (angle (p.val % 64) d.val) := by
  have ha := col_apply p
  have hf := freq_apply d
  unfold angle
  rw [← ha, ← hf]
  simp only [val_main_v70, val_main_v69, val_main_v68, val_main_v67, val_main_v66, val_main_v65, val_main_v64, val_main_v63, val_main_v62, val_main_v61, val_main_v60, val_main_v59, val_main_v58, val_main_v57, val_main_v56, val_main_v55, val_main_v54]
  generalize val_main_v15 (F := Ideal) x0 x1 = y
  generalize val_main_v22 (F := Ideal) = a
  generalize val_main_v30 (F := Ideal) = f
  pointwise

theorem col_upper (b : Fin 4) (p : Fin 4096) (h : Fin 8) (d : Fin 32) :
    val_main_v75 (F := Ideal) x0 x1 (ix4 b p h d)
      = val_main_v15 (F := Ideal) x0 x1 (ix4 b p h (⟨64 + (32 + d.val), by omega⟩ : Fin 128)) * Ideal.cos (angle (p.val % 64) d.val)
        + val_main_v15 (F := Ideal) x0 x1 (ix4 b p h (⟨64 + d.val, by omega⟩ : Fin 128)) * Ideal.sin (angle (p.val % 64) d.val) := by
  have ha := col_apply p
  have hf := freq_apply d
  unfold angle
  rw [← ha, ← hf]
  simp only [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54]
  generalize val_main_v15 (F := Ideal) x0 x1 = y
  generalize val_main_v22 (F := Ideal) = a
  generalize val_main_v30 (F := Ideal) = f
  pointwise

theorem row_half (b : Fin 4) (p : Fin 4096) (h : Fin 8) (d : Fin 64) :
    val_main_v53 (F := Ideal) x0 x1 (ix4 b p h d)
      = if hd : d.val < 32 then val_main_v47 (F := Ideal) x0 x1 (ix4 b p h (⟨d.val, hd⟩ : Fin 32))
        else val_main_v52 (F := Ideal) x0 x1 (ix4 b p h (⟨d.val - 32, by omega⟩ : Fin 32)) := by
  unfold val_main_v53
  generalize val_main_v47 (F := Ideal) x0 x1 = u
  generalize val_main_v52 (F := Ideal) x0 x1 = w
  pointwise

theorem col_half (b : Fin 4) (p : Fin 4096) (h : Fin 8) (d : Fin 64) :
    val_main_v76 (F := Ideal) x0 x1 (ix4 b p h d)
      = if hd : d.val < 32 then val_main_v70 (F := Ideal) x0 x1 (ix4 b p h (⟨d.val, hd⟩ : Fin 32))
        else val_main_v75 (F := Ideal) x0 x1 (ix4 b p h (⟨d.val - 32, by omega⟩ : Fin 32)) := by
  unfold val_main_v76
  generalize val_main_v70 (F := Ideal) x0 x1 = u
  generalize val_main_v75 (F := Ideal) x0 x1 = w
  pointwise

theorem halves (b : Fin 4) (p : Fin 4096) (h : Fin 8) (d : Fin 128) :
    val_main_v77 (F := Ideal) x0 x1 (ix4 b p h d)
      = if hd : d.val < 64 then val_main_v53 (F := Ideal) x0 x1 (ix4 b p h (⟨d.val, hd⟩ : Fin 64))
        else val_main_v76 (F := Ideal) x0 x1 (ix4 b p h (⟨d.val - 64, by omega⟩ : Fin 64)) := by
  unfold val_main_v77
  generalize val_main_v53 (F := Ideal) x0 x1 = u
  generalize val_main_v76 (F := Ideal) x0 x1 = w
  pointwise

/-- A lower lane of a half, as the rotary turn writes it. -/
theorem roped_lower (y : Fin 128 → EReal) (p a j : Nat) (d e e' : Fin 128) (h : d.val % 64 < 32)
    (ha : a = if d.val < 64 then p / 64 else p % 64) (hj : j = d.val % 32) (he : e.val = d.val) (he' : e'.val = d.val + 32) :
    y e * Ideal.cos (angle a j) - y e' * Ideal.sin (angle a j) = roped y p d := by
  have h1 : e = d := Fin.ext he
  have h2 : e' = lane 96 d := Fin.ext (by rw [he']; show _ = (d.val + 128 - 96) % 128; have := d.isLt; omega)
  unfold roped theta
  rw [if_pos h, ← ha, ← hj, h1, h2]

/-- An upper lane of a half, as the rotary turn writes it. -/
theorem roped_upper (y : Fin 128 → EReal) (p a j : Nat) (d e e' : Fin 128) (h : ¬d.val % 64 < 32)
    (ha : a = if d.val < 64 then p / 64 else p % 64) (hj : j = d.val % 32) (he : e.val = d.val) (he' : e'.val + 32 = d.val) :
    y e * Ideal.cos (angle a j) + y e' * Ideal.sin (angle a j) = roped y p d := by
  have h1 : e = d := Fin.ext he
  have h2 : e' = lane 32 d := Fin.ext (by show _ = (d.val + 128 - 32) % 128; have := d.isLt; omega)
  unfold roped theta
  rw [if_neg h, ← ha, ← hj, h1, h2]

/-- The turned heads. -/
theorem roped_apply (b : Fin 4) (p : Fin 4096) (h : Fin 8) (d : Fin 128) :
    val_main_v77 (F := Ideal) x0 x1 (ix4 b p h d)
      = roped (fun d => val_main_v15 (F := Ideal) x0 x1 (ix4 b p h d)) p.val d := by
  have hlt := d.isLt
  rw [halves]
  by_cases h1 : d.val < 64
  · rw [dif_pos h1, row_half]
    by_cases h2 : d.val < 32
    · rw [dif_pos h2, row_lower]
      exact roped_lower (fun d => val_main_v15 (F := Ideal) x0 x1 (ix4 b p h d)) p.val _ _ d _ _ (by omega) (if_pos h1).symm (by show d.val = _; omega) rfl (by show 32 + d.val = _; omega)
    · rw [dif_neg h2, row_upper]
      exact roped_upper (fun d => val_main_v15 (F := Ideal) x0 x1 (ix4 b p h d)) p.val _ _ d _ _ (by omega) (if_pos h1).symm (by show d.val - 32 = _; omega)
        (by show 32 + (d.val - 32) = _; omega) (by show d.val - 32 + 32 = _; omega)
  · rw [dif_neg h1, col_half]
    by_cases h2 : d.val - 64 < 32
    · rw [dif_pos h2, col_lower]
      exact roped_lower (fun d => val_main_v15 (F := Ideal) x0 x1 (ix4 b p h d)) p.val _ _ d _ _ (by omega) (if_neg h1).symm (by show d.val - 64 = _; omega)
        (by show 64 + (d.val - 64) = _; omega) (by show 64 + (32 + (d.val - 64)) = _; omega)
    · rw [dif_neg h2, col_upper]
      exact roped_upper (fun d => val_main_v15 (F := Ideal) x0 x1 (ix4 b p h d)) p.val _ _ d _ _ (by omega) (if_neg h1).symm (by show d.val - 64 - 32 = _; omega)
        (by show 64 + (32 + (d.val - 64 - 32)) = _; omega) (by show 64 + (d.val - 64 - 32) + 32 = _; omega)

theorem score_apply (b : Fin 4) (k : Fin 2) (g : Fin 4) (p : Fin 4096) (n : Fin 4608) :
    val_main_v86 (F := Ideal) x0 x1 x2 (ix5 b k g p n)
      = score (fun d => val_main_v77 (F := Ideal) x0 x1 (ix4 b p (⟨k.val * 4 + g.val, by omega⟩ : Fin 8) d))
          (fun n d => x2 (ix3 b n (⟨k.val * 128 + d.val, by omega⟩ : Fin 256))) n := by
  simp only [val_main_v86, val_main_v85, val_main_v84, val_main_v83, val_main_v82, val_main_v81, val_main_v80, val_main_v79, val_main_v78, val_main_cst_5]
  generalize val_main_v77 (F := Ideal) x0 x1 = y
  pointwise
  unfold score
  exact congrArg (· * _) (Finset.sum_congr rfl fun d _ => mul_comm _ _)

theorem peak_apply (b : Fin 4) (k : Fin 2) (g : Fin 4) (p : Fin 4096) :
    val_main_v87 (F := Ideal) x0 x1 x2 (ix4 b k g p)
      = peak (fun n => val_main_v86 (F := Ideal) x0 x1 x2 (ix5 b k g p n)) := by
  simp only [val_main_v87, val_main_cst_6]
  generalize val_main_v86 (F := Ideal) x0 x1 x2 = y
  pointwise
  rfl

end Cert.AttnRefIdeal.Rows

end
-- ==== Proof.Attn.Soft.lean ====
/- The reference's softmax and its mixed values, read at an index. -/
module

public import proofs.«01_k».proof.Proof.Attn.Rows

public import Idealize.ShloMosaic.Lib.Pointwise

@[expose] public section

set_option maxRecDepth 16384

noncomputable section

namespace Cert.AttnRefIdeal.Rows

open Cert.AttnRefIdeal Cert.AttnRefIdeal.Gen Cert.AttnRefIdeal.Read Idealize.ShloMosaic Cert.AttnMath

variable (x0 : (⟨S5x4096x6144, .f32⟩ : BufTy).Contents (Elt Ideal)) (x1 : (⟨S1x128, .f32⟩ : BufTy).Contents (Elt Ideal))
  (x2 x3 : (⟨S4x4608x256, .bf16⟩ : BufTy).Contents (Elt Ideal)) (x4 : (⟨S80x256x1024, .f32⟩ : BufTy).Contents (Elt Ideal))

theorem max_peak {N : Nat} (s : Fin N → EReal) : max (Ideal.ofBits FTy.f32 4286578688#32) (peak s) = peak s := by
  refine max_eq_right ?_
  unfold peak
  generalize Ideal.ofBits FTy.f32 4286578688#32 = e
  exact (Finset.le_fold_max e).2 (Or.inl le_rfl)

theorem least_apply (b : Fin 4) (k : Fin 2) (g : Fin 4) (p : Fin 4096) :
    val_main_v89 (F := Ideal) x0 x1 x2 (ix4 b k g p)
      = peak (fun n => val_main_v86 (F := Ideal) x0 x1 x2 (ix5 b k g p n)) := by
  rw [← max_peak, ← peak_apply, val_main_v89_apply, val_main_v88_apply, val_main_cst_7_apply]
  generalize val_main_v87 (F := Ideal) x0 x1 x2 (ix4 b k g p) = z
  rw [Ideal.maximumf_def, Ideal.ofBits_def]

theorem shifted_apply (b : Fin 4) (k : Fin 2) (g : Fin 4) (p : Fin 4096) (n : Fin 4608) :
    val_main_v92 (F := Ideal) x0 x1 x2 (ix5 b k g p n)
      = val_main_v86 (F := Ideal) x0 x1 x2 (ix5 b k g p n) - val_main_v89 (F := Ideal) x0 x1 x2 (ix4 b k g p) := by
  simp only [val_main_v92, val_main_v91, val_main_v90]
  generalize val_main_v86 (F := Ideal) x0 x1 x2 = y
  generalize val_main_v89 (F := Ideal) x0 x1 x2 = z
  pointwise

theorem weight_apply (b : Fin 4) (k : Fin 2) (g : Fin 4) (p : Fin 4096) (n : Fin 4608) :
    val_main_v93 (F := Ideal) x0 x1 x2 (ix5 b k g p n)
      = weight (fun n => val_main_v86 (F := Ideal) x0 x1 x2 (ix5 b k g p n)) n := by
  have h : val_main_v93 (F := Ideal) x0 x1 x2 (ix5 b k g p n)
      = Ideal.exp (val_main_v92 (F := Ideal) x0 x1 x2 (ix5 b k g p n)) := by
    simp only [val_main_v93]
    generalize val_main_v92 (F := Ideal) x0 x1 x2 = y
    pointwise
  rw [h, shifted_apply, least_apply]
  rfl

theorem total_apply (b : Fin 4) (k : Fin 2) (g : Fin 4) (p : Fin 4096) :
    val_main_v94 (F := Ideal) x0 x1 x2 (ix4 b k g p)
      = ∑ n, val_main_v93 (F := Ideal) x0 x1 x2 (ix5 b k g p n) := by
  simp only [val_main_v94, val_main_cst_8]
  generalize val_main_v93 (F := Ideal) x0 x1 x2 = y
  pointwise

theorem share_apply (b : Fin 4) (k : Fin 2) (g : Fin 4) (p : Fin 4096) (n : Fin 4608) :
    val_main_v97 (F := Ideal) x0 x1 x2 (ix5 b k g p n)
      = Ideal.div (val_main_v93 (F := Ideal) x0 x1 x2 (ix5 b k g p n)) (val_main_v94 (F := Ideal) x0 x1 x2 (ix4 b k g p)) := by
  simp only [val_main_v97, val_main_v96, val_main_v95]
  generalize val_main_v93 (F := Ideal) x0 x1 x2 = y
  generalize val_main_v94 (F := Ideal) x0 x1 x2 = z
  pointwise

theorem mixed_apply (b : Fin 4) (p : Fin 4096) (l : Fin 1024) :
    val_main_v100 (F := Ideal) x0 x1 x2 x3 (ix3 b p l)
      = ∑ n, x3 (ix3 b n (⟨l.val / 512 * 128 + l.val % 128, by omega⟩ : Fin 256))
          * val_main_v97 (F := Ideal) x0 x1 x2 (ix5 b (⟨l.val / 512, by omega⟩ : Fin 2) (⟨l.val / 128 % 4, by omega⟩ : Fin 4) p n) := by
  simp only [val_main_v100, val_main_v99, val_main_v98, val_main_v82, val_main_v81]
  generalize val_main_v97 (F := Ideal) x0 x1 x2 = y
  pointwise

theorem result_apply (b : Fin 5) (p : Fin 4096) (l : Fin 1024) :
    val_main_v103 (F := Ideal) x0 x1 x2 x3 x4 (ix3 b p l)
      = if h : b.val < 1 then x4 (ix3 (⟨b.val * 16 + p.val / 256, by omega⟩ : Fin 80) (⟨p.val % 256, by omega⟩ : Fin 256) l)
        else val_main_v100 (F := Ideal) x0 x1 x2 x3 (ix3 (⟨b.val - 1, by omega⟩ : Fin 4) p l) := by
  unfold val_main_v103
  generalize val_main_v100 (F := Ideal) x0 x1 x2 x3 = y
  generalize hw : val_main_v102 (F := Ideal) x4 = w
  pointwise
  subst hw
  unfold val_main_v102 val_main_v101
  pointwise

end Cert.AttnRefIdeal.Rows

end
-- ==== Proof.Attn.Block.lean ====
/- What one grid point leaves in its output block: four heads side by side, each the attention of the block's 256
   queries over the 4608 keys. -/
module

public import proofs.«01_k».proof.Proof.Gen.AttnIdeal.Value
public import proofs.«01_k».proof.Proof.Attn.Math

@[expose] public section

set_option maxRecDepth 16384

noncomputable section

namespace Cert.AttnIdeal.Blocks

open Cert.AttnIdeal Cert.AttnIdeal.Gen Idealize.ShloMosaic Idealize.ShloMosaic.TcCoe Idealize.SL.Sem
open Cert.AttnMath

variable (x0 : Vec Ideal S1x256x512 .f32) (x1 : Vec Ideal S1x128 .f32) (x2 x3 x4 : Vec Ideal S256x128 .f32)
  (x5 x6 : Vec Ideal S1x4608x128 .bf16)

/-- One head of a block, as vector operations: the queries `q`, the gain, the three tables, the keys and the values. -/
def head (q : Vec Ideal S1x256x128 .f32) : FVec Ideal S1x256x128 .f32 :=
  k0_pay4 (k0_pay2 x6) (k0_pay3 x5 q x1 x2 x4 x3)

/-- Row `r` of one head's scores. -/
theorem scores_apply (q : Vec Ideal S1x256x128 .f32) (r : Fin 256) (n : Fin 4608) :
    k0_pay3 x5 q x1 x2 x4 x3 (ix2 r n) * Ideal.ofBits FTy.f32 1035273459#32
      = score (turned (normed (fun d => q (ix3 0 r d)) (fun d => x1 (ix2 0 d)))
          (fun d => x2 (ix2 r d)) (fun d => x4 (ix2 r d)) (fun d => x3 (ix2 r d))) (fun n d => x5 (ix3 0 n d)) n := by
  unfold k0_pay3 k0_pay1
  pointwise
  rfl

/-- A head's result at row `r`, lane `d`. -/
theorem head_apply (q : Vec Ideal S1x256x128 .f32) (r : Fin 256) (d : Fin 128) :
    head x1 x2 x3 x4 x5 x6 q (ix3 0 r d)
      = mixed (score (turned (normed (fun d => q (ix3 0 r d)) (fun d => x1 (ix2 0 d)))
          (fun d => x2 (ix2 r d)) (fun d => x4 (ix2 r d)) (fun d => x3 (ix2 r d))) (fun n d => x5 (ix3 0 n d)))
          (fun n => x6 (ix3 0 n d)) := by
  have hs : (fun n => k0_pay3 x5 q x1 x2 x4 x3 (ix2 r n) * Ideal.ofBits FTy.f32 1035273459#32) = _ :=
    funext (scores_apply x1 x2 x3 x4 x5 q r)
  unfold head
  generalize k0_pay3 x5 q x1 x2 x4 x3 = s at hs ⊢
  rw [← hs]
  unfold k0_pay4 k0_pay2
  pointwise
  rfl

/-- The block's value at an index: lane `l` belongs to head `l / 128`. -/
def block : Vec Ideal S1x256x512 .f32 := fun y =>
  mixed (score (turned (normed
      (fun d => x0 (ix3 0 (y 1) ⟨(y 2).val / 128 * 128 + d.val, by
        have h : (y 2).val < 512 := (y 2).isLt; have := d.isLt; omega⟩))
      (fun d => x1 (ix2 0 d)))
      (fun d => x2 (ix2 (y 1) d)) (fun d => x4 (ix2 (y 1) d)) (fun d => x3 (ix2 (y 1) d)))
      (fun n d => x5 (ix3 0 n d)))
    (fun n => x6 (ix3 0 n ⟨(y 2).val % 128, Nat.mod_lt _ (by decide)⟩))

/-- The queries of the head whose lanes begin at `o`. -/
abbrev lanes (o : Nat) (h : ∀ a, (![0, 0, o] : Fin 3 → Nat) a + S1x256x128.size a ≤ S1x256x512.size a) :
    Vec Ideal S1x256x128 .f32 := View.ld x0 (Rect.unit (s := S1x256x512) ![0, 0, o] S1x256x128.size h)

/-- A head read from its lanes and put back at them is the block there. -/
theorem head_lanes (g : Fin 4) (h : ∀ a, (![0, 0, g.val * 128] : Fin 3 → Nat) a + S1x256x128.size a ≤ S1x256x512.size a)
    (j : S1x256x128.Idx) :
    head x1 x2 x3 x4 x5 x6 (lanes x0 (g.val * 128) h) j
      = block x0 x1 x2 x3 x4 x5 x6 ((Rect.unit (s := S1x256x512) ![0, 0, g.val * 128] S1x256x128.size h).emb j) := by
  have hj2 : (j 2).val < 128 := (j 2).isLt
  have hg := g.isLt
  have ej : j = ix3 0 (j 1 : Fin 256) (j 2 : Fin 128) := by
    funext a
    match a with
    | ⟨0, _⟩ => exact Fin.ext (by have h0 : (j 0).val < 1 := (j 0).isLt; show (j 0).val = 0; omega)
    | ⟨1, _⟩ => rfl
    | ⟨2, _⟩ => rfl
  have e1 : (Rect.unit (s := S1x256x512) ![0, 0, g.val * 128] S1x256x128.size h).emb j 1 = j 1 :=
    Fin.ext (by show 0 + 1 * (j 1).val = (j 1).val; omega)
  have e2 : ((Rect.unit (s := S1x256x512) ![0, 0, g.val * 128] S1x256x128.size h).emb j 2).val = g.val * 128 + (j 2).val := by
    show g.val * 128 + 1 * (j 2).val = _; omega
  refine ((congrArg (head x1 x2 x3 x4 x5 x6 (lanes x0 (g.val * 128) h)) ej).trans
    (head_apply x1 x2 x3 x4 x5 x6 _ (j 1) (j 2))).trans ?_
  unfold block
  rw [e1]
  congr 1
  · congr 2
    congr 1
    funext d
    have hd := d.isLt
    refine congrArg x0 (funext fun a => ?_)
    match a with
    | ⟨0, _⟩ => rfl
    | ⟨1, _⟩ => exact Fin.ext (by show 0 + 1 * (j 1).val = (j 1).val; omega)
    | ⟨2, _⟩ => exact Fin.ext (by show g.val * 128 + 1 * d.val = _ / 128 * 128 + d.val; rw [e2]; omega)
  · funext n
    refine congrArg x6 (funext fun a => ?_)
    match a with
    | ⟨0, _⟩ => rfl
    | ⟨1, _⟩ => rfl
    | ⟨2, _⟩ => exact Fin.ext (by show (j 2).val = _ % 128; rw [e2]; omega)

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole staged block reads the block. -/
theorem whole_load {s : Shape} {e : EltTy} (m : Memref sig .tc .vmem s e) (hm : m.IsWhole) (x : Vec Ideal s e) (r : Rect s) :
    View.readAt (Elt Ideal) m.view r.toLoadRect (hm.unread x) = View.ld x r := by
  rw [View.readAt_eq_ld, hm.read_unread]

theorem load_gain (x : Vec Ideal S1x128 .f32) :
    View.ld x (Rect.unit (s := S1x128) ![0, 0] ![1, 128] inb_S1x128_S1x128_0_0) = x :=
  View.ld_unit_zero (S := S1x128) hz2 _ x
theorem load_table (x : Vec Ideal S256x128 .f32) :
    View.ld x (Rect.unit (s := S256x128) ![0, 0] ![256, 128] inb_S256x128_S256x128_0_0) = x :=
  View.ld_unit_zero (S := S256x128) hz2 _ x
theorem load_keys (x : Vec Ideal S1x4608x128 .bf16) :
    View.ld x (Rect.unit (s := S1x4608x128) ![0, 0, 0] ![1, 4608, 128] inb_S1x4608x128_S1x4608x128_0_0_0) = x :=
  View.ld_unit_zero (S := S1x4608x128) hz3 _ x

/-! The four heads' operations are one head's. -/

section
variable (q : Vec Ideal S1x256x128 .f32)

theorem head1_eq : k0_pay7 (k0_pay1 x5) (k0_pay2 x6) (k0_pay5 q x1) (k0_pay6 q x1 x2 x4) x3 = head x1 x2 x3 x4 x5 x6 q := rfl
theorem head2_eq : k0_pay9 (k0_pay1 x5) (k0_pay2 x6) (k0_pay8 q x1) x2 x4 x3 = head x1 x2 x3 x4 x5 x6 q := rfl
theorem head3_eq : k0_pay13 (k0_pay1 x5) (k0_pay2 x6) (k0_pay10 q) (k0_pay11 q) (k0_pay12 (F := Ideal)) x1 x2 x4 x3
    = head x1 x2 x3 x4 x5 x6 q := rfl

end

/-- What a grid point's four stores leave in the output block. -/
theorem out_eq (c : Dev nD) (t : Fin cfg0.N) :
    out0_A_7 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) x0 x1 x2 x3 x4 x5 x6
      = block x0 x1 x2 x3 x4 x5 x6 := by
  unfold out0_A_7
  rw [View.read_writes_eq_canon _ _ _ (cover0_A_7 c _ _ _ _ _ _ _ _ _ _ _ _ _ _ _ _ _ _ _ _ _ _ _ _)]
  funext y
  refine View.canon_apply_of_pieces (block x0 x1 x2 x3 x4 x5 x6) _ (fun p hp j => ?_) y
    (cover0_A_7 c _ _ _ _ _ _ _ _ _ _ _ _ _ _ _ _ _ _ _ _ _ _ _ _ y)
  unfold kernelRun0_A at hp
  simp only [List.mem_cons, List.mem_nil_iff, or_false] at hp
  rcases hp with rfl | rfl | rfl | rfl
  · refine Eq.trans ?_ (head_lanes x0 x1 x2 x3 x4 x5 x6 3 inb_S1x256x512_S1x256x128_0_0_384 j)
    sl_unfold_run_names
    simp only [whole_load, load_gain, load_table, load_keys, head1_eq, head2_eq, head3_eq]
    rfl
  · refine Eq.trans ?_ (head_lanes x0 x1 x2 x3 x4 x5 x6 2 inb_S1x256x512_S1x256x128_0_0_256 j)
    sl_unfold_run_names
    simp only [whole_load, load_gain, load_table, load_keys, head1_eq, head2_eq, head3_eq]
    rfl
  · refine Eq.trans ?_ (head_lanes x0 x1 x2 x3 x4 x5 x6 1 inb_S1x256x512_S1x256x128_0_0_128 j)
    sl_unfold_run_names
    simp only [whole_load, load_gain, load_table, load_keys, head1_eq, head2_eq, head3_eq]
    rfl
  · refine Eq.trans ?_ (head_lanes x0 x1 x2 x3 x4 x5 x6 0 inb_S1x256x512_S1x256x128_0_0_0 j)
    sl_unfold_run_names
    simp only [whole_load, load_gain, load_table, load_keys, head1_eq, head2_eq, head3_eq]
    rfl

end Cert.AttnIdeal.Blocks

end
-- ==== Proof.Attn.Tables.lean ====
/- The rotary tables the host computes before the launch, read at a position and a lane. -/
module

public import proofs.«01_k».proof.Proof.Gen.AttnIdeal.Value
public import proofs.«01_k».proof.Proof.Attn.Rotary
public import Idealize.ShloMosaic.Lib.Pointwise
public import Idealize.ShloMosaic.Lib.StableHlo.Run

@[expose] public section

set_option maxRecDepth 16384

noncomputable section

namespace Cert.AttnIdeal.Blocks

open Cert.AttnIdeal Cert.AttnIdeal.Gen Idealize.ShloMosaic Idealize.ShloMosaic.TcCoe Idealize.SL.Sem Cert.AttnMath

/-- The divisor the host divides by: one where the given one is zero. -/
def divisor (b : BitVec 32) : BitVec 32 := Scalar.select (IntOp.cmpi .eq b 0#32) 1#32 b

/-- The host's floor division of integers: the quotient towards zero, less one where signs differ and it is not exact. -/
def floorDiv (a b : BitVec 32) : BitVec 32 :=
  Scalar.select
    (IntOp.andi
      (IntOp.cmpi .ne (if a = 0 then (0 : BitVec 32) else if a.msb = true then -1 else 1)
        (if b = 0 then (0 : BitVec 32) else if b.msb = true then -1 else 1))
      (IntOp.cmpi .ne (IntOp.remsi ArithUnit.host a b) 0#32))
    (IntOp.subi (IntOp.divsi ArithUnit.host a b) 1#32)
    (IntOp.divsi ArithUnit.host a b)

/-- The host's floor remainder of integers. -/
def floorMod (a b : BitVec 32) : BitVec 32 :=
  Scalar.select
    (IntOp.andi
      (IntOp.cmpi .ne (IntOp.cmpi .slt (IntOp.remsi ArithUnit.host a (divisor b)) 0#32)
        (IntOp.cmpi .slt (divisor b) 0#32))
      (IntOp.cmpi .ne (IntOp.remsi ArithUnit.host a (divisor b)) 0#32))
    (IntOp.addi (IntOp.remsi ArithUnit.host a (divisor b)) (divisor b))
    (IntOp.remsi ArithUnit.host a (divisor b))

theorem floorDiv_pos : ∀ p : Fin 4096, floorDiv (BitVec.ofNat 32 p) 64#32 = BitVec.ofNat 32 (p.val / 64) := by
  decide +kernel

theorem floorMod_pos : ∀ p : Fin 4096, floorMod (BitVec.ofNat 32 p) 64#32 = BitVec.ofNat 32 (p.val % 64) := by
  decide +kernel

theorem floorMod_lane : ∀ l : Fin 128, floorMod (BitVec.ofNat 32 l) 32#32 = BitVec.ofNat 32 (l.val % 32) := by
  decide +kernel

theorem upper_lane : ∀ l : Fin 128,
    IntOp.cmpi .sge (floorMod (BitVec.ofNat 32 l) 64#32) 32#32 = if l.val % 64 < 32 then 0#1 else 1#1 := by
  decide +kernel

theorem first_half : ∀ l : Fin 128,
    IntOp.cmpi .slt (BitVec.ofNat 32 l) 64#32 = if l.val < 64 then 1#1 else 0#1 := by
  decide +kernel

/-- The angle as the host computes it. -/
def hostAngle (p : Fin 4096) (l : Fin 128) : EReal :=
  FloatOps.sitofp (F := Ideal) FTy.f32
      (Scalar.select (IntOp.cmpi .slt (BitVec.ofNat 32 l) 64#32) (floorDiv (BitVec.ofNat 32 p) 64#32)
        (floorMod (BitVec.ofNat 32 p) 64#32)) *
    Ideal.pow (Ideal.ofBits FTy.f32 1176256512#32)
      (Ideal.div
        (-(FloatOps.sitofp (F := Ideal) FTy.f32 (floorMod (BitVec.ofNat 32 l) 32#32)) * Ideal.ofBits FTy.f32 1073741824#32)
        (Ideal.ofBits FTy.f32 1115684864#32))

theorem hostAngle_eq (p : Fin 4096) (l : Fin 128) : hostAngle p l = theta p l := by
  unfold hostAngle theta angle freq
  rw [floorDiv_pos, floorMod_pos, floorMod_lane, first_half]
  by_cases h : l.val < 64
  · rw [if_pos h, if_pos h]; rfl
  · rw [if_neg h, if_neg h]; rfl

variable (m : (ℓ : Loc nD τ sig) → Buf (Elt Ideal) ℓ)

set_option maxHeartbeats 1000000 in
/-- The table of cosines. -/
theorem cos_table (c : Dev nD) (p : Fin 4096) (l : Fin 128) :
    V m c main_v28 (ix2 p l) = Ideal.cos (theta p l) := by
  rw [← hostAngle_eq]
  dsimp only [V, hostOps0, hostOps0_1, hostOps0_2, hostOps0_3, hostOps0_4, hostOps0_5, hostOps0_6, hostOps0_7,
    hostOps0_8, hostOps0_9, hostOps0_10, hostOps0_11, hostOps0_12, hostOps0_13, List.flatten_cons, List.flatten_nil,
    List.append_nil, List.cons_append, List.nil_append]
  after_results_simp
  simp only [StableHlo.TRef.ofBuf, StableHlo.TRef.toBuf, id, cast_eq]
  pointwise
  rfl

set_option maxHeartbeats 1000000 in
/-- The table that multiplies the lanes above. -/
theorem lo_table (c : Dev nD) (p : Fin 4096) (l : Fin 128) : V m c main_v30 (ix2 p l) = sinLo p l := by
  have h : V m c main_v30 (ix2 p l)
      = Scalar.select (IntOp.cmpi .sge (floorMod (BitVec.ofNat 32 l) 64#32) 32#32) (0 : EReal)
          (-Ideal.sin (hostAngle p l)) := by
    dsimp only [V, hostOps0, hostOps0_1, hostOps0_2, hostOps0_3, hostOps0_4, hostOps0_5, hostOps0_6, hostOps0_7,
      hostOps0_8, hostOps0_9, hostOps0_10, hostOps0_11, hostOps0_12, hostOps0_13, List.flatten_cons, List.flatten_nil,
      List.append_nil, List.cons_append, List.nil_append]
    after_results_simp
    simp only [StableHlo.TRef.ofBuf, StableHlo.TRef.toBuf, id, cast_eq]
    pointwise
    rfl
  rw [h, upper_lane, hostAngle_eq]
  unfold sinLo
  by_cases hl : l.val % 64 < 32
  · rw [if_pos hl, if_pos hl]; rfl
  · rw [if_neg hl, if_neg hl]; rfl

set_option maxHeartbeats 1000000 in
/-- The table that multiplies the lanes below. -/
theorem hi_table (c : Dev nD) (p : Fin 4096) (l : Fin 128) : V m c main_v31 (ix2 p l) = sinHi p l := by
  have h : V m c main_v31 (ix2 p l)
      = Scalar.select (IntOp.cmpi .sge (floorMod (BitVec.ofNat 32 l) 64#32) 32#32) (Ideal.sin (hostAngle p l))
          (0 : EReal) := by
    dsimp only [V, hostOps0, hostOps0_1, hostOps0_2, hostOps0_3, hostOps0_4, hostOps0_5, hostOps0_6, hostOps0_7,
      hostOps0_8, hostOps0_9, hostOps0_10, hostOps0_11, hostOps0_12, hostOps0_13, List.flatten_cons, List.flatten_nil,
      List.append_nil, List.cons_append, List.nil_append]
    after_results_simp
    simp only [StableHlo.TRef.ofBuf, StableHlo.TRef.toBuf, id, cast_eq]
    pointwise
    rfl
  rw [h, upper_lane, hostAngle_eq]
  unfold sinHi
  by_cases hl : l.val % 64 < 32
  · rw [if_pos hl, if_pos hl]; rfl
  · rw [if_neg hl, if_neg hl]; rfl

set_option maxHeartbeats 1000000 in
/-- The output array before the launch: the context's result, reshaped. -/
theorem given (c : Dev nD) (b : Fin 5) (p : Fin 4096) (l : Fin 1024) :
    V m c main_v33 (ix3 b p l)
      = m ((c.tc : Thread nD τ).loc main_arg4)
          (ix3 (⟨b.val * 16 + p.val / 256, by omega⟩ : Fin 80) (⟨p.val % 256, by omega⟩ : Fin 256) l) := by
  dsimp only [V, hostOps0, hostOps0_1, hostOps0_2, hostOps0_3, hostOps0_4, hostOps0_5, hostOps0_6, hostOps0_7,
    hostOps0_8, hostOps0_9, hostOps0_10, hostOps0_11, hostOps0_12, hostOps0_13, List.flatten_cons, List.flatten_nil,
    List.append_nil, List.cons_append, List.nil_append]
  after_results_simp
  pointwise
  rfl

end Cert.AttnIdeal.Blocks

end
-- ==== Proof.Attn.Arrays.lean ====
/- The array the kernel leaves: the written blocks placed, the rest as the launch found it. -/
module

public import proofs.«01_k».proof.Proof.Attn.Block
public import proofs.«01_k».proof.Proof.Attn.Tables
public import Idealize.ShloMosaic.Lib.Pipeline.ValueKit

@[expose] public section

set_option maxRecDepth 16384

noncomputable section

namespace Cert.AttnMath

open Idealize.ShloMosaic

/-- The scores of query head `l / 128` at a position of a batch, from the projection, the gain and the keys. -/
def scoresAt (proj : (⟨3, ![5, 4096, 6144]⟩ : Shape).Idx → EReal) (gain : (⟨2, ![1, 128]⟩ : Shape).Idx → EReal)
    (k : (⟨3, ![4, 4608, 256]⟩ : Shape).Idx → EReal) (b : Fin 4) (p : Fin 4096) (l : Fin 1024) : Fin 4608 → EReal :=
  score (roped (normed (fun d => proj (ix3 (⟨b.val + 1, by omega⟩ : Fin 5) p (⟨l.val / 128 * 128 + d.val, by omega⟩ : Fin 6144)))
      (fun d => gain (ix2 0 d))) p.val)
    (fun n d => k (ix3 b n (⟨l.val / 512 * 128 + d.val, by omega⟩ : Fin 256)))

/-- The values that lane `l` mixes. -/
def valuesAt (v : (⟨3, ![4, 4608, 256]⟩ : Shape).Idx → EReal) (b : Fin 4) (l : Fin 1024) : Fin 4608 → EReal :=
  fun n => v (ix3 b n (⟨l.val / 512 * 128 + l.val % 128, by omega⟩ : Fin 256))

end Cert.AttnMath

namespace Cert.AttnIdeal.Blocks

open Cert.AttnIdeal Cert.AttnIdeal.Gen Idealize.ShloMosaic Idealize.ShloMosaic.TcCoe Idealize.SL.Sem Cert.AttnMath
open Idealize.ShloMosaic.Pipeline (Dat)

variable (m : (ℓ : Loc nD τ sig) → Buf (Elt Ideal) ℓ)

/-- The projection, the gain, the keys, the values and the context's result, as launched. -/
abbrev aProj (c : Dev nD) : S5x4096x6144.Idx → EReal := m ((c.tc : Thread nD τ).loc main_arg0)
abbrev aGain (c : Dev nD) : S1x128.Idx → EReal := m ((c.tc : Thread nD τ).loc main_arg1)
abbrev aKeys (c : Dev nD) : S4x4608x256.Idx → EReal := m ((c.tc : Thread nD τ).loc main_arg2)
abbrev aVals (c : Dev nD) : S4x4608x256.Idx → EReal := m ((c.tc : Thread nD τ).loc main_arg3)
abbrev aGiven (c : Dev nD) : S80x256x1024.Idx → EReal := m ((c.tc : Thread nD τ).loc main_arg4)

/-- The blocks of a grid point: batch `t / 32`, half of the heads `t / 16 % 2`, rows `t % 16`. -/
theorem idx0 : ∀ t : Fin cfg0.N, win0_0.index t = ![t.val / 32 + 1, t.val % 16, t.val / 16 % 2] :=
  (by decide +kernel : ∀ t : Fin grid0.N, win0_0.index t = ![t.val / 32 + 1, t.val % 16, t.val / 16 % 2])
theorem idx1 : ∀ t : Fin cfg0.N, win0_1.index t = ![0, 0] :=
  (by decide +kernel : ∀ t : Fin grid0.N, win0_1.index t = ![0, 0])
theorem idx2 : ∀ t : Fin cfg0.N, win0_2.index t = ![t.val % 16, 0] :=
  (by decide +kernel : ∀ t : Fin grid0.N, win0_2.index t = ![t.val % 16, 0])
theorem idx3 : ∀ t : Fin cfg0.N, win0_3.index t = ![t.val % 16, 0] :=
  (by decide +kernel : ∀ t : Fin grid0.N, win0_3.index t = ![t.val % 16, 0])
theorem idx4 : ∀ t : Fin cfg0.N, win0_4.index t = ![t.val % 16, 0] :=
  (by decide +kernel : ∀ t : Fin grid0.N, win0_4.index t = ![t.val % 16, 0])
theorem idx5 : ∀ t : Fin cfg0.N, win0_5.index t = ![t.val / 32, 0, t.val / 16 % 2] :=
  (by decide +kernel : ∀ t : Fin grid0.N, win0_5.index t = ![t.val / 32, 0, t.val / 16 % 2])
theorem idx6 : ∀ t : Fin cfg0.N, win0_6.index t = ![t.val / 32, 0, t.val / 16 % 2] :=
  (by decide +kernel : ∀ t : Fin grid0.N, win0_6.index t = ![t.val / 32, 0, t.val / 16 % 2])
theorem idx7 : ∀ t : Fin cfg0.N, win0_7.index t = ![t.val / 32 + 1, t.val % 16, t.val / 16 % 2] :=
  (by decide +kernel : ∀ t : Fin grid0.N, win0_7.index t = ![t.val / 32 + 1, t.val % 16, t.val / 16 % 2])

theorem point_lt (t : Fin cfg0.N) : t.val < 128 := by
  have h := t.isLt
  have e : cfg0.N = 128 := Gen.N_0
  omega

variable (c : Dev nD) (t : Fin cfg0.N)

/-- The position of row `r` of the point's block. -/
abbrev pos (r : Fin 256) : Fin 4096 := ⟨t.val % 16 * 256 + r.val, by omega⟩

theorem blk0 (r : Fin 256) (l : Fin 512) : iblk m c 0 t (ix3 0 r l)
    = aProj m c (ix3 (⟨t.val / 32 + 1, by have := point_lt t; omega⟩ : Fin 5) (pos t r)
        (⟨t.val / 16 % 2 * 512 + l.val, by omega⟩ : Fin 6144)) := by
  have h := V_main_arg0 m c
  blk_ext [iblk, h, idx0 t]

theorem blk1 (d : Fin 128) : iblk m c 1 t (ix2 0 d) = aGain m c (ix2 0 d) := by
  have h := V_main_arg1 m c
  blk_ext [iblk, h, idx1 t]

theorem blk2 (r : Fin 256) (d : Fin 128) : iblk m c 2 t (ix2 r d) = Ideal.cos (theta (pos t r).val d) := by
  rw [← cos_table m c (pos t r) d]
  blk_ext [iblk, idx2 t]

theorem blk3 (r : Fin 256) (d : Fin 128) : iblk m c 3 t (ix2 r d) = sinLo (pos t r).val d := by
  rw [← lo_table m c (pos t r) d]
  blk_ext [iblk, idx3 t]

theorem blk4 (r : Fin 256) (d : Fin 128) : iblk m c 4 t (ix2 r d) = sinHi (pos t r).val d := by
  rw [← hi_table m c (pos t r) d]
  blk_ext [iblk, idx4 t]

theorem blk5 (n : Fin 4608) (d : Fin 128) : iblk m c 5 t (ix3 0 n d)
    = aKeys m c (ix3 (⟨t.val / 32, by have := point_lt t; omega⟩ : Fin 4) n
        (⟨t.val / 16 % 2 * 128 + d.val, by omega⟩ : Fin 256)) := by
  have h := V_main_arg2 m c
  blk_ext [iblk, h, idx5 t]

theorem blk6 (n : Fin 4608) (d : Fin 128) : iblk m c 6 t (ix3 0 n d)
    = aVals m c (ix3 (⟨t.val / 32, by have := point_lt t; omega⟩ : Fin 4) n
        (⟨t.val / 16 % 2 * 128 + d.val, by omega⟩ : Fin 256)) := by
  have h := V_main_arg3 m c
  blk_ext [iblk, h, idx6 t]

theorem block_apply (x0 : Vec Ideal S1x256x512 .f32) (x1 : Vec Ideal S1x128 .f32) (x2 x3 x4 : Vec Ideal S256x128 .f32)
    (x5 x6 : Vec Ideal S1x4608x128 .bf16) (r : Fin 256) (l : Fin 512) :
    block x0 x1 x2 x3 x4 x5 x6 (ix3 0 r l)
      = mixed (score (turned (normed (fun d => x0 (ix3 0 r (⟨l.val / 128 * 128 + d.val, by omega⟩ : Fin 512)))
          (fun d => x1 (ix2 0 d))) (fun d => x2 (ix2 r d)) (fun d => x4 (ix2 r d)) (fun d => x3 (ix2 r d)))
          (fun n d => x5 (ix3 0 n d)))
        (fun n => x6 (ix3 0 n (⟨l.val % 128, by omega⟩ : Fin 128))) := rfl

/-- The point's block from the arrays as launched. -/
theorem block_eq (r : Fin 256) (l : Fin 512) :
    block (iblk m c 0 t) (iblk m c 1 t) (iblk m c 2 t) (iblk m c 3 t) (iblk m c 4 t) (iblk m c 5 t) (iblk m c 6 t)
        (ix3 0 r l)
      = mixed (scoresAt (aProj m c) (aGain m c) (aKeys m c) ⟨t.val / 32, by have := point_lt t; omega⟩ (pos t r)
            ⟨t.val / 16 % 2 * 512 + l.val, by omega⟩)
          (valuesAt (aVals m c) ⟨t.val / 32, by have := point_lt t; omega⟩ ⟨t.val / 16 % 2 * 512 + l.val, by omega⟩) := by
  have e1 : (t.val / 16 % 2 * 512 + l.val) / 512 = t.val / 16 % 2 := by omega
  have e2 : (t.val / 16 % 2 * 512 + l.val) % 128 = l.val % 128 := by omega
  have e3 : ∀ d : Fin 128, (t.val / 16 % 2 * 512 + l.val) / 128 * 128 + d.val
      = t.val / 16 % 2 * 512 + (l.val / 128 * 128 + d.val) := fun d => by omega
  unfold scoresAt valuesAt
  simp only [e1, e2, e3]
  rw [← turned_eq_roped, block_apply]
  simp only [blk0, blk1, blk2, blk3, blk4, blk5, blk6]

/-- The array the kernel leaves, at an index. -/
def left : S5x4096x1024.Idx → EReal := fun i =>
  if h : (i 0).val = 0 then
    aGiven m c (ix3 (⟨(i 0).val * 16 + (i 1).val / 256, by have h1 : (i 1).val < 4096 := (i 1).isLt; omega⟩ : Fin 80)
      (⟨(i 1).val % 256, by omega⟩ : Fin 256) (i 2))
  else
    mixed (scoresAt (aProj m c) (aGain m c) (aKeys m c)
        ⟨(i 0).val - 1, by have h0 : (i 0).val < 5 := (i 0).isLt; omega⟩ (i 1) (i 2))
      (valuesAt (aVals m c) ⟨(i 0).val - 1, by have h0 : (i 0).val < 5 := (i 0).isLt; omega⟩ (i 2))

theorem left_written (b : Fin 4) (p : Fin 4096) (l : Fin 1024) :
    left m c (ix3 (⟨b.val + 1, by omega⟩ : Fin 5) p l)
      = mixed (scoresAt (aProj m c) (aGain m c) (aKeys m c) b p l) (valuesAt (aVals m c) b l) :=
  dif_neg (Nat.succ_ne_zero b.val)

theorem point_eq (r : Fin 256) (l : Fin 512) :
    outsAt0 m c t (ix3 0 r l)
      = left m c (ix3 (⟨t.val / 32 + 1, by have := point_lt t; omega⟩ : Fin 5) (pos t r)
          (⟨t.val / 16 % 2 * 512 + l.val, by omega⟩ : Fin 1024)) := by
  refine Eq.trans ?_ (left_written m c (⟨t.val / 32, by have := point_lt t; omega⟩ : Fin 4) (pos t r)
    (⟨t.val / 16 % 2 * 512 + l.val, by omega⟩ : Fin 1024)).symm
  rw [← block_eq m c t r l]
  unfold outsAt0
  rw [out_eq]

theorem final : (Gen.dats m 0 c).arrAt 7 cfg0.N = left m c := by
  refine (Gen.dats m 0 c).arrAt_eq_of_coversWhere_of_agree 7 _ (fun β => 1 ≤ β (0 : Fin 3)) (by decide +kernel)
    (fun t hf y => ?_) (fun j hj => ?_)
  · blk_simp
    rw [after0_7]
    obtain ⟨r, hr⟩ : ∃ r : Fin 256, r.val = (y (1 : Fin 3)).val := ⟨⟨_, (y (1 : Fin 3)).isLt⟩, rfl⟩
    obtain ⟨l, hl⟩ : ∃ l : Fin 512, l.val = (y (2 : Fin 3)).val := ⟨⟨_, (y (2 : Fin 3)).isLt⟩, rfl⟩
    have hy : y = ix3 0 r l := by blk_ext [hr, hl]
    have he : (win0_7.blk t).view.emb y = ix3 (⟨t.val / 32 + 1, by have := point_lt t; omega⟩ : Fin 5) (pos t r)
        (⟨t.val / 16 % 2 * 512 + l.val, by omega⟩ : Fin 1024) := by
      blk_ext [idx7 t, hr, hl]
    rw [he]
    exact (congrArg (outsAt0 m c t) hy).trans (point_eq m c t r l)
  · have h0 : (j (0 : Fin 3)).val = 0 := by
      blk_simp [Pipeline.Window.cell_apply] at hj
      omega
    refine Eq.trans ?_ (dif_pos h0).symm
    refine Eq.trans ?_ (given m c (j (0 : Fin 3)) (j (1 : Fin 3)) (j (2 : Fin 3)))
    have hj' : (j : S5x4096x1024.Idx) = ix3 (j (0 : Fin 3)) (j (1 : Fin 3)) (j (2 : Fin 3)) := by blk_ext []
    rw [A_eq]
    exact congrArg (V m c main_v33) hj'

end Cert.AttnIdeal.Blocks

end
-- ==== Proof.Attn.Finite.lean ====
/- Attention over a finite gain and finite keys: the two ways to divide by the sum of the weights agree. -/
module

public import proofs.«01_k».proof.Proof.Attn.Rotary

@[expose] public section

noncomputable section

namespace Cert.AttnMath

open Idealize.ShloMosaic

/-- An extended real that is a real. -/
def IsReal (x : EReal) : Prop := ∃ r : ℝ, x = (r : EReal)

theorem coe_sum_fin {n : ℕ} (f : Fin n → ℝ) : ((∑ i, f i : ℝ) : EReal) = ∑ i, (f i : EReal) := by
  induction (Finset.univ : Finset (Fin n)) using Finset.induction_on with
  | empty => simp
  | insert a t ha ih => rw [Finset.sum_insert ha, Finset.sum_insert ha, EReal.coe_add, ih]

namespace IsReal

variable {x y : EReal}

theorem add (hx : IsReal x) (hy : IsReal y) : IsReal (x + y) := by
  obtain ⟨a, rfl⟩ := hx; obtain ⟨b, rfl⟩ := hy; exact ⟨a + b, (EReal.coe_add a b).symm⟩

theorem sub (hx : IsReal x) (hy : IsReal y) : IsReal (x - y) := by
  obtain ⟨a, rfl⟩ := hx; obtain ⟨b, rfl⟩ := hy; exact ⟨a - b, (EReal.coe_sub a b).symm⟩

theorem mul (hx : IsReal x) (hy : IsReal y) : IsReal (x * y) := by
  obtain ⟨a, rfl⟩ := hx; obtain ⟨b, rfl⟩ := hy; exact ⟨a * b, (EReal.coe_mul a b).symm⟩

theorem neg (hx : IsReal x) : IsReal (-x) := by
  obtain ⟨a, rfl⟩ := hx; exact ⟨-a, (EReal.coe_neg a).symm⟩

theorem sum {n : ℕ} {f : Fin n → EReal} (h : ∀ i, IsReal (f i)) : IsReal (∑ i, f i) := by
  choose g hg using h
  exact ⟨∑ i, g i, by rw [coe_sum_fin]; exact Finset.sum_congr rfl fun i _ => hg i⟩

theorem sin (hx : IsReal x) : IsReal (Ideal.sin x) := by obtain ⟨a, rfl⟩ := hx; exact ⟨_, Ideal.sin_coe a⟩

theorem cos (hx : IsReal x) : IsReal (Ideal.cos x) := by obtain ⟨a, rfl⟩ := hx; exact ⟨_, Ideal.cos_coe a⟩

theorem pow (hx : IsReal x) (hy : IsReal y) : IsReal (Ideal.pow x y) := by
  obtain ⟨a, rfl⟩ := hx; obtain ⟨b, rfl⟩ := hy; exact ⟨_, Ideal.pow_coe_coe a b⟩

theorem div_coe (hx : IsReal x) {r : ℝ} (h : r ≠ 0) : IsReal (Ideal.div x (r : EReal)) := by
  rw [Ideal.div_coe h]; exact hx.mul ⟨_, rfl⟩

theorem of_bounds (h : x ≠ ⊤) (h' : x ≠ ⊥) : IsReal x := ⟨x.toReal, (EReal.coe_toReal h h').symm⟩

theorem ne_top (hx : IsReal x) : x ≠ ⊤ := by obtain ⟨a, rfl⟩ := hx; exact EReal.coe_ne_top a

theorem ne_bot (hx : IsReal x) : x ≠ ⊥ := by obtain ⟨a, rfl⟩ := hx; exact EReal.coe_ne_bot a

end IsReal

theorem bits_128 : Ideal.ofBits FTy.f32 1124073472#32 = ((128 : ℝ) : EReal) := by
  simp [Ideal.ofBits, Ideal.ieee, -EReal.coe_mul]; norm_num

theorem bits_64 : Ideal.ofBits FTy.f32 1115684864#32 = ((64 : ℝ) : EReal) := by
  simp [Ideal.ofBits, Ideal.ieee, -EReal.coe_mul]; norm_num

theorem bits_eps : ∃ e : ℝ, 0 < e ∧ Ideal.ofBits FTy.f32 897988541#32 = (e : EReal) := by
  refine ⟨_, ?_, by simp [Ideal.ofBits, Ideal.ieee]; rfl⟩
  norm_num

theorem bits_bot : Ideal.ofBits FTy.f32 4286578688#32 = ⊥ := by
  simp [Ideal.ofBits, Ideal.ieee]

theorem bits_two : IsReal (Ideal.ofBits FTy.f32 1073741824#32) := ⟨_, by simp [Ideal.ofBits, Ideal.ieee]; rfl⟩
theorem bits_base : IsReal (Ideal.ofBits FTy.f32 1176256512#32) := ⟨_, by simp [Ideal.ofBits, Ideal.ieee]; rfl⟩
theorem bits_scale : IsReal (Ideal.ofBits FTy.f32 1035273459#32) := ⟨_, by simp [Ideal.ofBits, Ideal.ieee]; rfl⟩

theorem real_of_int (b : BitVec 32) : IsReal (FloatOps.sitofp (F := Ideal) FTy.f32 b) := ⟨_, rfl⟩

theorem theta_real (p : Nat) (d : Fin 128) : IsReal (theta p d) := by
  unfold theta angle freq
  refine (real_of_int _).mul (bits_base.pow ?_)
  rw [bits_64]
  exact ((real_of_int _).neg.mul bits_two).div_coe (by norm_num)

/-- A nonnegative sum with an infinite summand is infinite. -/
theorem sum_eq_top {f : Fin 128 → EReal} (h0 : ∀ k, 0 ≤ f k) (j : Fin 128) (hj : f j = ⊤) : ∑ k, f k = ⊤ :=
  top_le_iff.1 (hj ▸ Finset.single_le_sum (fun k _ => h0 k) (Finset.mem_univ j))

theorem mul_self_nonneg' (x : EReal) : 0 ≤ x * x := by
  induction x with
  | bot => simp
  | top => simp
  | coe r => rw [← EReal.coe_mul]; exact EReal.coe_nonneg.2 (mul_self_nonneg r)

/-- A normalised row is real: a row with an infinite entry is divided by an infinite root, and becomes zero. -/
theorem normed_real {x g : Fin 128 → EReal} (hg : ∀ d, IsReal (g d)) (d : Fin 128) :
    IsReal (normed x g d) := by
  unfold normed
  refine IsReal.mul ?_ (hg d)
  obtain ⟨e, he, hb⟩ := bits_eps
  by_cases hx : ∀ d, IsReal (x d)
  · refine (hx d).mul ?_
    choose y hy using hx
    have hs : (∑ k, x k * x k) = ((∑ k, y k * y k : ℝ) : EReal) := by
      rw [coe_sum_fin]
      exact Finset.sum_congr rfl fun k _ => by rw [hy k, EReal.coe_mul]
    rw [hs, bits_128, Ideal.div_coe (by norm_num), hb, ← EReal.coe_mul, ← EReal.coe_add, Ideal.rsqrt_coe]
    have hp : 0 < (∑ k, y k * y k) * (1 / 128) + e :=
      add_pos_of_nonneg_of_pos (mul_nonneg (Finset.sum_nonneg fun k _ => mul_self_nonneg _) (by norm_num)) he
    rw [if_neg (not_lt.2 hp.le), if_neg hp.ne']
    exact ⟨_, rfl⟩
  · obtain ⟨j, hj⟩ := not_forall.1 hx
    have ht : x j * x j = ⊤ := by
      by_cases h1 : x j = ⊤
      · rw [h1]; simp
      · by_cases h2 : x j = ⊥
        · rw [h2]; simp
        · exact absurd (IsReal.of_bounds h1 h2) hj
    rw [sum_eq_top (fun k => mul_self_nonneg' (x k)) j ht, bits_128, Ideal.div_coe (by norm_num), hb,
      EReal.top_mul_coe_of_pos (by norm_num), EReal.top_add_coe]
    refine ⟨0, ?_⟩
    rw [show Ideal.rsqrt ⊤ = 0 from rfl, mul_zero, EReal.coe_zero]

theorem roped_real {y : Fin 128 → EReal} (hy : ∀ d, IsReal (y d)) (p : Nat) (d : Fin 128) : IsReal (roped y p d) := by
  unfold roped
  have hs := (theta_real p d).sin
  have hc := (theta_real p d).cos
  split_ifs
  · exact ((hy d).mul hc).sub ((hy _).mul hs)
  · exact ((hy d).mul hc).add ((hy _).mul hs)

theorem score_real {N : ℕ} {q : Fin 128 → EReal} {k : Fin N → Fin 128 → EReal} (hq : ∀ d, IsReal (q d))
    (hk : ∀ n d, IsReal (k n d)) (n : Fin N) : IsReal (score q k n) :=
  (IsReal.sum fun d => (hq d).mul (hk n d)).mul bits_scale

variable {N : ℕ} [NeZero N] {s : Fin N → EReal} (hs : ∀ n, IsReal (s n))

include hs in
theorem peak_real : IsReal (peak s) := by
  unfold peak
  rw [bits_bot]
  refine .of_bounds (ne_of_lt ?_) (ne_of_gt ?_)
  · exact (Finset.fold_max_lt ⊤).2 ⟨bot_lt_top, fun n _ => lt_top_iff_ne_top.2 (hs n).ne_top⟩
  · exact (Finset.lt_fold_max ⊥).2 (Or.inr ⟨0, Finset.mem_univ _, bot_lt_iff_ne_bot.2 (hs 0).ne_bot⟩)

include hs in
theorem weight_pos (n : Fin N) : ∃ w : ℝ, 0 < w ∧ weight s n = (w : EReal) := by
  obtain ⟨r, hr⟩ := (hs n).sub (peak_real hs)
  refine ⟨Real.exp r, Real.exp_pos r, ?_⟩
  unfold weight
  rw [hr, Ideal.exp_coe]

theorem mul_sum_of_nonneg {n : ℕ} (c : ℝ) (hc : 0 ≤ c) (f : Fin n → EReal) :
    (∑ i, f i) * (c : EReal) = ∑ i, f i * (c : EReal) := by
  induction (Finset.univ : Finset (Fin n)) using Finset.induction_on with
  | empty => simp
  | insert a t ha ih =>
    rw [Finset.sum_insert ha, Finset.sum_insert ha,
      EReal.right_distrib_of_nonneg_of_ne_top (EReal.coe_nonneg.2 hc) (EReal.coe_ne_top c), ih]

include hs in
/-- Dividing the mixed values once by the sum of the weights, or each weight by it. -/
theorem mixed_eq_softly (v : Fin N → EReal) : mixed s v = softly s v := by
  choose w hw hv using weight_pos hs
  have hsum : (∑ n, weight s n) = ((∑ n, w n : ℝ) : EReal) := by
    rw [coe_sum_fin]
    exact Finset.sum_congr rfl fun n _ => hv n
  have hp : 0 < ∑ n, w n := Finset.sum_pos (fun n _ => hw n) ⟨0, Finset.mem_univ _⟩
  unfold mixed softly
  rw [hsum, Ideal.div_coe hp.ne', mul_sum_of_nonneg _ (by positivity)]
  refine Finset.sum_congr rfl fun n _ => ?_
  rw [Ideal.div_coe hp.ne', mul_comm (weight s n), mul_assoc]

end Cert.AttnMath

end
-- ==== Proof.Attn.Reference.lean ====
/- The reference's result, read at an index from the arrays as launched. -/
module

public import proofs.«01_k».proof.Proof.Attn.Soft
public import proofs.«01_k».proof.Proof.Attn.Arrays
public import proofs.«01_k».proof.Proof.Attn.Finite
public import proofs.«01_k».proof.Pre_finite_gain_and_keys
public import Idealize.ShloMosaic.Lib.ReduceAll

@[expose] public section

set_option maxRecDepth 16384

noncomputable section

namespace Cert.AttnRefIdeal.Rows

open Cert.AttnRefIdeal Cert.AttnRefIdeal.Gen Cert.AttnRefIdeal.Read Idealize.ShloMosaic Cert.AttnMath

variable (x0 : (⟨S5x4096x6144, .f32⟩ : BufTy).Contents (Elt Ideal)) (x1 : (⟨S1x128, .f32⟩ : BufTy).Contents (Elt Ideal))
  (x2 x3 : (⟨S4x4608x256, .bf16⟩ : BufTy).Contents (Elt Ideal)) (x4 : (⟨S80x256x1024, .f32⟩ : BufTy).Contents (Elt Ideal))

/-- The scores of the query head of lane `l`. -/
theorem scores_apply (b : Fin 4) (p : Fin 4096) (l : Fin 1024) :
    (fun n => val_main_v86 (F := Ideal) x0 x1 x2
        (ix5 b (⟨l.val / 512, by omega⟩ : Fin 2) (⟨l.val / 128 % 4, by omega⟩ : Fin 4) p n))
      = scoresAt x0 x1 x2 b p l := by
  have e1 : ∀ d : Fin 128, (l.val / 512 * 4 + l.val / 128 % 4) * 128 + d.val = l.val / 128 * 128 + d.val :=
    fun d => by omega
  have e2 : 1 + b.val = b.val + 1 := by omega
  funext n
  rw [score_apply]
  unfold scoresAt
  simp only [roped_apply, normed_apply]
  unfold query
  simp only [e1, e2]

/-- A written entry of the reference's result. -/
theorem attended_apply (b : Fin 4) (p : Fin 4096) (l : Fin 1024) :
    val_main_v100 (F := Ideal) x0 x1 x2 x3 (ix3 b p l) = softly (scoresAt x0 x1 x2 b p l) (valuesAt x3 b l) := by
  rw [mixed_apply]
  unfold softly valuesAt
  refine Finset.sum_congr rfl fun n _ => ?_
  rw [share_apply, total_apply]
  simp only [weight_apply, scores_apply]

/-- A finite gain and finite keys, as the precondition states them. -/
structure Finite : Prop where
  gain : ∀ d : Fin 128, IsReal (x1 (ix2 0 d))
  keys : ∀ (b : Fin 4) (n : Fin 4608) (l : Fin 256), IsReal (x2 (ix3 b n l))

theorem scoresAt_real (h : Finite x1 x2) (b : Fin 4) (p : Fin 4096) (l : Fin 1024) (n : Fin 4608) :
    IsReal (scoresAt x0 x1 x2 b p l n) :=
  score_real (roped_real (normed_real h.gain) _)
    (fun n d => h.keys b n _) n

theorem real_of_abs_lt (x : EReal)
    (h : BitVec.ofBool (decide (FloatOps.absf (F := Ideal) (φ := .f32) x < Ideal.ofBits FTy.f32 2139095040#32)) = 1#1) :
    IsReal x := by
  have hd : max x (-x) < Ideal.ofBits FTy.f32 2139095040#32 := by
    by_contra hn
    have e : decide (FloatOps.absf (F := Ideal) (φ := .f32) x < Ideal.ofBits FTy.f32 2139095040#32) = false :=
      decide_eq_false hn
    rw [e] at h
    exact absurd h (by decide)
  have ht : max x (-x) < ⊤ := lt_of_lt_of_le hd le_top
  refine .of_bounds (fun e => ?_) (fun e => ?_)
  · rw [e] at ht
    exact absurd ht (by simp)
  · rw [e] at ht
    exact absurd ht (by simp)

section Pre

variable [Cert.Pre_finite_gain_and_keys.Facts]

theorem finite_of_pre (h : Cert.Pre_finite_gain_and_keys.fn (F := Ideal) x0 x1 x2 x3 x4 = fun _ => 1#1) :
    Finite x1 x2 := by
  have h0 := congrFun h ix0
  unfold Cert.Pre_finite_gain_and_keys.fn at h0
  obtain ⟨hg, hk⟩ := IntOp.andi_eq_one.1 h0
  haveI : Subsingleton Cert.Pre_finite_gain_and_keys.S_.Idx := ⟨fun a b => funext fun k => k.elim0⟩
  refine ⟨fun d => ?_, fun b n l => ?_⟩
  · have e := Host.reduce_andi_all _ _ _ _ _ hg (ix2 0 d)
    pointwise at e
    exact real_of_abs_lt _ e
  · have e := Host.reduce_andi_all _ _ _ _ _ hk (ix3 b n l)
    pointwise at e
    exact real_of_abs_lt _ e

end Pre

end Cert.AttnRefIdeal.Rows

end
-- ==== Proof.Attn.Claim.lean ====
/- The claims about the attention: the frames, and the equal results. -/
module

public import proofs.«01_k».proof.Proof.Attn.Reference
public import proofs.«01_k».proof.Defs
public import proofs.«01_k».proof.Proof.Gen.Attn.Frame
public import Idealize.ShloMosaic.Lib.Quiescent

@[expose] public section

noncomputable section

namespace Cert.AttnClaim

open Idealize.ShloMosaic Idealize.ShloMosaic.TcCoe Idealize.SL.Sem Cert.AttnMath

/-- The side conditions of the precondition's operations. -/
instance preFacts : Cert.Pre_finite_gain_and_keys.Facts where
  bcast_S_S1x128 := by decide
  reducesTo_S1x128_S_d0_1 := by decide
  h_S_ := by decide
  bitsLt_bf16_f32 := by decide
  bcast_S_S4x4608x256 := by decide
  reducesTo_S4x4608x256_S_d0_1_2 := by decide

theorem frame : Cert.quiescent_Attn := fun m ρ _ => Cert.Attn.Gen.frame m ρ

theorem frame_ideal : Cert.quiescent_AttnIdeal := fun m ρ _ => Cert.AttnIdeal.Gen.frame m ρ

theorem frame_ideal_pre : Cert.quiescent_AttnIdeal_pre_finite_gain_and_keys :=
  fun m ρ _ => Cert.AttnIdeal.Gen.frame m ρ

theorem frame_reference : Cert.quiescent_AttnRefIdeal := fun m ρ _ =>
  (θ_run Cert.AttnRefIdeal.defs _ _).mono
    (fun r h => ⟨fun c => (h c).2, sem_eq_zero_of_no_sems (by decide) r.2⟩)
    (Cert.AttnRefIdeal.Value.run (F := Ideal) m ρ)

theorem frame_reference_pre : Cert.quiescent_AttnRefIdeal_pre_finite_gain_and_keys := fun m ρ _ =>
  frame_reference m ρ trivial

section Value

variable (m : (ℓ : Loc Cert.AttnIdeal.nD Cert.AttnIdeal.τ Cert.AttnIdeal.sig) → Buf (Elt Ideal) ℓ)

/-- The reference's result on the kernel's arguments is the array the kernel leaves. -/
theorem reference_eq (c : Dev Cert.AttnIdeal.nD)
    (h : Cert.AttnRefIdeal.Rows.Finite (Cert.AttnIdeal.Blocks.aGain m c) (Cert.AttnIdeal.Blocks.aKeys m c)) :
    Cert.AttnRefIdeal.Read.val_main_v103 (F := Ideal) (Cert.AttnIdeal.Blocks.aProj m c)
        (Cert.AttnIdeal.Blocks.aGain m c) (Cert.AttnIdeal.Blocks.aKeys m c) (Cert.AttnIdeal.Blocks.aVals m c)
        (Cert.AttnIdeal.Blocks.aGiven m c)
      = Cert.AttnIdeal.Blocks.left m c := by
  funext i
  have hi : i = ix3 (i 0) (i 1) (i 2) := by
    funext a
    match a with
    | ⟨0, _⟩ => rfl
    | ⟨1, _⟩ => rfl
    | ⟨2, _⟩ => rfl
  refine (congrArg _ hi).trans ((Cert.AttnRefIdeal.Rows.result_apply _ _ _ _ _ (i 0) (i 1) (i 2)).trans ?_)
  unfold Cert.AttnIdeal.Blocks.left
  by_cases h0 : (i 0).val = 0
  · rw [dif_pos (show (i 0).val < 1 by omega), dif_pos h0]
  · rw [dif_neg (show ¬(i 0).val < 1 by omega), dif_neg h0]
    exact (Cert.AttnRefIdeal.Rows.attended_apply _ _ _ _ _ _ _).trans
      (mixed_eq_softly (Cert.AttnRefIdeal.Rows.scoresAt_real _ _ _ h _ _ _) _).symm

end Value

theorem algebraic : Cert.algebraic_AttnIdeal_AttnRefIdeal_pre_finite_gain_and_keys := by
  intro m ρ m' ρ' hpre hagree
  refine ⟨fun c => Cert.AttnIdeal.Blocks.left m c, ?_, ?_⟩
  · exact (θ_run Cert.AttnIdeal.defs _ _).mono
      (fun _ h c => ⟨(h c).1.trans (Cert.AttnIdeal.Blocks.final m c), (h c).2⟩)
      (Cert.AttnIdeal.Value.run_blocks (F := Ideal) m ρ)
  · refine (θ_run Cert.AttnRefIdeal.defs _ _).mono (fun _ h c => ⟨(h c).1.trans ?_, (h c).2⟩)
      (Cert.AttnRefIdeal.Value.run (F := Ideal) m' ρ')
    obtain ⟨e0, e1, e2, e3, e4⟩ := hagree c
    rw [Cert.AttnRefIdeal.Read.val_main_v103_eq, e0, e1, e2, e3, e4]
    exact reference_eq m c (Cert.AttnRefIdeal.Rows.finite_of_pre _ _ _ _ _ (hpre c))

end Cert.AttnClaim

end
-- ==== Proof.Mix.Math.lean ====
/- The mathematics of one token of the projections, over extended reals: a row normalised by the root of its mean
   square, scaled and shifted, and multiplied with a column of weights. -/
module

public import Idealize.ShloMosaic.Lib.Pointwise
public import Idealize.ShloMosaic.PureOps.Ideal.Laws

@[expose] public section

noncomputable section

namespace Cert.MixMath

open Idealize.ShloMosaic

/-- The inverse root of a row's mean square (and a small constant); `n` is the word of the row's length. -/
def root {N : Nat} (n : BitVec 32) (x : Fin N → EReal) : EReal :=
  Ideal.rsqrt (Ideal.div (∑ k, x k * x k) (Ideal.ofBits FTy.f32 n) + Ideal.ofBits FTy.f32 897988541#32)

/-- A normalised row, times the product of gain and scale, plus the shift. -/
def modulated (x gain sc sh : Fin 2048 → EReal) (d : Fin 2048) : EReal :=
  x d * root 1157627904#32 x * (gain d * sc d) + sh d

/-- The gain and the scale one after the other. -/
theorem modulated_eq (x gain sc sh : Fin 2048 → EReal) (d : Fin 2048) :
    modulated x gain sc sh d = x d * root 1157627904#32 x * gain d * sc d + sh d := by
  unfold modulated
  rw [mul_assoc (x d * root 1157627904#32 x)]

/-- The modulated token `p` of segment `b`, from the arrays; the scale is one plus the array's. -/
def hAt (x : (⟨3, ![5, 4096, 2048]⟩ : Shape).Idx → EReal) (gain : (⟨2, ![1, 2048]⟩ : Shape).Idx → EReal)
    (sc sh : (⟨3, ![5, 1, 2048]⟩ : Shape).Idx → EReal) (b : Fin 5) (p : Fin 4096) : Fin 2048 → EReal :=
  modulated (fun d => x (ix3 b p d)) (fun d => gain (ix2 0 d))
    (fun d => Ideal.ofBits FTy.f32 1065353216#32 + sc (ix3 b 0 d)) (fun d => sh (ix3 b 0 d))

/-- A row times column `l` of a matrix of `N` columns. -/
def through {N : Nat} (h : Fin 2048 → EReal) (w : (⟨2, ![2048, N]⟩ : Shape).Idx → EReal) (l : Fin N) : EReal :=
  ∑ d, h d * w (ix2 d l)

/-- One head of a gated output: its row normalised, scaled by the head's gain and multiplied with the gate's
    `z · sigmoid z`. -/
def headAt {N : Nat} (n : BitVec 32) (o z g : Fin N → EReal) (j : Fin N) : EReal :=
  o j * root n o * g j * (z j * Ideal.logistic (z j))

/-- Head `h` of `N` lanes of a row of `M` lanes. -/
def lanes {M : Nat} (N K : Nat) (hM : K * N ≤ M) (x : Fin M → EReal) (h : Fin K) (j : Fin N) : EReal :=
  x ⟨h.val * N + j.val, by
    have h1 := h.isLt
    have h2 := j.isLt
    have h3 : (h.val + 1) * N ≤ K * N := Nat.mul_le_mul_right N h1
    rw [Nat.add_mul] at h3
    omega⟩

/-- The residual: the row, plus the gate times the normalised product and its gain. -/
def finish (x gate gain y : Fin 2048 → EReal) (l : Fin 2048) : EReal :=
  x l + gate l * (y l * root 1157627904#32 y * gain l)

end Cert.MixMath

end
-- ==== Proof.Mix.EvenIn.lean ====
/- The array that the even layer's input projection leaves. -/
module

public import proofs.«01_k».proof.Proof.Gen.EvenInIdeal.Value
public import proofs.«01_k».proof.Proof.Gen.EvenIn.Frame
public import proofs.«01_k».proof.Proof.Gen.EvenInRefIdeal.Read
public import proofs.«01_k».proof.Proof.Gen.EvenInRefIdeal.Run
public import proofs.«01_k».proof.Proof.Mix.Math
public import proofs.«01_k».proof.Defs
public import Idealize.ShloMosaic.Lib.Quiescent
public import Idealize.ShloMosaic.Lib.Pipeline.ValueKit
public import Idealize.ShloMosaic.Lib.Pipeline.ReadBack

@[expose] public section

set_option maxRecDepth 16384

noncomputable section

namespace Cert.EvenInIdeal.Blocks

open Cert.EvenInIdeal Cert.EvenInIdeal.Gen Idealize.ShloMosaic Idealize.ShloMosaic.TcCoe Idealize.SL.Sem Cert.MixMath
open Idealize.ShloMosaic.Pipeline (Dat)

section
variable (x0 : Vec Ideal S1x1024x2048 .f32) (x1 : Vec Ideal S1x2048 .f32) (x2 x3 : Vec Ideal S1x1x2048 .f32)
  (acc : Vec Ideal S1024x2048 .bf16) (x4 : Vec Ideal S2048x768 .bf16)

/-- The rows that the first point of a run stores. -/
theorem rows_apply (r : Fin 1024) (d : Fin 2048) :
    k0_pay1 x0 x1 x2 x3 (ix2 r d)
      = modulated (fun d => x0 (ix3 0 r d)) (fun d => x1 (ix2 0 d)) (fun d => x2 (ix3 0 0 d)) (fun d => x3 (ix3 0 0 d)) d := by
  unfold k0_pay1
  pointwise
  rfl

/-- The product that every point stores. -/
theorem product_apply (r : Fin 1024) (l : Fin 768) :
    k0_pay2 acc x4 (ix3 0 r l) = through (fun d => acc (ix2 r d)) x4 l := by
  unfold k0_pay2
  pointwise
  rfl

end

variable (m : (ℓ : Loc nD τ sig) → Buf (Elt Ideal) ℓ) (c : Dev nD)

abbrev aX : S5x4096x2048.Idx → EReal := m ((c.tc : Thread nD τ).loc main_arg0)
abbrev aGain : S1x2048.Idx → EReal := m ((c.tc : Thread nD τ).loc main_arg1)
abbrev aSc : S5x1x2048.Idx → EReal := m ((c.tc : Thread nD τ).loc main_arg2)
abbrev aSh : S5x1x2048.Idx → EReal := m ((c.tc : Thread nD τ).loc main_arg3)
abbrev aW : S2048x5376.Idx → EReal := m ((c.tc : Thread nD τ).loc main_arg4)

/-- The scale that the host prepares. -/
theorem scale_eq (b : Fin 5) (d : Fin 2048) :
    V m c main_v1 (ix3 b 0 d) = Ideal.ofBits FTy.f32 1065353216#32 + aSc m c (ix3 b 0 d) := by
  dsimp only [V, hostOps0]
  after_results_simp
  pointwise

theorem idx0 : ∀ t : Fin cfg0.N, win0_0.index t = ![t.val / 28, t.val / 7 % 4, 0] :=
  (by decide +kernel : ∀ t : Fin grid0.N, win0_0.index t = ![t.val / 28, t.val / 7 % 4, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val / 28, 0, 0] :=
  (by decide +kernel : ∀ t : Fin grid0.N, win0_2.index t = ![t.val / 28, 0, 0])
theorem idx3 : ∀ t : Fin cfg0.N, win0_3.index t = ![t.val / 28, 0, 0] :=
  (by decide +kernel : ∀ t : Fin grid0.N, win0_3.index t = ![t.val / 28, 0, 0])
theorem idx4 : ∀ t : Fin cfg0.N, win0_4.index t = ![0, t.val % 7] :=
  (by decide +kernel : ∀ t : Fin grid0.N, win0_4.index t = ![0, t.val % 7])
theorem idx5 : ∀ t : Fin cfg0.N, win0_5.index t = ![t.val / 28, t.val / 7 % 4, t.val % 7] :=
  (by decide +kernel : ∀ t : Fin grid0.N, win0_5.index t = ![t.val / 28, t.val / 7 % 4, t.val % 7])

theorem point_lt {n : ℕ} (h : n < cfg0.N) : n < 140 := by
  have e : cfg0.N = 140 := Gen.N_0
  omega

/-- The segment and the row of a point. -/
abbrev seg (n : ℕ) (h : n < cfg0.N) : Fin 5 := ⟨n / 28, by have := point_lt h; omega⟩
abbrev row (n : ℕ) (r : Fin 1024) : Fin 4096 := ⟨n / 7 % 4 * 1024 + r.val, by omega⟩

variable (t : Fin cfg0.N)

theorem blk0 (r : Fin 1024) (d : Fin 2048) :
    iblk m c 0 t (ix3 0 r d) = aX m c (ix3 (seg t.val t.isLt) (row t.val r) d) := by
  have h := V_main_arg0 m c
  blk_ext [iblk, h, idx0 t]

theorem blk1 (d : Fin 2048) : iblk m c 1 t (ix2 0 d) = aGain m c (ix2 0 d) := by
  have h := V_main_arg1 m c
  blk_ext [iblk, h, idx1 t]

theorem blk2 (d : Fin 2048) : iblk m c 2 t (ix3 0 0 d)
    = Ideal.ofBits FTy.f32 1065353216#32 + aSc m c (ix3 (seg t.val t.isLt) 0 d) := by
  rw [← scale_eq m c (seg t.val t.isLt) d]
  blk_ext [iblk, idx2 t]

theorem blk3 (d : Fin 2048) : iblk m c 3 t (ix3 0 0 d) = aSh m c (ix3 (seg t.val t.isLt) 0 d) := by
  have h := V_main_arg3 m c
  blk_ext [iblk, h, idx3 t]

theorem blk4 (d : Fin 2048) (l : Fin 768) : iblk m c 4 t (ix2 d l)
    = aW m c (ix2 d (⟨t.val % 7 * 768 + l.val, by omega⟩ : Fin 5376)) := by
  have h := V_main_arg4 m c
  blk_ext [iblk, h, idx4 t]

/-- What the scratch holds after a point: the modulated rows of the point's segment and rows. -/
theorem scratch_eq : ∀ (n : ℕ) (h : n < cfg0.N) (r : Fin 1024) (d : Fin 2048),
    (outsAt0 m c n h).2 (ix2 r d) = hAt (aX m c) (aGain m c) (aSc m c) (aSh m c) (seg n h) (row n r) d := by
  intro n
  induction n with
  | zero =>
    intro h r d
    rw [outsAt0_A m c ⟨0, h⟩ (Nat.zero_mod _)]
    frame_out
    rw [rows_apply]
    simp only [blk0, blk1, blk2, blk3]
    rfl
  | succ n ih =>
    intro h r d
    by_cases h0 : (n + 1) % 7 = 0
    · rw [outsAt0_A m c ⟨n + 1, h⟩ h0]
      frame_out
      rw [rows_apply]
      simp only [blk0, blk1, blk2, blk3]
      rfl
    · rw [outsAt0_B m c ⟨n + 1, h⟩ h0]
      refine (ih (Nat.lt_of_succ_lt h) r d).trans ?_
      have e1 : n / 28 = (n + 1) / 28 := by omega
      have e2 : n / 7 = (n + 1) / 7 := by omega
      simp only [seg, row, e1, e2]

/-- The array the kernel leaves. -/
def left : S5x4096x5376.Idx → EReal := fun i =>
  through (hAt (aX m c) (aGain m c) (aSc m c) (aSh m c) (i 0) (i 1)) (aW m c) (i 2)

theorem point_eq (r : Fin 1024) (l : Fin 768) :
    (outsAt0 m c t.val t.isLt).1 (ix3 0 r l)
      = left m c (ix3 (seg t.val t.isLt) (row t.val r) (⟨t.val % 7 * 768 + l.val, by omega⟩ : Fin 5376)) := by
  have hp : (outsAt0 m c t.val t.isLt).1 = k0_pay2 (outsAt0 m c t.val t.isLt).2 (iblk m c 4 t) := by
    by_cases h0 : t.val % 7 = 0
    · rw [outsAt0_A m c t h0]
      frame_out
    · rw [outsAt0_B m c t h0]
      unfold sout0_B_0
      frame_out
      simp only [read_unread_whole]
  rw [hp, product_apply]
  unfold left through
  refine Finset.sum_congr rfl fun d _ => ?_
  exact congrArg₂ (· * ·) (scratch_eq m c t.val t.isLt r d) (blk4 m c t d l)

theorem final : (Gen.dats m 0 c).arrAt 5 cfg0.N = left m c := by
  refine (Gen.dats m 0 c).arrAt_eq_of_covers 5 _ (by decide +kernel) fun t hf y => ?_
  blk_simp
  rw [after0_5]
  obtain ⟨r, hr⟩ : ∃ r : Fin 1024, r.val = (y (1 : Fin 3)).val := ⟨⟨_, (y (1 : Fin 3)).isLt⟩, rfl⟩
  obtain ⟨l, hl⟩ : ∃ l : Fin 768, l.val = (y (2 : Fin 3)).val := ⟨⟨_, (y (2 : Fin 3)).isLt⟩, rfl⟩
  have hy : y = ix3 0 r l := by blk_ext [hr, hl]
  have he : (win0_5.blk t).view.emb y = ix3 (seg t.val t.isLt) (row t.val r)
      (⟨t.val % 7 * 768 + l.val, by omega⟩ : Fin 5376) := by
    blk_ext [idx5 t, hr, hl]
  rw [he]
  exact (congrArg (outsAt0 m c t.val t.isLt).1 hy).trans (point_eq m c t r l)

end Cert.EvenInIdeal.Blocks

namespace Cert.EvenInRefIdeal.Rows

open Cert.EvenInRefIdeal Cert.EvenInRefIdeal.Gen Cert.EvenInRefIdeal.Read Idealize.ShloMosaic Cert.MixMath

variable (x0 : (⟨S5x4096x2048, .f32⟩ : BufTy).Contents (Elt Ideal)) (x1 : (⟨S1x2048, .f32⟩ : BufTy).Contents (Elt Ideal))
  (x2 x3 : (⟨S5x1x2048, .f32⟩ : BufTy).Contents (Elt Ideal)) (x4 : (⟨S2048x5376, .bf16⟩ : BufTy).Contents (Elt Ideal))

theorem root_apply (b : Fin 5) (p : Fin 4096) :
    val_main_v8 (F := Ideal) x0 (ix3 b p 0) = root 1157627904#32 (fun d => x0 (ix3 b p d)) := by
  simp only [val_main_v8, val_main_v7, val_main_v6, val_main_v5, val_main_v4, val_main_v3, val_main_v2, val_main_v1,
    val_main_cst_1, val_main_cst_0, val_main_cst]
  pointwise
  rfl

theorem h_apply (b : Fin 5) (p : Fin 4096) (d : Fin 2048) :
    val_main_v19 (F := Ideal) x0 x1 x2 x3 (ix3 b p d) = hAt x0 x1 x2 x3 b p d := by
  unfold hAt
  rw [modulated_eq, ← root_apply]
  simp only [val_main_v19, val_main_v18, val_main_v17, val_main_v16, val_main_v15, val_main_v14, val_main_v13,
    val_main_v12, val_main_v11, val_main_v10, val_main_v9, val_main_v0, val_main_cst_2]
  generalize val_main_v8 (F := Ideal) x0 = y
  pointwise

theorem result_apply (b : Fin 5) (p : Fin 4096) (l : Fin 5376) :
    val_main_v21 (F := Ideal) x0 x1 x2 x3 x4 (ix3 b p l) = through (hAt x0 x1 x2 x3 b p) x4 l := by
  unfold through
  simp only [← h_apply, val_main_v21, val_main_v20]
  generalize val_main_v19 (F := Ideal) x0 x1 x2 x3 = y
  pointwise

end Cert.EvenInRefIdeal.Rows

namespace Cert.EvenInClaim

open Idealize.ShloMosaic Idealize.ShloMosaic.TcCoe Idealize.SL.Sem Cert.MixMath

theorem frame : Cert.quiescent_EvenIn := fun m ρ _ => Cert.EvenIn.Gen.frame m ρ

theorem frame_ideal : Cert.quiescent_EvenInIdeal := fun m ρ _ => Cert.EvenInIdeal.Gen.frame m ρ

theorem frame_reference : Cert.quiescent_EvenInRefIdeal := fun m ρ _ =>
  (θ_run Cert.EvenInRefIdeal.defs _ _).mono
    (fun r h => ⟨fun c => (h c).2, sem_eq_zero_of_no_sems (by decide) r.2⟩)
    (Cert.EvenInRefIdeal.Value.run (F := Ideal) m ρ)

theorem algebraic : Cert.algebraic_EvenInIdeal_EvenInRefIdeal := by
  intro m ρ m' ρ' hpre hagree
  refine ⟨fun c => Cert.EvenInIdeal.Blocks.left m c, ?_, ?_⟩
  · exact (θ_run Cert.EvenInIdeal.defs _ _).mono
      (fun _ h c => ⟨(h c).1.trans (Cert.EvenInIdeal.Blocks.final m c), (h c).2⟩)
      (Cert.EvenInIdeal.Value.run_blocks (F := Ideal) m ρ)
  · refine (θ_run Cert.EvenInRefIdeal.defs _ _).mono (fun _ h c => ⟨(h c).1.trans ?_, (h c).2⟩)
      (Cert.EvenInRefIdeal.Value.run (F := Ideal) m' ρ')
    obtain ⟨e0, e1, e2, e3, e4⟩ := hagree c
    rw [Cert.EvenInRefIdeal.Read.val_main_v21_eq, e0, e1, e2, e3, e4]
    funext i
    have hi : i = ix3 (i 0) (i 1) (i 2) := by
      funext a
      match a with
      | ⟨0, _⟩ => rfl
      | ⟨1, _⟩ => rfl
      | ⟨2, _⟩ => rfl
    exact (congrArg _ hi).trans (Cert.EvenInRefIdeal.Rows.result_apply _ _ _ _ _ (i 0) (i 1) (i 2))

end Cert.EvenInClaim

end
-- ==== Proof.Mix.OddIn.lean ====
/- The array that the odd layer's input projection leaves. -/
module

public import proofs.«01_k».proof.Proof.Gen.OddInIdeal.Value
public import proofs.«01_k».proof.Proof.Gen.OddIn.Frame
public import proofs.«01_k».proof.Proof.Gen.OddInRefIdeal.Read
public import proofs.«01_k».proof.Proof.Gen.OddInRefIdeal.Run
public import proofs.«01_k».proof.Proof.Mix.Math
public import proofs.«01_k».proof.Defs
public import Idealize.ShloMosaic.Lib.Quiescent
public import Idealize.ShloMosaic.Lib.Pipeline.ValueKit
public import Idealize.ShloMosaic.Lib.Pipeline.ReadBack

@[expose] public section

set_option maxRecDepth 16384

noncomputable section

namespace Cert.OddInIdeal.Blocks

open Cert.OddInIdeal Cert.OddInIdeal.Gen Idealize.ShloMosaic Idealize.ShloMosaic.TcCoe Idealize.SL.Sem Cert.MixMath
open Idealize.ShloMosaic.Pipeline (Dat)

section
variable (x0 : Vec Ideal S1x1024x2048 .f32) (x1 : Vec Ideal S1x2048 .f32) (x2 x3 : Vec Ideal S1x1x2048 .f32)
  (acc : Vec Ideal S1024x2048 .bf16) (x4 : Vec Ideal S2048x768 .bf16)

/-- The rows that the first point of a run stores. -/
theorem rows_apply (r : Fin 1024) (d : Fin 2048) :
    k0_pay1 x0 x1 x2 x3 (ix2 r d)
      = modulated (fun d => x0 (ix3 0 r d)) (fun d => x1 (ix2 0 d)) (fun d => x2 (ix3 0 0 d)) (fun d => x3 (ix3 0 0 d)) d := by
  unfold k0_pay1
  pointwise
  rfl

/-- The product that every point stores. -/
theorem product_apply (r : Fin 1024) (l : Fin 768) :
    k0_pay2 acc x4 (ix3 0 r l) = through (fun d => acc (ix2 r d)) x4 l := by
  unfold k0_pay2
  pointwise
  rfl

end

variable (m : (ℓ : Loc nD τ sig) → Buf (Elt Ideal) ℓ) (c : Dev nD)

abbrev aX : S5x4096x2048.Idx → EReal := m ((c.tc : Thread nD τ).loc main_arg0)
abbrev aGain : S1x2048.Idx → EReal := m ((c.tc : Thread nD τ).loc main_arg1)
abbrev aSc : S5x1x2048.Idx → EReal := m ((c.tc : Thread nD τ).loc main_arg2)
abbrev aSh : S5x1x2048.Idx → EReal := m ((c.tc : Thread nD τ).loc main_arg3)
abbrev aW : S2048x6144.Idx → EReal := m ((c.tc : Thread nD τ).loc main_arg4)

/-- The scale that the host prepares. -/
theorem scale_eq (b : Fin 5) (d : Fin 2048) :
    V m c main_v1 (ix3 b 0 d) = Ideal.ofBits FTy.f32 1065353216#32 + aSc m c (ix3 b 0 d) := by
  dsimp only [V, hostOps0]
  after_results_simp
  pointwise

theorem idx0 : ∀ t : Fin cfg0.N, win0_0.index t = ![t.val / 32, t.val / 8 % 4, 0] :=
  (by decide +kernel : ∀ t : Fin grid0.N, win0_0.index t = ![t.val / 32, t.val / 8 % 4, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val / 32, 0, 0] :=
  (by decide +kernel : ∀ t : Fin grid0.N, win0_2.index t = ![t.val / 32, 0, 0])
theorem idx3 : ∀ t : Fin cfg0.N, win0_3.index t = ![t.val / 32, 0, 0] :=
  (by decide +kernel : ∀ t : Fin grid0.N, win0_3.index t = ![t.val / 32, 0, 0])
theorem idx4 : ∀ t : Fin cfg0.N, win0_4.index t = ![0, t.val % 8] :=
  (by decide +kernel : ∀ t : Fin grid0.N, win0_4.index t = ![0, t.val % 8])
theorem idx5 : ∀ t : Fin cfg0.N, win0_5.index t = ![t.val / 32, t.val / 8 % 4, t.val % 8] :=
  (by decide +kernel : ∀ t : Fin grid0.N, win0_5.index t = ![t.val / 32, t.val / 8 % 4, t.val % 8])

theorem point_lt {n : ℕ} (h : n < cfg0.N) : n < 160 := by
  have e : cfg0.N = 160 := Gen.N_0
  omega

/-- The segment and the row of a point. -/
abbrev seg (n : ℕ) (h : n < cfg0.N) : Fin 5 := ⟨n / 32, by have := point_lt h; omega⟩
abbrev row (n : ℕ) (r : Fin 1024) : Fin 4096 := ⟨n / 8 % 4 * 1024 + r.val, by omega⟩

variable (t : Fin cfg0.N)

theorem blk0 (r : Fin 1024) (d : Fin 2048) :
    iblk m c 0 t (ix3 0 r d) = aX m c (ix3 (seg t.val t.isLt) (row t.val r) d) := by
  have h := V_main_arg0 m c
  blk_ext [iblk, h, idx0 t]

theorem blk1 (d : Fin 2048) : iblk m c 1 t (ix2 0 d) = aGain m c (ix2 0 d) := by
  have h := V_main_arg1 m c
  blk_ext [iblk, h, idx1 t]

theorem blk2 (d : Fin 2048) : iblk m c 2 t (ix3 0 0 d)
    = Ideal.ofBits FTy.f32 1065353216#32 + aSc m c (ix3 (seg t.val t.isLt) 0 d) := by
  rw [← scale_eq m c (seg t.val t.isLt) d]
  blk_ext [iblk, idx2 t]

theorem blk3 (d : Fin 2048) : iblk m c 3 t (ix3 0 0 d) = aSh m c (ix3 (seg t.val t.isLt) 0 d) := by
  have h := V_main_arg3 m c
  blk_ext [iblk, h, idx3 t]

theorem blk4 (d : Fin 2048) (l : Fin 768) : iblk m c 4 t (ix2 d l)
    = aW m c (ix2 d (⟨t.val % 8 * 768 + l.val, by omega⟩ : Fin 6144)) := by
  have h := V_main_arg4 m c
  blk_ext [iblk, h, idx4 t]

/-- What the scratch holds after a point: the modulated rows of the point's segment and rows. -/
theorem scratch_eq : ∀ (n : ℕ) (h : n < cfg0.N) (r : Fin 1024) (d : Fin 2048),
    (outsAt0 m c n h).2 (ix2 r d) = hAt (aX m c) (aGain m c) (aSc m c) (aSh m c) (seg n h) (row n r) d := by
  intro n
  induction n with
  | zero =>
    intro h r d
    rw [outsAt0_A m c ⟨0, h⟩ (Nat.zero_mod _)]
    frame_out
    rw [rows_apply]
    simp only [blk0, blk1, blk2, blk3]
    rfl
  | succ n ih =>
    intro h r d
    by_cases h0 : (n + 1) % 8 = 0
    · rw [outsAt0_A m c ⟨n + 1, h⟩ h0]
      frame_out
      rw [rows_apply]
      simp only [blk0, blk1, blk2, blk3]
      rfl
    · rw [outsAt0_B m c ⟨n + 1, h⟩ h0]
      refine (ih (Nat.lt_of_succ_lt h) r d).trans ?_
      have e1 : n / 32 = (n + 1) / 32 := by omega
      have e2 : n / 8 = (n + 1) / 8 := by omega
      simp only [seg, row, e1, e2]

/-- The array the kernel leaves. -/
def left : S5x4096x6144.Idx → EReal := fun i =>
  through (hAt (aX m c) (aGain m c) (aSc m c) (aSh m c) (i 0) (i 1)) (aW m c) (i 2)

theorem point_eq (r : Fin 1024) (l : Fin 768) :
    (outsAt0 m c t.val t.isLt).1 (ix3 0 r l)
      = left m c (ix3 (seg t.val t.isLt) (row t.val r) (⟨t.val % 8 * 768 + l.val, by omega⟩ : Fin 6144)) := by
  have hp : (outsAt0 m c t.val t.isLt).1 = k0_pay2 (outsAt0 m c t.val t.isLt).2 (iblk m c 4 t) := by
    by_cases h0 : t.val % 8 = 0
    · rw [outsAt0_A m c t h0]
      frame_out
    · rw [outsAt0_B m c t h0]
      unfold sout0_B_0
      frame_out
      simp only [read_unread_whole]
  rw [hp, product_apply]
  unfold left through
  refine Finset.sum_congr rfl fun d _ => ?_
  exact congrArg₂ (· * ·) (scratch_eq m c t.val t.isLt r d) (blk4 m c t d l)

theorem final : (Gen.dats m 0 c).arrAt 5 cfg0.N = left m c := by
  refine (Gen.dats m 0 c).arrAt_eq_of_covers 5 _ (by decide +kernel) fun t hf y => ?_
  blk_simp
  rw [after0_5]
  obtain ⟨r, hr⟩ : ∃ r : Fin 1024, r.val = (y (1 : Fin 3)).val := ⟨⟨_, (y (1 : Fin 3)).isLt⟩, rfl⟩
  obtain ⟨l, hl⟩ : ∃ l : Fin 768, l.val = (y (2 : Fin 3)).val := ⟨⟨_, (y (2 : Fin 3)).isLt⟩, rfl⟩
  have hy : y = ix3 0 r l := by blk_ext [hr, hl]
  have he : (win0_5.blk t).view.emb y = ix3 (seg t.val t.isLt) (row t.val r)
      (⟨t.val % 8 * 768 + l.val, by omega⟩ : Fin 6144) := by
    blk_ext [idx5 t, hr, hl]
  rw [he]
  exact (congrArg (outsAt0 m c t.val t.isLt).1 hy).trans (point_eq m c t r l)

end Cert.OddInIdeal.Blocks

namespace Cert.OddInRefIdeal.Rows

open Cert.OddInRefIdeal Cert.OddInRefIdeal.Gen Cert.OddInRefIdeal.Read Idealize.ShloMosaic Cert.MixMath

variable (x0 : (⟨S5x4096x2048, .f32⟩ : BufTy).Contents (Elt Ideal)) (x1 : (⟨S1x2048, .f32⟩ : BufTy).Contents (Elt Ideal))
  (x2 x3 : (⟨S5x1x2048, .f32⟩ : BufTy).Contents (Elt Ideal)) (x4 : (⟨S2048x6144, .bf16⟩ : BufTy).Contents (Elt Ideal))

theorem root_apply (b : Fin 5) (p : Fin 4096) :
    val_main_v8 (F := Ideal) x0 (ix3 b p 0) = root 1157627904#32 (fun d => x0 (ix3 b p d)) := by
  simp only [val_main_v8, val_main_v7, val_main_v6, val_main_v5, val_main_v4, val_main_v3, val_main_v2, val_main_v1,
    val_main_cst_1, val_main_cst_0, val_main_cst]
  pointwise
  rfl

theorem h_apply (b : Fin 5) (p : Fin 4096) (d : Fin 2048) :
    val_main_v19 (F := Ideal) x0 x1 x2 x3 (ix3 b p d) = hAt x0 x1 x2 x3 b p d := by
  unfold hAt
  rw [modulated_eq, ← root_apply]
  simp only [val_main_v19, val_main_v18, val_main_v17, val_main_v16, val_main_v15, val_main_v14, val_main_v13,
    val_main_v12, val_main_v11, val_main_v10, val_main_v9, val_main_v0, val_main_cst_2]
  generalize val_main_v8 (F := Ideal) x0 = y
  pointwise

theorem result_apply (b : Fin 5) (p : Fin 4096) (l : Fin 6144) :
    val_main_v21 (F := Ideal) x0 x1 x2 x3 x4 (ix3 b p l) = through (hAt x0 x1 x2 x3 b p) x4 l := by
  unfold through
  simp only [← h_apply, val_main_v21, val_main_v20]
  generalize val_main_v19 (F := Ideal) x0 x1 x2 x3 = y
  pointwise

end Cert.OddInRefIdeal.Rows

namespace Cert.OddInClaim

open Idealize.ShloMosaic Idealize.ShloMosaic.TcCoe Idealize.SL.Sem Cert.MixMath

theorem frame : Cert.quiescent_OddIn := fun m ρ _ => Cert.OddIn.Gen.frame m ρ

theorem frame_ideal : Cert.quiescent_OddInIdeal := fun m ρ _ => Cert.OddInIdeal.Gen.frame m ρ

theorem frame_reference : Cert.quiescent_OddInRefIdeal := fun m ρ _ =>
  (θ_run Cert.OddInRefIdeal.defs _ _).mono
    (fun r h => ⟨fun c => (h c).2, sem_eq_zero_of_no_sems (by decide) r.2⟩)
    (Cert.OddInRefIdeal.Value.run (F := Ideal) m ρ)

theorem algebraic : Cert.algebraic_OddInIdeal_OddInRefIdeal := by
  intro m ρ m' ρ' hpre hagree
  refine ⟨fun c => Cert.OddInIdeal.Blocks.left m c, ?_, ?_⟩
  · exact (θ_run Cert.OddInIdeal.defs _ _).mono
      (fun _ h c => ⟨(h c).1.trans (Cert.OddInIdeal.Blocks.final m c), (h c).2⟩)
      (Cert.OddInIdeal.Value.run_blocks (F := Ideal) m ρ)
  · refine (θ_run Cert.OddInRefIdeal.defs _ _).mono (fun _ h c => ⟨(h c).1.trans ?_, (h c).2⟩)
      (Cert.OddInRefIdeal.Value.run (F := Ideal) m' ρ')
    obtain ⟨e0, e1, e2, e3, e4⟩ := hagree c
    rw [Cert.OddInRefIdeal.Read.val_main_v21_eq, e0, e1, e2, e3, e4]
    funext i
    have hi : i = ix3 (i 0) (i 1) (i 2) := by
      funext a
      match a with
      | ⟨0, _⟩ => rfl
      | ⟨1, _⟩ => rfl
      | ⟨2, _⟩ => rfl
    exact (congrArg _ hi).trans (Cert.OddInRefIdeal.Rows.result_apply _ _ _ _ _ (i 0) (i 1) (i 2))

end Cert.OddInClaim

end
-- ==== Proof.Mix.EvenOut.lean ====
/- The array that the even layer's output projection leaves. -/
module

public import proofs.«01_k».proof.Proof.Gen.EvenOutIdeal.Value
public import proofs.«01_k».proof.Proof.Gen.EvenOut.Frame
public import proofs.«01_k».proof.Proof.Gen.EvenOutRefIdeal.Read
public import proofs.«01_k».proof.Proof.Gen.EvenOutRefIdeal.Run
public import proofs.«01_k».proof.Proof.Mix.Math
public import proofs.«01_k».proof.Defs
public import Idealize.ShloMosaic.Lib.Quiescent
public import Idealize.ShloMosaic.Lib.Pipeline.ValueKit
public import Idealize.ShloMosaic.Lib.Pipeline.ReadBack

@[expose] public section

set_option maxRecDepth 16384

noncomputable section

namespace Cert.EvenOutMath

open Idealize.ShloMosaic Cert.MixMath

/-- The normalised and gated row, head after head. -/
def gated (o z : Fin 1536 → EReal) (g : Fin 256 → EReal) (k : Fin 1536) : EReal :=
  headAt 1132462080#32 (lanes 256 6 (le_refl _) o ⟨k.val / 256, by omega⟩) (lanes 256 6 (le_refl _) z ⟨k.val / 256, by omega⟩) g
    ⟨k.val % 256, by omega⟩

/-- The product of the joined row with column `n` of the weights. -/
def joined (o z : Fin 1536 → EReal) (g : Fin 256 → EReal) (b : Fin 512 → EReal)
    (w : (⟨2, ![2048, 2048]⟩ : Shape).Idx → EReal) (n : Fin 2048) : EReal :=
  (∑ k : Fin 1536, gated o z g k * w (ix2 (⟨k.val, by omega⟩ : Fin 2048) n))
    + ∑ k : Fin 512, b k * w (ix2 (⟨1536 + k.val, by omega⟩ : Fin 2048) n)

/-- Entry `n` of token `p` of segment `b` that the projection leaves, from the arrays. -/
def outAt (f b' : (⟨3, ![5, 4096, 1536]⟩ : Shape).Idx → EReal) (z : (⟨3, ![5, 4096, 5376]⟩ : Shape).Idx → EReal)
    (g : (⟨2, ![1, 256]⟩ : Shape).Idx → EReal) (other : (⟨3, ![5, 4096, 512]⟩ : Shape).Idx → EReal)
    (w : (⟨2, ![2048, 2048]⟩ : Shape).Idx → EReal) (x : (⟨3, ![5, 4096, 2048]⟩ : Shape).Idx → EReal)
    (gain : (⟨2, ![1, 2048]⟩ : Shape).Idx → EReal) (gate : (⟨3, ![5, 1, 2048]⟩ : Shape).Idx → EReal)
    (b : Fin 5) (p : Fin 4096) (n : Fin 2048) : EReal :=
  finish (fun l => x (ix3 b p l)) (fun l => gate (ix3 b 0 l)) (fun l => gain (ix2 0 l))
    (joined (fun k => f (ix3 b p k) + b' (ix3 b p k)) (fun k => z (ix3 b p (⟨3072 + k.val, by omega⟩ : Fin 5376)))
      (fun j => g (ix2 0 j)) (fun k => other (ix3 b p k)) w) n

end Cert.EvenOutMath

namespace Cert.EvenOutIdeal.Blocks

open Cert.EvenOutIdeal Cert.EvenOutIdeal.Gen Idealize.ShloMosaic Idealize.ShloMosaic.TcCoe Idealize.SL.Sem Cert.MixMath
open Cert.EvenOutMath
open Idealize.ShloMosaic.Pipeline (Dat)

section
variable (x0 x1 x2 : Vec Ideal S1x256x1536 .f32) (x3 : Vec Ideal S1x256 .f32) (x4 : Vec Ideal S1x256x512 .f32)
  (wa : FVec Ideal S1536x2048 .bf16) (wb : FVec Ideal S512x2048 .bf16)
  (x6 : Vec Ideal S1x256x2048 .f32) (x7 : Vec Ideal S1x2048 .f32) (x8 : Vec Ideal S1x1x2048 .f32)
  (v4 v6 : FVec Ideal S256x1536 .f32) (f0 f1 f2 f3 f4 f5 : FVec Ideal S256x256 .bf16)

theorem sum_apply (r : Fin 256) (k : Fin 1536) : k0_pay2 x0 x1 (ix2 r k) = x0 (ix3 0 r k) + x1 (ix3 0 r k) := by
  unfold k0_pay2
  pointwise

theorem gate_apply (r : Fin 256) (k : Fin 1536) : k0_pay3 x2 (ix2 r k) = x2 (ix3 0 r k) := by
  unfold k0_pay3
  pointwise

/-- A head of the block's row `r`. -/
abbrev headB (r : Fin 256) (h : Fin 6) (j : Fin 256) : EReal :=
  headAt 1132462080#32 (lanes 256 6 (le_refl _) (fun k => v4 (ix2 r k)) h) (lanes 256 6 (le_refl _) (fun k => v6 (ix2 r k)) h)
    (fun j => x3 (ix2 0 j)) j

theorem head0 (r : Fin 256) (j : Fin 256) :
    k0_pay4 x0 x1 x2 x3 (ix2 r j) = headB x3 (k0_pay2 x0 x1) (k0_pay3 x2) r 0 j := by
  unfold k0_pay4
  generalize k0_pay2 x0 x1 = v4
  generalize k0_pay3 x2 = v6
  pointwise
  unfold headB headAt lanes root
  have e : ((0 : Fin 6) : ℕ) * 256 = 0 := rfl
  simp only [e, Nat.zero_add]

theorem head1 (r : Fin 256) (j : Fin 256) :
    k0_pay7 (k0_pay5 x2) (k0_pay6 x0 x1) x3 (ix2 r j) = headB x3 (k0_pay2 x0 x1) (k0_pay3 x2) r 1 j := by
  unfold k0_pay7 k0_pay5 k0_pay6
  generalize k0_pay2 x0 x1 = v4
  generalize k0_pay3 x2 = v6
  pointwise
  unfold headB headAt lanes root
  simp only [Nat.add_comm]
  rfl

theorem head2 (r : Fin 256) (j : Fin 256) : k0_pay8 v4 v6 x3 (ix2 r j) = headB x3 v4 v6 r 2 j := by
  unfold k0_pay8
  pointwise
  unfold headB headAt lanes root
  simp only [Nat.add_comm]
  rfl

theorem head3 (r : Fin 256) (j : Fin 256) : k0_pay9 v4 v6 x3 (ix2 r j) = headB x3 v4 v6 r 3 j := by
  unfold k0_pay9
  pointwise
  unfold headB headAt lanes root
  simp only [Nat.add_comm]
  rfl

/-- The last two heads, as the third part of the body computes them. -/
def part4 : FVec Ideal S256x256 .bf16 :=
  truncf .bf16 (mulf (mulf (mulf (k0_pay11 v4) (broadcastTo S256x256 (rsqrt (addf (divf (k0_pay12 v4)
    (broadcast S256x1 (Scalar.ofBits (F := Ideal) .f32 0x43800000#32))) (broadcast S256x1 (Scalar.ofBits (F := Ideal) .f32 0x358637BD#32)))) broadcasts_S256x1_S256x256))
    (broadcastTo S256x256 x3 broadcasts_S1x256_S256x256)) (mulf (k0_pay10 v6) (logistic (k0_pay10 v6)))) bitsLt_bf16_f32

def part5 : FVec Ideal S256x256 .bf16 :=
  have v102 := extractStridedSlice S256x256 ![0, 1280] v6 slices_S256x1536_o0_1280_S256x256
  have v103 := extractStridedSlice S256x256 ![0, 1280] v4 slices_S256x1536_o0_1280_S256x256
  truncf .bf16 (mulf (mulf (mulf v103 (broadcastTo S256x256 (rsqrt (addf (divf (shapeCast S256x1
    (multiReduction .add [1] S256 (mulf v103 v103) 0x00000000#32 reduces_S256x256_S256 (.inl rfl) rfl) shapeCasts_S256_S256x1)
    (broadcast S256x1 (Scalar.ofBits (F := Ideal) .f32 0x43800000#32))) (broadcast S256x1 (Scalar.ofBits (F := Ideal) .f32 0x358637BD#32)))) broadcasts_S256x1_S256x256))
    (broadcastTo S256x256 x3 broadcasts_S1x256_S256x256)) (mulf v102 (logistic v102))) bitsLt_bf16_f32

theorem head4 (r : Fin 256) (j : Fin 256) : part4 x3 v4 v6 (ix2 r j) = headB x3 v4 v6 r 4 j := by
  unfold part4 k0_pay12 k0_pay11 k0_pay10
  pointwise
  unfold headB headAt lanes root
  simp only [Nat.add_comm]
  rfl

theorem head5 (r : Fin 256) (j : Fin 256) : part5 x3 v4 v6 (ix2 r j) = headB x3 v4 v6 r 5 j := by
  unfold part5
  pointwise
  unfold headB headAt lanes root
  simp only [Nat.add_comm]
  rfl

/-- The heads side by side. -/
abbrev together : FVec Ideal S256x1536 .bf16 :=
  concatenate S256x1536 1 [⟨S256x256, f0⟩, ⟨S256x256, f1⟩, ⟨S256x256, f2⟩, ⟨S256x256, f3⟩, ⟨S256x256, f4⟩, ⟨S256x256, f5⟩]
    concatenates_S256x256_S256x256_S256x256_S256x256_S256x256_S256x256_S256x1536_d1

theorem together_apply (H : Fin 256 → Fin 6 → Fin 256 → EReal) (h0 : ∀ r j, f0 (ix2 r j) = H r 0 j)
    (h1 : ∀ r j, f1 (ix2 r j) = H r 1 j) (h2 : ∀ r j, f2 (ix2 r j) = H r 2 j) (h3 : ∀ r j, f3 (ix2 r j) = H r 3 j)
    (h4 : ∀ r j, f4 (ix2 r j) = H r 4 j) (h5 : ∀ r j, f5 (ix2 r j) = H r 5 j) (r : Fin 256) (k : Fin 1536) :
    together f0 f1 f2 f3 f4 f5 (ix2 r k) = H r ⟨k.val / 256, by omega⟩ ⟨k.val % 256, by omega⟩ := by
  pointwise
  simp only [h0, h1, h2, h3, h4, h5]
  have hk := k.isLt
  split_ifs <;> exact congrArg₂ (H r) (Fin.ext (by simp; omega)) (Fin.ext (by simp; omega))

theorem pay14_eq : k0_pay14 v4 v6 f0 f1 f2 f3 (k0_pay10 v6) (k0_pay11 v4) (k0_pay12 v4) x3 x3 wa
    = matmul (φ₂ := .bf16) dot_S256x1536_S1536x2048_S256x2048_1_0_0_1_n_n none
      (together f0 f1 f2 f3 (part4 x3 v4 v6) (part5 x3 v4 v6)) (shapeCast S1536x2048 wa shapeCasts_S1536x2048_S1536x2048)
      (constant S256x2048 .f32 0x00000000#32) := rfl

theorem pay14_apply (r : Fin 256) (n : Fin 2048) :
    k0_pay14 (k0_pay2 x0 x1) (k0_pay3 x2) (k0_pay4 x0 x1 x2 x3) (k0_pay7 (k0_pay5 x2) (k0_pay6 x0 x1) x3)
      (k0_pay8 (k0_pay2 x0 x1) (k0_pay3 x2) x3) (k0_pay9 (k0_pay2 x0 x1) (k0_pay3 x2) x3)
      (k0_pay10 (k0_pay3 x2)) (k0_pay11 (k0_pay2 x0 x1)) (k0_pay12 (k0_pay2 x0 x1)) x3 x3 wa (ix2 r n)
      = ∑ k : Fin 1536, gated (fun k => x0 (ix3 0 r k) + x1 (ix3 0 r k)) (fun k => x2 (ix3 0 r k)) (fun j => x3 (ix2 0 j)) k
          * wa (ix2 k n) := by
  have hA := fun (r : Fin 256) (k : Fin 1536) => together_apply (k0_pay4 x0 x1 x2 x3) (k0_pay7 (k0_pay5 x2) (k0_pay6 x0 x1) x3)
    (k0_pay8 (k0_pay2 x0 x1) (k0_pay3 x2) x3) (k0_pay9 (k0_pay2 x0 x1) (k0_pay3 x2) x3)
    (part4 x3 (k0_pay2 x0 x1) (k0_pay3 x2)) (part5 x3 (k0_pay2 x0 x1) (k0_pay3 x2))
    (headB x3 (k0_pay2 x0 x1) (k0_pay3 x2)) (head0 x0 x1 x2 x3) (head1 x0 x1 x2 x3) (head2 x3 _ _) (head3 x3 _ _)
    (head4 x3 _ _) (head5 x3 _ _) r k
  rw [pay14_eq]
  revert hA
  generalize together (k0_pay4 x0 x1 x2 x3) (k0_pay7 (k0_pay5 x2) (k0_pay6 x0 x1) x3)
    (k0_pay8 (k0_pay2 x0 x1) (k0_pay3 x2) x3) (k0_pay9 (k0_pay2 x0 x1) (k0_pay3 x2) x3)
    (part4 x3 (k0_pay2 x0 x1) (k0_pay3 x2)) (part5 x3 (k0_pay2 x0 x1) (k0_pay3 x2)) = A
  intro hA
  pointwise
  refine Finset.sum_congr rfl fun k _ => ?_
  rw [hA]
  unfold gated
  simp only [headB, sum_apply, gate_apply]

theorem product_apply (A : FVec Ideal S256x2048 .f32) (r : Fin 256) (n : Fin 2048) :
    k0_pay1 (k0_pay13 wb) A (k0_pay15 x4) (constant S256x2048 .f32 0x00000000#32) x6 x8 x7 (ix3 0 r n)
      = finish (fun l => x6 (ix3 0 r l)) (fun l => x8 (ix3 0 0 l)) (fun l => x7 (ix2 0 l))
        (fun l => A (ix2 r l) + ∑ k : Fin 512, x4 (ix3 0 r k) * wb (ix2 k l)) n := by
  unfold k0_pay1 k0_pay13 k0_pay15
  pointwise
  rfl

end

variable (m : (ℓ : Loc nD τ sig) → Buf (Elt Ideal) ℓ) (c : Dev nD)

abbrev aF : S5x4096x1536.Idx → EReal := m ((c.tc : Thread nD τ).loc main_arg0)
abbrev aB : S5x4096x1536.Idx → EReal := m ((c.tc : Thread nD τ).loc main_arg1)
abbrev aZ : S5x4096x5376.Idx → EReal := m ((c.tc : Thread nD τ).loc main_arg2)
abbrev aHead : S1x256.Idx → EReal := m ((c.tc : Thread nD τ).loc main_arg3)
abbrev aOther : S5x4096x512.Idx → EReal := m ((c.tc : Thread nD τ).loc main_arg4)
abbrev aW : S2048x2048.Idx → EReal := m ((c.tc : Thread nD τ).loc main_arg5)
abbrev aX : S5x4096x2048.Idx → EReal := m ((c.tc : Thread nD τ).loc main_arg6)
abbrev aGain : S1x2048.Idx → EReal := m ((c.tc : Thread nD τ).loc main_arg7)
abbrev aGate : S5x1x2048.Idx → EReal := m ((c.tc : Thread nD τ).loc main_arg8)

/-- The weights that the host casts. -/
theorem weights_eq (k n : Fin 2048) : V m c main_v0 (ix2 k n) = aW m c (ix2 k n) := by
  dsimp only [V, hostOps0]
  after_results_simp
  pointwise

theorem idx0 : ∀ t : Fin cfg0.N, win0_0.index t = ![t.val / 16, t.val % 16, 0] :=
  (by decide +kernel : ∀ t : Fin grid0.N, win0_0.index t = ![t.val / 16, t.val % 16, 0])
theorem idx1 : ∀ t : Fin cfg0.N, win0_1.index t = ![t.val / 16, t.val % 16, 0] :=
  (by decide +kernel : ∀ t : Fin grid0.N, win0_1.index t = ![t.val / 16, t.val % 16, 0])
theorem idx2 : ∀ t : Fin cfg0.N, win0_2.index t = ![t.val / 16, t.val % 16, 2] :=
  (by decide +kernel : ∀ t : Fin grid0.N, win0_2.index t = ![t.val / 16, t.val % 16, 2])
theorem idx3 : ∀ t : Fin cfg0.N, win0_3.index t = ![0, 0] :=
  (by decide +kernel : ∀ t : Fin grid0.N, win0_3.index t = ![0, 0])
theorem idx4 : ∀ t : Fin cfg0.N, win0_4.index t = ![t.val / 16, t.val % 16, 0] :=
  (by decide +kernel : ∀ t : Fin grid0.N, win0_4.index t = ![t.val / 16, t.val % 16, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val / 16, t.val % 16, 0] :=
  (by decide +kernel : ∀ t : Fin grid0.N, win0_6.index t = ![t.val / 16, t.val % 16, 0])
theorem idx7 : ∀ t : Fin cfg0.N, win0_7.index t = ![0, 0] :=
  (by decide +kernel : ∀ t : Fin grid0.N, win0_7.index t = ![0, 0])
theorem idx8 : ∀ t : Fin cfg0.N, win0_8.index t = ![t.val / 16, 0, 0] :=
  (by decide +kernel : ∀ t : Fin grid0.N, win0_8.index t = ![t.val / 16, 0, 0])
theorem idx9 : ∀ t : Fin cfg0.N, win0_9.index t = ![t.val / 16, t.val % 16, 0] :=
  (by decide +kernel : ∀ t : Fin grid0.N, win0_9.index t = ![t.val / 16, t.val % 16, 0])

theorem point_lt {n : ℕ} (h : n < cfg0.N) : n < 80 := by
  have e : cfg0.N = 80 := Gen.N_0
  omega

/-- The segment and the row of a point. -/
abbrev seg (n : ℕ) (h : n < cfg0.N) : Fin 5 := ⟨n / 16, by have := point_lt h; omega⟩
abbrev row (n : ℕ) (r : Fin 256) : Fin 4096 := ⟨n % 16 * 256 + r.val, by omega⟩

variable (t : Fin cfg0.N)

theorem blk0 (r : Fin 256) (d : Fin 1536) : iblk m c 0 t (ix3 0 r d) = aF m c (ix3 (seg t.val t.isLt) (row t.val r) d) := by
  have h := V_main_arg0 m c
  blk_ext [iblk, h, idx0 t]

theorem blk1 (r : Fin 256) (d : Fin 1536) : iblk m c 1 t (ix3 0 r d) = aB m c (ix3 (seg t.val t.isLt) (row t.val r) d) := by
  have h := V_main_arg1 m c
  blk_ext [iblk, h, idx1 t]

theorem blk2 (r : Fin 256) (d : Fin 1536) : X0_2 m c t (ix3 0 r d)
    = aZ m c (ix3 (seg t.val t.isLt) (row t.val r) (⟨3072 + d.val, by omega⟩ : Fin 5376)) := by
  have h := V_main_arg2 m c
  unfold X0_2 Pipeline.Window.fill
  rw [dif_pos (moved0_2 t _)]
  blk_ext [iblk, h, idx2 t]

theorem blk3 (j : Fin 256) : iblk m c 3 t (ix2 0 j) = aHead m c (ix2 0 j) := by
  have h := V_main_arg3 m c
  blk_ext [iblk, h, idx3 t]

theorem blk4 (r : Fin 256) (d : Fin 512) : iblk m c 4 t (ix3 0 r d) = aOther m c (ix3 (seg t.val t.isLt) (row t.val r) d) := by
  have h := V_main_arg4 m c
  blk_ext [iblk, h, idx4 t]

theorem blk5 (k n : Fin 2048) : iblk m c 5 t (ix2 k n) = aW m c (ix2 k n) := by
  rw [← weights_eq]
  blk_ext [iblk, idx5 t]

theorem blk6 (r : Fin 256) (d : Fin 2048) : iblk m c 6 t (ix3 0 r d) = aX m c (ix3 (seg t.val t.isLt) (row t.val r) d) := by
  have h := V_main_arg6 m c
  blk_ext [iblk, h, idx6 t]

theorem blk7 (d : Fin 2048) : iblk m c 7 t (ix2 0 d) = aGain m c (ix2 0 d) := by
  have h := V_main_arg7 m c
  blk_ext [iblk, h, idx7 t]

theorem blk8 (d : Fin 2048) : iblk m c 8 t (ix3 0 0 d) = aGate m c (ix3 (seg t.val t.isLt) 0 d) := by
  have h := V_main_arg8 m c
  blk_ext [iblk, h, idx8 t]

theorem upper (k : Fin 1536) (n : Fin 2048) :
    (View.ld (iblk m c 5 t) (Rect.unit (s := S2048x2048) ![0, 0] ![1536, 2048] inb_S2048x2048_S1536x2048_0_0)) (ix2 k n)
      = aW m c (ix2 (⟨k.val, by omega⟩ : Fin 2048) n) := by
  rw [← blk5 m c t]
  blk_ext [View.ld, Rect.idx_unit_val]

theorem lower (k : Fin 512) (n : Fin 2048) :
    (View.ld (iblk m c 5 t) (Rect.unit (s := S2048x2048) ![1536, 0] ![512, 2048] inb_S2048x2048_S512x2048_1536_0)) (ix2 k n)
      = aW m c (ix2 (⟨1536 + k.val, by omega⟩ : Fin 2048) n) := by
  rw [← blk5 m c t]
  blk_ext [View.ld, Rect.idx_unit_val]

/-- The array the kernel leaves. -/
def left : S5x4096x2048.Idx → EReal := fun i =>
  Cert.EvenOutMath.outAt (aF m c) (aB m c) (aZ m c) (aHead m c) (aOther m c) (aW m c) (aX m c) (aGain m c) (aGate m c) (i 0) (i 1) (i 2)

theorem point_eq (r : Fin 256) (n : Fin 2048) :
    outsAt0 m c t (ix3 0 r n) = left m c (ix3 (seg t.val t.isLt) (row t.val r) n) := by
  unfold outsAt0
  frame_out
  rw [product_apply]
  simp only [pay14_apply, blk0, blk1, blk2, blk3, blk4, blk6, blk7, blk8, upper, lower]
  rfl

theorem final : (Gen.dats m 0 c).arrAt 9 cfg0.N = left m c := by
  refine (Gen.dats m 0 c).arrAt_eq_of_covers 9 _ (by decide +kernel) fun t hf y => ?_
  blk_simp
  rw [after0_9]
  obtain ⟨r, hr⟩ : ∃ r : Fin 256, r.val = (y (1 : Fin 3)).val := ⟨⟨_, (y (1 : Fin 3)).isLt⟩, rfl⟩
  obtain ⟨l, hl⟩ : ∃ l : Fin 2048, l.val = (y (2 : Fin 3)).val := ⟨⟨_, (y (2 : Fin 3)).isLt⟩, rfl⟩
  have hy : y = ix3 0 r l := by blk_ext [hr, hl]
  have he : (win0_9.blk t).view.emb y = ix3 (seg t.val t.isLt) (row t.val r) l := by
    blk_ext [idx9 t, hr, hl]
  rw [he]
  exact (congrArg (outsAt0 m c t) hy).trans (point_eq m c t r l)

end Cert.EvenOutIdeal.Blocks

namespace Cert.EvenOutRefIdeal.Rows

open Cert.EvenOutRefIdeal Cert.EvenOutRefIdeal.Gen Cert.EvenOutRefIdeal.Read Idealize.ShloMosaic Cert.MixMath Cert.EvenOutMath

variable (x0 x1 : (⟨S5x4096x1536, .f32⟩ : BufTy).Contents (Elt Ideal)) (x2 : (⟨S5x4096x5376, .f32⟩ : BufTy).Contents (Elt Ideal))
  (x3 : (⟨S1x256, .f32⟩ : BufTy).Contents (Elt Ideal)) (x4 : (⟨S5x4096x512, .f32⟩ : BufTy).Contents (Elt Ideal))
  (x5 : (⟨S2048x2048, .f32⟩ : BufTy).Contents (Elt Ideal)) (x6 : (⟨S5x4096x2048, .f32⟩ : BufTy).Contents (Elt Ideal))
  (x7 : (⟨S1x2048, .f32⟩ : BufTy).Contents (Elt Ideal)) (x8 : (⟨S5x1x2048, .f32⟩ : BufTy).Contents (Elt Ideal))

theorem sum_apply (b : Fin 5) (p : Fin 4096) (h : Fin 6) (j : Fin 256) :
    val_main_v2 (F := Ideal) x0 x1 (ix4 b p h j)
      = lanes 256 6 (le_refl _) (fun k => x0 (ix3 b p k) + x1 (ix3 b p k)) h j := by
  simp only [val_main_v2, val_main_v1]
  pointwise
  rfl

theorem gate_apply (b : Fin 5) (p : Fin 4096) (h : Fin 6) (j : Fin 256) :
    val_main_v17 (F := Ideal) x2 (ix4 b p h j)
      = lanes 256 6 (le_refl _) (fun k : Fin 1536 => x2 (ix3 b p (⟨3072 + k.val, by omega⟩ : Fin 5376))) h j := by
  simp only [val_main_v17, val_main_v0]
  pointwise
  rfl

theorem root_apply (b : Fin 5) (p : Fin 4096) (h : Fin 6) :
    val_main_v11 (F := Ideal) x0 x1 (ix4 b p h 0)
      = root 1132462080#32 (lanes 256 6 (le_refl _) (fun k => x0 (ix3 b p k) + x1 (ix3 b p k)) h) := by
  have e := funext (sum_apply x0 x1 b p h)
  rw [← e]
  simp only [val_main_v11, val_main_v10, val_main_v9, val_main_v8, val_main_v7, val_main_v6, val_main_v5, val_main_v4,
    val_main_cst_1, val_main_cst_0, val_main_cst]
  generalize val_main_v2 (F := Ideal) x0 x1 = y
  pointwise
  rfl

theorem head_apply (b : Fin 5) (p : Fin 4096) (h : Fin 6) (j : Fin 256) :
    val_main_v19 (F := Ideal) x0 x1 x2 x3 (ix4 b p h j)
      = headAt 1132462080#32 (lanes 256 6 (le_refl _) (fun k => x0 (ix3 b p k) + x1 (ix3 b p k)) h)
          (lanes 256 6 (le_refl _) (fun k : Fin 1536 => x2 (ix3 b p (⟨3072 + k.val, by omega⟩ : Fin 5376))) h)
          (fun j => x3 (ix2 0 j)) j := by
  unfold headAt
  rw [← root_apply, ← sum_apply, ← gate_apply]
  simp only [val_main_v19, val_main_v18, val_main_v16, val_main_v15, val_main_v14, val_main_v13, val_main_v12, val_main_v3,
    val_main_call0_v0, val_main_call0_v1, val_main_call0_v2, val_main_call0_v3, val_main_call0_v4, val_main_call0_v5,
    val_main_call0_cst, val_main_call0_cst_0]
  generalize val_main_v11 (F := Ideal) x0 x1 = y
  generalize val_main_v2 (F := Ideal) x0 x1 = u
  generalize val_main_v17 (F := Ideal) x2 = z
  pointwise
  rfl

theorem gated_apply (b : Fin 5) (p : Fin 4096) (k : Fin 1536) :
    val_main_v20 (F := Ideal) x0 x1 x2 x3 (ix3 b p k)
      = gated (fun k => x0 (ix3 b p k) + x1 (ix3 b p k)) (fun k => x2 (ix3 b p (⟨3072 + k.val, by omega⟩ : Fin 5376)))
          (fun j => x3 (ix2 0 j)) k := by
  unfold gated
  rw [← head_apply]
  simp only [val_main_v20]
  generalize val_main_v19 (F := Ideal) x0 x1 x2 x3 = y
  pointwise

theorem product_apply (b : Fin 5) (p : Fin 4096) (n : Fin 2048) :
    val_main_v22 (F := Ideal) x0 x1 x2 x3 x4 x5 (ix3 b p n)
      = joined (fun k => x0 (ix3 b p k) + x1 (ix3 b p k)) (fun k => x2 (ix3 b p (⟨3072 + k.val, by omega⟩ : Fin 5376)))
          (fun j => x3 (ix2 0 j)) (fun k => x4 (ix3 b p k)) x5 n := by
  unfold joined
  simp only [← gated_apply, val_main_v22, val_main_v21]
  generalize val_main_v20 (F := Ideal) x0 x1 x2 x3 = y
  pointwise

theorem result_apply (b : Fin 5) (p : Fin 4096) (n : Fin 2048) :
    val_main_v39 (F := Ideal) x0 x1 x2 x3 x4 x5 x6 x7 x8 (ix3 b p n) = outAt x0 x1 x2 x3 x4 x5 x6 x7 x8 b p n := by
  unfold outAt finish root
  simp only [← product_apply]
  simp only [val_main_v39, val_main_v38, val_main_v37, val_main_v36, val_main_v35, val_main_v34, val_main_v33, val_main_v32,
    val_main_v31, val_main_v30, val_main_v29, val_main_v28, val_main_v27, val_main_v26, val_main_v25, val_main_v24, val_main_v23,
    val_main_cst_2, val_main_cst_3, val_main_cst_4]
  generalize val_main_v22 (F := Ideal) x0 x1 x2 x3 x4 x5 = y
  pointwise

end Cert.EvenOutRefIdeal.Rows

namespace Cert.EvenOutClaim

open Idealize.ShloMosaic Idealize.ShloMosaic.TcCoe Idealize.SL.Sem Cert.MixMath

theorem frame : Cert.quiescent_EvenOut := fun m ρ _ => Cert.EvenOut.Gen.frame m ρ

theorem frame_ideal : Cert.quiescent_EvenOutIdeal := fun m ρ _ => Cert.EvenOutIdeal.Gen.frame m ρ

theorem frame_reference : Cert.quiescent_EvenOutRefIdeal := fun m ρ _ =>
  (θ_run Cert.EvenOutRefIdeal.defs _ _).mono
    (fun r h => ⟨fun c => (h c).2, sem_eq_zero_of_no_sems (by decide) r.2⟩)
    (Cert.EvenOutRefIdeal.Value.run (F := Ideal) m ρ)

theorem algebraic : Cert.algebraic_EvenOutIdeal_EvenOutRefIdeal := by
  intro m ρ m' ρ' hpre hagree
  refine ⟨fun c => Cert.EvenOutIdeal.Blocks.left m c, ?_, ?_⟩
  · exact (θ_run Cert.EvenOutIdeal.defs _ _).mono
      (fun _ h c => ⟨(h c).1.trans (Cert.EvenOutIdeal.Blocks.final m c), (h c).2⟩)
      (Cert.EvenOutIdeal.Value.run_blocks (F := Ideal) m ρ)
  · refine (θ_run Cert.EvenOutRefIdeal.defs _ _).mono (fun _ h c => ⟨(h c).1.trans ?_, (h c).2⟩)
      (Cert.EvenOutRefIdeal.Value.run (F := Ideal) m' ρ')
    obtain ⟨e0, e1, e2, e3, e4, e5, e6, e7, e8⟩ := hagree c
    rw [Cert.EvenOutRefIdeal.Read.val_main_v39_eq, e0, e1, e2, e3, e4, e5, e6, e7, e8]
    funext i
    have hi : i = ix3 (i 0) (i 1) (i 2) := by
      funext a
      match a with
      | ⟨0, _⟩ => rfl
      | ⟨1, _⟩ => rfl
      | ⟨2, _⟩ => rfl
    exact (congrArg _ hi).trans (Cert.EvenOutRefIdeal.Rows.result_apply _ _ _ _ _ _ _ _ _ (i 0) (i 1) (i 2))

end Cert.EvenOutClaim

end
-- ==== Proof.Mix.OddOut.lean ====
/- The array that the odd layer's output projection leaves. -/
module

public import proofs.«01_k».proof.Proof.Gen.OddOutIdeal.Frame
public import proofs.«01_k».proof.Proof.Gen.OddOut.Frame
public import proofs.«01_k».proof.Proof.Gen.OddOutRefIdeal.Read
public import proofs.«01_k».proof.Proof.Gen.OddOutRefIdeal.Run
public import proofs.«01_k».proof.Proof.Mix.Math
public import proofs.«01_k».proof.Defs
public import Idealize.ShloMosaic.Lib.Quiescent
public import Idealize.ShloMosaic.Lib.Pipeline.ValueKit
public import Idealize.ShloMosaic.Lib.Pipeline.ReadBack

@[expose] public section

set_option maxRecDepth 16384

noncomputable section

namespace Cert.OddOutMath

open Idealize.ShloMosaic Cert.MixMath

/-- The normalised and gated row, head after head. -/
def gated (o z : Fin 1024 → EReal) (g : Fin 128 → EReal) (k : Fin 1024) : EReal :=
  headAt 1124073472#32 (lanes 128 8 (le_refl _) o ⟨k.val / 128, by omega⟩) (lanes 128 8 (le_refl _) z ⟨k.val / 128, by omega⟩) g
    ⟨k.val % 128, by omega⟩

/-- The product of the joined row with column `n` of the weights. -/
def joined (o z : Fin 1024 → EReal) (g : Fin 128 → EReal) (b : Fin 1024 → EReal)
    (w : (⟨2, ![2048, 2048]⟩ : Shape).Idx → EReal) (n : Fin 2048) : EReal :=
  (∑ k : Fin 1024, gated o z g k * w (ix2 (⟨1024 + k.val, by omega⟩ : Fin 2048) n))
    + ∑ k : Fin 1024, b k * w (ix2 (⟨k.val, by omega⟩ : Fin 2048) n)

/-- Entry `n` of token `p` of segment `b` that the projection leaves, from the arrays. -/
def outAt (f b' : (⟨3, ![5, 4096, 1024]⟩ : Shape).Idx → EReal) (z : (⟨3, ![5, 4096, 6144]⟩ : Shape).Idx → EReal)
    (g : (⟨2, ![1, 128]⟩ : Shape).Idx → EReal) (other : (⟨3, ![5, 4096, 1024]⟩ : Shape).Idx → EReal)
    (w : (⟨2, ![2048, 2048]⟩ : Shape).Idx → EReal) (x : (⟨3, ![5, 4096, 2048]⟩ : Shape).Idx → EReal)
    (gain : (⟨2, ![1, 2048]⟩ : Shape).Idx → EReal) (gate : (⟨3, ![5, 1, 2048]⟩ : Shape).Idx → EReal)
    (b : Fin 5) (p : Fin 4096) (n : Fin 2048) : EReal :=
  finish (fun l => x (ix3 b p l)) (fun l => gate (ix3 b 0 l)) (fun l => gain (ix2 0 l))
    (joined (fun k => f (ix3 b p k) + b' (ix3 b p k)) (fun k => z (ix3 b p (⟨4096 + k.val, by omega⟩ : Fin 6144)))
      (fun j => g (ix2 0 j)) (fun k => other (ix3 b p k)) w) n

end Cert.OddOutMath

namespace Cert.OddOutIdeal.Blocks

open Cert.OddOutIdeal Cert.OddOutIdeal.Gen Idealize.ShloMosaic Idealize.ShloMosaic.TcCoe Idealize.SL.Sem Cert.MixMath
open Cert.OddOutMath
open Idealize.ShloMosaic.Pipeline (Dat)

section
variable (x0 x1 x2 : Vec Ideal S1x256x1024 .f32) (x3 : Vec Ideal S1x128 .f32) (x4 : Vec Ideal S1x256x1024 .f32)
  (wa : FVec Ideal S1024x2048 .bf16) (wb : FVec Ideal S1024x2048 .bf16)
  (x6 : Vec Ideal S1x256x2048 .f32) (x7 : Vec Ideal S1x2048 .f32) (x8 : Vec Ideal S1x1x2048 .f32)
  (v4 v6 : FVec Ideal S256x1024 .f32) (f0 f1 f2 f3 f4 f5 f6 f7 : FVec Ideal S256x128 .bf16)

theorem sum_apply (r : Fin 256) (k : Fin 1024) : k0_pay2 x0 x1 (ix2 r k) = x0 (ix3 0 r k) + x1 (ix3 0 r k) := by
  unfold k0_pay2
  pointwise

theorem gate_apply (r : Fin 256) (k : Fin 1024) : k0_pay3 x2 (ix2 r k) = x2 (ix3 0 r k) := by
  unfold k0_pay3
  pointwise

/-- A head of the block's row `r`. -/
abbrev headB (r : Fin 256) (h : Fin 8) (j : Fin 128) : EReal :=
  headAt 1124073472#32 (lanes 128 8 (le_refl _) (fun k => v4 (ix2 r k)) h) (lanes 128 8 (le_refl _) (fun k => v6 (ix2 r k)) h)
    (fun j => x3 (ix2 0 j)) j

theorem head0 (r : Fin 256) (j : Fin 128) :
    k0_pay4 x0 x1 x2 x3 (ix2 r j) = headB x3 (k0_pay2 x0 x1) (k0_pay3 x2) r 0 j := by
  unfold k0_pay4
  generalize k0_pay2 x0 x1 = v4
  generalize k0_pay3 x2 = v6
  pointwise
  unfold headB headAt lanes root
  have e : ((0 : Fin 8) : ℕ) * 128 = 0 := rfl
  simp only [e, Nat.zero_add]

theorem head1 (r : Fin 256) (j : Fin 128) :
    k0_pay7 (k0_pay5 x2) (k0_pay6 x0 x1) x3 (ix2 r j) = headB x3 (k0_pay2 x0 x1) (k0_pay3 x2) r 1 j := by
  unfold k0_pay7 k0_pay5 k0_pay6
  generalize k0_pay2 x0 x1 = v4
  generalize k0_pay3 x2 = v6
  pointwise
  unfold headB headAt lanes root
  simp only [Nat.add_comm]
  rfl

theorem head2 (r : Fin 256) (j : Fin 128) : k0_pay8 v4 v6 x3 (ix2 r j) = headB x3 v4 v6 r 2 j := by
  unfold k0_pay8
  pointwise
  unfold headB headAt lanes root
  simp only [Nat.add_comm]
  rfl

theorem head3 (r : Fin 256) (j : Fin 128) : k0_pay9 v4 v6 x3 (ix2 r j) = headB x3 v4 v6 r 3 j := by
  unfold k0_pay9
  pointwise
  unfold headB headAt lanes root
  simp only [Nat.add_comm]
  rfl

theorem head4 (r : Fin 256) (j : Fin 128) : k0_pay13 (k0_pay10 v6) (k0_pay11 v4) (k0_pay12 v4) x3 (ix2 r j) = headB x3 v4 v6 r 4 j := by
  unfold k0_pay13 k0_pay12 k0_pay11 k0_pay10
  pointwise
  unfold headB headAt lanes root
  simp only [Nat.add_comm]
  rfl

theorem head5 (r : Fin 256) (j : Fin 128) : k0_pay14 v4 v6 x3 (ix2 r j) = headB x3 v4 v6 r 5 j := by
  unfold k0_pay14
  pointwise
  unfold headB headAt lanes root
  simp only [Nat.add_comm]
  rfl

/-- The last two heads, as the fourth part of the body computes them. -/
def part6 : FVec Ideal S256x128 .bf16 :=
  truncf .bf16 (mulf (mulf (k0_pay16 v4) (broadcastTo S256x128 x3 broadcasts_S1x128_S256x128))
    (mulf (k0_pay15 v6) (logistic (k0_pay15 v6)))) bitsLt_bf16_f32

def part7 : FVec Ideal S256x128 .bf16 :=
  have v102 := extractStridedSlice S256x128 ![0, 896] v6 slices_S256x1024_o0_896_S256x128
  have v103 := extractStridedSlice S256x128 ![0, 896] v4 slices_S256x1024_o0_896_S256x128
  truncf .bf16 (mulf (mulf (mulf v103 (broadcastTo S256x128 (rsqrt (addf (divf (shapeCast S256x1
    (multiReduction .add [1] S256 (mulf v103 v103) 0x00000000#32 reduces_S256x128_S256 (.inl rfl) rfl) shapeCasts_S256_S256x1)
    (broadcast S256x1 (Scalar.ofBits (F := Ideal) .f32 0x43000000#32))) (broadcast S256x1 (Scalar.ofBits (F := Ideal) .f32 0x358637BD#32)))) broadcasts_S256x1_S256x128))
    (broadcastTo S256x128 x3 broadcasts_S1x128_S256x128)) (mulf v102 (logistic v102))) bitsLt_bf16_f32

theorem head6 (r : Fin 256) (j : Fin 128) : part6 x3 v4 v6 (ix2 r j) = headB x3 v4 v6 r 6 j := by
  unfold part6 k0_pay16 k0_pay15
  pointwise
  unfold headB headAt lanes root
  simp only [Nat.add_comm]
  rfl

theorem head7 (r : Fin 256) (j : Fin 128) : part7 x3 v4 v6 (ix2 r j) = headB x3 v4 v6 r 7 j := by
  unfold part7
  pointwise
  unfold headB headAt lanes root
  simp only [Nat.add_comm]
  rfl

/-- The heads side by side. -/
abbrev together : FVec Ideal S256x1024 .bf16 :=
  concatenate S256x1024 1 [⟨S256x128, f0⟩, ⟨S256x128, f1⟩, ⟨S256x128, f2⟩, ⟨S256x128, f3⟩, ⟨S256x128, f4⟩, ⟨S256x128, f5⟩,
    ⟨S256x128, f6⟩, ⟨S256x128, f7⟩]
    concatenates_S256x128_S256x128_S256x128_S256x128_S256x128_S256x128_S256x128_S256x128_S256x1024_d1

theorem together_apply (H : Fin 256 → Fin 8 → Fin 128 → EReal) (h0 : ∀ r j, f0 (ix2 r j) = H r 0 j)
    (h1 : ∀ r j, f1 (ix2 r j) = H r 1 j) (h2 : ∀ r j, f2 (ix2 r j) = H r 2 j) (h3 : ∀ r j, f3 (ix2 r j) = H r 3 j)
    (h4 : ∀ r j, f4 (ix2 r j) = H r 4 j) (h5 : ∀ r j, f5 (ix2 r j) = H r 5 j)
    (h6 : ∀ r j, f6 (ix2 r j) = H r 6 j) (h7 : ∀ r j, f7 (ix2 r j) = H r 7 j) (r : Fin 256) (k : Fin 1024) :
    together f0 f1 f2 f3 f4 f5 f6 f7 (ix2 r k) = H r ⟨k.val / 128, by omega⟩ ⟨k.val % 128, by omega⟩ := by
  pointwise
  simp only [h0, h1, h2, h3, h4, h5, h6, h7]
  have hk := k.isLt
  split_ifs <;> exact congrArg₂ (H r) (Fin.ext (by simp; omega)) (Fin.ext (by simp; omega))

theorem pay17_eq : k0_pay17 v4 v6 f0 f1 f2 f3 f4 f5 (k0_pay15 v6) (k0_pay16 v4) x3 x3 wa wb x4
    = addf (matmul (φ₂ := .bf16) dot_S256x1024_S1024x2048_S256x2048_1_0_0_1_n_n none
      (together f0 f1 f2 f3 f4 f5 (part6 x3 v4 v6) (part7 x3 v4 v6)) (shapeCast S1024x2048 wa shapeCasts_S1024x2048_S1024x2048)
      (constant S256x2048 .f32 0x00000000#32))
      (matmul (φ₂ := .bf16) dot_S256x1024_S1024x2048_S256x2048_1_0_0_1_n_n none
      (truncf .bf16 (shapeCast S256x1024 x4 shapeCasts_S1x256x1024_S256x1024 : FVec Ideal S256x1024 .f32) bitsLt_bf16_f32)
      (shapeCast S1024x2048 wb shapeCasts_S1024x2048_S1024x2048) (constant S256x2048 .f32 0x00000000#32)) := rfl

/-- The block's product, from the heads. -/
abbrev product : FVec Ideal S256x2048 .f32 :=
  k0_pay17 (k0_pay2 x0 x1) (k0_pay3 x2) (k0_pay4 x0 x1 x2 x3) (k0_pay7 (k0_pay5 x2) (k0_pay6 x0 x1) x3)
    (k0_pay8 (k0_pay2 x0 x1) (k0_pay3 x2) x3) (k0_pay9 (k0_pay2 x0 x1) (k0_pay3 x2) x3)
    (k0_pay13 (k0_pay10 (k0_pay3 x2)) (k0_pay11 (k0_pay2 x0 x1)) (k0_pay12 (k0_pay2 x0 x1)) x3)
    (k0_pay14 (k0_pay2 x0 x1) (k0_pay3 x2) x3) (k0_pay15 (k0_pay3 x2)) (k0_pay16 (k0_pay2 x0 x1)) x3 x3 wa wb x4

theorem pay17_apply (r : Fin 256) (n : Fin 2048) :
    product x0 x1 x2 x3 x4 wa wb (ix2 r n)
      = (∑ k : Fin 1024, gated (fun k => x0 (ix3 0 r k) + x1 (ix3 0 r k)) (fun k => x2 (ix3 0 r k)) (fun j => x3 (ix2 0 j)) k
          * wa (ix2 k n)) + ∑ k : Fin 1024, x4 (ix3 0 r k) * wb (ix2 k n) := by
  have hA := fun (r : Fin 256) (k : Fin 1024) => together_apply (k0_pay4 x0 x1 x2 x3) (k0_pay7 (k0_pay5 x2) (k0_pay6 x0 x1) x3)
    (k0_pay8 (k0_pay2 x0 x1) (k0_pay3 x2) x3) (k0_pay9 (k0_pay2 x0 x1) (k0_pay3 x2) x3)
    (k0_pay13 (k0_pay10 (k0_pay3 x2)) (k0_pay11 (k0_pay2 x0 x1)) (k0_pay12 (k0_pay2 x0 x1)) x3)
    (k0_pay14 (k0_pay2 x0 x1) (k0_pay3 x2) x3)
    (part6 x3 (k0_pay2 x0 x1) (k0_pay3 x2)) (part7 x3 (k0_pay2 x0 x1) (k0_pay3 x2))
    (headB x3 (k0_pay2 x0 x1) (k0_pay3 x2)) (head0 x0 x1 x2 x3) (head1 x0 x1 x2 x3) (head2 x3 _ _) (head3 x3 _ _)
    (head4 x3 _ _) (head5 x3 _ _) (head6 x3 _ _) (head7 x3 _ _) r k
  unfold product
  rw [pay17_eq]
  revert hA
  generalize together (k0_pay4 x0 x1 x2 x3) (k0_pay7 (k0_pay5 x2) (k0_pay6 x0 x1) x3)
    (k0_pay8 (k0_pay2 x0 x1) (k0_pay3 x2) x3) (k0_pay9 (k0_pay2 x0 x1) (k0_pay3 x2) x3)
    (k0_pay13 (k0_pay10 (k0_pay3 x2)) (k0_pay11 (k0_pay2 x0 x1)) (k0_pay12 (k0_pay2 x0 x1)) x3)
    (k0_pay14 (k0_pay2 x0 x1) (k0_pay3 x2) x3)
    (part6 x3 (k0_pay2 x0 x1) (k0_pay3 x2)) (part7 x3 (k0_pay2 x0 x1) (k0_pay3 x2)) = A
  intro hA
  pointwise
  refine congrArg (· + _) (Finset.sum_congr rfl fun k _ => ?_)
  rw [hA]
  unfold gated
  simp only [headB, sum_apply, gate_apply]

theorem product_apply (A : FVec Ideal S256x2048 .f32) (r : Fin 256) (n : Fin 2048) :
    k0_pay1 A (k0_pay18 x6) (k0_pay19 x8) x7 (ix3 0 r n)
      = finish (fun l => x6 (ix3 0 r l)) (fun l => x8 (ix3 0 0 l)) (fun l => x7 (ix2 0 l)) (fun l => A (ix2 r l)) n := by
  unfold k0_pay1 k0_pay18 k0_pay19
  pointwise
  rfl

end

variable (m : (ℓ : Loc nD τ sig) → Buf (Elt Ideal) ℓ) (c : Dev nD)

abbrev aF : S5x4096x1024.Idx → EReal := m ((c.tc : Thread nD τ).loc main_arg0)
abbrev aB : S5x4096x1024.Idx → EReal := m ((c.tc : Thread nD τ).loc main_arg1)
abbrev aZ : S5x4096x6144.Idx → EReal := m ((c.tc : Thread nD τ).loc main_arg2)
abbrev aHead : S1x128.Idx → EReal := m ((c.tc : Thread nD τ).loc main_arg3)
abbrev aOther : S5x4096x1024.Idx → EReal := m ((c.tc : Thread nD τ).loc main_arg4)
abbrev aW : S2048x2048.Idx → EReal := m ((c.tc : Thread nD τ).loc main_arg5)
abbrev aX : S5x4096x2048.Idx → EReal := m ((c.tc : Thread nD τ).loc main_arg6)
abbrev aGain : S1x2048.Idx → EReal := m ((c.tc : Thread nD τ).loc main_arg7)
abbrev aGate : S5x1x2048.Idx → EReal := m ((c.tc : Thread nD τ).loc main_arg8)

/-- The weights that the host casts. -/
theorem weights_eq (k n : Fin 2048) : V m c main_v0 (ix2 k n) = aW m c (ix2 k n) := by
  dsimp only [V, hostOps0]
  after_results_simp
  pointwise

theorem idx0 : ∀ t : Fin cfg0.N, win0_0.index t = ![t.val / 16, t.val % 16, 0] :=
  (by decide +kernel : ∀ t : Fin grid0.N, win0_0.index t = ![t.val / 16, t.val % 16, 0])
theorem idx1 : ∀ t : Fin cfg0.N, win0_1.index t = ![t.val / 16, t.val % 16, 0] :=
  (by decide +kernel : ∀ t : Fin grid0.N, win0_1.index t = ![t.val / 16, t.val % 16, 0])
theorem idx2 : ∀ t : Fin cfg0.N, win0_2.index t = ![t.val / 16, t.val % 16, 4] :=
  (by decide +kernel : ∀ t : Fin grid0.N, win0_2.index t = ![t.val / 16, t.val % 16, 4])
theorem idx3 : ∀ t : Fin cfg0.N, win0_3.index t = ![0, 0] :=
  (by decide +kernel : ∀ t : Fin grid0.N, win0_3.index t = ![0, 0])
theorem idx4 : ∀ t : Fin cfg0.N, win0_4.index t = ![t.val / 16, t.val % 16, 0] :=
  (by decide +kernel : ∀ t : Fin grid0.N, win0_4.index t = ![t.val / 16, t.val % 16, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val / 16, t.val % 16, 0] :=
  (by decide +kernel : ∀ t : Fin grid0.N, win0_6.index t = ![t.val / 16, t.val % 16, 0])
theorem idx7 : ∀ t : Fin cfg0.N, win0_7.index t = ![0, 0] :=
  (by decide +kernel : ∀ t : Fin grid0.N, win0_7.index t = ![0, 0])
theorem idx8 : ∀ t : Fin cfg0.N, win0_8.index t = ![t.val / 16, 0, 0] :=
  (by decide +kernel : ∀ t : Fin grid0.N, win0_8.index t = ![t.val / 16, 0, 0])
theorem idx9 : ∀ t : Fin cfg0.N, win0_9.index t = ![t.val / 16, t.val % 16, 0] :=
  (by decide +kernel : ∀ t : Fin grid0.N, win0_9.index t = ![t.val / 16, t.val % 16, 0])

theorem point_lt {n : ℕ} (h : n < cfg0.N) : n < 80 := by
  have e : cfg0.N = 80 := Gen.N_0
  omega

/-- The segment and the row of a point. -/
abbrev seg (n : ℕ) (h : n < cfg0.N) : Fin 5 := ⟨n / 16, by have := point_lt h; omega⟩
abbrev row (n : ℕ) (r : Fin 256) : Fin 4096 := ⟨n % 16 * 256 + r.val, by omega⟩

variable (t : Fin cfg0.N)

theorem blk0 (r : Fin 256) (d : Fin 1024) : iblk m c 0 t (ix3 0 r d) = aF m c (ix3 (seg t.val t.isLt) (row t.val r) d) := by
  have h := V_main_arg0 m c
  blk_ext [iblk, h, idx0 t]

theorem blk1 (r : Fin 256) (d : Fin 1024) : iblk m c 1 t (ix3 0 r d) = aB m c (ix3 (seg t.val t.isLt) (row t.val r) d) := by
  have h := V_main_arg1 m c
  blk_ext [iblk, h, idx1 t]

theorem blk2 (r : Fin 256) (d : Fin 1024) : iblk m c 2 t (ix3 0 r d)
    = aZ m c (ix3 (seg t.val t.isLt) (row t.val r) (⟨4096 + d.val, by omega⟩ : Fin 6144)) := by
  have h := V_main_arg2 m c
  blk_ext [iblk, h, idx2 t]

theorem blk3 (j : Fin 128) : iblk m c 3 t (ix2 0 j) = aHead m c (ix2 0 j) := by
  have h := V_main_arg3 m c
  blk_ext [iblk, h, idx3 t]

theorem blk4 (r : Fin 256) (d : Fin 1024) : iblk m c 4 t (ix3 0 r d) = aOther m c (ix3 (seg t.val t.isLt) (row t.val r) d) := by
  have h := V_main_arg4 m c
  blk_ext [iblk, h, idx4 t]

theorem blk5 (k n : Fin 2048) : iblk m c 5 t (ix2 k n) = aW m c (ix2 k n) := by
  rw [← weights_eq]
  blk_ext [iblk, idx5 t]

theorem blk6 (r : Fin 256) (d : Fin 2048) : iblk m c 6 t (ix3 0 r d) = aX m c (ix3 (seg t.val t.isLt) (row t.val r) d) := by
  have h := V_main_arg6 m c
  blk_ext [iblk, h, idx6 t]

theorem blk7 (d : Fin 2048) : iblk m c 7 t (ix2 0 d) = aGain m c (ix2 0 d) := by
  have h := V_main_arg7 m c
  blk_ext [iblk, h, idx7 t]

theorem blk8 (d : Fin 2048) : iblk m c 8 t (ix3 0 0 d) = aGate m c (ix3 (seg t.val t.isLt) 0 d) := by
  have h := V_main_arg8 m c
  blk_ext [iblk, h, idx8 t]

theorem upper (k : Fin 1024) (n : Fin 2048) :
    View.ld (iblk m c 5 t) r0_2 (ix2 k n)
      = aW m c (ix2 (⟨1024 + k.val, by omega⟩ : Fin 2048) n) := by
  rw [← blk5 m c t]
  blk_ext [View.ld, Rect.idx_unit_val]

theorem lower (k : Fin 1024) (n : Fin 2048) :
    View.ld (iblk m c 5 t) r0_3 (ix2 k n)
      = aW m c (ix2 (⟨k.val, by omega⟩ : Fin 2048) n) := by
  rw [← blk5 m c t]
  blk_ext [View.ld, Rect.idx_unit_val]

/-- The array the kernel leaves. -/
def left : S5x4096x2048.Idx → EReal := fun i =>
  Cert.OddOutMath.outAt (aF m c) (aB m c) (aZ m c) (aHead m c) (aOther m c) (aW m c) (aX m c) (aGain m c) (aGate m c) (i 0) (i 1) (i 2)

theorem hz2 : (![0, 0] : Fin 2 → Nat) = fun _ => 0 := funext fun a => by fin_cases a <;> rfl
theorem hz3 : (![0, 0, 0] : Fin 3 → Nat) = fun _ => 0 := funext fun a => by fin_cases a <;> rfl

theorem load_part (x : Vec Ideal S1x256x1024 .f32) : View.ld x r0_0 = x := View.ld_unit_zero (S := S1x256x1024) hz3 _ x
theorem load_head (x : Vec Ideal S1x128 .f32) : View.ld x r0_1 = x := View.ld_unit_zero (S := S1x128) hz2 _ x
theorem load_row (x : Vec Ideal S1x256x2048 .f32) : View.ld x r0_4 = x := View.ld_unit_zero (S := S1x256x2048) hz3 _ x
theorem load_gate (x : Vec Ideal S1x1x2048 .f32) : View.ld x r0_5 = x := View.ld_unit_zero (S := S1x1x2048) hz3 _ x
theorem load_gain (x : Vec Ideal S1x2048 .f32) : View.ld x r0_6 = x := View.ld_unit_zero (S := S1x2048) hz2 _ x

/-- What the body stores, over the blocks. -/
theorem out_eq (x0 x1 x2 : Vec Ideal S1x256x1024 .f32) (x3 : Vec Ideal S1x128 .f32) (x4 : Vec Ideal S1x256x1024 .f32)
    (x5 : Vec Ideal S2048x2048 .bf16) (x6 : Vec Ideal S1x256x2048 .f32) (x7 : Vec Ideal S1x2048 .f32)
    (x8 : Vec Ideal S1x1x2048 .f32) : out0_9 x0 x1 x2 x3 x4 x5 x6 x7 x8
      = k0_pay1 (product x0 x1 x2 x3 x4 (View.ld x5 r0_2) (View.ld x5 r0_3)) (k0_pay18 x6) (k0_pay19 x8) x7 := by
  unfold out0_9 k0_pay20 k0_pay21
  rw [load_part, load_part, load_part, load_part, load_head, load_row, load_gate, load_gain]
  exact View.canon_unit_zero (S := S1x256x2048) hz3 _ _

theorem point_eq (r : Fin 256) (n : Fin 2048) :
    (Gen.dats m 0 c).after 9 t (ix3 0 r n) = left m c (ix3 (seg t.val t.isLt) (row t.val r) n) := by
  rw [after0_9, out_eq]
  refine (product_apply _ _ _ (product _ _ _ _ _ _ _) r n).trans ?_
  simp only [pay17_apply, blk0, blk1, blk2, blk3, blk4, blk6, blk7, blk8, upper, lower]
  rfl

theorem final : (Gen.dats m 0 c).arrAt 9 cfg0.N = left m c := by
  refine (Gen.dats m 0 c).arrAt_eq_of_covers 9 _ (by decide +kernel) fun t hf y => ?_
  blk_simp
  obtain ⟨r, hr⟩ : ∃ r : Fin 256, r.val = (y (1 : Fin 3)).val := ⟨⟨_, (y (1 : Fin 3)).isLt⟩, rfl⟩
  obtain ⟨l, hl⟩ : ∃ l : Fin 2048, l.val = (y (2 : Fin 3)).val := ⟨⟨_, (y (2 : Fin 3)).isLt⟩, rfl⟩
  have hy : y = ix3 0 r l := by blk_ext [hr, hl]
  have he : (win0_9.blk t).view.emb y = ix3 (seg t.val t.isLt) (row t.val r) l := by
    blk_ext [idx9 t, hr, hl]
  rw [he]
  exact (congrArg ((Gen.dats m 0 c).after 9 t) hy).trans (point_eq m c t r l)

end Cert.OddOutIdeal.Blocks

namespace Cert.OddOutIdeal.Arrays

open Cert.OddOutIdeal Cert.OddOutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The run with the array of the result named, the arguments unchanged. -/
theorem run_arrays : θ_run defs (onTc (τ := τ) (main (F := Ideal))) ⟨m, fun _ => 0, ρ⟩ fun r => ∀ c : Dev nD,
      r.2.mem ((c : Thread nD τ).loc main_v1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.OddOutIdeal.Arrays

namespace Cert.OddOutRefIdeal.Rows

open Cert.OddOutRefIdeal Cert.OddOutRefIdeal.Gen Cert.OddOutRefIdeal.Read Idealize.ShloMosaic Cert.MixMath Cert.OddOutMath

variable (x0 x1 : (⟨S5x4096x1024, .f32⟩ : BufTy).Contents (Elt Ideal)) (x2 : (⟨S5x4096x6144, .f32⟩ : BufTy).Contents (Elt Ideal))
  (x3 : (⟨S1x128, .f32⟩ : BufTy).Contents (Elt Ideal)) (x4 : (⟨S5x4096x1024, .f32⟩ : BufTy).Contents (Elt Ideal))
  (x5 : (⟨S2048x2048, .f32⟩ : BufTy).Contents (Elt Ideal)) (x6 : (⟨S5x4096x2048, .f32⟩ : BufTy).Contents (Elt Ideal))
  (x7 : (⟨S1x2048, .f32⟩ : BufTy).Contents (Elt Ideal)) (x8 : (⟨S5x1x2048, .f32⟩ : BufTy).Contents (Elt Ideal))

theorem sum_apply (b : Fin 5) (p : Fin 4096) (h : Fin 8) (j : Fin 128) :
    val_main_v2 (F := Ideal) x0 x1 (ix4 b p h j)
      = lanes 128 8 (le_refl _) (fun k => x0 (ix3 b p k) + x1 (ix3 b p k)) h j := by
  simp only [val_main_v2, val_main_v1]
  pointwise
  rfl

theorem gate_apply (b : Fin 5) (p : Fin 4096) (h : Fin 8) (j : Fin 128) :
    val_main_v17 (F := Ideal) x2 (ix4 b p h j)
      = lanes 128 8 (le_refl _) (fun k : Fin 1024 => x2 (ix3 b p (⟨4096 + k.val, by omega⟩ : Fin 6144))) h j := by
  simp only [val_main_v17, val_main_v0]
  pointwise
  rfl

theorem root_apply (b : Fin 5) (p : Fin 4096) (h : Fin 8) :
    val_main_v11 (F := Ideal) x0 x1 (ix4 b p h 0)
      = root 1124073472#32 (lanes 128 8 (le_refl _) (fun k => x0 (ix3 b p k) + x1 (ix3 b p k)) h) := by
  have e := funext (sum_apply x0 x1 b p h)
  rw [← e]
  simp only [val_main_v11, val_main_v10, val_main_v9, val_main_v8, val_main_v7, val_main_v6, val_main_v5, val_main_v4,
    val_main_cst_1, val_main_cst_0, val_main_cst]
  generalize val_main_v2 (F := Ideal) x0 x1 = y
  pointwise
  rfl

theorem head_apply (b : Fin 5) (p : Fin 4096) (h : Fin 8) (j : Fin 128) :
    val_main_v19 (F := Ideal) x0 x1 x2 x3 (ix4 b p h j)
      = headAt 1124073472#32 (lanes 128 8 (le_refl _) (fun k => x0 (ix3 b p k) + x1 (ix3 b p k)) h)
          (lanes 128 8 (le_refl _) (fun k : Fin 1024 => x2 (ix3 b p (⟨4096 + k.val, by omega⟩ : Fin 6144))) h)
          (fun j => x3 (ix2 0 j)) j := by
  unfold headAt
  rw [← root_apply, ← sum_apply, ← gate_apply]
  simp only [val_main_v19, val_main_v18, val_main_v16, val_main_v15, val_main_v14, val_main_v13, val_main_v12, val_main_v3,
    val_main_call0_v0, val_main_call0_v1, val_main_call0_v2, val_main_call0_v3, val_main_call0_v4, val_main_call0_v5,
    val_main_call0_cst, val_main_call0_cst_0]
  generalize val_main_v11 (F := Ideal) x0 x1 = y
  generalize val_main_v2 (F := Ideal) x0 x1 = u
  generalize val_main_v17 (F := Ideal) x2 = z
  pointwise
  rfl

theorem gated_apply (b : Fin 5) (p : Fin 4096) (k : Fin 1024) :
    val_main_v20 (F := Ideal) x0 x1 x2 x3 (ix3 b p k)
      = gated (fun k => x0 (ix3 b p k) + x1 (ix3 b p k)) (fun k => x2 (ix3 b p (⟨4096 + k.val, by omega⟩ : Fin 6144)))
          (fun j => x3 (ix2 0 j)) k := by
  unfold gated
  rw [← head_apply]
  simp only [val_main_v20]
  generalize val_main_v19 (F := Ideal) x0 x1 x2 x3 = y
  pointwise

theorem product_apply (b : Fin 5) (p : Fin 4096) (n : Fin 2048) :
    val_main_v22 (F := Ideal) x0 x1 x2 x3 x4 x5 (ix3 b p n)
      = joined (fun k => x0 (ix3 b p k) + x1 (ix3 b p k)) (fun k => x2 (ix3 b p (⟨4096 + k.val, by omega⟩ : Fin 6144)))
          (fun j => x3 (ix2 0 j)) (fun k => x4 (ix3 b p k)) x5 n := by
  unfold joined
  simp only [← gated_apply, val_main_v22, val_main_v21]
  generalize val_main_v20 (F := Ideal) x0 x1 x2 x3 = y
  pointwise
  exact add_comm _ _

theorem result_apply (b : Fin 5) (p : Fin 4096) (n : Fin 2048) :
    val_main_v39 (F := Ideal) x0 x1 x2 x3 x4 x5 x6 x7 x8 (ix3 b p n) = outAt x0 x1 x2 x3 x4 x5 x6 x7 x8 b p n := by
  unfold outAt finish root
  simp only [← product_apply]
  simp only [val_main_v39, val_main_v38, val_main_v37, val_main_v36, val_main_v35, val_main_v34, val_main_v33, val_main_v32,
    val_main_v31, val_main_v30, val_main_v29, val_main_v28, val_main_v27, val_main_v26, val_main_v25, val_main_v24, val_main_v23,
    val_main_cst_2, val_main_cst_3, val_main_cst_4]
  generalize val_main_v22 (F := Ideal) x0 x1 x2 x3 x4 x5 = y
  pointwise

end Cert.OddOutRefIdeal.Rows

namespace Cert.OddOutClaim

open Idealize.ShloMosaic Idealize.ShloMosaic.TcCoe Idealize.SL.Sem Cert.MixMath

theorem frame : Cert.quiescent_OddOut := fun m ρ _ => Cert.OddOut.Gen.frame m ρ

theorem frame_ideal : Cert.quiescent_OddOutIdeal := fun m ρ _ => Cert.OddOutIdeal.Gen.frame m ρ

theorem frame_reference : Cert.quiescent_OddOutRefIdeal := fun m ρ _ =>
  (θ_run Cert.OddOutRefIdeal.defs _ _).mono
    (fun r h => ⟨fun c => (h c).2, sem_eq_zero_of_no_sems (by decide) r.2⟩)
    (Cert.OddOutRefIdeal.Value.run (F := Ideal) m ρ)

theorem algebraic : Cert.algebraic_OddOutIdeal_OddOutRefIdeal := by
  intro m ρ m' ρ' hpre hagree
  refine ⟨fun c => Cert.OddOutIdeal.Blocks.left m c, ?_, ?_⟩
  · exact (θ_run Cert.OddOutIdeal.defs _ _).mono
      (fun _ h c => ⟨(h c).1.trans (Cert.OddOutIdeal.Blocks.final m c), (h c).2⟩)
      (Cert.OddOutIdeal.Arrays.run_arrays m ρ)
  · refine (θ_run Cert.OddOutRefIdeal.defs _ _).mono (fun _ h c => ⟨(h c).1.trans ?_, (h c).2⟩)
      (Cert.OddOutRefIdeal.Value.run (F := Ideal) m' ρ')
    obtain ⟨e0, e1, e2, e3, e4, e5, e6, e7, e8⟩ := hagree c
    rw [Cert.OddOutRefIdeal.Read.val_main_v39_eq, e0, e1, e2, e3, e4, e5, e6, e7, e8]
    funext i
    have hi : i = ix3 (i 0) (i 1) (i 2) := by
      funext a
      match a with
      | ⟨0, _⟩ => rfl
      | ⟨1, _⟩ => rfl
      | ⟨2, _⟩ => rfl
    exact (congrArg _ hi).trans (Cert.OddOutRefIdeal.Rows.result_apply _ _ _ _ _ _ _ _ _ (i 0) (i 1) (i 2))

end Cert.OddOutClaim

end
-- ==== Proof.Mix.QueryFrame.lean ====
module

public import proofs.«01_k».proof.Proof.Gen.QueryIdeal.Launch
public import proofs.«01_k».proof.Proof.Gen.QueryIdeal.Skeleton
public import proofs.«01_k».proof.Proof.Gen.QueryIdeal.Points
public import Idealize.ShloMosaic.Lib.Pipeline.FrameBody
public import Idealize.ShloMosaic.Lib.Pipeline.ValueKit
public import Idealize.ShloMosaic.Lib.Pipeline.ReadBack
public import Idealize.ShloMosaic.Lib.Claim
public import Idealize.ShloMosaic.Lib.Ring
public import Idealize.ShloMosaic.Lib.Tactic
public import Idealize.ShloMosaic.Lib.WordCmp

/-!
The frame of the query call, by hand.

The call has two outputs. The product is stored at every point. The modulated rows are stored at the
first of a row block's two points only, and written back after the second, so at the second point
their buffer is handed on as it was found. What the buffers hold is stated outright: the rows of a
block are a function of the blocks read at the first of its two points.
-/

@[expose] public section

set_option maxRecDepth 16384

noncomputable section

namespace Cert.QueryIdeal.Hand

open Cert.QueryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- Core `c`'s buffers when the region is entered. -/
abbrev V (c : Dev nD) (b : Ref sig .tc) : Buf (Elt F) ((c : Thread nD τ).loc b) :=
  StableHlo.after hostOps0 (fun b => m (c, b)) b

theorem hostOps0_fresh :
    (hostOps0 : List (HloOp τ sig (Elt F))).Forall fun op => op.fresh = ∅ := by
  simp only [List.Forall]; repeat' constructor

set_option maxHeartbeats 800000 in
/-- The host operations, then the region. -/
theorem hmain (𝒱₀ : Variants) :
    Pipeline.HMain (Ix := Unit) (Name := ℕ) (U := UR sig nD τ) (Lvl := ℕ)
      cfgs 0 defs₀ 𝒱₀ m (main (F := F)) (V m) :=
  Pipeline.hmain_prefix cfgs 0 defs₀ 𝒱₀ m main hostOps0 hostOps0_sub hostOps0_fresh main_chain

/-- The host operations write none of the arguments. -/
theorem V_arg (c : Dev nD) (b : Ref sig .tc)
    (hb : b ∈ [main_arg0, main_arg1, main_arg2, main_arg3, main_arg4]) :
    V m c b = m ((c : Thread nD τ).loc b) := by
  refine StableHlo.after_of_forall_not_mem (b := Proc.devRef .tc b) _ _
    (List.forall_iff_forall_mem.mp ?_)
  simp only [List.mem_cons, List.not_mem_nil, or_false] at hb
  simp only [hostOps0, List.flatten_cons, List.flatten_nil, List.append_nil, List.cons_append,
    List.nil_append, List.Forall, StableHlo.nullary_writes, StableHlo.unary_writes,
    StableHlo.binary_writes, StableHlo.reshape_writes, Finset.mem_singleton]
  rcases hb with rfl | rfl | rfl | rfl | rfl <;>
    (repeat' apply And.intro) <;> exact StableHlo.devRef_ne_of_ne (by decide)

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The body's condition and its buffers -/

/-- The condition of the body's branch, from the grid coordinates. -/
abbrev first (i : grid0.Coords) : Prop :=
  (Scalar.cmpi .ne (Scalar.extui (Scalar.cmpi .eq (BitVec.ofNat 32 (i 2).val) 0#32)) 0#32) = 1#1

/-- The branch is taken at the first of a row block's two points. -/
theorem first_iff : ∀ t : Fin cfg0.N, first (grid0.coords t) ↔ t.val % 2 = 0 :=
  (fun t => by
    have ht : t.val < 80 := Nat.lt_of_lt_of_eq t.isLt N_0
    have e2 : (grid0.coords t 2).val = t.val / 1 % 2 :=
      Pipeline.Grid.coords_val t 2 (by decide) rfl
    simp only [first, e2]
    word_cmp
   : ∀ t : Fin grid0.N, first (grid0.coords t) ↔ t.val % 2 = 0)

/-- There the rows' output is stored; at the second point it is left alone. -/
theorem stores_first (t : Fin cfg0.N) (h : t.val % 2 = 0) :
    cfg0.idle 6 (cfg0.grid.coords t) = false := by
  have hc : k0_cond1 (grid0.coords t) = 1#1 := (first_iff t).mpr h
  show (!(k0_cond1 (grid0.coords t) == 1#1)) = false
  rw [hc]; rfl

theorem leaves_second (t : Fin cfg0.N) (h : ¬t.val % 2 = 0) :
    cfg0.idle 6 (cfg0.grid.coords t) = true := by
  have hc : ¬k0_cond1 (grid0.coords t) = 1#1 := fun hc => h ((first_iff t).mp hc)
  show (!(k0_cond1 (grid0.coords t) == 1#1)) = true
  rw [beq_eq_false_iff_ne.mpr hc]; rfl

/-- The rows kept beside the windows. -/
abbrev kept : Memref sig .tc .vmem S512x2048 .bf16 := Memref.whole cc0_scratch0

theorem PhiA_eq (c : Dev nD) :
    (Pipeline.ΦA spec0 c : sProp 𝕄)
      = iprop(iprop((∃ d, owns (c : Thread nD τ) kept fullShare d)) ∗ (∃ r, prngReg c r)) := by
  unfold Pipeline.ΦA; rw [scopedRest0_eq]; simp only [kept, owns_whole]; try rfl

/-! ## The body's two runs -/

set_option maxHeartbeats 1600000 in
/-- At the first of a row block's points the body forms the rows, stores them twice, and stores their
    product. -/
theorem run_first (c : Dev nD) (i : grid0.Coords)
    (arg3 : Memref sig .tc .vmem S1x512x2048 .f32) (harg3 : arg3.IsWhole)
    (arg4 : Memref sig .tc .vmem S1x2048 .f32) (harg4 : arg4.IsWhole)
    (arg5 : Memref sig .tc .vmem S1x1x2048 .f32) (harg5 : arg5.IsWhole)
    (arg6 : Memref sig .tc .vmem S1x1x2048 .f32) (harg6 : arg6.IsWhole)
    (arg7 : Memref sig .tc .vmem S2048x1024 .bf16) (harg7 : arg7.IsWhole)
    (arg8 : Memref sig .tc .vmem S1x512x1024 .f32) (harg8 : arg8.IsWhole)
    (arg9 : Memref sig .tc .vmem S1x512x2048 .bf16) (harg9 : arg9.IsWhole)
    (arg10 : Memref sig .tc .vmem S512x2048 .bf16) (harg10 : arg10.IsWhole)
    (hc0 : first i)
    (x0 : Vec F S1x512x2048 .f32) (x1 : Vec F S1x2048 .f32) (x2 : Vec F S1x1x2048 .f32)
    (x3 : Vec F S1x1x2048 .f32) (x4 : Vec F S2048x1024 .bf16)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4 ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4
            ∗ owns (c : Thread nD τ) arg8 fullShare (k0_pay3 (k0_pay1 x0 x1 x2 x3) x4)
            ∗ owns (c : Thread nD τ) arg9 fullShare (k0_pay2 (k0_pay1 x0 x1 x2 x3))
            ∗ owns (c : Thread nD τ) arg10 fullShare (k0_pay1 x0 x1 x2 x3)) -∗ K ⟨⟩))
      ⊢ wp frame (wpE (defs₀ (F := F)) Variants.none c none) E
          (cc0_norm_matmul i arg3 harg3 arg4 harg4 arg5 harg5 arg6 harg6 arg7 harg7 arg8 harg8
            arg9 harg9 arg10 harg10) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, ⟨%ds0, %fs0, -, HS0⟩, Hk⟩
  obtain rfl := harg3.eq_unread hf0; obtain rfl := harg4.eq_unread hf1
  obtain rfl := harg5.eq_unread hf2; obtain rfl := harg6.eq_unread hf3
  obtain rfl := harg7.eq_unread hf4
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (View.read_writes_eq_canon _ _ _
      (View.cover_of_tiledL _ S1x512x1024.size (by sl_kernel_rfl))).trans ?_
    frame_out
  isplitl [H6]
  · iexists _; isplitr
    swap; · iexact H6
    ipureintro
    refine (View.read_writes_eq_canon _ _ _
      (View.cover_of_tiledL _ S1x512x2048.size (by sl_kernel_rfl))).trans ?_
    frame_out
  iexists _; isplitr
  swap; · iexact HS0
  ipureintro
  refine (View.read_writes_eq_canon _ _ _
    (View.cover_of_tiledL _ S512x2048.size (by sl_kernel_rfl))).trans ?_
  frame_out

set_option maxHeartbeats 1600000 in
/-- At the second the body stores the product of the rows kept, and leaves the other output as it
    was. -/
theorem run_second (c : Dev nD) (i : grid0.Coords)
    (arg3 : Memref sig .tc .vmem S1x512x2048 .f32) (harg3 : arg3.IsWhole)
    (arg4 : Memref sig .tc .vmem S1x2048 .f32) (harg4 : arg4.IsWhole)
    (arg5 : Memref sig .tc .vmem S1x1x2048 .f32) (harg5 : arg5.IsWhole)
    (arg6 : Memref sig .tc .vmem S1x1x2048 .f32) (harg6 : arg6.IsWhole)
    (arg7 : Memref sig .tc .vmem S2048x1024 .bf16) (harg7 : arg7.IsWhole)
    (arg8 : Memref sig .tc .vmem S1x512x1024 .f32) (harg8 : arg8.IsWhole)
    (arg9 : Memref sig .tc .vmem S1x512x2048 .bf16) (harg9 : arg9.IsWhole)
    (arg10 : Memref sig .tc .vmem S512x2048 .bf16) (harg10 : arg10.IsWhole)
    (hc0 : ¬first i)
    (x4 : Vec F S2048x1024 .bf16) (xs0 : Vec F S512x2048 .bf16)
    (E : Set ℕ) (K : PUnit → sProp 𝕄) :
    iprop(owns (c : Thread nD τ) arg7 fullShare x4 ∗ (∃ d, owns (c : Thread nD τ) arg8 fullShare d)
        ∗ owns (c : Thread nD τ) arg10 fullShare xs0
        ∗ (iprop(owns (c : Thread nD τ) arg7 fullShare x4
            ∗ owns (c : Thread nD τ) arg8 fullShare (k0_pay3 xs0 x4)
            ∗ owns (c : Thread nD τ) arg10 fullShare xs0) -∗ K ⟨⟩))
      ⊢ wp frame (wpE (defs₀ (F := F)) Variants.none c none) E
          (cc0_norm_matmul i arg3 harg3 arg4 harg4 arg5 harg5 arg6 harg6 arg7 harg7 arg8 harg8
            arg9 harg9 arg10 harg10) K := by
  simp only [cc0_norm_matmul_eq_skeleton]; unfold cc0_norm_matmul_skel
  unfold owns
  iintro ⟨⟨%f4, %hf4, H4⟩, ⟨%d5, %f5, -, H5⟩, ⟨%fs0, %hfs0, HS0⟩, Hk⟩
  obtain rfl := harg7.eq_unread hf4; obtain rfl := harg10.eq_unread hfs0
  sl_exec (disch := first | sl_exact hc0)
  sl_step
  iapply Hk
  isplitl [H4]
  · iexists _; isplitr; · ipureintro; exact harg7.read_unread _
    iexact H4
  isplitl [H5]
  · iexists _; isplitr
    swap; · iexact H5
    ipureintro
    refine (View.read_writes_eq_canon _ _ _
      (View.cover_of_tiledL _ S1x512x1024.size (by sl_kernel_rfl))).trans ?_
    frame_out
  iexists _; isplitr; · ipureintro; exact harg10.read_unread _
  iexact HS0

/-! ## What the buffers hold -/

/-- The first point of the row block position `n` is in. -/
def base (n : ℕ) (hn : n < cfg0.N) : Fin cfg0.N := ⟨n - n % 2, by omega⟩

/-- The rows kept after position `n`. -/
def rows (c : Dev nD) (n : ℕ) (hn : n < cfg0.N) : Vec F S512x2048 .bf16 :=
  k0_pay1 (iblk m c 0 (base n hn)) (iblk m c 1 (base n hn)) (iblk m c 2 (base n hn))
    (iblk m c 3 (base n hn))

theorem rows_first (c : Dev nD) (t : Fin cfg0.N) (h : t.val % 2 = 0) :
    rows m c t.val t.isLt = k0_pay1 (iblk m c 0 t) (iblk m c 1 t) (iblk m c 2 t) (iblk m c 3 t) := by
  have e : base t.val t.isLt = t := Fin.ext (by show t.val - t.val % 2 = t.val; omega)
  rw [rows, e]

theorem rows_second (c : Dev nD) (n n' : ℕ) (hn : n < cfg0.N) (hn' : n' < cfg0.N)
    (h : n - n % 2 = n' - n' % 2) : rows m c n hn = rows m c n' hn' := by
  have e : base n hn = base n' hn' := Fin.ext h
  rw [rows, rows, e]

/-- What the region keeps between points: nothing named before the first, then the rows of the point
    before. -/
def PhiS (c : Dev nD) : (n : ℕ) → n ≤ cfg0.N → sProp 𝕄
  | 0, _ => Pipeline.ΦA spec0 c
  | n + 1, hn =>
      iprop(iprop(owns (c : Thread nD τ) kept fullShare (rows m c n hn)) ∗ (∃ r, prngReg c r))

theorem PhiS_zero (c : Dev nD) (n : ℕ) (h : n ≤ cfg0.N) (hz : n = 0) :
    PhiS m c n h = Pipeline.ΦA spec0 c := by
  subst hz; rfl

theorem PhiS_succ (c : Dev nD) (n : ℕ) (hn : n < cfg0.N) :
    PhiS m c (n + 1) hn
      = iprop(iprop(owns (c : Thread nD τ) kept fullShare (rows m c n hn))
          ∗ (∃ r, prngReg c r)) := rfl

theorem PhiS_pos (c : Dev nD) (n : ℕ) (h : n ≤ cfg0.N) (hz : n ≠ 0) :
    PhiS m c n h
      = iprop(iprop(owns (c : Thread nD τ) kept fullShare (rows m c (n - 1) (by omega)))
          ∗ (∃ r, prngReg c r)) := by
  cases n with
  | zero => exact absurd rfl hz
  | succ n => rfl

/-- The proof data: each input's buffer keeps its block, the outputs hold the product and the rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (rows m c t.val t.isLt) (iblk m c 4 t)
    | ⟨6, _⟩ => k0_pay2 (rows m c t.val t.isLt)
  Φ t := PhiS m c t.val (Nat.le_of_lt_succ t.isLt)
  q _ := fullShare
  owed _ := 0

theorem A_eq (c : Dev nD) (w : Fin cfg0.W) :
    (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by
  dsimp only [dats]
theorem after_1 (c : Dev nD) (t : Fin cfg0.N) : (dats m 0 c).after 1 t = iblk m c 1 t := by
  dsimp only [dats]
theorem after_2 (c : Dev nD) (t : Fin cfg0.N) : (dats m 0 c).after 2 t = iblk m c 2 t := by
  dsimp only [dats]
theorem after_3 (c : Dev nD) (t : Fin cfg0.N) : (dats m 0 c).after 3 t = iblk m c 3 t := by
  dsimp only [dats]
theorem after_4 (c : Dev nD) (t : Fin cfg0.N) : (dats m 0 c).after 4 t = iblk m c 4 t := by
  dsimp only [dats]
theorem after_5 (c : Dev nD) (t : Fin cfg0.N) :
    (dats m 0 c).after 5 t = k0_pay3 (rows m c t.val t.isLt) (iblk m c 4 t) := by
  dsimp only [dats]
theorem after_6 (c : Dev nD) (t : Fin cfg0.N) :
    (dats m 0 c).after 6 t = k0_pay2 (rows m c t.val t.isLt) := by
  dsimp only [dats]

/-- Each input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- At a row block's second point the rows' buffer holds what the first left in it. -/
theorem before_6 (c : Dev nD) (t : Fin cfg0.N) (h : ¬t.val % 2 = 0) (d) :
    (dats m 0 c).before 6 t d = k0_pay2 (rows m c t.val t.isLt) := by
  have hz : t.val ≠ 0 := fun hz => h (by rw [hz])
  have hf : (cfg0.win 6).flush ⟨t.val - 1, Nat.lt_of_le_of_lt (Nat.sub_le _ _) t.isLt⟩ = false :=
    Bool.eq_false_iff.mpr fun hf => by
      have := (flush0_6 _).mp hf
      simp only at this; omega
  rw [(dats m 0 c).before_of_pos 6 t hz ((cfg0.win 6).fetch_out rfl t), hf,
    if_neg Bool.false_ne_true]
  unfold Dat.left
  rw [stores_first ⟨t.val - 1, Nat.lt_of_le_of_lt (Nat.sub_le _ _) t.isLt⟩ (by simp only; omega)]
  unfold Dat.kept
  rw [Pipeline.fill_of_clip_none 6 _ (fun _ => rfl) d ((dats m 0 c).after 6 _), Window.fill_cut,
    after_6]
  exact congrArg k0_pay2 (rows_second m c _ _ _ _ (by simp only; omega))

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- Before any point the kept rows' buffer is owned at some contents. -/
theorem PhiS_any (c : Dev nD) (n : ℕ) (h : n ≤ cfg0.N) :
    PhiS m c n h ⊢ iprop(iprop((∃ d, owns (c : Thread nD τ) kept fullShare d))
      ∗ (∃ r, prngReg c r)) := by
  by_cases hz : n = 0
  · rw [PhiS_zero m c n h hz, PhiA_eq]
    try exact Idealize.SL.BI.Entails.refl _
  · rw [PhiS_pos m c n h hz]
    iintro ⟨HS0, Hg⟩
    isplitl [HS0]
    · iexists _; iexact HS0
    iexact Hg

set_option maxHeartbeats 3200000 in
/-- The body at any point. -/
theorem sound_body (c : Dev nD) (t : Fin cfg0.N) :
    bodyPre m c t ⊢ wp frame (wpE (defs₀ (F := F)) Variants.none c none) Set.univ (bodyAt0 t)
      (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5, after_6]
  rw [show (dats m 0 c).Φ t.succ = PhiS m c (t.val + 1) t.isLt from rfl, PhiS_succ]
  rw [PhiS_castSucc m c t]
  by_cases h0 : t.val % 2 = 0
  · rw [rows_first m c t h0]
    iintro ⟨HP, Ho, ⟨%d0, H0⟩, ⟨%d1, H1⟩, ⟨%d2, H2⟩, ⟨%d3, H3⟩, ⟨%d4, H4⟩, ⟨%d5, H5⟩, ⟨%d6, H6⟩⟩
    ihave HP := (PhiS_any m c t.val (Nat.le_of_lt t.isLt)) $$ HP
    icases HP with ⟨HS0, Hg⟩
    iapply (run_first c (grid0.coords t) _ _ _ _ _ _ _ _ _ _ _ _ _ _ _ _ ((first_iff t).mpr h0)
      (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun hz => h0 (by rw [hz])
    simp only [before_6 m c t h0]
    rw [PhiS_pos m c _ _ hz, rows_second m c (t.val - 1) t.val _ t.isLt (by omega)]
    iintro ⟨⟨HS0, Hg⟩, Ho, ⟨%d0, H0⟩, ⟨%d1, H1⟩, ⟨%d2, H2⟩, ⟨%d3, H3⟩, ⟨%d4, H4⟩, ⟨%d5, H5⟩,
      ⟨%d6, H6⟩⟩
    iapply (run_second c (grid0.coords t) _ _ _ _ _ _ _ _ _ _ _ _ _ _ _ _
      (fun h => h0 ((first_iff t).mp h)) (iblk m c 4 t) _ Set.univ _)
    isplitl [H4]; · iexact H4
    isplitl [H5]; · iexists _; iexact H5
    isplitl [HS0]; · iexact HS0
    iintro ⟨H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

/-- The body's triple in the library's form. -/
theorem body_obligation (c : Dev nD) :
    BodyObligation (dats (F := F) m 0 c) (defs₀ (F := F)) Variants.none () Set.univ := fun t => by
  rw [bigSep_W0, bigSep_W0, defs₀_row]
  refine triple_restated (sound_body m c t) rfl .rfl fun _ => ?_
  by_cases h0 : t.val % 2 = 0
  · rw [stores_first t h0]
    exact .rfl
  · rw [leaves_second t h0, (flush0_6 t).mpr (by omega)]
    exact .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA_eq]
  exact PhiS_any m c _ _

/-! ## The run -/

set_option backward.isDefEq.respectTransparency.types false in
/-- Every execution ends with the arrays the proof data give and every counter at zero. -/
theorem run_main_quiescent :
    θ_run defs (onTc (τ := τ) (main (F := F))) (s₀ m ρ)
      (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose)
    (hshare := fun c => (dats m 0 c).share_full fun _ => rfl)
    (howed := fun _ _ => rfl) (V := V m) (hmain := hmain m Variants.none) (hA := A_eq m)
    (hin := hin m) (hout := hout m)

/-- The arrays alone. -/
theorem run_main :
    θ_run defs (onTc (τ := τ) (main (F := F))) (s₀ m ρ)
      (Pipeline.FramePost cfgs (dats m) 0 (V m)) :=
  (θ_run defs _ _).mono (fun _ h => h.1) (run_main_quiescent m ρ)

/-- The argument arrays end as they began. -/
theorem unchanged :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans
        ((A_eq m c 0).trans (V_arg m c main_arg0 (by decide)))),
      ((h c).1 1).trans (((dats m 0 c).arrAt_in 1 rfl _).trans
        ((A_eq m c 1).trans (V_arg m c main_arg1 (by decide)))),
      ((h c).2 main_arg2 (Pipeline.mem_restRefs_of main_arg2 (by decide) (by decide))).trans
        (V_arg m c main_arg2 (by decide)),
      ((h c).1 3).trans (((dats m 0 c).arrAt_in 3 rfl _).trans
        ((A_eq m c 3).trans (V_arg m c main_arg3 (by decide)))),
      ((h c).2 main_arg4 (Pipeline.mem_restRefs_of main_arg4 (by decide) (by decide))).trans
        (V_arg m c main_arg4 (by decide))⟩) (run_main m ρ)

/-- The frame: the argument arrays end as they began, every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ)
    ((θ_run defs _ _).mono (fun _ h => h.2) (run_main_quiescent m ρ))

end Cert.QueryIdeal.Hand

end
-- ==== Proof.Mix.Query.lean ====
/- The two arrays that the query call leaves: the modulated rows and their product with the weights. -/
module

public import proofs.«01_k».proof.Proof.Mix.QueryFrame
public import proofs.«01_k».proof.Proof.Gen.Query.Launch
public import proofs.«01_k».proof.Proof.Gen.QueryRefIdeal.Read
public import proofs.«01_k».proof.Proof.Gen.QueryRefIdeal.Run
public import proofs.«01_k».proof.Proof.Mix.Math
public import proofs.«01_k».proof.Defs
public import Idealize.ShloMosaic.Lib.Quiescent
public import Idealize.ShloMosaic.Lib.Pipeline.ValueKit

@[expose] public section

set_option maxRecDepth 16384

noncomputable section

namespace Cert.QueryIdeal.Blocks

open Cert.QueryIdeal Cert.QueryIdeal.Gen Cert.QueryIdeal.Hand Idealize.ShloMosaic Idealize.ShloMosaic.TcCoe Idealize.SL.Sem
open Cert.MixMath
open Idealize.ShloMosaic.Pipeline (Dat)

section
variable (x0 : Vec Ideal S1x512x2048 .f32) (x1 : Vec Ideal S1x2048 .f32) (x2 x3 : Vec Ideal S1x1x2048 .f32)
  (acc : Vec Ideal S512x2048 .bf16) (x4 : Vec Ideal S2048x1024 .bf16)

/-- The rows that the first point of a block stores. -/
theorem rows_apply (r : Fin 512) (d : Fin 2048) :
    k0_pay1 x0 x1 x2 x3 (ix2 r d)
      = modulated (fun d => x0 (ix3 0 r d)) (fun d => x1 (ix2 0 d)) (fun d => x2 (ix3 0 0 d)) (fun d => x3 (ix3 0 0 d)) d := by
  unfold k0_pay1
  pointwise
  rfl

/-- The same rows as the second output's block. -/
theorem emitted_apply (r : Fin 512) (d : Fin 2048) : k0_pay2 acc (ix3 0 r d) = acc (ix2 r d) := by
  unfold k0_pay2
  pointwise

/-- The product that every point stores. -/
theorem product_apply (r : Fin 512) (l : Fin 1024) :
    k0_pay3 acc x4 (ix3 0 r l) = through (fun d => acc (ix2 r d)) x4 l := by
  unfold k0_pay3
  pointwise
  rfl

end

variable (m : (ℓ : Loc nD τ sig) → Buf (Elt Ideal) ℓ) (ρ : Dev nD → PrngReg) (c : Dev nD)

abbrev aX : S5x4096x2048.Idx → EReal := m ((c.tc : Thread nD τ).loc main_arg0)
abbrev aGain : S1x2048.Idx → EReal := m ((c.tc : Thread nD τ).loc main_arg1)
abbrev aSc : S5x1x2048.Idx → EReal := m ((c.tc : Thread nD τ).loc main_arg2)
abbrev aSh : S5x1x2048.Idx → EReal := m ((c.tc : Thread nD τ).loc main_arg3)
abbrev aW : S2048x2048.Idx → EReal := m ((c.tc : Thread nD τ).loc main_arg4)

/-- The scale that the host prepares. -/
theorem scale_eq (b : Fin 5) (d : Fin 2048) :
    V m c main_v1 (ix3 b 0 d) = Ideal.ofBits FTy.f32 1065353216#32 + aSc m c (ix3 b 0 d) := by
  dsimp only [V, hostOps0]
  after_results_simp
  pointwise

/-- The weights that the host casts. -/
theorem weights_eq (d l : Fin 2048) : V m c main_v2 (ix2 d l) = aW m c (ix2 d l) := by
  dsimp only [V, hostOps0]
  after_results_simp
  pointwise

theorem idx0 : ∀ t : Fin cfg0.N, win0_0.index t = ![t.val / 16, t.val / 2 % 8, 0] :=
  (by decide +kernel : ∀ t : Fin grid0.N, win0_0.index t = ![t.val / 16, t.val / 2 % 8, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val / 16, 0, 0] :=
  (by decide +kernel : ∀ t : Fin grid0.N, win0_2.index t = ![t.val / 16, 0, 0])
theorem idx3 : ∀ t : Fin cfg0.N, win0_3.index t = ![t.val / 16, 0, 0] :=
  (by decide +kernel : ∀ t : Fin grid0.N, win0_3.index t = ![t.val / 16, 0, 0])
theorem idx4 : ∀ t : Fin cfg0.N, win0_4.index t = ![0, t.val % 2] :=
  (by decide +kernel : ∀ t : Fin grid0.N, win0_4.index t = ![0, t.val % 2])
theorem idx5 : ∀ t : Fin cfg0.N, win0_5.index t = ![t.val / 16, t.val / 2 % 8, t.val % 2] :=
  (by decide +kernel : ∀ t : Fin grid0.N, win0_5.index t = ![t.val / 16, t.val / 2 % 8, t.val % 2])
theorem idx6 : ∀ t : Fin cfg0.N, win0_6.index t = ![t.val / 16, t.val / 2 % 8, 0] :=
  (by decide +kernel : ∀ t : Fin grid0.N, win0_6.index t = ![t.val / 16, t.val / 2 % 8, 0])

theorem point_lt {n : ℕ} (h : n < cfg0.N) : n < 80 := by
  have e : cfg0.N = 80 := Gen.N_0
  omega

/-- The segment and the row of a point. -/
abbrev seg (n : ℕ) (h : n < cfg0.N) : Fin 5 := ⟨n / 16, by have := point_lt h; omega⟩
abbrev row (n : ℕ) (r : Fin 512) : Fin 4096 := ⟨n / 2 % 8 * 512 + r.val, by omega⟩

variable (t : Fin cfg0.N)

theorem blk0 (r : Fin 512) (d : Fin 2048) :
    iblk m c 0 t (ix3 0 r d) = aX m c (ix3 (seg t.val t.isLt) (row t.val r) d) := by
  have h := V_arg m c main_arg0 (by decide)
  blk_ext [iblk, h, idx0 t]

theorem blk1 (d : Fin 2048) : iblk m c 1 t (ix2 0 d) = aGain m c (ix2 0 d) := by
  have h := V_arg m c main_arg1 (by decide)
  blk_ext [iblk, h, idx1 t]

theorem blk2 (d : Fin 2048) : iblk m c 2 t (ix3 0 0 d)
    = Ideal.ofBits FTy.f32 1065353216#32 + aSc m c (ix3 (seg t.val t.isLt) 0 d) := by
  rw [← scale_eq m c (seg t.val t.isLt) d]
  blk_ext [iblk, idx2 t]

theorem blk3 (d : Fin 2048) : iblk m c 3 t (ix3 0 0 d) = aSh m c (ix3 (seg t.val t.isLt) 0 d) := by
  have h := V_arg m c main_arg3 (by decide)
  blk_ext [iblk, h, idx3 t]

theorem blk4 (d : Fin 2048) (l : Fin 1024) : iblk m c 4 t (ix2 d l)
    = aW m c (ix2 d (⟨t.val % 2 * 1024 + l.val, by omega⟩ : Fin 2048)) := by
  rw [← weights_eq m c d]
  blk_ext [iblk, idx4 t]

/-- The rows kept after a point: the modulated rows of the point's segment and rows. -/
theorem kept_eq (r : Fin 512) (d : Fin 2048) :
    rows m c t.val t.isLt (ix2 r d)
      = hAt (aX m c) (aGain m c) (aSc m c) (aSh m c) (seg t.val t.isLt) (row t.val r) d := by
  have e1 : (t.val - t.val % 2) / 16 = t.val / 16 := by omega
  have e2 : (t.val - t.val % 2) / 2 = t.val / 2 := by omega
  unfold rows
  rw [rows_apply]
  simp only [blk0, blk1, blk2, blk3, base, seg, row, e1, e2]
  rfl

/-- The two arrays the kernel leaves. -/
def left : S5x4096x2048.Idx → EReal := fun i =>
  through (hAt (aX m c) (aGain m c) (aSc m c) (aSh m c) (i 0) (i 1)) (aW m c) (i 2)

def leftRows : S5x4096x2048.Idx → EReal := fun i =>
  hAt (aX m c) (aGain m c) (aSc m c) (aSh m c) (i 0) (i 1) (i 2)

theorem point_eq (r : Fin 512) (l : Fin 1024) :
    k0_pay3 (rows m c t.val t.isLt) (iblk m c 4 t) (ix3 0 r l)
      = left m c (ix3 (seg t.val t.isLt) (row t.val r) (⟨t.val % 2 * 1024 + l.val, by omega⟩ : Fin 2048)) := by
  rw [product_apply]
  unfold left through
  refine Finset.sum_congr rfl fun d _ => ?_
  exact congrArg₂ (· * ·) (kept_eq m c t r d) (blk4 m c t d l)

theorem final : (Hand.dats m 0 c).arrAt 5 cfg0.N = left m c := by
  refine (Hand.dats m 0 c).arrAt_eq_of_covers 5 _ (by decide +kernel) fun t hf y => ?_
  blk_simp
  rw [after_5]
  obtain ⟨r, hr⟩ : ∃ r : Fin 512, r.val = (y (1 : Fin 3)).val := ⟨⟨_, (y (1 : Fin 3)).isLt⟩, rfl⟩
  obtain ⟨l, hl⟩ : ∃ l : Fin 1024, l.val = (y (2 : Fin 3)).val := ⟨⟨_, (y (2 : Fin 3)).isLt⟩, rfl⟩
  have hy : y = ix3 0 r l := by blk_ext [hr, hl]
  have he : (win0_5.blk t).view.emb y = ix3 (seg t.val t.isLt) (row t.val r)
      (⟨t.val % 2 * 1024 + l.val, by omega⟩ : Fin 2048) := by
    blk_ext [idx5 t, hr, hl]
  rw [he]
  exact (congrArg (k0_pay3 (rows m c t.val t.isLt) (iblk m c 4 t)) hy).trans (point_eq m c t r l)

theorem finalRows : (Hand.dats m 0 c).arrAt 6 cfg0.N = leftRows m c := by
  refine (Hand.dats m 0 c).arrAt_eq_of_covers 6 _ (by decide +kernel) fun t hf y => ?_
  blk_simp
  rw [after_6]
  obtain ⟨r, hr⟩ : ∃ r : Fin 512, r.val = (y (1 : Fin 3)).val := ⟨⟨_, (y (1 : Fin 3)).isLt⟩, rfl⟩
  obtain ⟨d, hd⟩ : ∃ d : Fin 2048, d.val = (y (2 : Fin 3)).val := ⟨⟨_, (y (2 : Fin 3)).isLt⟩, rfl⟩
  have hy : y = ix3 0 r d := by blk_ext [hr, hd]
  have he : (win0_6.blk t).view.emb y = ix3 (seg t.val t.isLt) (row t.val r) d := by
    blk_ext [idx6 t, hr, hd]
  rw [he]
  refine (congrArg (k0_pay2 (rows m c t.val t.isLt)) hy).trans ?_
  rw [emitted_apply, kept_eq]
  rfl

/-- The two arrays and the arguments after a run. -/
theorem run_arrays :
    θ_run defs (onTc (τ := τ) (main (F := Ideal))) ⟨m, fun _ => 0, ρ⟩ fun r => ∀ c : Dev nD,
      r.2.mem ((c : Thread nD τ).loc main_v3_0) = left m c
      ∧ r.2.mem ((c : Thread nD τ).loc main_v3_1) = leftRows m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun _ h c => ⟨((h.1 c).1 5).trans (final m c), ((h.1 c).1 6).trans (finalRows m c), h.2 c⟩)
    (θ_run_and (Hand.run_main m ρ) (Hand.unchanged m ρ))

end Cert.QueryIdeal.Blocks

namespace Cert.QueryRefIdeal.Rows

open Cert.QueryRefIdeal Cert.QueryRefIdeal.Gen Cert.QueryRefIdeal.Read Idealize.ShloMosaic Cert.MixMath

variable (x0 : (⟨S5x4096x2048, .f32⟩ : BufTy).Contents (Elt Ideal)) (x1 : (⟨S1x2048, .f32⟩ : BufTy).Contents (Elt Ideal))
  (x2 x3 : (⟨S5x1x2048, .f32⟩ : BufTy).Contents (Elt Ideal)) (x4 : (⟨S2048x2048, .f32⟩ : BufTy).Contents (Elt Ideal))

theorem root_apply (b : Fin 5) (p : Fin 4096) :
    val_main_v8 (F := Ideal) x0 (ix3 b p 0) = root 1157627904#32 (fun d => x0 (ix3 b p d)) := by
  simp only [val_main_v8, val_main_v7, val_main_v6, val_main_v5, val_main_v4, val_main_v3, val_main_v2, val_main_v1,
    val_main_cst_1, val_main_cst_0, val_main_cst]
  pointwise
  rfl

theorem h_apply (b : Fin 5) (p : Fin 4096) (d : Fin 2048) :
    val_main_v19 (F := Ideal) x0 x1 x2 x3 (ix3 b p d) = hAt x0 x1 x2 x3 b p d := by
  unfold hAt
  rw [modulated_eq, ← root_apply]
  simp only [val_main_v19, val_main_v18, val_main_v17, val_main_v16, val_main_v15, val_main_v14, val_main_v13,
    val_main_v12, val_main_v11, val_main_v10, val_main_v9, val_main_v0, val_main_cst_2]
  generalize val_main_v8 (F := Ideal) x0 = y
  pointwise

theorem result_apply (b : Fin 5) (p : Fin 4096) (l : Fin 2048) :
    val_main_v20 (F := Ideal) x0 x1 x2 x3 x4 (ix3 b p l) = through (hAt x0 x1 x2 x3 b p) x4 l := by
  unfold through
  simp only [← h_apply, val_main_v20]
  generalize val_main_v19 (F := Ideal) x0 x1 x2 x3 = y
  pointwise

theorem rows_apply (b : Fin 5) (p : Fin 4096) (d : Fin 2048) :
    val_main_v21 (F := Ideal) x0 x1 x2 x3 (ix3 b p d) = hAt x0 x1 x2 x3 b p d := by
  rw [← h_apply, val_main_v21]
  generalize val_main_v19 (F := Ideal) x0 x1 x2 x3 = y
  pointwise

end Cert.QueryRefIdeal.Rows

namespace Cert.QueryClaim

open Idealize.ShloMosaic Idealize.ShloMosaic.TcCoe Idealize.SL.Sem Cert.MixMath

section
variable {F : FTy → Type} [FloatOps F]

/-- The program and its ideal form have one text, so one body table and one main. -/
theorem row_eq (k : Fin 1) (x) :
    (Cert.Query.defs₀ (F := F)) .tc k x = (Cert.QueryIdeal.defs₀ (F := F)) .tc k x := by
  fin_cases k
  obtain ⟨t, s⟩ := x
  rfl

theorem table_eq : Cert.Query.defs₀ (F := F) = Cert.QueryIdeal.defs₀ (F := F) := by
  funext κ k x
  cases κ
  · exact row_eq k x
  all_goals rfl

theorem defs_eq : Cert.Query.defs (F := F) = Cert.QueryIdeal.defs (F := F) :=
  congrArg (Idealize.ShloMosaic.Pipeline.defs Cert.Query.pcfgs) table_eq

theorem main_eq : Cert.Query.main (F := F) = Cert.QueryIdeal.main (F := F) := rfl

end

theorem frame : Cert.quiescent_Query := fun m ρ _ =>
  (congrArg (fun D => θ_run D (onTc (τ := Cert.Query.τ) (Cert.Query.main (F := Bits))) ⟨m, fun _ => 0, ρ⟩ _)
    (defs_eq (F := Bits))).mpr (Cert.QueryIdeal.Hand.frame (F := Bits) m ρ)

theorem frame_ideal : Cert.quiescent_QueryIdeal := fun m ρ _ => Cert.QueryIdeal.Hand.frame m ρ

theorem frame_reference : Cert.quiescent_QueryRefIdeal := fun m ρ _ =>
  (θ_run Cert.QueryRefIdeal.defs _ _).mono
    (fun r h => ⟨fun c => (h c).2.2, sem_eq_zero_of_no_sems (by decide) r.2⟩)
    (Cert.QueryRefIdeal.Value.run (F := Ideal) m ρ)

theorem algebraic : Cert.algebraic_QueryIdeal_QueryRefIdeal := by
  intro m ρ m' ρ' hpre hagree
  refine ⟨fun c => Cert.QueryIdeal.Blocks.left m c, fun c => Cert.QueryIdeal.Blocks.leftRows m c,
    Cert.QueryIdeal.Blocks.run_arrays m ρ, ?_⟩
  refine (θ_run Cert.QueryRefIdeal.defs _ _).mono
    (fun _ h c => ⟨(h c).1.trans ?_, (h c).2.1.trans ?_, (h c).2.2⟩)
    (Cert.QueryRefIdeal.Value.run (F := Ideal) m' ρ')
  all_goals
    obtain ⟨e0, e1, e2, e3, e4⟩ := hagree c
    have hi : ∀ i : (⟨3, ![5, 4096, 2048]⟩ : Shape).Idx, i = ix3 (i 0) (i 1) (i 2) := fun i => by
      funext a
      match a with
      | ⟨0, _⟩ => rfl
      | ⟨1, _⟩ => rfl
      | ⟨2, _⟩ => rfl
  · rw [Cert.QueryRefIdeal.Read.val_main_v20_eq, e0, e1, e2, e3, e4]
    funext i
    exact (congrArg _ (hi i)).trans (Cert.QueryRefIdeal.Rows.result_apply _ _ _ _ _ (i 0) (i 1) (i 2))
  · rw [Cert.QueryRefIdeal.Read.val_main_v21_eq, e0, e1, e2, e3]
    funext i
    exact (congrArg _ (hi i)).trans (Cert.QueryRefIdeal.Rows.rows_apply _ _ _ _ (i 0) (i 1) (i 2))

end Cert.QueryClaim

end
-- ==== Proof.Mix.Streams.lean ====
/- The two streams that the last residual leaves: the context's tokens and the other segments' tokens. -/
module

public import proofs.«01_k».proof.Proof.Gen.StreamsIdeal.Frame
public import proofs.«01_k».proof.Proof.Gen.Streams.Frame
public import proofs.«01_k».proof.Proof.Gen.StreamsRefIdeal.Read
public import proofs.«01_k».proof.Proof.Gen.StreamsRefIdeal.Run
public import proofs.«01_k».proof.Proof.Mix.Math
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.StreamsMath

open Idealize.ShloMosaic Cert.MixMath

/-- Entry `n` of token `p` of segment `b`: the token plus the gate times its normalised column of `y`. -/
def outAt (x : (⟨3, ![5, 4096, 2048]⟩ : Shape).Idx → EReal) (y : (⟨2, ![2048, 20480]⟩ : Shape).Idx → EReal)
    (gain : (⟨2, ![1, 2048]⟩ : Shape).Idx → EReal) (gate : (⟨3, ![5, 1, 2048]⟩ : Shape).Idx → EReal)
    (b : Fin 5) (p : Fin 4096) (n : Fin 2048) : EReal :=
  finish (fun l => x (ix3 b p l)) (fun l => gate (ix3 b 0 l)) (fun l => gain (ix2 0 l))
    (fun l => y (ix2 l (⟨b.val * 4096 + p.val, by omega⟩ : Fin 20480))) n

end Cert.StreamsMath

namespace Cert.StreamsIdeal.Blocks

open Cert.StreamsIdeal Cert.StreamsIdeal.Gen Idealize.ShloMosaic Idealize.ShloMosaic.TcCoe Idealize.SL.Sem Cert.MixMath
open Cert.StreamsMath
open Idealize.ShloMosaic.Pipeline (Dat)

theorem rows_apply (v0 : Vec Ideal S256x2048 .f32) (v2 : Vec Ideal S1x1x2048 .f32) (v4 : Vec Ideal S2048x256 .f32)
    (v16 : Vec Ideal S1x2048 .f32) (r : Fin 256) (n : Fin 2048) :
    k0_pay1 v0 v2 v4 v16 (ix2 r n)
      = finish (fun l => v0 (ix2 r l)) (fun l => v2 (ix3 0 0 l)) (fun l => v16 (ix2 0 l)) (fun l => v4 (ix2 l r)) n := by
  unfold k0_pay1
  pointwise
  rfl

variable (m : (ℓ : Loc nD τ sig) → Buf (Elt Ideal) ℓ) (ρ : Dev nD → PrngReg) (c : Dev nD)

abbrev aX : S5x4096x2048.Idx → EReal := m ((c.tc : Thread nD τ).loc main_arg0)
abbrev aY : S2048x20480.Idx → EReal := m ((c.tc : Thread nD τ).loc main_arg1)
abbrev aGain : S1x2048.Idx → EReal := m ((c.tc : Thread nD τ).loc main_arg2)
abbrev aGate : S5x1x2048.Idx → EReal := m ((c.tc : Thread nD τ).loc main_arg3)

/-- The tokens that the host lays out in one sequence. -/
theorem tokens_eq (p : Fin 20480) (d : Fin 2048) : V m c main_v0 (ix2 p d)
    = aX m c (ix3 (⟨p.val / 4096, by omega⟩ : Fin 5) (⟨p.val % 4096, by omega⟩ : Fin 4096) d) := by
  dsimp only [V, V0, hostOps0, List.flatten_cons, List.flatten_nil, List.append_nil, List.cons_append, List.nil_append]
  after_results_simp
  pointwise

theorem idx0 : ∀ t : Fin cfg0.N, win0_0.index t = ![t.val, 0] :=
  (by decide +kernel : ∀ t : Fin grid0.N, win0_0.index t = ![t.val, 0])
theorem idx1 : ∀ t : Fin cfg0.N, win0_1.index t = ![0, t.val] :=
  (by decide +kernel : ∀ t : Fin grid0.N, win0_1.index t = ![0, t.val])
theorem idx2 : ∀ t : Fin cfg0.N, win0_2.index t = ![0, 0] :=
  (by decide +kernel : ∀ t : Fin grid0.N, win0_2.index t = ![0, 0])
theorem idx3 : ∀ t : Fin cfg0.N, win0_3.index t = ![t.val / 16, 0, 0] :=
  (by decide +kernel : ∀ t : Fin grid0.N, win0_3.index t = ![t.val / 16, 0, 0])
theorem idx4 : ∀ t : Fin cfg0.N, win0_4.index t = ![t.val, 0] :=
  (by decide +kernel : ∀ t : Fin grid0.N, win0_4.index t = ![t.val, 0])

theorem point_lt {n : ℕ} (h : n < cfg0.N) : n < 80 := by
  have e : cfg0.N = 80 := Gen.N_0
  omega

/-- The token of a row of a point. -/
abbrev token (n : ℕ) (h : n < cfg0.N) (r : Fin 256) : Fin 20480 := ⟨n * 256 + r.val, by have := point_lt h; omega⟩

variable (t : Fin cfg0.N)

theorem blk0 (r : Fin 256) (d : Fin 2048) : iblk m c 0 t (ix2 r d) = V m c main_v0 (ix2 (token t.val t.isLt r) d) := by
  blk_ext [iblk, idx0 t]

theorem blk1 (r : Fin 256) (d : Fin 2048) : iblk m c 1 t (ix2 d r) = aY m c (ix2 d (token t.val t.isLt r)) := by
  have h := V_main_arg1 m c
  blk_ext [iblk, h, idx1 t]

theorem blk2 (d : Fin 2048) : iblk m c 2 t (ix2 0 d) = aGain m c (ix2 0 d) := by
  have h := V_main_arg2 m c
  blk_ext [iblk, h, idx2 t]

theorem blk3 (d : Fin 2048) : iblk m c 3 t (ix3 0 0 d)
    = aGate m c (ix3 (⟨t.val / 16, by have := point_lt t.isLt; omega⟩ : Fin 5) 0 d) := by
  have h := V_main_arg3 m c
  blk_ext [iblk, h, idx3 t]

/-- The array the kernel leaves. -/
def left : S20480x2048.Idx → EReal := fun i =>
  outAt (aX m c) (aY m c) (aGain m c) (aGate m c) ⟨(i 0).val / 4096, by have : (i 0).val < 20480 := (i 0).isLt; omega⟩
    ⟨(i 0).val % 4096, by omega⟩ (i 1)

theorem point_eq (r : Fin 256) (n : Fin 2048) :
    out0_4 (iblk m c 0 t) (iblk m c 1 t) (iblk m c 2 t) (iblk m c 3 t) (ix2 r n)
      = left m c (ix2 (token t.val t.isLt r) n) := by
  frame_out
  rw [rows_apply]
  simp only [blk0, blk1, blk2, blk3]
  have ht := point_lt t.isLt
  have e : (t.val * 256 + r.val) / 4096 = t.val / 16 := by omega
  have e' : (t.val * 256 + r.val) / 4096 * 4096 + (t.val * 256 + r.val) % 4096 = t.val * 256 + r.val := by omega
  simp only [tokens_eq m c]
  unfold left outAt
  simp only [ix2, token, e']
  simp only [e]

theorem final : (Gen.dats m 0 c).arrAt 4 cfg0.N = left m c := by
  refine (Gen.dats m 0 c).arrAt_eq_of_covers 4 _ (by decide +kernel) fun t hf y => ?_
  blk_simp
  rw [after0_4]
  obtain ⟨r, hr⟩ : ∃ r : Fin 256, r.val = (y (0 : Fin 2)).val := ⟨⟨_, (y (0 : Fin 2)).isLt⟩, rfl⟩
  obtain ⟨l, hl⟩ : ∃ l : Fin 2048, l.val = (y (1 : Fin 2)).val := ⟨⟨_, (y (1 : Fin 2)).isLt⟩, rfl⟩
  have hy : y = ix2 r l := by blk_ext [hr, hl]
  have he : (win0_4.blk t).view.emb y = ix2 (token t.val t.isLt r) l := by
    blk_ext [idx4 t, hr, hl]
  rw [he]
  exact (congrArg (out0_4 (iblk m c 0 t) (iblk m c 1 t) (iblk m c 2 t) (iblk m c 3 t)) hy).trans (point_eq m c t r l)

/-- The two results. -/
def leftContext : S16x256x2048.Idx → EReal := fun i =>
  outAt (aX m c) (aY m c) (aGain m c) (aGate m c) 0
    ⟨(i 0).val * 256 + (i 1).val, by
      have h0 : (i 0).val < 16 := (i 0).isLt
      have h1 : (i 1).val < 256 := (i 1).isLt
      omega⟩ (i 2)

def leftOthers : S4x4096x2048.Idx → EReal := fun i =>
  outAt (aX m c) (aY m c) (aGain m c) (aGate m c)
    ⟨(i 0).val + 1, by have h0 : (i 0).val < 4 := (i 0).isLt; omega⟩ (i 1) (i 2)

theorem ext3 {a b d : Nat} (i : (⟨3, ![a, b, d]⟩ : Shape).Idx) : i = ix3 (i 0) (i 1) (i 2) := by
  funext e
  match e with
  | ⟨0, _⟩ => rfl
  | ⟨1, _⟩ => rfl
  | ⟨2, _⟩ => rfl

/-- What the lines after the kernel leave, from the kernel's array. -/
theorem out_eq : Pipeline.withArrays (cfgs 0).spec c (V0 m c) (fun w => (dats m 0 c).arrAt w (cfgs 0).N)
    (Proc.devRef .tc main_v1) = left m c :=
  (Pipeline.withArrays_arr spec0 (by decide) c (V0 m c) (fun w => (dats m 0 c).arrAt w cfg0.N) 4).trans (final m c)

/-- The first segment of a sequence of tokens, and the others. -/
theorem segments_apply (y : S20480x2048.Idx → EReal) (b : Fin 5) (p : Fin 4096) (n : Fin 2048) :
    shapeCast S5x4096x2048 y shapeCasts_S20480x2048_S5x4096x2048 (ix3 b p n)
      = y (ix2 (⟨b.val * 4096 + p.val, by omega⟩ : Fin 20480) n) := by
  pointwise

theorem plane_apply (z : S5x4096x2048.Idx → EReal) (p : Fin 4096) (n : Fin 2048) :
    shapeCast S4096x2048 (extractStridedSlice S1x4096x2048 ![0, 0, 0] z slices_S5x4096x2048_S1x4096x2048_0_0_0)
      shapeCasts_S1x4096x2048_S4096x2048 (ix2 p n) = z (ix3 0 p n) := by
  pointwise

theorem batches_apply (z : S4096x2048.Idx → EReal) (a : Fin 16) (p : Fin 256) (n : Fin 2048) :
    shapeCast S16x256x2048 z shapeCasts_S4096x2048_S16x256x2048 (ix3 a p n)
      = z (ix2 (⟨a.val * 256 + p.val, by omega⟩ : Fin 4096) n) := by
  pointwise

theorem first_apply (y : S20480x2048.Idx → EReal) (a : Fin 16) (p : Fin 256) (n : Fin 2048) :
    shapeCast S16x256x2048 (shapeCast S4096x2048 (extractStridedSlice S1x4096x2048 ![0, 0, 0]
      (shapeCast S5x4096x2048 y shapeCasts_S20480x2048_S5x4096x2048) slices_S5x4096x2048_S1x4096x2048_0_0_0)
      shapeCasts_S1x4096x2048_S4096x2048) shapeCasts_S4096x2048_S16x256x2048 (ix3 a p n)
      = y (ix2 (⟨(0 : Fin 5).val * 4096 + (a.val * 256 + p.val), by have : (0 : Fin 5).val = 0 := rfl; omega⟩ : Fin 20480) n) := by
  rw [batches_apply, plane_apply, segments_apply]

theorem others_slice (z : S5x4096x2048.Idx → EReal) (b : Fin 4) (p : Fin 4096) (n : Fin 2048) :
    extractStridedSlice S4x4096x2048 ![1, 0, 0] z slices_S5x4096x2048_S4x4096x2048_1_0_0 (ix3 b p n)
      = z (ix3 (⟨1 + b.val, by omega⟩ : Fin 5) p n) := by
  pointwise

theorem rest_apply (y : S20480x2048.Idx → EReal) (b : Fin 4) (p : Fin 4096) (n : Fin 2048) :
    extractStridedSlice S4x4096x2048 ![1, 0, 0]
      (shapeCast S5x4096x2048 y shapeCasts_S20480x2048_S5x4096x2048) slices_S5x4096x2048_S4x4096x2048_1_0_0 (ix3 b p n)
      = y (ix2 (⟨(1 + b.val) * 4096 + p.val, by omega⟩ : Fin 20480) n) := by
  rw [others_slice, segments_apply]

theorem left_apply (b : Fin 5) (p : Fin 4096) (q : Fin 20480) (n : Fin 2048) (h : q.val = b.val * 4096 + p.val) :
    left m c (ix2 q n) = outAt (aX m c) (aY m c) (aGain m c) (aGate m c) b p n := by
  have e1 : (⟨q.val / 4096, by omega⟩ : Fin 5) = b := Fin.ext (by show q.val / 4096 = b.val; omega)
  have e2 : (⟨q.val % 4096, by omega⟩ : Fin 4096) = p := Fin.ext (by show q.val % 4096 = p.val; omega)
  refine (congrArg₂ (fun b p => outAt (aX m c) (aY m c) (aGain m c) (aGate m c) b p n) e1 e2)

theorem context_eq :
    Pipeline.afterTail₀ cfgs (dats m) 0 (V0 m) [hostOps1] c main_v5 = leftContext m c := by
  unfold Pipeline.afterTail₀
  dsimp only [hostOps1, List.flatten_cons, List.flatten_nil, List.append_nil, List.cons_append, List.nil_append]
  have hout := out_eq m c
  generalize Pipeline.withArrays (cfgs 0).spec c (V0 m c) (fun w => (dats m 0 c).arrAt w (cfgs 0).N) = W at hout ⊢
  after_reads_simp
  rw [hout]
  funext i
  refine (congrArg _ (ext3 i)).trans ((first_apply (left m c) (i 0) (i 1) (i 2)).trans ?_)
  exact left_apply m c 0 _ _ _ (by simp)

theorem others_eq :
    Pipeline.afterTail₀ cfgs (dats m) 0 (V0 m) [hostOps1] c main_v6 = leftOthers m c := by
  unfold Pipeline.afterTail₀
  dsimp only [hostOps1, List.flatten_cons, List.flatten_nil, List.append_nil, List.cons_append, List.nil_append]
  have hout := out_eq m c
  generalize Pipeline.withArrays (cfgs 0).spec c (V0 m c) (fun w => (dats m 0 c).arrAt w (cfgs 0).N) = W at hout ⊢
  after_reads_simp
  rw [hout]
  funext i
  refine (congrArg _ (ext3 i)).trans ((rest_apply (left m c) (i 0) (i 1) (i 2)).trans ?_)
  exact left_apply m c ⟨(i 0).val + 1, by have h0 : (i 0).val < 4 := (i 0).isLt; omega⟩ _ _ _ (by show (1 + (i 0).val) * 4096 + _ = ((i 0).val + 1) * 4096 + _; rw [Nat.add_comm 1])

/-- The results and the arguments after a run. -/
theorem run_arrays : θ_run defs (onTc (τ := τ) (main (F := Ideal))) ⟨m, fun _ => 0, ρ⟩ fun r => ∀ c : Dev nD,
      r.2.mem ((c : Thread nD τ).loc main_v5) = leftContext m c
      ∧ r.2.mem ((c : Thread nD τ).loc main_v6) = leftOthers m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h.1 c).2 main_v5 (Pipeline.mem_restRefs_of main_v5 (by decide) (by decide))).trans (context_eq m c),
      ((h.1 c).2 main_v6 (Pipeline.mem_restRefs_of main_v6 (by decide) (by decide))).trans (others_eq m c), h.2 c⟩)
    (θ_run_and (run_main m ρ) (unchanged m ρ))

end Cert.StreamsIdeal.Blocks

namespace Cert.StreamsRefIdeal.Rows

open Cert.StreamsRefIdeal Cert.StreamsRefIdeal.Gen Cert.StreamsRefIdeal.Read Idealize.ShloMosaic Cert.MixMath Cert.StreamsMath

variable (x0 : (⟨S5x4096x2048, .f32⟩ : BufTy).Contents (Elt Ideal)) (x1 : (⟨S2048x20480, .f32⟩ : BufTy).Contents (Elt Ideal))
  (x2 : (⟨S1x2048, .f32⟩ : BufTy).Contents (Elt Ideal)) (x3 : (⟨S5x1x2048, .f32⟩ : BufTy).Contents (Elt Ideal))

theorem contextColumn_apply (a : Fin 16) (p : Fin 256) (n : Fin 2048) :
    val_main_v6 (F := Ideal) x1 (ix3 a p n) = x1 (ix2 n (⟨a.val * 256 + p.val, by omega⟩ : Fin 20480)) := by
  simp only [val_main_v6, val_main_v5, val_main_v4]
  pointwise

theorem othersColumn_apply (b : Fin 4) (p : Fin 4096) (n : Fin 2048) :
    val_main_v8 (F := Ideal) x1 (ix3 b p n) = x1 (ix2 n (⟨4096 + (b.val * 4096 + p.val), by omega⟩ : Fin 20480)) := by
  simp only [val_main_v8, val_main_v7, val_main_v4]
  pointwise

theorem context_apply (a : Fin 16) (p : Fin 256) (n : Fin 2048) :
    val_main_v26 (F := Ideal) x0 x1 x2 x3 (ix3 a p n)
      = finish (fun l => x0 (ix3 0 (⟨a.val * 256 + p.val, by omega⟩ : Fin 4096) l)) (fun l => x3 (ix3 0 0 l))
          (fun l => x2 (ix2 0 l)) (fun l => x1 (ix2 l (⟨a.val * 256 + p.val, by omega⟩ : Fin 20480))) n := by
  unfold finish root
  simp only [← contextColumn_apply]
  simp only [val_main_v26, val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v2, val_main_v1, val_main_v0, val_main_cst, val_main_cst_0, val_main_cst_1]
  generalize val_main_v6 (F := Ideal) x1 = y
  pointwise

theorem others_apply (b : Fin 4) (p : Fin 4096) (n : Fin 2048) :
    val_main_v44 (F := Ideal) x0 x1 x2 x3 (ix3 b p n)
      = finish (fun l => x0 (ix3 (⟨1 + b.val, by omega⟩ : Fin 5) p l)) (fun l => x3 (ix3 (⟨1 + b.val, by omega⟩ : Fin 5) 0 l))
          (fun l => x2 (ix2 0 l)) (fun l => x1 (ix2 l (⟨4096 + (b.val * 4096 + p.val), by omega⟩ : Fin 20480))) n := by
  unfold finish root
  simp only [← othersColumn_apply]
  simp only [val_main_v44, val_main_v43, val_main_v42, val_main_v41, val_main_v40, val_main_v39, val_main_v38, val_main_v37,
    val_main_v36, val_main_v35, val_main_v34, val_main_v33, val_main_v32, val_main_v31, val_main_v30, val_main_v29,
    val_main_v28, val_main_v27, val_main_v3, val_main_cst_2, val_main_cst_3, val_main_cst_4]
  generalize val_main_v8 (F := Ideal) x1 = y
  pointwise

end Cert.StreamsRefIdeal.Rows

namespace Cert.StreamsClaim

open Idealize.ShloMosaic Idealize.ShloMosaic.TcCoe Idealize.SL.Sem Cert.MixMath Cert.StreamsMath

theorem frame : Cert.quiescent_Streams := fun m ρ _ => Cert.Streams.Gen.frame m ρ

theorem frame_ideal : Cert.quiescent_StreamsIdeal := fun m ρ _ => Cert.StreamsIdeal.Gen.frame m ρ

theorem frame_reference : Cert.quiescent_StreamsRefIdeal := fun m ρ _ =>
  (θ_run Cert.StreamsRefIdeal.defs _ _).mono
    (fun r h => ⟨fun c => (h c).2.2, sem_eq_zero_of_no_sems (by decide) r.2⟩)
    (Cert.StreamsRefIdeal.Value.run (F := Ideal) m ρ)

theorem algebraic : Cert.algebraic_StreamsIdeal_StreamsRefIdeal := by
  intro m ρ m' ρ' hpre hagree
  refine ⟨fun c => Cert.StreamsIdeal.Blocks.leftContext m c, fun c => Cert.StreamsIdeal.Blocks.leftOthers m c,
    Cert.StreamsIdeal.Blocks.run_arrays m ρ, ?_⟩
  refine (θ_run Cert.StreamsRefIdeal.defs _ _).mono
    (fun _ h c => ⟨(h c).1.trans ?_, (h c).2.1.trans ?_, (h c).2.2⟩)
    (Cert.StreamsRefIdeal.Value.run (F := Ideal) m' ρ')
  all_goals obtain ⟨e0, e1, e2, e3⟩ := hagree c
  · rw [Cert.StreamsRefIdeal.Read.val_main_v26_eq, e0, e1, e2, e3]
    funext i
    refine (congrArg _ (Cert.StreamsIdeal.Blocks.ext3 i)).trans
      ((Cert.StreamsRefIdeal.Rows.context_apply _ _ _ _ (i 0) (i 1) (i 2)).trans ?_)
    unfold Cert.StreamsIdeal.Blocks.leftContext outAt
    simp only [Fin.val_zero, Nat.zero_mul, Nat.zero_add]
  · rw [Cert.StreamsRefIdeal.Read.val_main_v44_eq, e0, e1, e2, e3]
    funext i
    refine (congrArg _ (Cert.StreamsIdeal.Blocks.ext3 i)).trans
      ((Cert.StreamsRefIdeal.Rows.others_apply _ _ _ _ (i 0) (i 1) (i 2)).trans ?_)
    unfold Cert.StreamsIdeal.Blocks.leftOthers outAt
    simp only [Nat.add_mul, Nat.one_mul, Nat.add_comm, Nat.add_assoc, Nat.add_left_comm]

end Cert.StreamsClaim

end
-- ==== Proof.Attn.ContextBlock.lean ====
/- The context's attention: what the kernel reads before the launch, and what one grid point leaves in its block. -/
module

public import proofs.«01_k».proof.Proof.Gen.CtxIdeal.Frame
public import proofs.«01_k».proof.Proof.Attn.Math
public import Idealize.ShloMosaic.Lib.Pipeline.ValueKit
public import Idealize.ShloMosaic.Lib.StableHlo.RunRead

@[expose] public section

set_option maxRecDepth 16384

noncomputable section

namespace Cert.ContextMath

open Idealize.ShloMosaic Cert.AttnMath

variable (proj : (⟨3, ![5, 4096, 6144]⟩ : Shape).Idx → EReal) (gains : (⟨2, ![2, 128]⟩ : Shape).Idx → EReal)

/-- Lane `l` of the projection at position `p` of sequence `a` of the context. -/
def laneAt (a : Fin 16) (p : Fin 256) (l : Fin 6144) : EReal :=
  proj (ix3 (0 : Fin 5) (⟨a.val * 256 + p.val, by omega⟩ : Fin 4096) l)

/-- A normalised key. -/
def keyAt (a : Fin 16) (n : Fin 256) (h : Fin 2) (d : Fin 128) : EReal :=
  normed (fun d => laneAt proj a n ⟨5120 + (h.val * 128 + d.val), by omega⟩) (fun d => gains (ix2 (1 : Fin 2) d)) d

/-- A value. -/
def valueAt (a : Fin 16) (n : Fin 256) (h : Fin 2) (d : Fin 128) : EReal :=
  laneAt proj a n ⟨5376 + (h.val * 128 + d.val), by omega⟩

/-- The scores of query head `l / 128` at a position of a sequence. -/
def contextScores (a : Fin 16) (p : Fin 256) (l : Fin 1024) : Fin 256 → EReal :=
  score (normed (fun d => laneAt proj a p ⟨l.val / 128 * 128 + d.val, by omega⟩) (fun d => gains (ix2 (0 : Fin 2) d)))
    (fun n d => keyAt proj gains a n ⟨l.val / 512, by omega⟩ d)

/-- The values that lane `l` mixes. -/
def contextValues (a : Fin 16) (l : Fin 1024) : Fin 256 → EReal :=
  fun n => valueAt proj a n ⟨l.val / 512, by omega⟩ ⟨l.val % 128, by omega⟩

end Cert.ContextMath

namespace Cert.CtxIdeal.Blocks

open Cert.CtxIdeal Cert.CtxIdeal.Gen Idealize.ShloMosaic Idealize.ShloMosaic.TcCoe Idealize.SL.Sem
open Cert.AttnMath Cert.ContextMath

section Block

variable (x0 : Vec Ideal S1x256x512 .f32) (x1 : Vec Ideal S1x128 .f32) (x2 x3 x4 : Vec Ideal S256x128 .f32)
  (x5 x6 : Vec Ideal S1x256x128 .bf16)

/-- One head of a block, as vector operations: the queries `q`, the gain, the keys and the values. -/
def head (q : Vec Ideal S1x256x128 .f32) : FVec Ideal S1x256x128 .f32 := k0_pay5 (k0_pay4 x5 x6 q x1)

/-- A head's result at row `r`, lane `d`. -/
theorem head_apply (q : Vec Ideal S1x256x128 .f32) (r : Fin 256) (d : Fin 128) :
    head x1 x5 x6 q (ix3 0 r d)
      = mixed (score (normed (fun d => q (ix3 0 r d)) (fun d => x1 (ix2 0 d))) (fun n d => x5 (ix3 0 n d)))
          (fun n => x6 (ix3 0 n d)) := by
  unfold head k0_pay5 k0_pay4 k0_pay3 k0_pay2
  pointwise
  rfl

/-- The block's value at an index: lane `l` belongs to head `l / 128`. -/
def block : Vec Ideal S1x256x512 .f32 := fun y =>
  mixed (score (normed
      (fun d => x0 (ix3 0 (y 1) ⟨(y 2).val / 128 * 128 + d.val, by
        have h : (y 2).val < 512 := (y 2).isLt; have := d.isLt; omega⟩))
      (fun d => x1 (ix2 0 d)))
      (fun n d => x5 (ix3 0 n d)))
    (fun n => x6 (ix3 0 n ⟨(y 2).val % 128, Nat.mod_lt _ (by decide)⟩))

/-- The queries of the head whose lanes begin at `o`. -/
abbrev lanes (o : Nat) (h : ∀ a, (![0, 0, o] : Fin 3 → Nat) a + S1x256x128.size a ≤ S1x256x512.size a) :
    Vec Ideal S1x256x128 .f32 := View.ld x0 (Rect.unit (s := S1x256x512) ![0, 0, o] S1x256x128.size h)

/-- A head read from its lanes and put back at them is the block there. -/
theorem head_lanes (g : Fin 4) (h : ∀ a, (![0, 0, g.val * 128] : Fin 3 → Nat) a + S1x256x128.size a ≤ S1x256x512.size a)
    (j : S1x256x128.Idx) :
    head x1 x5 x6 (lanes x0 (g.val * 128) h) j
      = block x0 x1 x5 x6 ((Rect.unit (s := S1x256x512) ![0, 0, g.val * 128] S1x256x128.size h).emb j) := by
  have hj2 : (j 2).val < 128 := (j 2).isLt
  have hg := g.isLt
  have ej : j = ix3 0 (j 1 : Fin 256) (j 2 : Fin 128) := by
    funext a
    match a with
    | ⟨0, _⟩ => exact Fin.ext (by have h0 : (j 0).val < 1 := (j 0).isLt; show (j 0).val = 0; omega)
    | ⟨1, _⟩ => rfl
    | ⟨2, _⟩ => rfl
  have e1 : (Rect.unit (s := S1x256x512) ![0, 0, g.val * 128] S1x256x128.size h).emb j 1 = j 1 :=
    Fin.ext (by show 0 + 1 * (j 1).val = (j 1).val; omega)
  have e2 : ((Rect.unit (s := S1x256x512) ![0, 0, g.val * 128] S1x256x128.size h).emb j 2).val = g.val * 128 + (j 2).val := by
    show g.val * 128 + 1 * (j 2).val = _; omega
  refine ((congrArg (head x1 x5 x6 (lanes x0 (g.val * 128) h)) ej).trans
    (head_apply x1 x5 x6 _ (j 1) (j 2))).trans ?_
  unfold block
  rw [e1]
  congr 1
  · congr 2
    funext d
    have hd := d.isLt
    refine congrArg x0 (funext fun a => ?_)
    match a with
    | ⟨0, _⟩ => rfl
    | ⟨1, _⟩ => exact Fin.ext (by show 0 + 1 * (j 1).val = (j 1).val; omega)
    | ⟨2, _⟩ => exact Fin.ext (by show g.val * 128 + 1 * d.val = _ / 128 * 128 + d.val; rw [e2]; omega)
  · funext n
    refine congrArg x6 (funext fun a => ?_)
    match a with
    | ⟨0, _⟩ => rfl
    | ⟨1, _⟩ => rfl
    | ⟨2, _⟩ => exact Fin.ext (by show (j 2).val = _ % 128; rw [e2]; omega)

theorem load_gain (x : Vec Ideal S1x128 .f32) : View.ld x r0_2 = x :=
  View.ld_unit_zero (S := S1x128) (funext fun a => by fin_cases a <;> rfl) _ x
theorem load_keys (x : Vec Ideal S1x256x128 .bf16) : View.ld x r0_0 = x :=
  View.ld_unit_zero (S := S1x256x128) (funext fun a => by fin_cases a <;> rfl) _ x

/-! The four heads' operations are one head's. -/

section
variable (q : Vec Ideal S1x256x128 .f32)

theorem head1_eq : k0_pay6 (k0_pay2 x5) (k0_pay3 x6) q x1 = head x1 x5 x6 q := rfl
theorem head2_eq : k0_pay8 (k0_pay2 x5) (k0_pay3 x6) (k0_pay7 q) x1 = head x1 x5 x6 q := rfl
theorem head3_eq : k0_pay1 (k0_pay2 x5) (k0_pay3 x6) (k0_pay9 q) (k0_pay10 q) (k0_pay11 (F := Ideal)) x1
    = head x1 x5 x6 q := rfl

end

/-- What a grid point's four stores leave in the output block. -/
theorem stored_eq : out0_7 x0 x1 x2 x3 x4 x5 x6 = block x0 x1 x5 x6 := by
  funext y
  unfold out0_7 k0_pay12 k0_pay13
  simp only [load_gain, load_keys, head1_eq, head2_eq, head3_eq]
  refine View.canon_apply_of_pieces (block x0 x1 x5 x6) _ (fun p hp j => ?_) y (cover0_7 _ _ _ _ y)
  simp only [List.mem_cons, List.mem_nil_iff, or_false] at hp
  rcases hp with rfl | rfl | rfl | rfl
  · exact head_lanes x0 x1 x5 x6 3 inb_S1x256x512_S1x256x128_0_0_384 j
  · exact head_lanes x0 x1 x5 x6 2 inb_S1x256x512_S1x256x128_0_0_256 j
  · exact head_lanes x0 x1 x5 x6 1 inb_S1x256x512_S1x256x128_0_0_128 j
  · exact head_lanes x0 x1 x5 x6 0 inb_S1x256x512_S1x256x128_0_0_0 j

end Block

end Cert.CtxIdeal.Blocks

end
-- ==== Proof.Attn.ContextHost.lean ====
/- The context's attention: the queries, the keys and the values as the launch finds them. -/
module

public import proofs.«01_k».proof.Proof.Attn.ContextBlock

@[expose] public section

set_option maxRecDepth 16384

noncomputable section

namespace Cert.CtxIdeal.Blocks

open Cert.CtxIdeal Cert.CtxIdeal.Gen Idealize.ShloMosaic Idealize.ShloMosaic.TcCoe Idealize.SL.Sem
open Cert.AttnMath Cert.ContextMath

variable (m : (ℓ : Loc nD τ sig) → Buf (Elt Ideal) ℓ) (c : Dev nD)

/-- The projection and the two gains, as launched. -/
abbrev aProj : S5x4096x6144.Idx → EReal := m ((c.tc : Thread nD τ).loc main_arg0)
abbrev aGains : S2x128.Idx → EReal := m ((c.tc : Thread nD τ).loc main_arg1)

/-- The keys before the launch. -/
theorem keys_host (a : Fin 16) (n : Fin 256) (h : Fin 2) (d : Fin 128) :
    V m c main_v19 (ix4 a n h d) = keyAt (aProj m c) (aGains m c) a n h d := by
  dsimp only [V, V0, hostOps0, hostOps0_1, hostOps0_2, hostOps0_3, hostOps0_4, hostOps0_5, hostOps0_6, hostOps0_7,
    hostOps0_8, hostOps0_9, hostOps0_10, hostOps0_11, hostOps0_12, List.flatten_cons, List.flatten_nil,
    List.append_nil, List.cons_append, List.nil_append]
  after_results_simp
  pointwise
  rfl

/-- The values before the launch. -/
theorem values_host (a : Fin 16) (n : Fin 256) (h : Fin 2) (d : Fin 128) :
    V m c main_v21 (ix4 a n h d) = valueAt (aProj m c) a n h d := by
  dsimp only [V, V0, hostOps0, hostOps0_1, hostOps0_2, hostOps0_3, hostOps0_4, hostOps0_5, hostOps0_6, hostOps0_7,
    hostOps0_8, hostOps0_9, hostOps0_10, hostOps0_11, hostOps0_12, List.flatten_cons, List.flatten_nil,
    List.append_nil, List.cons_append, List.nil_append]
  after_results_simp
  pointwise
  have e : (⟨5120 + (256 + (h.val * 128 + d.val)), by omega⟩ : Fin 6144) = ⟨5376 + (h.val * 128 + d.val), by omega⟩ :=
    Fin.ext (by show 5120 + (256 + (h.val * 128 + d.val)) = 5376 + (h.val * 128 + d.val); omega)
  exact congrArg (laneAt (aProj m c) a n) e

theorem heads_apply (y : S16x256x2x128.Idx → EReal) (a : Fin 16) (n : Fin 256) (l : Fin 256) :
    shapeCast S16x256x256 y shapeCasts_S16x256x2x128_S16x256x256 (ix3 a n l)
      = y (ix4 a n (⟨l.val / 128, by omega⟩ : Fin 2) (⟨l.val % 128, by omega⟩ : Fin 128)) := by
  pointwise

/-- The keys as the kernel's window holds them. -/
theorem keys_window (a : Fin 16) (n : Fin 256) (l : Fin 256) :
    V m c main_v23 (ix3 a n l)
      = keyAt (aProj m c) (aGains m c) a n (⟨l.val / 128, by omega⟩ : Fin 2) (⟨l.val % 128, by omega⟩ : Fin 128) := by
  rw [← keys_host]
  refine Eq.trans ?_ (heads_apply (V m c main_v19) a n l)
  dsimp only [V, V0, hostOps0, hostOps0_1, hostOps0_2, hostOps0_3, hostOps0_4, hostOps0_5, hostOps0_6, hostOps0_7,
    hostOps0_8, hostOps0_9, hostOps0_10, hostOps0_11, hostOps0_12, List.flatten_cons, List.flatten_nil,
    List.append_nil, List.cons_append, List.nil_append]
  after_results_simp
  rfl

/-- The values as the kernel's window holds them. -/
theorem values_window (a : Fin 16) (n : Fin 256) (l : Fin 256) :
    V m c main_v25 (ix3 a n l)
      = valueAt (aProj m c) a n (⟨l.val / 128, by omega⟩ : Fin 2) (⟨l.val % 128, by omega⟩ : Fin 128) := by
  rw [← values_host]
  refine Eq.trans ?_ (heads_apply (V m c main_v21) a n l)
  dsimp only [V, V0, hostOps0, hostOps0_1, hostOps0_2, hostOps0_3, hostOps0_4, hostOps0_5, hostOps0_6, hostOps0_7,
    hostOps0_8, hostOps0_9, hostOps0_10, hostOps0_11, hostOps0_12, List.flatten_cons, List.flatten_nil,
    List.append_nil, List.cons_append, List.nil_append]
  after_results_simp
  rfl

/-- The queries as the kernel's window holds them. -/
theorem queries_window (b : Fin 80) (a : Fin 16) (h : b.val = a.val) (p : Fin 256) (l : Fin 6144) :
    V m c main_v26 (ix3 b p l) = laneAt (aProj m c) a p l := by
  have e : V m c main_v26 (ix3 b p l)
      = aProj m c (ix3 (⟨b.val / 16, by omega⟩ : Fin 5) (⟨b.val % 16 * 256 + p.val, by omega⟩ : Fin 4096) l) := by
    dsimp only [V, V0, hostOps0, hostOps0_1, hostOps0_2, hostOps0_3, hostOps0_4, hostOps0_5, hostOps0_6, hostOps0_7,
      hostOps0_8, hostOps0_9, hostOps0_10, hostOps0_11, hostOps0_12, List.flatten_cons, List.flatten_nil,
      List.append_nil, List.cons_append, List.nil_append]
    after_results_simp
    pointwise
  have ha := a.isLt
  have e1 : (⟨b.val / 16, by omega⟩ : Fin 5) = 0 := Fin.ext (by show b.val / 16 = 0; omega)
  have e2 : b.val % 16 = a.val := by omega
  rw [e, e1]
  simp only [e2]
  rfl

/-- The query gain as the kernel's window holds it. -/
theorem gain_window (d : Fin 128) : V m c main_v29 (ix2 0 d) = aGains m c (ix2 0 d) := by
  dsimp only [V, V0, hostOps0, hostOps0_1, hostOps0_2, hostOps0_3, hostOps0_4, hostOps0_5, hostOps0_6, hostOps0_7,
    hostOps0_8, hostOps0_9, hostOps0_10, hostOps0_11, hostOps0_12, List.flatten_cons, List.flatten_nil,
    List.append_nil, List.cons_append, List.nil_append]
  after_results_simp
  pointwise

end Cert.CtxIdeal.Blocks

end
-- ==== Proof.Attn.ContextArrays.lean ====
/- The context's attention: the results that the kernel and the lines after it leave. -/
module

public import proofs.«01_k».proof.Proof.Attn.ContextHost

@[expose] public section

set_option maxRecDepth 16384

noncomputable section

namespace Cert.CtxIdeal.Blocks

open Cert.CtxIdeal Cert.CtxIdeal.Gen Idealize.ShloMosaic Idealize.ShloMosaic.TcCoe Idealize.SL.Sem
open Cert.AttnMath Cert.ContextMath
open Idealize.ShloMosaic.Pipeline (Dat)

/-- The blocks of a grid point: sequence `t / 2`, half of the heads `t % 2`. -/
theorem idx0 : ∀ t : Fin cfg0.N, win0_0.index t = ![t.val / 2, 0, t.val % 2] :=
  (by decide +kernel : ∀ t : Fin grid0.N, win0_0.index t = ![t.val / 2, 0, t.val % 2])
theorem idx1 : ∀ t : Fin cfg0.N, win0_1.index t = ![0, 0] :=
  (by decide +kernel : ∀ t : Fin grid0.N, win0_1.index t = ![0, 0])
theorem idx5 : ∀ t : Fin cfg0.N, win0_5.index t = ![t.val / 2, 0, t.val % 2] :=
  (by decide +kernel : ∀ t : Fin grid0.N, win0_5.index t = ![t.val / 2, 0, t.val % 2])
theorem idx6 : ∀ t : Fin cfg0.N, win0_6.index t = ![t.val / 2, 0, t.val % 2] :=
  (by decide +kernel : ∀ t : Fin grid0.N, win0_6.index t = ![t.val / 2, 0, t.val % 2])
theorem idx7 : ∀ t : Fin cfg0.N, win0_7.index t = ![t.val / 2, 0, t.val % 2] :=
  (by decide +kernel : ∀ t : Fin grid0.N, win0_7.index t = ![t.val / 2, 0, t.val % 2])

theorem point_lt (t : Fin cfg0.N) : t.val < 32 := by
  have h := t.isLt
  have e : cfg0.N = 32 := Gen.N_0
  omega

variable (m : (ℓ : Loc nD τ sig) → Buf (Elt Ideal) ℓ) (ρ : Dev nD → PrngReg) (c : Dev nD) (t : Fin cfg0.N)

/-- The point's sequence, and its place in the arrays of 80. -/
abbrev seq : Fin 16 := ⟨t.val / 2, by have := point_lt t; omega⟩
abbrev place : Fin 80 := ⟨t.val / 2, by have := point_lt t; omega⟩

theorem blk0 (r : Fin 256) (l : Fin 512) : iblk m c 0 t (ix3 0 r l)
    = laneAt (aProj m c) (seq t) r (⟨t.val % 2 * 512 + l.val, by omega⟩ : Fin 6144) := by
  rw [← queries_window m c (place t) (seq t) rfl]
  blk_ext [iblk, idx0 t]

theorem blk1 (d : Fin 128) : iblk m c 1 t (ix2 0 d) = aGains m c (ix2 0 d) := by
  rw [← gain_window m c d]
  blk_ext [iblk, idx1 t]

theorem blk5 (n : Fin 256) (d : Fin 128) : iblk m c 5 t (ix3 0 n d)
    = keyAt (aProj m c) (aGains m c) (seq t) n (⟨t.val % 2, by omega⟩ : Fin 2) d := by
  have h := keys_window m c (seq t) n (⟨t.val % 2 * 128 + d.val, by omega⟩ : Fin 256)
  have e1 : (⟨(t.val % 2 * 128 + d.val) / 128, by omega⟩ : Fin 2) = ⟨t.val % 2, by omega⟩ :=
    Fin.ext (by show (t.val % 2 * 128 + d.val) / 128 = t.val % 2; omega)
  have e2 : (⟨(t.val % 2 * 128 + d.val) % 128, by omega⟩ : Fin 128) = d :=
    Fin.ext (by show (t.val % 2 * 128 + d.val) % 128 = d.val; omega)
  rw [e1, e2] at h
  rw [← h]
  blk_ext [iblk, idx5 t]

theorem blk6 (n : Fin 256) (d : Fin 128) : iblk m c 6 t (ix3 0 n d)
    = valueAt (aProj m c) (seq t) n (⟨t.val % 2, by omega⟩ : Fin 2) d := by
  have h := values_window m c (seq t) n (⟨t.val % 2 * 128 + d.val, by omega⟩ : Fin 256)
  have e1 : (⟨(t.val % 2 * 128 + d.val) / 128, by omega⟩ : Fin 2) = ⟨t.val % 2, by omega⟩ :=
    Fin.ext (by show (t.val % 2 * 128 + d.val) / 128 = t.val % 2; omega)
  have e2 : (⟨(t.val % 2 * 128 + d.val) % 128, by omega⟩ : Fin 128) = d :=
    Fin.ext (by show (t.val % 2 * 128 + d.val) % 128 = d.val; omega)
  rw [e1, e2] at h
  rw [← h]
  blk_ext [iblk, idx6 t]

theorem block_apply (x0 : Vec Ideal S1x256x512 .f32) (x1 : Vec Ideal S1x128 .f32) (x5 x6 : Vec Ideal S1x256x128 .bf16)
    (r : Fin 256) (l : Fin 512) :
    block x0 x1 x5 x6 (ix3 0 r l)
      = mixed (score (normed (fun d => x0 (ix3 0 r (⟨l.val / 128 * 128 + d.val, by omega⟩ : Fin 512)))
          (fun d => x1 (ix2 0 d))) (fun n d => x5 (ix3 0 n d)))
        (fun n => x6 (ix3 0 n (⟨l.val % 128, by omega⟩ : Fin 128))) := rfl

/-- The attention at an index, from the arrays as launched. -/
def mixedAt (a : Fin 16) (p : Fin 256) (l : Fin 1024) : EReal :=
  mixed (contextScores (aProj m c) (aGains m c) a p l) (contextValues (aProj m c) a l)

/-- The point's block from the arrays as launched. -/
theorem block_eq (r : Fin 256) (l : Fin 512) :
    block (iblk m c 0 t) (iblk m c 1 t) (iblk m c 5 t) (iblk m c 6 t) (ix3 0 r l)
      = mixedAt m c (seq t) r ⟨t.val % 2 * 512 + l.val, by omega⟩ := by
  have e1 : (t.val % 2 * 512 + l.val) / 512 = t.val % 2 := by omega
  have e2 : (t.val % 2 * 512 + l.val) % 128 = l.val % 128 := by omega
  have e3 : ∀ d : Fin 128, (t.val % 2 * 512 + l.val) / 128 * 128 + d.val
      = t.val % 2 * 512 + (l.val / 128 * 128 + d.val) := fun d => by omega
  unfold mixedAt contextScores contextValues
  simp only [e1, e2, e3]
  rw [block_apply]
  simp only [blk0, blk1, blk5, blk6]

/-- The array the kernel leaves, at an index. -/
def left : S80x256x1024.Idx → EReal := fun i =>
  if h : (i 0).val < 16 then mixedAt m c ⟨(i 0).val, h⟩ (i 1) (i 2) else V m c main_v62 i

theorem left_written (b : Fin 80) (a : Fin 16) (h : b.val = a.val) (p : Fin 256) (l : Fin 1024) :
    left m c (ix3 b p l) = mixedAt m c a p l := by
  have ha := a.isLt
  have e : (⟨b.val, by omega⟩ : Fin 16) = a := Fin.ext h
  exact (dif_pos (show b.val < 16 by omega)).trans (congrArg (fun a => mixedAt m c a p l) e)

theorem final : (Gen.dats m 0 c).arrAt 7 cfg0.N = left m c := by
  refine (Gen.dats m 0 c).arrAt_eq_of_coversWhere_of_agree 7 _ (fun β => β (0 : Fin 3) < 16) (by decide +kernel)
    (fun t hf y => ?_) (fun j hj => ?_)
  · blk_simp
    rw [after0_7, stored_eq]
    obtain ⟨r, hr⟩ : ∃ r : Fin 256, r.val = (y (1 : Fin 3)).val := ⟨⟨_, (y (1 : Fin 3)).isLt⟩, rfl⟩
    obtain ⟨l, hl⟩ : ∃ l : Fin 512, l.val = (y (2 : Fin 3)).val := ⟨⟨_, (y (2 : Fin 3)).isLt⟩, rfl⟩
    have hy : y = ix3 0 r l := by blk_ext [hr, hl]
    have he : (win0_7.blk t).view.emb y = ix3 (place t) r (⟨t.val % 2 * 512 + l.val, by omega⟩ : Fin 1024) := by
      blk_ext [idx7 t, hr, hl]
    rw [he]
    refine (congrArg (block (iblk m c 0 t) (iblk m c 1 t) (iblk m c 5 t) (iblk m c 6 t)) hy).trans
      ((block_eq m c t r l).trans ?_)
    exact (left_written m c (place t) (seq t) rfl r _).symm
  · have h0 : ¬(j (0 : Fin 3)).val < 16 := by
      blk_simp [Pipeline.Window.cell_apply] at hj
      omega
    refine Eq.trans ?_ (dif_neg h0).symm
    rw [A_eq]

/-! The three results. -/

def leftAttended : S16x256x1024.Idx → EReal := fun i => mixedAt m c (i 0) (i 1) (i 2)

def leftKeys : S16x1x256x2x128.Idx → EReal := fun i => keyAt (aProj m c) (aGains m c) (i 0) (i 2) (i 3) (i 4)

def leftValues : S16x1x256x2x128.Idx → EReal := fun i => valueAt (aProj m c) (i 0) (i 2) (i 3) (i 4)

theorem ext3 {a b d : Nat} (i : (⟨3, ![a, b, d]⟩ : Shape).Idx) : i = ix3 (i 0) (i 1) (i 2) := by
  funext e
  match e with
  | ⟨0, _⟩ => rfl
  | ⟨1, _⟩ => rfl
  | ⟨2, _⟩ => rfl

theorem ext5 {a b d e f : Nat} (i : (⟨5, ![a, b, d, e, f]⟩ : Shape).Idx) : i = ix5 (i 0) (i 1) (i 2) (i 3) (i 4) := by
  funext k
  match k with
  | ⟨0, _⟩ => rfl
  | ⟨1, _⟩ => rfl
  | ⟨2, _⟩ => rfl
  | ⟨3, _⟩ => rfl
  | ⟨4, _⟩ => rfl

theorem first_apply (y : S80x256x1024.Idx → EReal) (a : Fin 16) (p : Fin 256) (l : Fin 1024) :
    extractStridedSlice S16x256x1024 ![0, 0, 0] y slices_S80x256x1024_S16x256x1024_0_0_0 (ix3 a p l)
      = y (ix3 (⟨a.val, by omega⟩ : Fin 80) p l) := by
  pointwise

theorem stacked_apply (y : S16x256x2x128.Idx → EReal) (a : Fin 16) (z : Fin 1) (n : Fin 256) (h : Fin 2) (d : Fin 128) :
    broadcastInDim S16x1x256x2x128 ![0, 2, 3, 4] bcast_S16x256x2x128_S16x1x256x2x128_0_2_3_4 y (ix5 a z n h d)
      = y (ix4 a n h d) := by
  pointwise

theorem attended_eq : Pipeline.afterTail₀ cfgs (dats m) 0 (V0 m) [hostOps1] c main_v63 = leftAttended m c := by
  unfold Pipeline.afterTail₀
  dsimp only [hostOps1, List.flatten_cons, List.flatten_nil, List.append_nil, List.cons_append, List.nil_append]
  have hout : Pipeline.withArrays (cfgs 0).spec c (V0 m c) (fun w => (dats m 0 c).arrAt w (cfgs 0).N)
      (Proc.devRef .tc main_v62) = left m c :=
    (Pipeline.withArrays_arr spec0 (by decide) c (V0 m c) (fun w => (dats m 0 c).arrAt w cfg0.N) 7).trans (final m c)
  generalize Pipeline.withArrays (cfgs 0).spec c (V0 m c) (fun w => (dats m 0 c).arrAt w (cfgs 0).N) = W at hout ⊢
  after_reads_simp
  rw [hout]
  funext i
  refine (congrArg _ (ext3 i)).trans ((first_apply (left m c) (i 0) (i 1) (i 2)).trans ?_)
  exact left_written m c _ (i 0) rfl (i 1) (i 2)

theorem keys_eq : Pipeline.afterTail₀ cfgs (dats m) 0 (V0 m) [hostOps1] c main_v64 = leftKeys m c := by
  unfold Pipeline.afterTail₀
  dsimp only [hostOps1, List.flatten_cons, List.flatten_nil, List.append_nil, List.cons_append, List.nil_append]
  have hout : Pipeline.withArrays (cfgs 0).spec c (V0 m c) (fun w => (dats m 0 c).arrAt w (cfgs 0).N)
      (Proc.devRef .tc main_v19) = V m c main_v19 :=
    Pipeline.withArrays_of_ne _ c (V0 m c) _ main_v19 (by exact (by decide : ∀ w, Pipeline.arrRef spec0 w ≠ main_v19))
  generalize Pipeline.withArrays (cfgs 0).spec c (V0 m c) (fun w => (dats m 0 c).arrAt w (cfgs 0).N) = W at hout ⊢
  after_reads_simp
  rw [hout]
  funext i
  refine (congrArg _ (ext5 i)).trans ((stacked_apply (V m c main_v19) (i 0) (i 1) (i 2) (i 3) (i 4)).trans ?_)
  exact keys_host m c (i 0) (i 2) (i 3) (i 4)

theorem values_eq : Pipeline.afterTail₀ cfgs (dats m) 0 (V0 m) [hostOps1] c main_v65 = leftValues m c := by
  unfold Pipeline.afterTail₀
  dsimp only [hostOps1, List.flatten_cons, List.flatten_nil, List.append_nil, List.cons_append, List.nil_append]
  have hout : Pipeline.withArrays (cfgs 0).spec c (V0 m c) (fun w => (dats m 0 c).arrAt w (cfgs 0).N)
      (Proc.devRef .tc main_v21) = V m c main_v21 :=
    Pipeline.withArrays_of_ne _ c (V0 m c) _ main_v21 (by exact (by decide : ∀ w, Pipeline.arrRef spec0 w ≠ main_v21))
  generalize Pipeline.withArrays (cfgs 0).spec c (V0 m c) (fun w => (dats m 0 c).arrAt w (cfgs 0).N) = W at hout ⊢
  after_reads_simp
  rw [hout]
  funext i
  refine (congrArg _ (ext5 i)).trans ((stacked_apply (V m c main_v21) (i 0) (i 1) (i 2) (i 3) (i 4)).trans ?_)
  exact values_host m c (i 0) (i 2) (i 3) (i 4)

/-- The results and the arguments after a run. -/
theorem run_arrays : θ_run defs (onTc (τ := τ) (main (F := Ideal))) ⟨m, fun _ => 0, ρ⟩ fun r => ∀ c : Dev nD,
      r.2.mem ((c : Thread nD τ).loc main_v63) = leftAttended m c
      ∧ r.2.mem ((c : Thread nD τ).loc main_v64) = leftKeys m c
      ∧ r.2.mem ((c : Thread nD τ).loc main_v65) = leftValues m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h.1 c).2 main_v63 (Pipeline.mem_restRefs_of main_v63 (by decide) (by decide))).trans (attended_eq m c),
      ((h.1 c).2 main_v64 (Pipeline.mem_restRefs_of main_v64 (by decide) (by decide))).trans (keys_eq m c),
      ((h.1 c).2 main_v65 (Pipeline.mem_restRefs_of main_v65 (by decide) (by decide))).trans (values_eq m c), h.2 c⟩)
    (θ_run_and (run_main m ρ) (unchanged m ρ))

end Cert.CtxIdeal.Blocks

end
-- ==== Proof.Attn.ContextRows.lean ====
/- The reference's attention over the context, read at an index. -/
module

public import proofs.«01_k».proof.Proof.Gen.CtxRefIdeal.Read
public import proofs.«01_k».proof.Proof.Attn.ContextBlock
public import proofs.«01_k».proof.Proof.Attn.Reference
public import proofs.«01_k».proof.Pre_finite_gains

@[expose] public section

set_option maxRecDepth 16384

noncomputable section

namespace Cert.CtxRefIdeal.Rows

open Cert.CtxRefIdeal Cert.CtxRefIdeal.Gen Cert.CtxRefIdeal.Read Idealize.ShloMosaic Cert.AttnMath Cert.ContextMath

variable (x0 : (⟨S5x4096x6144, .f32⟩ : BufTy).Contents (Elt Ideal)) (x1 : (⟨S2x128, .f32⟩ : BufTy).Contents (Elt Ideal))

theorem lane_apply (a : Fin 16) (p : Fin 256) (l : Fin 6144) :
    val_main_v2 (F := Ideal) x0 (ix3 a p l) = laneAt x0 a p l := by
  simp only [val_main_v2, val_main_v1, val_main_v0]
  pointwise
  rfl

theorem queries_apply (a : Fin 16) (p : Fin 256) (h : Fin 8) (d : Fin 128) :
    val_main_v4 (F := Ideal) x0 (ix4 a p h d) = laneAt x0 a p (⟨h.val * 128 + d.val, by omega⟩ : Fin 6144) := by
  rw [← lane_apply]
  simp only [val_main_v4, val_main_v3]
  generalize val_main_v2 (F := Ideal) x0 = y
  pointwise

theorem keys_apply (a : Fin 16) (n : Fin 256) (h : Fin 2) (d : Fin 128) :
    val_main_v21 (F := Ideal) x0 (ix4 a n h d)
      = laneAt x0 a n (⟨5120 + (h.val * 128 + d.val), by omega⟩ : Fin 6144) := by
  rw [← lane_apply]
  simp only [val_main_v21, val_main_v20]
  generalize val_main_v2 (F := Ideal) x0 = y
  pointwise

theorem values_apply (a : Fin 16) (n : Fin 256) (h : Fin 2) (d : Fin 128) :
    val_main_v38 (F := Ideal) x0 (ix4 a n h d) = valueAt x0 a n h d := by
  unfold valueAt
  rw [← lane_apply]
  simp only [val_main_v38, val_main_v37]
  generalize val_main_v2 (F := Ideal) x0 = y
  pointwise

theorem normedQuery_apply (a : Fin 16) (p : Fin 256) (h : Fin 8) (d : Fin 128) :
    val_main_v19 (F := Ideal) x0 x1 (ix4 a p h d)
      = normed (fun d => laneAt x0 a p (⟨h.val * 128 + d.val, by omega⟩ : Fin 6144)) (fun d => x1 (ix2 (0 : Fin 2) d)) d := by
  unfold normed
  simp only [← queries_apply]
  simp only [val_main_v19, val_main_v18, val_main_v17, val_main_v16, val_main_v15, val_main_v14, val_main_v13,
    val_main_v12, val_main_v11, val_main_v10, val_main_v9, val_main_v8, val_main_v7, val_main_v6, val_main_v5,
    val_main_cst, val_main_cst_0, val_main_cst_1]
  generalize val_main_v4 (F := Ideal) x0 = y
  pointwise

theorem normedKey_apply (a : Fin 16) (n : Fin 256) (h : Fin 2) (d : Fin 128) :
    val_main_v36 (F := Ideal) x0 x1 (ix4 a n h d) = keyAt x0 x1 a n h d := by
  unfold keyAt normed
  simp only [← keys_apply]
  simp only [val_main_v36, val_main_v35, val_main_v34, val_main_v33, val_main_v32, val_main_v31, val_main_v30,
    val_main_v29, val_main_v28, val_main_v27, val_main_v26, val_main_v25, val_main_v24, val_main_v23, val_main_v22,
    val_main_cst_2, val_main_cst_3, val_main_cst_4]
  generalize val_main_v21 (F := Ideal) x0 = y
  pointwise

theorem score_apply (a : Fin 16) (k : Fin 2) (g : Fin 4) (p n : Fin 256) :
    val_main_v43 (F := Ideal) x0 x1 (ix5 a k g p n)
      = score (fun d => val_main_v19 (F := Ideal) x0 x1 (ix4 a p (⟨k.val * 4 + g.val, by omega⟩ : Fin 8) d))
          (fun n d => val_main_v36 (F := Ideal) x0 x1 (ix4 a n k d)) n := by
  simp only [val_main_v43, val_main_v42, val_main_v41, val_main_v40, val_main_v39, val_main_cst_5]
  generalize val_main_v19 (F := Ideal) x0 x1 = y
  generalize val_main_v36 (F := Ideal) x0 x1 = z
  pointwise
  unfold score
  exact congrArg (· * _) (Finset.sum_congr rfl fun d _ => mul_comm _ _)

theorem peak_apply (a : Fin 16) (k : Fin 2) (g : Fin 4) (p : Fin 256) :
    val_main_v44 (F := Ideal) x0 x1 (ix4 a k g p)
      = peak (fun n => val_main_v43 (F := Ideal) x0 x1 (ix5 a k g p n)) := by
  simp only [val_main_v44, val_main_cst_6]
  generalize val_main_v43 (F := Ideal) x0 x1 = y
  pointwise
  rfl

theorem least_apply (a : Fin 16) (k : Fin 2) (g : Fin 4) (p : Fin 256) :
    val_main_v46 (F := Ideal) x0 x1 (ix4 a k g p)
      = peak (fun n => val_main_v43 (F := Ideal) x0 x1 (ix5 a k g p n)) := by
  rw [← Cert.AttnRefIdeal.Rows.max_peak, ← peak_apply, val_main_v46_apply, val_main_v45_apply, val_main_cst_7_apply]
  generalize val_main_v44 (F := Ideal) x0 x1 (ix4 a k g p) = z
  rw [Ideal.maximumf_def, Ideal.ofBits_def]

theorem shifted_apply (a : Fin 16) (k : Fin 2) (g : Fin 4) (p n : Fin 256) :
    val_main_v49 (F := Ideal) x0 x1 (ix5 a k g p n)
      = val_main_v43 (F := Ideal) x0 x1 (ix5 a k g p n) - val_main_v46 (F := Ideal) x0 x1 (ix4 a k g p) := by
  simp only [val_main_v49, val_main_v48, val_main_v47]
  generalize val_main_v43 (F := Ideal) x0 x1 = y
  generalize val_main_v46 (F := Ideal) x0 x1 = z
  pointwise

theorem weight_apply (a : Fin 16) (k : Fin 2) (g : Fin 4) (p n : Fin 256) :
    val_main_v50 (F := Ideal) x0 x1 (ix5 a k g p n)
      = weight (fun n => val_main_v43 (F := Ideal) x0 x1 (ix5 a k g p n)) n := by
  have h : val_main_v50 (F := Ideal) x0 x1 (ix5 a k g p n)
      = Ideal.exp (val_main_v49 (F := Ideal) x0 x1 (ix5 a k g p n)) := by
    simp only [val_main_v50]
    generalize val_main_v49 (F := Ideal) x0 x1 = y
    pointwise
  rw [h, shifted_apply, least_apply]
  rfl

theorem total_apply (a : Fin 16) (k : Fin 2) (g : Fin 4) (p : Fin 256) :
    val_main_v51 (F := Ideal) x0 x1 (ix4 a k g p) = ∑ n, val_main_v50 (F := Ideal) x0 x1 (ix5 a k g p n) := by
  simp only [val_main_v51, val_main_cst_8]
  generalize val_main_v50 (F := Ideal) x0 x1 = y
  pointwise

theorem share_apply (a : Fin 16) (k : Fin 2) (g : Fin 4) (p n : Fin 256) :
    val_main_v54 (F := Ideal) x0 x1 (ix5 a k g p n)
      = Ideal.div (val_main_v50 (F := Ideal) x0 x1 (ix5 a k g p n)) (val_main_v51 (F := Ideal) x0 x1 (ix4 a k g p)) := by
  simp only [val_main_v54, val_main_v53, val_main_v52]
  generalize val_main_v50 (F := Ideal) x0 x1 = y
  generalize val_main_v51 (F := Ideal) x0 x1 = z
  pointwise

theorem mixed_apply (a : Fin 16) (p : Fin 256) (l : Fin 1024) :
    val_main_v57 (F := Ideal) x0 x1 (ix3 a p l)
      = ∑ n, val_main_v38 (F := Ideal) x0 (ix4 a n (⟨l.val / 512, by omega⟩ : Fin 2) (⟨l.val % 128, by omega⟩ : Fin 128))
          * val_main_v54 (F := Ideal) x0 x1
              (ix5 a (⟨l.val / 512, by omega⟩ : Fin 2) (⟨l.val / 128 % 4, by omega⟩ : Fin 4) p n) := by
  simp only [val_main_v57, val_main_v56, val_main_v55]
  generalize val_main_v54 (F := Ideal) x0 x1 = y
  generalize val_main_v38 (F := Ideal) x0 = z
  pointwise

/-- The scores of the query head of lane `l`. -/
theorem scores_apply (a : Fin 16) (p : Fin 256) (l : Fin 1024) :
    (fun n => val_main_v43 (F := Ideal) x0 x1
        (ix5 a (⟨l.val / 512, by omega⟩ : Fin 2) (⟨l.val / 128 % 4, by omega⟩ : Fin 4) p n))
      = contextScores x0 x1 a p l := by
  have e1 : ∀ d : Fin 128, (l.val / 512 * 4 + l.val / 128 % 4) * 128 + d.val = l.val / 128 * 128 + d.val :=
    fun d => by omega
  funext n
  rw [score_apply]
  unfold contextScores
  simp only [normedQuery_apply, normedKey_apply, e1]

/-- An entry of the reference's attention. -/
theorem attended_apply (a : Fin 16) (p : Fin 256) (l : Fin 1024) :
    val_main_v57 (F := Ideal) x0 x1 (ix3 a p l) = softly (contextScores x0 x1 a p l) (contextValues x0 a l) := by
  rw [mixed_apply]
  unfold softly contextValues
  refine Finset.sum_congr rfl fun n _ => ?_
  rw [share_apply, total_apply, values_apply]
  simp only [weight_apply, scores_apply]

/-- The keys as the reference returns them. -/
theorem keysOut_apply (a : Fin 16) (z : Fin 1) (n : Fin 256) (h : Fin 2) (d : Fin 128) :
    val_main_v58 (F := Ideal) x0 x1 (ix5 a z n h d) = keyAt x0 x1 a n h d := by
  rw [← normedKey_apply]
  simp only [val_main_v58]
  generalize val_main_v36 (F := Ideal) x0 x1 = y
  pointwise

/-- The values as the reference returns them. -/
theorem valuesOut_apply (a : Fin 16) (z : Fin 1) (n : Fin 256) (h : Fin 2) (d : Fin 128) :
    val_main_v59 (F := Ideal) x0 (ix5 a z n h d) = valueAt x0 a n h d := by
  rw [← values_apply]
  simp only [val_main_v59]
  generalize val_main_v38 (F := Ideal) x0 = y
  pointwise

theorem contextScores_real (h : ∀ (e : Fin 2) (d : Fin 128), IsReal (x1 (ix2 e d))) (a : Fin 16) (p : Fin 256) (l : Fin 1024)
    (n : Fin 256) : IsReal (contextScores x0 x1 a p l n) :=
  score_real (normed_real (h 0)) (fun _ => normed_real (h 1)) n

/-- Finite gains, as the precondition states them. -/
theorem finite_of_pre [Cert.Pre_finite_gains.Facts]
    (h : Cert.Pre_finite_gains.fn (F := Ideal) x0 x1 = fun _ => 1#1) (e : Fin 2) (d : Fin 128) :
    IsReal (x1 (ix2 e d)) := by
  have h0 := congrFun h ix0
  unfold Cert.Pre_finite_gains.fn at h0
  haveI : Subsingleton Cert.Pre_finite_gains.S_.Idx := ⟨fun a b => funext fun k => k.elim0⟩
  have e := Host.reduce_andi_all _ _ _ _ _ h0 (ix2 e d)
  pointwise at e
  exact Cert.AttnRefIdeal.Rows.real_of_abs_lt _ e

end Cert.CtxRefIdeal.Rows

end
-- ==== Proof.Attn.Context.lean ====
/- The claims about the context's attention: the frames, and the equal results. -/
module

public import proofs.«01_k».proof.Proof.Attn.ContextArrays
public import proofs.«01_k».proof.Proof.Attn.ContextRows
public import proofs.«01_k».proof.Proof.Gen.Ctx.Frame
public import proofs.«01_k».proof.Proof.Gen.CtxRefIdeal.Run
public import proofs.«01_k».proof.Defs
public import Idealize.ShloMosaic.Lib.Quiescent

@[expose] public section

noncomputable section

namespace Cert.CtxClaim

open Idealize.ShloMosaic Idealize.ShloMosaic.TcCoe Idealize.SL.Sem Cert.AttnMath Cert.ContextMath

/-- The side conditions of the precondition's operations. -/
instance preFacts : Cert.Pre_finite_gains.Facts where
  bcast_S_S2x128 := by decide
  reducesTo_S2x128_S_d0_1 := by decide
  h_S_ := by decide

theorem frame : Cert.quiescent_Ctx := fun m ρ _ => Cert.Ctx.Gen.frame m ρ

theorem frame_ideal : Cert.quiescent_CtxIdeal := fun m ρ _ => Cert.CtxIdeal.Gen.frame m ρ

theorem frame_ideal_pre : Cert.quiescent_CtxIdeal_pre_finite_gains := fun m ρ _ => Cert.CtxIdeal.Gen.frame m ρ

theorem frame_reference : Cert.quiescent_CtxRefIdeal := fun m ρ _ =>
  (θ_run Cert.CtxRefIdeal.defs _ _).mono
    (fun r h => ⟨fun c => (h c).2.2.2, sem_eq_zero_of_no_sems (by decide) r.2⟩)
    (Cert.CtxRefIdeal.Value.run (F := Ideal) m ρ)

theorem frame_reference_pre : Cert.quiescent_CtxRefIdeal_pre_finite_gains := fun m ρ _ => frame_reference m ρ trivial

theorem algebraic : Cert.algebraic_CtxIdeal_CtxRefIdeal_pre_finite_gains := by
  intro m ρ m' ρ' hpre hagree
  refine ⟨fun c => Cert.CtxIdeal.Blocks.leftAttended m c, fun c => Cert.CtxIdeal.Blocks.leftKeys m c,
    fun c => Cert.CtxIdeal.Blocks.leftValues m c, Cert.CtxIdeal.Blocks.run_arrays m ρ, ?_⟩
  refine (θ_run Cert.CtxRefIdeal.defs _ _).mono
    (fun _ h c => ⟨(h c).1.trans ?_, (h c).2.1.trans ?_, (h c).2.2.1.trans ?_, (h c).2.2.2⟩)
    (Cert.CtxRefIdeal.Value.run (F := Ideal) m' ρ')
  all_goals obtain ⟨e0, e1⟩ := hagree c
  · rw [Cert.CtxRefIdeal.Read.val_main_v57_eq, e0, e1]
    funext i
    refine (congrArg _ (Cert.CtxIdeal.Blocks.ext3 i)).trans
      ((Cert.CtxRefIdeal.Rows.attended_apply _ _ (i 0) (i 1) (i 2)).trans ?_)
    exact (mixed_eq_softly (Cert.CtxRefIdeal.Rows.contextScores_real _ _
      (Cert.CtxRefIdeal.Rows.finite_of_pre _ _ (hpre c)) _ _ _) _).symm
  · rw [Cert.CtxRefIdeal.Read.val_main_v58_eq, e0, e1]
    funext i
    exact (congrArg _ (Cert.CtxIdeal.Blocks.ext5 i)).trans
      (Cert.CtxRefIdeal.Rows.keysOut_apply _ _ (i 0) (i 1) (i 2) (i 3) (i 4))
  · rw [Cert.CtxRefIdeal.Read.val_main_v59_eq, e0]
    funext i
    exact (congrArg _ (Cert.CtxIdeal.Blocks.ext5 i)).trans
      (Cert.CtxRefIdeal.Rows.valuesOut_apply _ (i 0) (i 1) (i 2) (i 3) (i 4))

end Cert.CtxClaim

end
-- ==== Proof.Mix.Modulation.lean ====
/- The modulation of a layer: the conditioning vectors through `x · sigmoid x` and the weights, plus the bias. -/
module

public import proofs.«01_k».proof.Proof.Gen.ModuIdeal.Frame
public import proofs.«01_k».proof.Proof.Gen.Modu.Frame
public import proofs.«01_k».proof.Proof.Gen.ModuRefIdeal.Read
public import proofs.«01_k».proof.Proof.Gen.ModuRefIdeal.Run
public import proofs.«01_k».proof.Proof.Mix.Math
public import proofs.«01_k».proof.Defs
public import Idealize.ShloMosaic.Lib.Quiescent
public import Idealize.ShloMosaic.Lib.Pipeline.ValueKit
public import Idealize.ShloMosaic.Lib.Pipeline.ReadBack
public import Idealize.ShloMosaic.Lib.StableHlo.RunRead
public import Idealize.ShloMosaic.Lib.KernelVsHost

@[expose] public section

set_option maxRecDepth 16384

noncomputable section

namespace Cert.ModuMath

open Idealize.ShloMosaic Cert.MixMath

/-- `x · 1 / (1 + exp (−x))`. -/
def silu (x : EReal) : EReal :=
  x * Ideal.div (Ideal.ofBits FTy.f32 1065353216#32) (Ideal.ofBits FTy.f32 1065353216#32 + Ideal.exp (-x))

/-- The conditioning vector of segment `b`: the context's for the first, the others in their order. -/
def condAt (x : (⟨2, ![4, 2048]⟩ : Shape).Idx → EReal) (y : (⟨1, ![2048]⟩ : Shape).Idx → EReal) (b : Fin 5)
    (d : Fin 2048) : EReal :=
  if h : b.val < 1 then y (ix1 d) else x (ix2 (⟨b.val - 1, by omega⟩ : Fin 4) d)

/-- Entry `l` of the modulation from a conditioning vector. -/
def modAt (v : Fin 2048 → EReal) (w : (⟨2, ![2048, 12288]⟩ : Shape).Idx → EReal)
    (bias : (⟨1, ![12288]⟩ : Shape).Idx → EReal) (l : Fin 12288) : EReal :=
  through (fun d => silu (v d)) w l + bias (ix1 l)

theorem ext2 {a b : Nat} (i : (⟨2, ![a, b]⟩ : Shape).Idx) : i = ix2 (i 0) (i 1) := by
  funext e
  match e with
  | ⟨0, _⟩ => rfl
  | ⟨1, _⟩ => rfl

end Cert.ModuMath

namespace Cert.ModuIdeal.Blocks

open Cert.ModuIdeal Cert.ModuIdeal.Gen Idealize.ShloMosaic Idealize.ShloMosaic.TcCoe Idealize.SL.Sem Cert.MixMath
open Cert.ModuMath
open Idealize.ShloMosaic.Pipeline (Dat)

/-- The product that a point stores: nothing is added to it but the zero that the point starts from. -/
theorem product_apply (x : Vec Ideal S8x2048 .f32) (w : Vec Ideal S2048x1024 .f32) (r : Fin 8) (l : Fin 1024) :
    k0_pay2 (k0_pay1 (F := Ideal)) x w (ix2 r l) = through (fun d => x (ix2 r d)) w l := by
  unfold k0_pay2 k0_pay1
  pointwise
  rfl

variable (m : (ℓ : Loc nD τ sig) → Buf (Elt Ideal) ℓ) (ρ : Dev nD → PrngReg) (c : Dev nD)

abbrev aC : S4x2048.Idx → EReal := m ((c.tc : Thread nD τ).loc main_arg0)
abbrev aCtx : S2048.Idx → EReal := m ((c.tc : Thread nD τ).loc main_arg1)
abbrev aW : S2048x12288.Idx → EReal := m ((c.tc : Thread nD τ).loc main_arg2)
abbrev aBias : S12288.Idx → EReal := m ((c.tc : Thread nD τ).loc main_arg3)

/-- The context's vector above the others. -/
abbrev joined : S5x2048.Idx → EReal :=
  concatenate S5x2048 0 [⟨S1x2048, broadcastInDim S1x2048 ![1] bcast_S2048_S1x2048_1 (aCtx m c)⟩, ⟨S4x2048, aC m c⟩]
    concatenates_S1x2048_S4x2048_S5x2048_d0

theorem joined_apply (b : Fin 5) (d : Fin 2048) : joined m c (ix2 b d) = condAt (aC m c) (aCtx m c) b d := by
  unfold condAt joined
  pointwise

theorem padded_apply (y : S5x2048.Idx → EReal) (z : S_.Idx → EReal) (r : Fin 8) (b : Fin 5) (h : r.val = b.val)
    (d : Fin 2048) :
    pad S8x2048 ![0, 0] ![3, 0] ![0, 0] y z pads_S5x2048_S8x2048_030_000 h_S_ (ix2 r d) = y (ix2 b d) := by
  refine pad_apply_of_inside _ _ _ y z _ _ (ix2 r d) (ix2 b d) fun a => ?_
  match a with
  | ⟨0, _⟩ => simpa [ix2] using h
  | ⟨1, _⟩ => simp [ix2]

theorem silu_apply (y : S5x2048.Idx → EReal) (i : S5x2048.Idx) :
    mulf (F := Ideal) (φ := .f32) y (Host.divf (broadcastInDim S5x2048 ![] bcast_S_S5x2048 (constant S_ .f32 0x3F800000#32))
      (addf (broadcastInDim S5x2048 ![] bcast_S_S5x2048 (constant S_ .f32 0x3F800000#32)) (Host.exp (Host.negf y)))) i
      = silu (y i) := by
  unfold silu
  pointwise

/-- The vectors go through `silu`, and zero rows are laid below them. -/
theorem rows_eq (r : Fin 8) (b : Fin 5) (h : r.val = b.val) (d : Fin 2048) :
    V m c main_v3 (ix2 r d) = silu (condAt (aC m c) (aCtx m c) b d) := by
  rw [← joined_apply]
  dsimp only [V, V0, hostOps0, hostOps0_1, hostOps0_2, hostOps0_3, List.flatten_cons, List.flatten_nil, List.append_nil,
    List.cons_append, List.nil_append]
  after_results_simp
  simp only [StableHlo.TRef.ofBuf_toBuf]
  generalize hy : concatenate S5x2048 0 _ _ = y
  have hj : y = joined m c := hy.symm.trans (StableHlo.concatenate_congr _ _ (by after_results_simp) _ _)
  rw [← hj]
  exact (padded_apply _ _ r b h d).trans (silu_apply y _)

theorem idx0 : ∀ t : Fin cfg0.N, win0_0.index t = ![0, 0] :=
  (by decide +kernel : ∀ t : Fin grid0.N, win0_0.index t = ![0, 0])
theorem idx1 : ∀ t : Fin cfg0.N, win0_1.index t = ![0, t.val] :=
  (by decide +kernel : ∀ t : Fin grid0.N, win0_1.index t = ![0, t.val])
theorem idx2 : ∀ t : Fin cfg0.N, win0_2.index t = ![0, t.val] :=
  (by decide +kernel : ∀ t : Fin grid0.N, win0_2.index t = ![0, t.val])

theorem point_lt {n : ℕ} (h : n < cfg0.N) : n < 12 := by
  have e : cfg0.N = 12 := Gen.N_0
  omega

variable (t : Fin cfg0.N)

/-- The column of the weights at lane `l` of a point. -/
abbrev col (l : Fin 1024) : Fin 12288 := ⟨t.val * 1024 + l.val, by have := point_lt t.isLt; omega⟩

theorem blk0 (r : Fin 8) (d : Fin 2048) : iblk m c 0 t (ix2 r d) = V m c main_v3 (ix2 r d) := by
  blk_ext [iblk, idx0 t]

theorem blk1 (d : Fin 2048) (l : Fin 1024) : iblk m c 1 t (ix2 d l) = aW m c (ix2 d (col t l)) := by
  have h := V_main_arg2 m c
  blk_ext [iblk, h, idx1 t]

/-- The array the kernel leaves. -/
def left : S8x12288.Idx → EReal := fun i =>
  through (fun d => V m c main_v3 (ix2 (i 0) d)) (aW m c) (i 1)

theorem point_eq (r : Fin 8) (l : Fin 1024) : outsAt0 m c t (ix2 r l) = left m c (ix2 r (col t l)) := by
  have hp : outsAt0 m c t = k0_pay2 (k0_pay1 (F := Ideal)) (iblk m c 0 t) (iblk m c 1 t) := by
    unfold outsAt0
    frame_out
  rw [hp, product_apply]
  unfold left through
  refine Finset.sum_congr rfl fun d _ => ?_
  exact congrArg₂ (· * ·) (blk0 m c t r d) (blk1 m c t d l)

theorem final : (Gen.dats m 0 c).arrAt 2 cfg0.N = left m c := by
  refine (Gen.dats m 0 c).arrAt_eq_of_covers 2 _ (by decide +kernel) fun t hf y => ?_
  blk_simp
  rw [after0_2]
  obtain ⟨r, hr⟩ : ∃ r : Fin 8, r.val = (y (0 : Fin 2)).val := ⟨⟨_, (y (0 : Fin 2)).isLt⟩, rfl⟩
  obtain ⟨l, hl⟩ : ∃ l : Fin 1024, l.val = (y (1 : Fin 2)).val := ⟨⟨_, (y (1 : Fin 2)).isLt⟩, rfl⟩
  have hy : y = ix2 r l := by blk_ext [hr, hl]
  have he : (win0_2.blk t).view.emb y = ix2 r (col t l) := by
    blk_ext [idx2 t, hr, hl]
  rw [he]
  exact (congrArg (outsAt0 m c t) hy).trans (point_eq m c t r l)

/-- The result. -/
def result : S5x12288.Idx → EReal := fun i => modAt (condAt (aC m c) (aCtx m c) (i 0)) (aW m c) (aBias m c) (i 1)

theorem out_eq : Pipeline.withArrays (cfgs 0).spec c (V0 m c) (fun w => (dats m 0 c).arrAt w (cfgs 0).N)
    (Proc.devRef .tc main_v4) = left m c :=
  (Pipeline.withArrays_arr spec0 (by decide) c (V0 m c) (fun w => (dats m 0 c).arrAt w cfg0.N) 2).trans (final m c)

theorem bias_eq : Pipeline.withArrays (cfgs 0).spec c (V0 m c) (fun w => (dats m 0 c).arrAt w (cfgs 0).N)
    (Proc.devRef .tc main_arg3) = aBias m c :=
  (Pipeline.withArrays_of_ne _ c (V0 m c) _ main_arg3
    (by exact (by decide : ∀ w, Pipeline.arrRef spec0 w ≠ main_arg3))).trans (V_main_arg3 m c)

/-- The first five rows, and the bias beside each. -/
theorem tail_apply (y : S8x12288.Idx → EReal) (z : S12288.Idx → EReal) (b : Fin 5) (l : Fin 12288) :
    addf (F := Ideal) (φ := .f32) (extractStridedSlice S5x12288 ![0, 0] y slices_S8x12288_S5x12288_0_0)
      (broadcastInDim S5x12288 ![0, 1] bcast_S1x12288_S5x12288_0_1
        (broadcastInDim S1x12288 ![1] bcast_S12288_S1x12288_1 z)) (ix2 b l)
      = y (ix2 (⟨b.val, by omega⟩ : Fin 8) l) + z (ix1 l) := by
  pointwise

theorem result_eq : Pipeline.afterTail₀ cfgs (dats m) 0 (V0 m) [hostOps1] c main_v8 = result m c := by
  unfold Pipeline.afterTail₀
  dsimp only [hostOps1, List.flatten_cons, List.flatten_nil, List.append_nil, List.cons_append, List.nil_append]
  have hout := out_eq m c
  have hbias := bias_eq m c
  generalize Pipeline.withArrays (cfgs 0).spec c (V0 m c) (fun w => (dats m 0 c).arrAt w (cfgs 0).N) = W at hout hbias ⊢
  after_reads_simp
  rw [hout, hbias]
  funext i
  refine (congrArg _ (ext2 i)).trans ((tail_apply (left m c) (aBias m c) (i 0) (i 1)).trans ?_)
  unfold result modAt left through
  refine congrArg (· + _) (Finset.sum_congr rfl fun d _ => congrArg (· * _) ?_)
  exact rows_eq m c _ (i 0) rfl d

/-- The result and the arguments after a run. -/
theorem run_arrays : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h.1 c).2 main_v8 (Pipeline.mem_restRefs_of main_v8 (by decide) (by decide))).trans (result_eq m c), h.2 c⟩)
    (θ_run_and (run_main m ρ) (unchanged m ρ))

end Cert.ModuIdeal.Blocks

namespace Cert.ModuRefIdeal.Rows

open Cert.ModuRefIdeal Cert.ModuRefIdeal.Gen Cert.ModuRefIdeal.Read Idealize.ShloMosaic Cert.MixMath Cert.ModuMath

variable (x0 : (⟨S4x2048, .f32⟩ : BufTy).Contents (Elt Ideal)) (x1 : (⟨S2048, .f32⟩ : BufTy).Contents (Elt Ideal))
  (x2 : (⟨S2048x12288, .f32⟩ : BufTy).Contents (Elt Ideal)) (x3 : (⟨S12288, .f32⟩ : BufTy).Contents (Elt Ideal))

theorem contextSilu_apply (d : Fin 2048) : val_main_v1 (F := Ideal) x1 (ix2 0 d) = silu (x1 (ix1 d)) := by
  unfold silu
  simp only [val_main_v1, val_main_call0_v5, val_main_call0_v4, val_main_call0_v3, val_main_call0_v2, val_main_call0_v1,
    val_main_call0_v0, val_main_call0_cst, val_main_call0_cst_0, val_main_v0]
  pointwise

theorem othersSilu_apply (b : Fin 4) (d : Fin 2048) : val_main_v5 (F := Ideal) x0 (ix2 b d) = silu (x0 (ix2 b d)) := by
  unfold silu
  simp only [val_main_v5, val_main_call1_v5, val_main_call1_v4, val_main_call1_v3, val_main_call1_v2, val_main_call1_v1,
    val_main_call1_v0, val_main_call1_cst, val_main_call1_cst_0]
  pointwise

theorem context_apply (l : Fin 12288) :
    val_main_v4 (F := Ideal) x1 x2 x3 (ix2 0 l) = modAt (fun d => x1 (ix1 d)) x2 x3 l := by
  unfold modAt through
  simp only [← contextSilu_apply, val_main_v4, val_main_v3, val_main_v2]
  generalize val_main_v1 (F := Ideal) x1 = y
  pointwise

theorem others_apply (b : Fin 4) (l : Fin 12288) :
    val_main_v9 (F := Ideal) x0 x2 x3 (ix2 b l) = modAt (fun d => x0 (ix2 b d)) x2 x3 l := by
  unfold modAt through
  simp only [← othersSilu_apply, val_main_v9, val_main_v8, val_main_v7, val_main_v6]
  generalize val_main_v5 (F := Ideal) x0 = y
  pointwise

theorem joined_apply (y : S1x12288.Idx → EReal) (z : S4x12288.Idx → EReal) (b : Fin 5) (l : Fin 12288) :
    concatenate S5x12288 0 [⟨S1x12288, y⟩, ⟨S4x12288, z⟩] concatenates_S1x12288_S4x12288_S5x12288_d0 (ix2 b l)
      = if h : b.val < 1 then y (ix2 0 l) else z (ix2 (⟨b.val - 1, by omega⟩ : Fin 4) l) := by
  pointwise
  by_cases h : b.val < 1
  · simp only [dif_pos h]
    exact congrArg (fun a => y (ix2 a l)) (Fin.ext (by simp; omega))
  · simp only [dif_neg h]

theorem result_apply (b : Fin 5) (l : Fin 12288) :
    val_main_v10 (F := Ideal) x0 x1 x2 x3 (ix2 b l) = modAt (condAt x0 x1 b) x2 x3 l := by
  unfold val_main_v10
  rw [joined_apply]
  unfold condAt
  by_cases h : b.val < 1
  · simp only [dif_pos h]
    exact context_apply x1 x2 x3 l
  · simp only [dif_neg h]
    exact others_apply x0 x2 x3 _ l

end Cert.ModuRefIdeal.Rows

namespace Cert.ModuClaim

open Idealize.ShloMosaic Idealize.ShloMosaic.TcCoe Idealize.SL.Sem Cert.MixMath Cert.ModuMath

theorem frame : Cert.quiescent_Modu := fun m ρ _ => Cert.Modu.Gen.frame m ρ

theorem frame_ideal : Cert.quiescent_ModuIdeal := fun m ρ _ => Cert.ModuIdeal.Gen.frame m ρ

theorem frame_reference : Cert.quiescent_ModuRefIdeal := fun m ρ _ =>
  (θ_run Cert.ModuRefIdeal.defs _ _).mono
    (fun r h => ⟨fun c => (h c).2, sem_eq_zero_of_no_sems (by decide) r.2⟩)
    (Cert.ModuRefIdeal.Value.run (F := Ideal) m ρ)

theorem algebraic : Cert.algebraic_ModuIdeal_ModuRefIdeal := by
  intro m ρ m' ρ' hpre hagree
  refine ⟨fun c => Cert.ModuIdeal.Blocks.result m c, Cert.ModuIdeal.Blocks.run_arrays m ρ, ?_⟩
  refine (θ_run Cert.ModuRefIdeal.defs _ _).mono (fun _ h c => ⟨(h c).1.trans ?_, (h c).2⟩)
    (Cert.ModuRefIdeal.Value.run (F := Ideal) m' ρ')
  obtain ⟨e0, e1, e2, e3⟩ := hagree c
  rw [Cert.ModuRefIdeal.Read.val_main_v10_eq, e0, e1, e2, e3]
  funext i
  exact (congrArg _ (ext2 i)).trans (Cert.ModuRefIdeal.Rows.result_apply _ _ _ _ (i 0) (i 1))

end Cert.ModuClaim

end
-- ==== Proof.Mix.GlaMath.lean ====
/- The mathematics of the gated linear attention's state: the logarithm of a gate, its running
sums along a chunk, and the state carried over the chunks. -/
module

public import Idealize.ShloMosaic.Lib.Quiescent
public import Idealize.ShloMosaic.Lib.Pipeline.ValueKit

@[expose] public section

noncomputable section

open Idealize.ShloMosaic
open scoped BigOperators

namespace Cert.GlaMath

abbrev lane (h : Fin 6) (k : Fin 128) : Fin 768 := ⟨h.val * 128 + k.val, by omega⟩
abbrev vlane (h : Fin 6) (v : Fin 256) : Fin 1536 := ⟨h.val * 256 + v.val, by omega⟩

/-- One entry of a head's state after a chunk: `b` is the decay's logarithm summed up to each row, `e` the row where the
    chunk ends. -/
def upd (b : Fin 64 → Fin 768 → EReal) (e : Fin 64) (K : Fin 64 → Fin 768 → EReal) (V : Fin 64 → Fin 1536 → EReal)
    (s : EReal) (h : Fin 6) (v : Fin 256) (k : Fin 128) : EReal :=
  s * Ideal.exp (b e (lane h k))
    + ∑ r : Fin 64, V r (vlane h v) * (K r (lane h k) * Ideal.exp (b e (lane h k) - b r (lane h k)))

/-- The logarithm of the logistic function. -/
def ls (p : EReal) : EReal := min p 0 - Ideal.log1p (Ideal.exp (0 - FloatOps.absf (F := Ideal) (φ := .f32) p))

/-- The logarithm of a gate: a sixteenth of it. -/
def lg (p : EReal) : EReal := Ideal.div (ls p) (Ideal.ofBits FTy.f32 1098907648#32)

theorem bits_16 : Ideal.ofBits FTy.f32 1098907648#32 = ((16 : ℝ) : EReal) := by
  simp [Ideal.ofBits, Ideal.ieee, -EReal.coe_mul]; norm_num

theorem log1p_exp (r : ℝ) :
    Ideal.log1p (Ideal.exp (r : EReal)) = ((Real.log (1 + Real.exp r) : ℝ) : EReal) := by
  have h : (1 : EReal) + ((Real.exp r : ℝ) : EReal) = ((1 + Real.exp r : ℝ) : EReal) := by norm_cast
  have hp : ¬ (1 + Real.exp r) ≤ 0 := by have := Real.exp_pos r; linarith
  show Ideal.log (1 + ((Real.exp r : ℝ) : EReal)) = _
  rw [h]
  show (if (1 + Real.exp r) ≤ 0 then (⊥ : EReal) else ((Real.log (1 + Real.exp r) : ℝ) : EReal)) = _
  rw [if_neg hp]

theorem log1p_zero : Ideal.log1p 0 = 0 := by
  have h : (1 : EReal) + 0 = ((1 : ℝ) : EReal) := by simp
  show Ideal.log (1 + 0) = _
  rw [h]
  show (if (1 : ℝ) ≤ 0 then (⊥ : EReal) else ((Real.log 1 : ℝ) : EReal)) = _
  simp

theorem min_coe (r : ℝ) : min (r : EReal) 0 = ((min r 0 : ℝ) : EReal) := by
  rw [← EReal.coe_zero, EReal.coe_strictMono.monotone.map_min]

theorem max_coe (r q : ℝ) : max (r : EReal) (q : EReal) = ((max r q : ℝ) : EReal) := by
  rw [EReal.coe_strictMono.monotone.map_max]

theorem ls_coe (r : ℝ) : ls (r : EReal) =
    ((min r 0 - Real.log (1 + Real.exp (0 - max r (-r))) : ℝ) : EReal) := by
  show min (r : EReal) 0 - Ideal.log1p (Ideal.exp (0 - max (r : EReal) (-(r : EReal)))) = _
  rw [min_coe, ← EReal.coe_neg, max_coe, ← EReal.coe_zero, ← EReal.coe_sub, log1p_exp,
    ← EReal.coe_sub]

theorem ls_bot : ls ⊥ = ⊥ := by
  show min (⊥ : EReal) 0 - Ideal.log1p (Ideal.exp (0 - max (⊥ : EReal) (-⊥))) = _
  rw [min_eq_left bot_le, EReal.bot_sub]

theorem ls_top : ls ⊤ = 0 := by
  show min (⊤ : EReal) 0 - Ideal.log1p (Ideal.exp (0 - max (⊤ : EReal) (-⊤))) = _
  rw [min_eq_right le_top, max_eq_left le_top, show (0 : EReal) - ⊤ = ⊥ from by simp,
    show Ideal.exp ⊥ = 0 from rfl, log1p_zero]
  simp

/-- The softplus form of the logistic function's logarithm. -/
theorem ls_soft (p : EReal) :
    -(max (-p) 0 + Ideal.log1p (Ideal.exp (-(FloatOps.absf (F := Ideal) (φ := .f32) (-p - 0))))) =
      ls p := by
  show -(max (-p) 0 + Ideal.log1p (Ideal.exp (-(max (-p - 0) (-(-p - 0)))))) = ls p
  rw [sub_zero, neg_neg]
  induction p with
  | bot => rw [ls_bot, EReal.neg_bot, max_eq_left le_top, max_eq_left bot_le, EReal.neg_top,
      show Ideal.exp ⊥ = 0 from rfl, log1p_zero]; simp
  | top => rw [ls_top, EReal.neg_top, max_eq_right bot_le, max_eq_right bot_le, EReal.neg_top,
      show Ideal.exp ⊥ = 0 from rfl, log1p_zero]; simp
  | coe r =>
    rw [ls_coe, ← EReal.coe_neg, max_coe, ← EReal.coe_neg, log1p_exp, ← EReal.coe_zero, max_coe,
      ← EReal.coe_add, ← EReal.coe_neg]
    congr 1
    rw [max_comm (-r) r, zero_sub, neg_add, ← sub_eq_add_neg]
    congr 1
    rcases le_total r 0 with h | h
    · rw [max_eq_left (by linarith), min_eq_left h]; ring
    · rw [max_eq_right (by linarith), min_eq_right h]; ring

/-- A gate's logarithm is a real number or minus infinity. -/
theorem lg_cases (p : EReal) : lg p = ⊥ ∨ ∃ r : ℝ, lg p = (r : EReal) := by
  have h16 : ((16 : ℝ) : EReal) ≠ 0 := by norm_cast
  have hd : ∀ x : EReal, Ideal.div x ((16 : ℝ) : EReal) = x * (((16 : ℝ)⁻¹ : ℝ) : EReal) := fun x => by
    unfold Ideal.div; rw [if_neg h16, EReal.coe_inv]
  unfold lg
  rw [bits_16, hd]
  induction p with
  | bot => left; rw [ls_bot]; exact EReal.bot_mul_coe_of_pos (by norm_num)
  | top => right; exact ⟨0, by rw [ls_top]; simp⟩
  | coe r => right; exact ⟨_, by rw [ls_coe, ← EReal.coe_mul]⟩

/-- The sum of the differences of selected gate logarithms with themselves adds nothing to their
sum. -/
theorem sum_self {ι : Type} [Fintype ι] (P : ι → Prop) [DecidablePred P] (g : ι → EReal)
    (hg : ∀ i, g i = ⊥ ∨ ∃ r : ℝ, g i = (r : EReal)) :
    (∑ i, (if P i then g i else 0)) + ∑ i, (if P i then g i - g i else 0) =
      ∑ i, (if P i then g i else 0) := by
  rw [← Finset.sum_add_distrib]
  refine Finset.sum_congr rfl fun i _ => ?_
  by_cases h : P i
  · rw [if_pos h, if_pos h]
    rcases hg i with hb | ⟨r, hr⟩
    · rw [hb, EReal.bot_add]
    · rw [hr, ← EReal.coe_sub, ← EReal.coe_add]; congr 1; ring
  · rw [if_neg h, if_neg h, add_zero]

theorem fold_add {ι : Type} (f : ι → EReal) :
    ∀ (l : List ι) (a : EReal), l.foldl (fun r n => r + f n) a = a + (l.map f).sum
  | [], a => by simp
  | n :: l, a => by rw [List.foldl_cons, fold_add f l, List.map_cons, List.sum_cons, add_assoc]

theorem win : ∀ n : Fin (⟨3, ![1, 64, 1]⟩ : Shape).numel,
    ((Shape.rowMajor (s := ⟨3, ![1, 64, 1]⟩)).symm n 0).val = 0 ∧
    ((Shape.rowMajor (s := ⟨3, ![1, 64, 1]⟩)).symm n 1).val = n.val ∧
    ((Shape.rowMajor (s := ⟨3, ![1, 64, 1]⟩)).symm n 2).val = 0 := by
  decide +kernel

/-- The place that a window position reads, over the positions of a chunk. -/
def turn (j : Fin 64) (n : Fin (⟨3, ![1, 64, 1]⟩ : Shape).numel) : Fin 64 :=
  ⟨(j.val + n.val + 1) % 64, Nat.mod_lt _ (by norm_num)⟩

theorem numel_win : (⟨3, ![1, 64, 1]⟩ : Shape).numel = 64 := by decide +kernel

theorem turn_bij (j : Fin 64) : Function.Bijective (turn j) := by
  refine (Fintype.bijective_iff_injective_and_card _).mpr ⟨fun a b h => ?_, ?_⟩
  · have h' : (j.val + a.val + 1) % 64 = (j.val + b.val + 1) % 64 := congrArg Fin.val h
    have ha : a.val < 64 := lt_of_lt_of_eq a.isLt numel_win
    have hb : b.val < 64 := lt_of_lt_of_eq b.isLt numel_win
    exact Fin.ext (by omega)
  · rw [Fintype.card_fin, Fintype.card_fin, numel_win]

/-- The running sum along a chunk, at an index. -/
theorem running_apply (x : (⟨3, ![64, 64, 768]⟩ : Shape).Idx → EReal) (init : EReal) (hi : init = 0)
    (h : (⟨3, ![64, 64, 768]⟩ : Shape).ReduceWindows (![1, 64, 1] : Fin 3 → Nat) ![1, 1, 1] ![0, 63, 0] ![0, 0, 0]
      (⟨3, ![64, 64, 768]⟩ : Shape))
    (c : Fin 64) (j : Fin 64) (m : Fin 768) :
    Ideal.hostReduceWindowAdd ![1, 64, 1] ![1, 1, 1] ![0, 63, 0] ![0, 0, 0] h x init (ix3 c j m) =
      ∑ i : Fin 64, if i.val ≤ j.val then x (ix3 c i m) else 0 := by
  subst hi
  unfold Ideal.hostReduceWindowAdd Host.reduceWindow
  refine (fold_add _ _ _).trans ?_
  rw [zero_add, ← Fin.sum_univ_def]
  refine Fintype.sum_bijective (turn j) (turn_bij j) _ _ fun n => ?_
  obtain ⟨w0, w1, w2⟩ := win n
  have hn : n.val < 64 := lt_of_lt_of_eq n.isLt numel_win
  have hj := j.isLt
  split
  · next hin =>
    have h1 := hin 1
    change 63 ≤ j.val * 1 + ((⟨3, ![1, 64, 1]⟩ : Shape).rowMajor.symm n 1).val
        ∧ j.val * 1 + ((⟨3, ![1, 64, 1]⟩ : Shape).rowMajor.symm n 1).val - 63 < 64 at h1
    rw [w1] at h1
    have ht : (turn j n).val = j.val + n.val - 63 := by
      show (j.val + n.val + 1) % 64 = _
      omega
    rw [if_pos (by omega)]
    refine congrArg x (funext fun a => Fin.ext ?_)
    match a with
    | ⟨0, _⟩ =>
      show c.val * 1 + ((⟨3, ![1, 64, 1]⟩ : Shape).rowMajor.symm n 0).val - 0 = c.val
      rw [w0]; simp
    | ⟨1, _⟩ =>
      show j.val * 1 + ((⟨3, ![1, 64, 1]⟩ : Shape).rowMajor.symm n 1).val - 63 = (turn j n).val
      rw [w1, ht, Nat.mul_one]
    | ⟨2, _⟩ =>
      show m.val * 1 + ((⟨3, ![1, 64, 1]⟩ : Shape).rowMajor.symm n 2).val - 0 = m.val
      rw [w2]; simp
  · next hin =>
    rw [if_neg fun hle => hin fun a => ?_]
    have ht : (turn j n).val = (j.val + n.val + 1) % 64 := rfl
    match a with
    | ⟨0, _⟩ =>
      show 0 ≤ c.val * 1 + ((⟨3, ![1, 64, 1]⟩ : Shape).rowMajor.symm n 0).val
        ∧ c.val * 1 + ((⟨3, ![1, 64, 1]⟩ : Shape).rowMajor.symm n 0).val - 0 < 64
      rw [w0]; have := c.isLt; simp
    | ⟨1, _⟩ =>
      show 63 ≤ j.val * 1 + ((⟨3, ![1, 64, 1]⟩ : Shape).rowMajor.symm n 1).val
        ∧ j.val * 1 + ((⟨3, ![1, 64, 1]⟩ : Shape).rowMajor.symm n 1).val - 63 < 64
      rw [w1]; omega
    | ⟨2, _⟩ =>
      show 0 ≤ m.val * 1 + ((⟨3, ![1, 64, 1]⟩ : Shape).rowMajor.symm n 2).val
        ∧ m.val * 1 + ((⟨3, ![1, 64, 1]⟩ : Shape).rowMajor.symm n 2).val - 0 < 768
      rw [w2]; have := m.isLt; simp

/-- A chunk's running sums. -/
def cum (G : Fin 64 → Fin 768 → EReal) (j : Fin 64) (n : Fin 768) : EReal :=
  ∑ i : Fin 64, if i.val ≤ j.val then G i n else 0

/-- One entry of a head's state after the first chunks. -/
def chain (G K : ℕ → Fin 64 → Fin 768 → EReal) (V : ℕ → Fin 64 → Fin 1536 → EReal) (h : Fin 6) (v : Fin 256)
    (k : Fin 128) : ℕ → EReal
  | 0 => 0
  | c + 1 => upd (cum (G c)) 63 (K c) (V c) (chain G K V h v k c) h v k

/-- A chunk read from its end. -/
theorem upd_rev (G K : Fin 64 → Fin 768 → EReal) (V : Fin 64 → Fin 1536 → EReal) (s : EReal) (h : Fin 6)
    (v : Fin 256) (k : Fin 128) :
    upd (fun r n => ∑ i : Fin 64, if r.val ≤ i.val then G (Fin.rev i) n else 0) 0 (fun r => K (Fin.rev r))
      (fun r => V (Fin.rev r)) s h v k = upd (cum G) 63 K V s h v k := by
  have hc : ∀ r n, (∑ i : Fin 64, if r.val ≤ i.val then G (Fin.rev i) n else 0) = cum G (Fin.rev r) n := fun r n => by
    refine Fintype.sum_equiv Fin.revPerm _ _ fun i => ?_
    have e : r.val ≤ i.val ↔ (Fin.revPerm i).val ≤ (Fin.rev r).val := by
      rw [Fin.revPerm_apply, Fin.val_rev, Fin.val_rev]; omega
    by_cases h : r.val ≤ i.val
    · rw [if_pos h, if_pos (e.mp h)]; rfl
    · rw [if_neg h, if_neg fun h' => h (e.mpr h')]
  unfold upd
  simp only [hc]
  have e0 : Fin.rev (0 : Fin 64) = 63 := rfl
  rw [e0]
  refine congrArg (_ + ·) (Fintype.sum_equiv Fin.revPerm _ _ fun r => ?_)
  rfl

section
variable (P : (⟨3, ![5, 4096, 5376]⟩ : Shape).Idx → EReal) (w : (⟨3, ![2, 16, 768]⟩ : Shape).Idx → EReal)
  (g : (⟨2, ![2, 768]⟩ : Shape).Idx → EReal)

/-- The row that a direction reads at a place of a chunk of a segment: the second direction reads from the end. -/
def place (d : Fin 2) (b : Fin 16) (c : ℕ) (j : Fin 64) : Fin 4096 :=
  if d.val = 0 then ⟨b.val * 256 + (c % 4 * 64 + j.val), by omega⟩
  else ⟨b.val * 256 + (255 - (c % 4 * 64 + j.val)), by omega⟩

def gateAt (d : Fin 2) (row : Fin 4096) (n : Fin 768) : EReal :=
  lg (∑ l : Fin 16, P (ix3 0 row (⟨5120 + 16 * d.val + l.val, by omega⟩ : Fin 5376)) * w (ix3 d l n) + g (ix2 d n))
def keyAt (row : Fin 4096) (n : Fin 768) : EReal := P (ix3 0 row (⟨768 + n.val, by omega⟩ : Fin 5376))
def valueAt (row : Fin 4096) (n : Fin 1536) : EReal := P (ix3 0 row (⟨1536 + n.val, by omega⟩ : Fin 5376))

/-- A direction's state of a segment after its first chunks. -/
def stateAt (d : Fin 2) (b : Fin 16) (h : Fin 6) (v : Fin 256) (k : Fin 128) (c : ℕ) : EReal :=
  chain (fun c j => gateAt P w g d (place d b c j)) (fun c j => keyAt P (place d b c j))
    (fun c j => valueAt P (place d b c j)) h v k c

end

end Cert.GlaMath
-- ==== Proof.Mix.GlaBlock.lean ====
/- What one grid point of the gated scan leaves in its carried state: per direction and head, the state decayed over the
   chunk plus the chunk's keys, each decayed to the chunk's end, times its values. -/
module

public import proofs.«01_k».proof.Proof.Gen.GlaIdeal.Frame
public import proofs.«01_k».proof.Proof.Mix.GlaMath
public import Idealize.ShloMosaic.Lib.Pipeline.ValueKit

@[expose] public section

set_option maxRecDepth 16384

noncomputable section

namespace Cert.GlaIdeal.Blocks

open Cert.GlaIdeal Cert.GlaIdeal.Gen Idealize.ShloMosaic Idealize.ShloMosaic.TcCoe Idealize.SL.Sem Cert.GlaMath

/-- A head's new state. -/
def job (e : FVec Ideal S64x128 .f32) (l : FVec Ideal S1x128 .f32) (kk : Vec Ideal S1x64x128 .f32)
    (vv : Vec Ideal S1x64x256 .f32) (st : Vec Ideal S1x1x256x128 .f32) : FVec Ideal S1x1x256x128 .f32 :=
  k0_pay194 (k0_pay180 (truncf .bf16 (mulf (k0_pay17 kk) e) bitsLt_bf16_f32) (k0_pay22 vv) l (k0_pay142 st))

theorem job_apply (e : FVec Ideal S64x128 .f32) (l : FVec Ideal S1x128 .f32) (kk : Vec Ideal S1x64x128 .f32)
    (vv : Vec Ideal S1x64x256 .f32) (st : Vec Ideal S1x1x256x128 .f32) (v : Fin 256) (k : Fin 128) :
    job e l kk vv st (ix4 0 0 v k) = st (ix4 0 0 v k) * l (ix2 0 k)
      + ∑ r : Fin 64, vv (ix3 0 r v) * (kk (ix3 0 r k) * e (ix2 r k)) := by
  unfold job k0_pay194 k0_pay180 k0_pay17 k0_pay22 k0_pay142
  pointwise

theorem slicesE : ∀ h : Fin 6, S64x768.Slices ![0, h.val * 128] S64x128 := by decide
theorem slicesL : ∀ h : Fin 6, S1x768.Slices ![0, h.val * 128] S1x128 := by decide

/-- The decays from each row to the chunk's end. -/
def dec (b : FVec Ideal S64x768 .f32) (last : FVec Ideal S1x768 .f32) : FVec Ideal S64x768 .f32 :=
  exp (subf (broadcastTo S64x768 last broadcasts_S1x768_S64x768) b)

theorem dec_apply (b : FVec Ideal S64x768 .f32) (last : FVec Ideal S1x768 .f32) (r : Fin 64) (n : Fin 768) :
    dec b last (ix2 r n) = Ideal.exp (last (ix2 0 n) - b (ix2 r n)) := by
  unfold dec
  pointwise

theorem ext4 {a b d e : Nat} (i : (⟨4, ![a, b, d, e]⟩ : Shape).Idx) : i = ix4 (i 0) (i 1) (i 2) (i 3) := by
  funext x
  match x with
  | ⟨0, _⟩ => rfl
  | ⟨1, _⟩ => rfl
  | ⟨2, _⟩ => rfl
  | ⟨3, _⟩ => rfl

/-- A head's job: the head's lanes of the decays, of the keys, of the values and of the state. -/
def headJob (h : Fin 6) (b : FVec Ideal S64x768 .f32) (last : FVec Ideal S1x768 .f32) (kk : Vec Ideal S1x64x128 .f32)
    (vv : Vec Ideal S1x64x256 .f32) (st : Vec Ideal S1x1x256x128 .f32) : FVec Ideal S1x1x256x128 .f32 :=
  job (extractStridedSlice S64x128 ![0, h.val * 128] (dec b last) (slicesE h))
    (extractStridedSlice S1x128 ![0, h.val * 128] (exp last) (slicesL h)) kk vv st

theorem sliceE_apply (h : Fin 6) (x : FVec Ideal S64x768 .f32) (r : Fin 64) (k : Fin 128) :
    extractStridedSlice S64x128 ![0, h.val * 128] x (slicesE h) (ix2 r k) = x (ix2 r (lane h k)) := by
  refine congrArg x (funext fun a => ?_)
  match a with
  | ⟨0, _⟩ => exact Fin.ext (by show 0 + r.val = r.val; omega)
  | ⟨1, _⟩ => rfl

theorem sliceL_apply (h : Fin 6) (x : FVec Ideal S1x768 .f32) (k : Fin 128) :
    extractStridedSlice S1x128 ![0, h.val * 128] x (slicesL h) (ix2 0 k) = x (ix2 0 (lane h k)) := by
  refine congrArg x (funext fun a => ?_)
  match a with
  | ⟨0, _⟩ => rfl
  | ⟨1, _⟩ => rfl

theorem headJob_apply (h : Fin 6) (b : FVec Ideal S64x768 .f32) (last : FVec Ideal S1x768 .f32) (e : Fin 64)
    (hl : ∀ n, last (ix2 0 n) = b (ix2 e n)) (kk : Vec Ideal S1x64x128 .f32) (vv : Vec Ideal S1x64x256 .f32)
    (st : Vec Ideal S1x1x256x128 .f32) (K : Vec Ideal S1x64x768 .f32) (V : Vec Ideal S1x64x1536 .f32)
    (hk : ∀ r k, kk (ix3 0 r k) = K (ix3 0 r (lane h k))) (hv : ∀ r v, vv (ix3 0 r v) = V (ix3 0 r (vlane h v)))
    (j : S1x1x256x128.Idx) :
    headJob h b last kk vv st j = upd (fun r n => b (ix2 r n)) e (fun r n => K (ix3 0 r n)) (fun r n => V (ix3 0 r n))
      (st j) h (j 2) (j 3) := by
  obtain ⟨v, hv'⟩ : ∃ v : Fin 256, v = j 2 := ⟨_, rfl⟩
  obtain ⟨k, hk'⟩ : ∃ k : Fin 128, k = j 3 := ⟨_, rfl⟩
  have hj : j = ix4 0 0 v k := by
    rw [hv', hk']
    refine (ext4 j).trans ?_
    have e0 : ∀ a : Fin 1, a = 0 := fun a => Subsingleton.elim _ _
    exact congrArg₂ (fun a b : Fin 1 => ix4 a b (j 2) (j 3)) (e0 (j 0)) (e0 (j 1))
  rw [← hv', ← hk', hj]
  unfold headJob upd
  rw [job_apply]
  simp only [sliceE_apply, sliceL_apply, dec_apply, hk, hv, hl]
  refine congrArg₂ (· + ·) (congrArg₂ (· * ·) rfl ?_) rfl
  exact congrArg Ideal.exp (hl _)

/-- The two directions' summed logarithms of a block. -/
def fwd (x3 : Vec Ideal S1x64x128 .f32) (x8 : Vec Ideal S2x32x768 .f32) (x9 : Vec Ideal S2x1x768 .f32) :
    FVec Ideal S64x768 .f32 :=
  k0_pay8 (View.ld x3 (Rect.unit (s := S1x64x128) ![0, 0, 0] ![1, 64, 32] (by decide)))
    (View.ld x8 (Rect.unit (s := S2x32x768) ![0, 0, 0] ![1, 32, 768] (by decide)))
    (View.ld x9 (Rect.unit (s := S2x1x768) ![0, 0, 0] ![1, 1, 768] (by decide)))
def bwd (x7 : Vec Ideal S1x64x128 .f32) (x8 : Vec Ideal S2x32x768 .f32) (x9 : Vec Ideal S2x1x768 .f32) :
    FVec Ideal S64x768 .f32 :=
  k0_pay72 (k0_pay68 (iota .tc S64x64 32 [0] iota_S64x64_d0_w32) (iota .tc S64x64 32 [1] iota_S64x64_d1_w32))
    (k0_pay70 (View.ld x7 (Rect.unit (s := S1x64x128) ![0, 0, 0] ![1, 64, 32] (by decide)))
      (View.ld x8 (Rect.unit (s := S2x32x768) ![1, 0, 0] ![1, 32, 768] (by decide)))
      (View.ld x9 (Rect.unit (s := S2x1x768) ![1, 0, 0] ![1, 1, 768] (by decide))))
    (k0_pay71 (View.ld x7 (Rect.unit (s := S1x64x128) ![0, 0, 0] ![1, 64, 32] (by decide)))
      (View.ld x8 (Rect.unit (s := S2x32x768) ![1, 0, 0] ![1, 32, 768] (by decide)))
      (View.ld x9 (Rect.unit (s := S2x1x768) ![1, 0, 0] ![1, 1, 768] (by decide))))

def lastF (b : FVec Ideal S64x768 .f32) : FVec Ideal S1x768 .f32 :=
  extractStridedSlice S1x768 ![63, 0] b slices_S64x768_o63_0_S1x768
def lastB (b : FVec Ideal S64x768 .f32) : FVec Ideal S1x768 .f32 :=
  extractStridedSlice S1x768 ![0, 0] b slices_S64x768_o0_0_S1x768

theorem lastF_apply (b : FVec Ideal S64x768 .f32) (n : Fin 768) : lastF b (ix2 0 n) = b (ix2 63 n) := by
  unfold lastF
  pointwise
theorem lastB_apply (b : FVec Ideal S64x768 .f32) (n : Fin 768) : lastB b (ix2 0 n) = b (ix2 0 n) := by
  unfold lastB
  pointwise

/-- The whole carried state after a point, from the one before. -/
def newSt (b0 b1 : FVec Ideal S64x768 .f32) (K0 : Vec Ideal S1x64x768 .f32) (V0 : Vec Ideal S1x64x1536 .f32)
    (K1 : Vec Ideal S1x64x768 .f32) (V1 : Vec Ideal S1x64x1536 .f32) (st : Vec Ideal S2x6x256x128 .f32) :
    S2x6x256x128.Idx → EReal := fun i =>
  if (i 0).val = 0 then
    upd (fun r n => b0 (ix2 r n)) 63 (fun r n => K0 (ix3 0 r n)) (fun r n => V0 (ix3 0 r n)) (st i) (i 1) (i 2) (i 3)
  else upd (fun r n => b1 (ix2 r n)) 0 (fun r n => K1 (ix3 0 r n)) (fun r n => V1 (ix3 0 r n)) (st i) (i 1) (i 2) (i 3)

theorem whole_load {s : Shape} {e : EltTy} (m : Memref sig .tc .vmem s e) (hm : m.IsWhole) (x : Vec Ideal s e) (r : Rect s) :
    View.readAt (Elt Ideal) m.view r.toLoadRect (hm.unread x) = View.ld x r := by
  rw [View.readAt_eq_ld, hm.read_unread]

section
variable (b0 b1 : FVec Ideal S64x768 .f32) (K0 : Vec Ideal S1x64x768 .f32) (V0 : Vec Ideal S1x64x1536 .f32)
  (K1 : Vec Ideal S1x64x768 .f32) (V1 : Vec Ideal S1x64x1536 .f32) (xs : Vec Ideal S2x6x256x128 .f32) (h : Fin 6)
  (hK : ∀ a, (![0, 0, h.val * 128] : Fin 3 → Nat) a + (![1, 64, 128] : Fin 3 → Nat) a ≤ S1x64x768.size a)
  (hV : ∀ a, (![0, 0, h.val * 256] : Fin 3 → Nat) a + (![1, 64, 256] : Fin 3 → Nat) a ≤ S1x64x1536.size a)

theorem keys_apply (K : Vec Ideal S1x64x768 .f32) (r : Fin 64) (k : Fin 128) :
    View.ld K (Rect.unit (s := S1x64x768) ![0, 0, h.val * 128] ![1, 64, 128] hK) (ix3 0 r k) = K (ix3 0 r (lane h k)) := by
  refine congrArg K (funext fun a => ?_)
  match a with
  | ⟨0, _⟩ => rfl
  | ⟨1, _⟩ => exact Fin.ext (by show 0 + 1 * r.val = r.val; omega)
  | ⟨2, _⟩ => exact Fin.ext (by show h.val * 128 + 1 * k.val = h.val * 128 + k.val; omega)

theorem values_apply (V : Vec Ideal S1x64x1536 .f32) (r : Fin 64) (v : Fin 256) :
    View.ld V (Rect.unit (s := S1x64x1536) ![0, 0, h.val * 256] ![1, 64, 256] hV) (ix3 0 r v) = V (ix3 0 r (vlane h v)) := by
  refine congrArg V (funext fun a => ?_)
  match a with
  | ⟨0, _⟩ => rfl
  | ⟨1, _⟩ => exact Fin.ext (by show 0 + 1 * r.val = r.val; omega)
  | ⟨2, _⟩ => exact Fin.ext (by show h.val * 256 + 1 * v.val = h.val * 256 + v.val; omega)

theorem emb_eq (d : Fin 2) (hS : ∀ a, (![d.val, h.val, 0, 0] : Fin 4 → Nat) a + (![1, 1, 256, 128] : Fin 4 → Nat) a ≤ S2x6x256x128.size a)
    (j : S1x1x256x128.Idx) :
    (Rect.unit (s := S2x6x256x128) ![d.val, h.val, 0, 0] ![1, 1, 256, 128] hS).emb j = ix4 d h (j 2) (j 3) := by
  have e0 : ∀ a : Fin 1, a.val = 0 := fun a => by omega
  have j0 := e0 (j 0)
  have j1 := e0 (j 1)
  funext a
  match a with
  | ⟨0, _⟩ => exact Fin.ext (by show d.val + 1 * (j 0).val = d.val; omega)
  | ⟨1, _⟩ => exact Fin.ext (by show h.val + 1 * (j 1).val = h.val; omega)
  | ⟨2, _⟩ => exact Fin.ext (by show 0 + 1 * (j 2).val = (j 2).val; omega)
  | ⟨3, _⟩ => exact Fin.ext (by show 0 + 1 * (j 3).val = (j 3).val; omega)

theorem piece_f (hS : ∀ a, (![0, h.val, 0, 0] : Fin 4 → Nat) a + (![1, 1, 256, 128] : Fin 4 → Nat) a ≤ S2x6x256x128.size a)
    (j : S1x1x256x128.Idx) :
    headJob h b0 (lastF b0) (View.ld K0 (Rect.unit (s := S1x64x768) ![0, 0, h.val * 128] ![1, 64, 128] hK))
      (View.ld V0 (Rect.unit (s := S1x64x1536) ![0, 0, h.val * 256] ![1, 64, 256] hV))
      (View.ld xs (Rect.unit (s := S2x6x256x128) ![0, h.val, 0, 0] ![1, 1, 256, 128] hS)) j
      = newSt b0 b1 K0 V0 K1 V1 xs ((Rect.unit (s := S2x6x256x128) ![0, h.val, 0, 0] ![1, 1, 256, 128] hS).emb j) := by
  rw [headJob_apply h b0 (lastF b0) 63 (lastF_apply b0) _ _ _ K0 V0 (keys_apply h hK K0) (values_apply h hV V0)]
  have e : (Rect.unit (s := S2x6x256x128) ![0, h.val, 0, 0] ![1, 1, 256, 128] hS).emb j = ix4 (0 : Fin 2) h (j 2) (j 3) :=
    emb_eq h 0 hS j
  have l : View.ld xs (Rect.unit (s := S2x6x256x128) ![0, h.val, 0, 0] ![1, 1, 256, 128] hS) j
      = xs (ix4 (0 : Fin 2) h (j 2) (j 3)) := congrArg xs e
  rw [e, l]
  exact (if_pos rfl).symm

theorem piece_b (hS : ∀ a, (![1, h.val, 0, 0] : Fin 4 → Nat) a + (![1, 1, 256, 128] : Fin 4 → Nat) a ≤ S2x6x256x128.size a)
    (j : S1x1x256x128.Idx) :
    headJob h b1 (lastB b1) (View.ld K1 (Rect.unit (s := S1x64x768) ![0, 0, h.val * 128] ![1, 64, 128] hK))
      (View.ld V1 (Rect.unit (s := S1x64x1536) ![0, 0, h.val * 256] ![1, 64, 256] hV))
      (View.ld xs (Rect.unit (s := S2x6x256x128) ![1, h.val, 0, 0] ![1, 1, 256, 128] hS)) j
      = newSt b0 b1 K0 V0 K1 V1 xs ((Rect.unit (s := S2x6x256x128) ![1, h.val, 0, 0] ![1, 1, 256, 128] hS).emb j) := by
  rw [headJob_apply h b1 (lastB b1) 0 (lastB_apply b1) _ _ _ K1 V1 (keys_apply h hK K1) (values_apply h hV V1)]
  have e : (Rect.unit (s := S2x6x256x128) ![1, h.val, 0, 0] ![1, 1, 256, 128] hS).emb j = ix4 (1 : Fin 2) h (j 2) (j 3) :=
    emb_eq h 1 hS j
  have l : View.ld xs (Rect.unit (s := S2x6x256x128) ![1, h.val, 0, 0] ![1, 1, 256, 128] hS) j
      = xs (ix4 (1 : Fin 2) h (j 2) (j 3)) := congrArg xs e
  rw [e, l]
  exact (if_neg (show ¬(1 : ℕ) = 0 by decide)).symm

end

theorem pieces_B (c : Dev nD) (i : grid0.Coords) (arg2 : Memref sig .tc .vmem S1x64x768 .f32) (harg2 : arg2.IsWhole) (arg3 : Memref sig .tc .vmem S1x64x768 .f32) (harg3 : arg3.IsWhole) (arg4 : Memref sig .tc .vmem S1x64x1536 .f32) (harg4 : arg4.IsWhole) (arg5 : Memref sig .tc .vmem S1x64x128 .f32) (harg5 : arg5.IsWhole) (arg6 : Memref sig .tc .vmem S1x64x768 .f32) (harg6 : arg6.IsWhole) (arg7 : Memref sig .tc .vmem S1x64x768 .f32) (harg7 : arg7.IsWhole) (arg8 : Memref sig .tc .vmem S1x64x1536 .f32) (harg8 : arg8.IsWhole) (arg9 : Memref sig .tc .vmem S1x64x128 .f32) (harg9 : arg9.IsWhole) (arg10 : Memref sig .tc .vmem S2x32x768 .f32) (harg10 : arg10.IsWhole) (arg11 : Memref sig .tc .vmem S2x1x768 .f32) (harg11 : arg11.IsWhole) (arg12 : Memref sig .tc .vmem S1x2x6x256x128 .f32) (harg12 : arg12.IsWhole) (arg13 : Memref sig .tc .vmem S1x64x1536 .f32) (harg13 : arg13.IsWhole) (arg14 : Memref sig .tc .vmem S1x64x1536 .f32) (harg14 : arg14.IsWhole) (arg15 : Memref sig .tc .vmem S1x2x6x256x128 .f32) (harg15 : arg15.IsWhole) (arg16 : Memref sig .tc .vmem S2x6x256x128 .f32) (harg16 : arg16.IsWhole) (hc0 : ¬cond0_0 i) (hc1 : ¬cond0_1 i)
    (x0 : Vec Ideal S1x64x768 .f32) (x1 : Vec Ideal S1x64x768 .f32) (x2 : Vec Ideal S1x64x1536 .f32) (x3 : Vec Ideal S1x64x128 .f32) (x4 : Vec Ideal S1x64x768 .f32) (x5 : Vec Ideal S1x64x768 .f32) (x6 : Vec Ideal S1x64x1536 .f32) (x7 : Vec Ideal S1x64x128 .f32) (x8 : Vec Ideal S2x32x768 .f32) (x9 : Vec Ideal S2x1x768 .f32) (x10 : Vec Ideal S1x2x6x256x128 .f32) (xs0 : Vec Ideal S2x6x256x128 .f32)
    (p : View.Piece (Elt Ideal) S2x6x256x128 .f32)
    (hp : p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.2.1) (j : p.1.shape.Idx) :
    p.2 j = newSt (fwd x3 x8 x9) (bwd x7 x8 x9) x1 x2 x5 x6 xs0 (p.1.emb j) := by
  unfold kernelRun0_B at hp
  simp only [List.mem_cons, List.mem_nil_iff, or_false] at hp
  rcases hp with rfl | rfl | rfl | rfl | rfl | rfl | rfl | rfl | rfl | rfl | rfl | rfl
  · refine Eq.trans ?_ (piece_b (fwd x3 x8 x9) (bwd x7 x8 x9) x1 x2 x5 x6 xs0 5 inb_S1x64x768_S1x64x128_0_0_640
      inb_S1x64x1536_S1x64x256_0_0_1280 inb_S2x6x256x128_S1x1x256x128_1_5_0_0 j)
    sl_unfold_run_names
    simp only [whole_load]
    rfl
  · refine Eq.trans ?_ (piece_b (fwd x3 x8 x9) (bwd x7 x8 x9) x1 x2 x5 x6 xs0 4 inb_S1x64x768_S1x64x128_0_0_512
      inb_S1x64x1536_S1x64x256_0_0_1024 inb_S2x6x256x128_S1x1x256x128_1_4_0_0 j)
    sl_unfold_run_names
    simp only [whole_load]
    rfl
  · refine Eq.trans ?_ (piece_b (fwd x3 x8 x9) (bwd x7 x8 x9) x1 x2 x5 x6 xs0 3 inb_S1x64x768_S1x64x128_0_0_384
      inb_S1x64x1536_S1x64x256_0_0_768 inb_S2x6x256x128_S1x1x256x128_1_3_0_0 j)
    sl_unfold_run_names
    simp only [whole_load]
    rfl
  · refine Eq.trans ?_ (piece_b (fwd x3 x8 x9) (bwd x7 x8 x9) x1 x2 x5 x6 xs0 2 inb_S1x64x768_S1x64x128_0_0_256
      inb_S1x64x1536_S1x64x256_0_0_512 inb_S2x6x256x128_S1x1x256x128_1_2_0_0 j)
    sl_unfold_run_names
    simp only [whole_load]
    rfl
  · refine Eq.trans ?_ (piece_b (fwd x3 x8 x9) (bwd x7 x8 x9) x1 x2 x5 x6 xs0 1 inb_S1x64x768_S1x64x128_0_0_128
      inb_S1x64x1536_S1x64x256_0_0_256 inb_S2x6x256x128_S1x1x256x128_1_1_0_0 j)
    sl_unfold_run_names
    simp only [whole_load]
    rfl
  · refine Eq.trans ?_ (piece_b (fwd x3 x8 x9) (bwd x7 x8 x9) x1 x2 x5 x6 xs0 0 inb_S1x64x768_S1x64x128_0_0_0
      inb_S1x64x1536_S1x64x256_0_0_0 inb_S2x6x256x128_S1x1x256x128_1_0_0_0 j)
    sl_unfold_run_names
    simp only [whole_load]
    rfl
  · refine Eq.trans ?_ (piece_f (fwd x3 x8 x9) (bwd x7 x8 x9) x1 x2 x5 x6 xs0 5 inb_S1x64x768_S1x64x128_0_0_640
      inb_S1x64x1536_S1x64x256_0_0_1280 inb_S2x6x256x128_S1x1x256x128_0_5_0_0 j)
    sl_unfold_run_names
    simp only [whole_load]
    rfl
  · refine Eq.trans ?_ (piece_f (fwd x3 x8 x9) (bwd x7 x8 x9) x1 x2 x5 x6 xs0 4 inb_S1x64x768_S1x64x128_0_0_512
      inb_S1x64x1536_S1x64x256_0_0_1024 inb_S2x6x256x128_S1x1x256x128_0_4_0_0 j)
    sl_unfold_run_names
    simp only [whole_load]
    rfl
  · refine Eq.trans ?_ (piece_f (fwd x3 x8 x9) (bwd x7 x8 x9) x1 x2 x5 x6 xs0 3 inb_S1x64x768_S1x64x128_0_0_384
      inb_S1x64x1536_S1x64x256_0_0_768 inb_S2x6x256x128_S1x1x256x128_0_3_0_0 j)
    sl_unfold_run_names
    simp only [whole_load]
    rfl
  · refine Eq.trans ?_ (piece_f (fwd x3 x8 x9) (bwd x7 x8 x9) x1 x2 x5 x6 xs0 2 inb_S1x64x768_S1x64x128_0_0_256
      inb_S1x64x1536_S1x64x256_0_0_512 inb_S2x6x256x128_S1x1x256x128_0_2_0_0 j)
    sl_unfold_run_names
    simp only [whole_load]
    rfl
  · refine Eq.trans ?_ (piece_f (fwd x3 x8 x9) (bwd x7 x8 x9) x1 x2 x5 x6 xs0 1 inb_S1x64x768_S1x64x128_0_0_128
      inb_S1x64x1536_S1x64x256_0_0_256 inb_S2x6x256x128_S1x1x256x128_0_1_0_0 j)
    sl_unfold_run_names
    simp only [whole_load]
    rfl
  · refine Eq.trans ?_ (piece_f (fwd x3 x8 x9) (bwd x7 x8 x9) x1 x2 x5 x6 xs0 0 inb_S1x64x768_S1x64x128_0_0_0
      inb_S1x64x1536_S1x64x256_0_0_0 inb_S2x6x256x128_S1x1x256x128_0_0_0_0 j)
    sl_unfold_run_names
    simp only [whole_load]
    rfl

theorem pieces_C (c : Dev nD) (i : grid0.Coords) (arg2 : Memref sig .tc .vmem S1x64x768 .f32) (harg2 : arg2.IsWhole) (arg3 : Memref sig .tc .vmem S1x64x768 .f32) (harg3 : arg3.IsWhole) (arg4 : Memref sig .tc .vmem S1x64x1536 .f32) (harg4 : arg4.IsWhole) (arg5 : Memref sig .tc .vmem S1x64x128 .f32) (harg5 : arg5.IsWhole) (arg6 : Memref sig .tc .vmem S1x64x768 .f32) (harg6 : arg6.IsWhole) (arg7 : Memref sig .tc .vmem S1x64x768 .f32) (harg7 : arg7.IsWhole) (arg8 : Memref sig .tc .vmem S1x64x1536 .f32) (harg8 : arg8.IsWhole) (arg9 : Memref sig .tc .vmem S1x64x128 .f32) (harg9 : arg9.IsWhole) (arg10 : Memref sig .tc .vmem S2x32x768 .f32) (harg10 : arg10.IsWhole) (arg11 : Memref sig .tc .vmem S2x1x768 .f32) (harg11 : arg11.IsWhole) (arg12 : Memref sig .tc .vmem S1x2x6x256x128 .f32) (harg12 : arg12.IsWhole) (arg13 : Memref sig .tc .vmem S1x64x1536 .f32) (harg13 : arg13.IsWhole) (arg14 : Memref sig .tc .vmem S1x64x1536 .f32) (harg14 : arg14.IsWhole) (arg15 : Memref sig .tc .vmem S1x2x6x256x128 .f32) (harg15 : arg15.IsWhole) (arg16 : Memref sig .tc .vmem S2x6x256x128 .f32) (harg16 : arg16.IsWhole) (hc0 : ¬cond0_0 i) (hc1 : cond0_1 i)
    (x0 : Vec Ideal S1x64x768 .f32) (x1 : Vec Ideal S1x64x768 .f32) (x2 : Vec Ideal S1x64x1536 .f32) (x3 : Vec Ideal S1x64x128 .f32) (x4 : Vec Ideal S1x64x768 .f32) (x5 : Vec Ideal S1x64x768 .f32) (x6 : Vec Ideal S1x64x1536 .f32) (x7 : Vec Ideal S1x64x128 .f32) (x8 : Vec Ideal S2x32x768 .f32) (x9 : Vec Ideal S2x1x768 .f32) (x10 : Vec Ideal S1x2x6x256x128 .f32) (xs0 : Vec Ideal S2x6x256x128 .f32)
    (p : View.Piece (Elt Ideal) S2x6x256x128 .f32)
    (hp : p ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.2.1) (j : p.1.shape.Idx) :
    p.2 j = newSt (fwd x3 x8 x9) (bwd x7 x8 x9) x1 x2 x5 x6 xs0 (p.1.emb j) := by
  unfold kernelRun0_C at hp
  simp only [List.mem_cons, List.mem_nil_iff, or_false] at hp
  unfold kernelRun0_C.sl.HS0_12 at hp
  simp only [List.mem_cons, List.mem_nil_iff, or_false] at hp
  rcases hp with rfl | rfl | rfl | rfl | rfl | rfl | rfl | rfl | rfl | rfl | rfl | rfl
  · refine Eq.trans ?_ (piece_b (fwd x3 x8 x9) (bwd x7 x8 x9) x1 x2 x5 x6 xs0 5 inb_S1x64x768_S1x64x128_0_0_640
      inb_S1x64x1536_S1x64x256_0_0_1280 inb_S2x6x256x128_S1x1x256x128_1_5_0_0 j)
    sl_unfold_run_names
    simp only [whole_load]
    rfl
  · refine Eq.trans ?_ (piece_b (fwd x3 x8 x9) (bwd x7 x8 x9) x1 x2 x5 x6 xs0 4 inb_S1x64x768_S1x64x128_0_0_512
      inb_S1x64x1536_S1x64x256_0_0_1024 inb_S2x6x256x128_S1x1x256x128_1_4_0_0 j)
    sl_unfold_run_names
    simp only [whole_load]
    rfl
  · refine Eq.trans ?_ (piece_b (fwd x3 x8 x9) (bwd x7 x8 x9) x1 x2 x5 x6 xs0 3 inb_S1x64x768_S1x64x128_0_0_384
      inb_S1x64x1536_S1x64x256_0_0_768 inb_S2x6x256x128_S1x1x256x128_1_3_0_0 j)
    sl_unfold_run_names
    simp only [whole_load]
    rfl
  · refine Eq.trans ?_ (piece_b (fwd x3 x8 x9) (bwd x7 x8 x9) x1 x2 x5 x6 xs0 2 inb_S1x64x768_S1x64x128_0_0_256
      inb_S1x64x1536_S1x64x256_0_0_512 inb_S2x6x256x128_S1x1x256x128_1_2_0_0 j)
    sl_unfold_run_names
    simp only [whole_load]
    rfl
  · refine Eq.trans ?_ (piece_b (fwd x3 x8 x9) (bwd x7 x8 x9) x1 x2 x5 x6 xs0 1 inb_S1x64x768_S1x64x128_0_0_128
      inb_S1x64x1536_S1x64x256_0_0_256 inb_S2x6x256x128_S1x1x256x128_1_1_0_0 j)
    sl_unfold_run_names
    simp only [whole_load]
    rfl
  · refine Eq.trans ?_ (piece_b (fwd x3 x8 x9) (bwd x7 x8 x9) x1 x2 x5 x6 xs0 0 inb_S1x64x768_S1x64x128_0_0_0
      inb_S1x64x1536_S1x64x256_0_0_0 inb_S2x6x256x128_S1x1x256x128_1_0_0_0 j)
    sl_unfold_run_names
    simp only [whole_load]
    rfl
  · refine Eq.trans ?_ (piece_f (fwd x3 x8 x9) (bwd x7 x8 x9) x1 x2 x5 x6 xs0 5 inb_S1x64x768_S1x64x128_0_0_640
      inb_S1x64x1536_S1x64x256_0_0_1280 inb_S2x6x256x128_S1x1x256x128_0_5_0_0 j)
    sl_unfold_run_names
    simp only [whole_load]
    rfl
  · refine Eq.trans ?_ (piece_f (fwd x3 x8 x9) (bwd x7 x8 x9) x1 x2 x5 x6 xs0 4 inb_S1x64x768_S1x64x128_0_0_512
      inb_S1x64x1536_S1x64x256_0_0_1024 inb_S2x6x256x128_S1x1x256x128_0_4_0_0 j)
    sl_unfold_run_names
    simp only [whole_load]
    rfl
  · refine Eq.trans ?_ (piece_f (fwd x3 x8 x9) (bwd x7 x8 x9) x1 x2 x5 x6 xs0 3 inb_S1x64x768_S1x64x128_0_0_384
      inb_S1x64x1536_S1x64x256_0_0_768 inb_S2x6x256x128_S1x1x256x128_0_3_0_0 j)
    sl_unfold_run_names
    simp only [whole_load]
    rfl
  · refine Eq.trans ?_ (piece_f (fwd x3 x8 x9) (bwd x7 x8 x9) x1 x2 x5 x6 xs0 2 inb_S1x64x768_S1x64x128_0_0_256
      inb_S1x64x1536_S1x64x256_0_0_512 inb_S2x6x256x128_S1x1x256x128_0_2_0_0 j)
    sl_unfold_run_names
    simp only [whole_load]
    rfl
  · refine Eq.trans ?_ (piece_f (fwd x3 x8 x9) (bwd x7 x8 x9) x1 x2 x5 x6 xs0 1 inb_S1x64x768_S1x64x128_0_0_128
      inb_S1x64x1536_S1x64x256_0_0_256 inb_S2x6x256x128_S1x1x256x128_0_1_0_0 j)
    sl_unfold_run_names
    simp only [whole_load]
    rfl
  · refine Eq.trans ?_ (piece_f (fwd x3 x8 x9) (bwd x7 x8 x9) x1 x2 x5 x6 xs0 0 inb_S1x64x768_S1x64x128_0_0_0
      inb_S1x64x1536_S1x64x256_0_0_0 inb_S2x6x256x128_S1x1x256x128_0_0_0_0 j)
    sl_unfold_run_names
    simp only [whole_load]
    rfl

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

theorem load_start (x : Vec Ideal S1x2x6x256x128 .f32) :
    View.ld x (Rect.unit (s := S1x2x6x256x128) ![0, 0, 0, 0, 0] ![1, 2, 6, 256, 128]
      inb_S1x2x6x256x128_S1x2x6x256x128_0_0_0_0_0) = x :=
  View.ld_unit_zero (S := S1x2x6x256x128) hz5 _ x

/-- A load of the state right after the whole of it was stored. -/
theorem started (m : Memref sig .tc .vmem S2x6x256x128 .f32) (w : Vec Ideal S2x6x256x128 .f32) (r : Rect S2x6x256x128) :
    m.view.readCov (Val := Elt Ideal) [(⟨Rect.unit (s := S2x6x256x128) ![0, 0, 0, 0] ![2, 6, 256, 128]
      inb_S2x6x256x128_S2x6x256x128_0_0_0_0, w⟩ : View.Piece (Elt Ideal) S2x6x256x128 .f32)] r.toLoadRect = View.ld w r := by
  rw [View.readCov_eq_canon']
  have e := View.canon_cons_unit_zero (Val := Elt Ideal) (S := S2x6x256x128) (e := .f32) hz4
    inb_S2x6x256x128_S2x6x256x128_0_0_0_0 w []
  funext j
  exact congrFun e _

/-- A load of the whole state after any stores. -/
theorem whole_read (m : Memref sig .tc .vmem S2x6x256x128 .f32) (L : List (View.Piece (Elt Ideal) S2x6x256x128 .f32)) :
    m.view.readCov L (Rect.unit (s := S2x6x256x128) ![0, 0, 0, 0] ![2, 6, 256, 128]
      inb_S2x6x256x128_S2x6x256x128_0_0_0_0).toLoadRect = View.canon L := by
  rw [View.readCov_eq_canon']
  generalize View.canon L = x
  exact View.ld_unit_zero (S := S2x6x256x128) hz4 _ x

/-- Of several stores the last ones decide where they cover. -/
theorem canon_front (G : S2x6x256x128.Idx → EReal) (y : S2x6x256x128.Idx) :
    ∀ (L L' : List (View.Piece (Elt Ideal) S2x6x256x128 .f32))
      (_ : ∀ p ∈ L, ∀ x : p.1.shape.Idx, p.2 x = G (p.1.emb x)) (_ : ∃ p ∈ L, y ∈ p.1.set),
      View.canon (L ++ L') y = G y
  | [], _, _, hy => by obtain ⟨p, hp, _⟩ := hy; simp at hp
  | p :: L, L', hL, hy => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_front G y L L' (fun q hq => hL q (by simp [hq])) ?_
      obtain ⟨q, hq, hyq⟩ := hy
      rcases List.mem_cons.mp hq with rfl | hq'
      · exact absurd hyq hm
      · exact ⟨q, hq', hyq⟩

theorem pieces_A (c : Dev nD) (i : grid0.Coords) (arg2 : Memref sig .tc .vmem S1x64x768 .f32) (harg2 : arg2.IsWhole) (arg3 : Memref sig .tc .vmem S1x64x768 .f32) (harg3 : arg3.IsWhole) (arg4 : Memref sig .tc .vmem S1x64x1536 .f32) (harg4 : arg4.IsWhole) (arg5 : Memref sig .tc .vmem S1x64x128 .f32) (harg5 : arg5.IsWhole) (arg6 : Memref sig .tc .vmem S1x64x768 .f32) (harg6 : arg6.IsWhole) (arg7 : Memref sig .tc .vmem S1x64x768 .f32) (harg7 : arg7.IsWhole) (arg8 : Memref sig .tc .vmem S1x64x1536 .f32) (harg8 : arg8.IsWhole) (arg9 : Memref sig .tc .vmem S1x64x128 .f32) (harg9 : arg9.IsWhole) (arg10 : Memref sig .tc .vmem S2x32x768 .f32) (harg10 : arg10.IsWhole) (arg11 : Memref sig .tc .vmem S2x1x768 .f32) (harg11 : arg11.IsWhole) (arg12 : Memref sig .tc .vmem S1x2x6x256x128 .f32) (harg12 : arg12.IsWhole) (arg13 : Memref sig .tc .vmem S1x64x1536 .f32) (harg13 : arg13.IsWhole) (arg14 : Memref sig .tc .vmem S1x64x1536 .f32) (harg14 : arg14.IsWhole) (arg15 : Memref sig .tc .vmem S1x2x6x256x128 .f32) (harg15 : arg15.IsWhole) (arg16 : Memref sig .tc .vmem S2x6x256x128 .f32) (harg16 : arg16.IsWhole) (hc0 : cond0_0 i) (hc1 : ¬cond0_1 i)
    (x0 : Vec Ideal S1x64x768 .f32) (x1 : Vec Ideal S1x64x768 .f32) (x2 : Vec Ideal S1x64x1536 .f32) (x3 : Vec Ideal S1x64x128 .f32) (x4 : Vec Ideal S1x64x768 .f32) (x5 : Vec Ideal S1x64x768 .f32) (x6 : Vec Ideal S1x64x1536 .f32) (x7 : Vec Ideal S1x64x128 .f32) (x8 : Vec Ideal S2x32x768 .f32) (x9 : Vec Ideal S2x1x768 .f32) (x10 : Vec Ideal S1x2x6x256x128 .f32)
    (p : View.Piece (Elt Ideal) S2x6x256x128 .f32)
    (hp : p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.2.1.take 12) (j : p.1.shape.Idx) :
    p.2 j = newSt (fwd x3 x8 x9) (bwd x7 x8 x9) x1 x2 x5 x6 (k0_pay6 x10) (p.1.emb j) := by
  unfold kernelRun0_A at hp
  simp only [List.take_succ_cons, List.take_zero, List.mem_cons, List.mem_nil_iff, or_false] at hp
  rcases hp with rfl | rfl | rfl | rfl | rfl | rfl | rfl | rfl | rfl | rfl | rfl | rfl
  · refine Eq.trans ?_ (piece_b (fwd x3 x8 x9) (bwd x7 x8 x9) x1 x2 x5 x6 (k0_pay6 x10) 5 inb_S1x64x768_S1x64x128_0_0_640
      inb_S1x64x1536_S1x64x256_0_0_1280 inb_S2x6x256x128_S1x1x256x128_1_5_0_0 j)
    sl_unfold_run_names
    simp only [whole_load, started, load_start]
    rfl
  · refine Eq.trans ?_ (piece_b (fwd x3 x8 x9) (bwd x7 x8 x9) x1 x2 x5 x6 (k0_pay6 x10) 4 inb_S1x64x768_S1x64x128_0_0_512
      inb_S1x64x1536_S1x64x256_0_0_1024 inb_S2x6x256x128_S1x1x256x128_1_4_0_0 j)
    sl_unfold_run_names
    simp only [whole_load, started, load_start]
    rfl
  · refine Eq.trans ?_ (piece_b (fwd x3 x8 x9) (bwd x7 x8 x9) x1 x2 x5 x6 (k0_pay6 x10) 3 inb_S1x64x768_S1x64x128_0_0_384
      inb_S1x64x1536_S1x64x256_0_0_768 inb_S2x6x256x128_S1x1x256x128_1_3_0_0 j)
    sl_unfold_run_names
    simp only [whole_load, started, load_start]
    rfl
  · refine Eq.trans ?_ (piece_b (fwd x3 x8 x9) (bwd x7 x8 x9) x1 x2 x5 x6 (k0_pay6 x10) 2 inb_S1x64x768_S1x64x128_0_0_256
      inb_S1x64x1536_S1x64x256_0_0_512 inb_S2x6x256x128_S1x1x256x128_1_2_0_0 j)
    sl_unfold_run_names
    simp only [whole_load, started, load_start]
    rfl
  · refine Eq.trans ?_ (piece_b (fwd x3 x8 x9) (bwd x7 x8 x9) x1 x2 x5 x6 (k0_pay6 x10) 1 inb_S1x64x768_S1x64x128_0_0_128
      inb_S1x64x1536_S1x64x256_0_0_256 inb_S2x6x256x128_S1x1x256x128_1_1_0_0 j)
    sl_unfold_run_names
    simp only [whole_load, started, load_start]
    rfl
  · refine Eq.trans ?_ (piece_b (fwd x3 x8 x9) (bwd x7 x8 x9) x1 x2 x5 x6 (k0_pay6 x10) 0 inb_S1x64x768_S1x64x128_0_0_0
      inb_S1x64x1536_S1x64x256_0_0_0 inb_S2x6x256x128_S1x1x256x128_1_0_0_0 j)
    sl_unfold_run_names
    simp only [whole_load, started, load_start]
    rfl
  · refine Eq.trans ?_ (piece_f (fwd x3 x8 x9) (bwd x7 x8 x9) x1 x2 x5 x6 (k0_pay6 x10) 5 inb_S1x64x768_S1x64x128_0_0_640
      inb_S1x64x1536_S1x64x256_0_0_1280 inb_S2x6x256x128_S1x1x256x128_0_5_0_0 j)
    sl_unfold_run_names
    simp only [whole_load, started, load_start]
    rfl
  · refine Eq.trans ?_ (piece_f (fwd x3 x8 x9) (bwd x7 x8 x9) x1 x2 x5 x6 (k0_pay6 x10) 4 inb_S1x64x768_S1x64x128_0_0_512
      inb_S1x64x1536_S1x64x256_0_0_1024 inb_S2x6x256x128_S1x1x256x128_0_4_0_0 j)
    sl_unfold_run_names
    simp only [whole_load, started, load_start]
    rfl
  · refine Eq.trans ?_ (piece_f (fwd x3 x8 x9) (bwd x7 x8 x9) x1 x2 x5 x6 (k0_pay6 x10) 3 inb_S1x64x768_S1x64x128_0_0_384
      inb_S1x64x1536_S1x64x256_0_0_768 inb_S2x6x256x128_S1x1x256x128_0_3_0_0 j)
    sl_unfold_run_names
    simp only [whole_load, started, load_start]
    rfl
  · refine Eq.trans ?_ (piece_f (fwd x3 x8 x9) (bwd x7 x8 x9) x1 x2 x5 x6 (k0_pay6 x10) 2 inb_S1x64x768_S1x64x128_0_0_256
      inb_S1x64x1536_S1x64x256_0_0_512 inb_S2x6x256x128_S1x1x256x128_0_2_0_0 j)
    sl_unfold_run_names
    simp only [whole_load, started, load_start]
    rfl
  · refine Eq.trans ?_ (piece_f (fwd x3 x8 x9) (bwd x7 x8 x9) x1 x2 x5 x6 (k0_pay6 x10) 1 inb_S1x64x768_S1x64x128_0_0_128
      inb_S1x64x1536_S1x64x256_0_0_256 inb_S2x6x256x128_S1x1x256x128_0_1_0_0 j)
    sl_unfold_run_names
    simp only [whole_load, started, load_start]
    rfl
  · refine Eq.trans ?_ (piece_f (fwd x3 x8 x9) (bwd x7 x8 x9) x1 x2 x5 x6 (k0_pay6 x10) 0 inb_S1x64x768_S1x64x128_0_0_0
      inb_S1x64x1536_S1x64x256_0_0_0 inb_S2x6x256x128_S1x1x256x128_0_0_0_0 j)
    sl_unfold_run_names
    simp only [whole_load, started, load_start]
    rfl

theorem state_A (c : Dev nD) (i : grid0.Coords) (arg2 : Memref sig .tc .vmem S1x64x768 .f32) (harg2 : arg2.IsWhole) (arg3 : Memref sig .tc .vmem S1x64x768 .f32) (harg3 : arg3.IsWhole) (arg4 : Memref sig .tc .vmem S1x64x1536 .f32) (harg4 : arg4.IsWhole) (arg5 : Memref sig .tc .vmem S1x64x128 .f32) (harg5 : arg5.IsWhole) (arg6 : Memref sig .tc .vmem S1x64x768 .f32) (harg6 : arg6.IsWhole) (arg7 : Memref sig .tc .vmem S1x64x768 .f32) (harg7 : arg7.IsWhole) (arg8 : Memref sig .tc .vmem S1x64x1536 .f32) (harg8 : arg8.IsWhole) (arg9 : Memref sig .tc .vmem S1x64x128 .f32) (harg9 : arg9.IsWhole) (arg10 : Memref sig .tc .vmem S2x32x768 .f32) (harg10 : arg10.IsWhole) (arg11 : Memref sig .tc .vmem S2x1x768 .f32) (harg11 : arg11.IsWhole) (arg12 : Memref sig .tc .vmem S1x2x6x256x128 .f32) (harg12 : arg12.IsWhole) (arg13 : Memref sig .tc .vmem S1x64x1536 .f32) (harg13 : arg13.IsWhole) (arg14 : Memref sig .tc .vmem S1x64x1536 .f32) (harg14 : arg14.IsWhole) (arg15 : Memref sig .tc .vmem S1x2x6x256x128 .f32) (harg15 : arg15.IsWhole) (arg16 : Memref sig .tc .vmem S2x6x256x128 .f32) (harg16 : arg16.IsWhole) (hc0 : cond0_0 i) (hc1 : ¬cond0_1 i)
    (x0 : Vec Ideal S1x64x768 .f32) (x1 : Vec Ideal S1x64x768 .f32) (x2 : Vec Ideal S1x64x1536 .f32) (x3 : Vec Ideal S1x64x128 .f32) (x4 : Vec Ideal S1x64x768 .f32) (x5 : Vec Ideal S1x64x768 .f32) (x6 : Vec Ideal S1x64x1536 .f32) (x7 : Vec Ideal S1x64x128 .f32) (x8 : Vec Ideal S2x32x768 .f32) (x9 : Vec Ideal S2x1x768 .f32) (x10 : Vec Ideal S1x2x6x256x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = newSt (fwd x3 x8 x9) (bwd x7 x8 x9) x1 x2 x5 x6 (k0_pay6 x10) := by
  unfold sout0_A_0
  rw [View.read_writes_junk_eq_canon]
  funext y
  rw [← List.take_append_drop 12 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.2.1]
  exact canon_front _ y _ _ (fun p hp j => pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 p hp j)
    (View.cover_of_tiledL ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.2.1.take 12) S1x1x256x128.size (by sl_kernel_rfl) y)

theorem state_B (c : Dev nD) (i : grid0.Coords) (arg2 : Memref sig .tc .vmem S1x64x768 .f32) (harg2 : arg2.IsWhole) (arg3 : Memref sig .tc .vmem S1x64x768 .f32) (harg3 : arg3.IsWhole) (arg4 : Memref sig .tc .vmem S1x64x1536 .f32) (harg4 : arg4.IsWhole) (arg5 : Memref sig .tc .vmem S1x64x128 .f32) (harg5 : arg5.IsWhole) (arg6 : Memref sig .tc .vmem S1x64x768 .f32) (harg6 : arg6.IsWhole) (arg7 : Memref sig .tc .vmem S1x64x768 .f32) (harg7 : arg7.IsWhole) (arg8 : Memref sig .tc .vmem S1x64x1536 .f32) (harg8 : arg8.IsWhole) (arg9 : Memref sig .tc .vmem S1x64x128 .f32) (harg9 : arg9.IsWhole) (arg10 : Memref sig .tc .vmem S2x32x768 .f32) (harg10 : arg10.IsWhole) (arg11 : Memref sig .tc .vmem S2x1x768 .f32) (harg11 : arg11.IsWhole) (arg12 : Memref sig .tc .vmem S1x2x6x256x128 .f32) (harg12 : arg12.IsWhole) (arg13 : Memref sig .tc .vmem S1x64x1536 .f32) (harg13 : arg13.IsWhole) (arg14 : Memref sig .tc .vmem S1x64x1536 .f32) (harg14 : arg14.IsWhole) (arg15 : Memref sig .tc .vmem S1x2x6x256x128 .f32) (harg15 : arg15.IsWhole) (arg16 : Memref sig .tc .vmem S2x6x256x128 .f32) (harg16 : arg16.IsWhole) (hc0 : ¬cond0_0 i) (hc1 : ¬cond0_1 i)
    (x0 : Vec Ideal S1x64x768 .f32) (x1 : Vec Ideal S1x64x768 .f32) (x2 : Vec Ideal S1x64x1536 .f32) (x3 : Vec Ideal S1x64x128 .f32) (x4 : Vec Ideal S1x64x768 .f32) (x5 : Vec Ideal S1x64x768 .f32) (x6 : Vec Ideal S1x64x1536 .f32) (x7 : Vec Ideal S1x64x128 .f32) (x8 : Vec Ideal S2x32x768 .f32) (x9 : Vec Ideal S2x1x768 .f32) (x10 : Vec Ideal S1x2x6x256x128 .f32) (xs0 : Vec Ideal S2x6x256x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 = newSt (fwd x3 x8 x9) (bwd x7 x8 x9) x1 x2 x5 x6 xs0 := by
  unfold sout0_B_0
  rw [View.read_writes_junk_eq_canon]
  funext y
  exact View.canon_apply_of_pieces _ _ (fun p hp j => pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 p hp j) y
    (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 y)

theorem state_C (c : Dev nD) (i : grid0.Coords) (arg2 : Memref sig .tc .vmem S1x64x768 .f32) (harg2 : arg2.IsWhole) (arg3 : Memref sig .tc .vmem S1x64x768 .f32) (harg3 : arg3.IsWhole) (arg4 : Memref sig .tc .vmem S1x64x1536 .f32) (harg4 : arg4.IsWhole) (arg5 : Memref sig .tc .vmem S1x64x128 .f32) (harg5 : arg5.IsWhole) (arg6 : Memref sig .tc .vmem S1x64x768 .f32) (harg6 : arg6.IsWhole) (arg7 : Memref sig .tc .vmem S1x64x768 .f32) (harg7 : arg7.IsWhole) (arg8 : Memref sig .tc .vmem S1x64x1536 .f32) (harg8 : arg8.IsWhole) (arg9 : Memref sig .tc .vmem S1x64x128 .f32) (harg9 : arg9.IsWhole) (arg10 : Memref sig .tc .vmem S2x32x768 .f32) (harg10 : arg10.IsWhole) (arg11 : Memref sig .tc .vmem S2x1x768 .f32) (harg11 : arg11.IsWhole) (arg12 : Memref sig .tc .vmem S1x2x6x256x128 .f32) (harg12 : arg12.IsWhole) (arg13 : Memref sig .tc .vmem S1x64x1536 .f32) (harg13 : arg13.IsWhole) (arg14 : Memref sig .tc .vmem S1x64x1536 .f32) (harg14 : arg14.IsWhole) (arg15 : Memref sig .tc .vmem S1x2x6x256x128 .f32) (harg15 : arg15.IsWhole) (arg16 : Memref sig .tc .vmem S2x6x256x128 .f32) (harg16 : arg16.IsWhole) (hc0 : ¬cond0_0 i) (hc1 : cond0_1 i)
    (x0 : Vec Ideal S1x64x768 .f32) (x1 : Vec Ideal S1x64x768 .f32) (x2 : Vec Ideal S1x64x1536 .f32) (x3 : Vec Ideal S1x64x128 .f32) (x4 : Vec Ideal S1x64x768 .f32) (x5 : Vec Ideal S1x64x768 .f32) (x6 : Vec Ideal S1x64x1536 .f32) (x7 : Vec Ideal S1x64x128 .f32) (x8 : Vec Ideal S2x32x768 .f32) (x9 : Vec Ideal S2x1x768 .f32) (x10 : Vec Ideal S1x2x6x256x128 .f32) (xs0 : Vec Ideal S2x6x256x128 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 = newSt (fwd x3 x8 x9) (bwd x7 x8 x9) x1 x2 x5 x6 xs0 := by
  unfold sout0_C_0
  rw [View.read_writes_junk_eq_canon]
  funext y
  exact View.canon_apply_of_pieces _ _ (fun p hp j => pieces_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 p hp j) y
    (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 y)

/-- The last point of a sequence copies the state out. -/
theorem out_C (c : Dev nD) (i : grid0.Coords) (arg2 : Memref sig .tc .vmem S1x64x768 .f32) (harg2 : arg2.IsWhole) (arg3 : Memref sig .tc .vmem S1x64x768 .f32) (harg3 : arg3.IsWhole) (arg4 : Memref sig .tc .vmem S1x64x1536 .f32) (harg4 : arg4.IsWhole) (arg5 : Memref sig .tc .vmem S1x64x128 .f32) (harg5 : arg5.IsWhole) (arg6 : Memref sig .tc .vmem S1x64x768 .f32) (harg6 : arg6.IsWhole) (arg7 : Memref sig .tc .vmem S1x64x768 .f32) (harg7 : arg7.IsWhole) (arg8 : Memref sig .tc .vmem S1x64x1536 .f32) (harg8 : arg8.IsWhole) (arg9 : Memref sig .tc .vmem S1x64x128 .f32) (harg9 : arg9.IsWhole) (arg10 : Memref sig .tc .vmem S2x32x768 .f32) (harg10 : arg10.IsWhole) (arg11 : Memref sig .tc .vmem S2x1x768 .f32) (harg11 : arg11.IsWhole) (arg12 : Memref sig .tc .vmem S1x2x6x256x128 .f32) (harg12 : arg12.IsWhole) (arg13 : Memref sig .tc .vmem S1x64x1536 .f32) (harg13 : arg13.IsWhole) (arg14 : Memref sig .tc .vmem S1x64x1536 .f32) (harg14 : arg14.IsWhole) (arg15 : Memref sig .tc .vmem S1x2x6x256x128 .f32) (harg15 : arg15.IsWhole) (arg16 : Memref sig .tc .vmem S2x6x256x128 .f32) (harg16 : arg16.IsWhole) (hc0 : ¬cond0_0 i) (hc1 : cond0_1 i)
    (x0 : Vec Ideal S1x64x768 .f32) (x1 : Vec Ideal S1x64x768 .f32) (x2 : Vec Ideal S1x64x1536 .f32) (x3 : Vec Ideal S1x64x128 .f32) (x4 : Vec Ideal S1x64x768 .f32) (x5 : Vec Ideal S1x64x768 .f32) (x6 : Vec Ideal S1x64x1536 .f32) (x7 : Vec Ideal S1x64x128 .f32) (x8 : Vec Ideal S2x32x768 .f32) (x9 : Vec Ideal S2x1x768 .f32) (x10 : Vec Ideal S1x2x6x256x128 .f32) (xs0 : Vec Ideal S2x6x256x128 .f32) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 = k0_pay5 (sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0) := by
  unfold out0_C_13 sout0_C_0
  rw [View.read_writes_junk_eq_canon, View.read_writes_junk_eq_canon]
  unfold kernelRun0_C
  refine (View.canon_cons_unit_zero (S := S1x2x6x256x128) hz5 _ _ []).trans (congrArg k0_pay5 ?_)
  unfold kernelRun0_C.sl.v616
  exact whole_read arg16 _

end Cert.GlaIdeal.Blocks

end
-- ==== Proof.Mix.GlaGate.lean ====
/- The running sums of the gates' logarithms that one grid point forms. -/
module

public import proofs.«01_k».proof.Proof.Mix.GlaBlock
public import proofs.«01_k».proof.Proof.Mix.GlaMath

@[expose] public section

set_option maxRecDepth 16384

noncomputable section

namespace Cert.GlaIdeal.Blocks

open Cert.GlaIdeal Cert.GlaIdeal.Gen Idealize.ShloMosaic Idealize.ShloMosaic.TcCoe Idealize.SL.Sem Cert.GlaMath

theorem le_at : ∀ a b : Fin 64, IntOp.cmpi CmpIPredicate.sle (BitVec.ofNat 32 a.val) (BitVec.ofNat 32 b.val)
    = if a.val ≤ b.val then 1#1 else 0#1 := by
  decide +kernel

theorem sel_at (a b : Fin 64) (x y : EReal) :
    Scalar.select (IntOp.cmpi CmpIPredicate.sle (BitVec.ofNat 32 a.val) (BitVec.ofNat 32 b.val)) x y
      = if a.val ≤ b.val then x else y := by
  rw [le_at]
  by_cases h : a.val ≤ b.val
  · rw [if_pos h, if_pos h]; rfl
  · rw [if_neg h, if_neg h]; rfl

/-- The logarithm of a gate from the low-rank rows. -/
def gateOf (x : Vec Ideal S1x64x32 .f32) (w : Vec Ideal S1x32x768 .f32) (b : Vec Ideal S1x1x768 .f32)
    (r : Fin 64) (n : Fin 768) : EReal :=
  lg (∑ l : Fin 32, x (ix3 0 r l) * w (ix3 0 l n) + b (ix3 0 0 n))

theorem pay8_apply (x : Vec Ideal S1x64x32 .f32) (w : Vec Ideal S1x32x768 .f32) (b : Vec Ideal S1x1x768 .f32)
    (r : Fin 64) (n : Fin 768) :
    k0_pay8 x w b (ix2 r n) = ∑ i : Fin 64, if i.val ≤ r.val then gateOf x w b i n else 0 := by
  refine Eq.trans ?_ (sum_self (fun i : Fin 64 => i.val ≤ r.val) (fun i => gateOf x w b i n) fun i => lg_cases _)
  unfold k0_pay8 k0_pay7
  pointwise
  simp only [sel_at]
  rfl

theorem pay72_apply (x : Vec Ideal S1x64x32 .f32) (w : Vec Ideal S1x32x768 .f32) (b : Vec Ideal S1x1x768 .f32)
    (r : Fin 64) (n : Fin 768) :
    k0_pay72 (k0_pay68 (iota .tc S64x64 32 [0] iota_S64x64_d0_w32) (iota .tc S64x64 32 [1] iota_S64x64_d1_w32))
        (k0_pay70 x w b) (k0_pay71 x w b) (ix2 r n)
      = ∑ i : Fin 64, if r.val ≤ i.val then gateOf x w b i n else 0 := by
  refine Eq.trans ?_ (sum_self (fun i : Fin 64 => r.val ≤ i.val) (fun i => gateOf x w b i n) fun i => lg_cases _)
  unfold k0_pay72 k0_pay68 k0_pay67 k0_pay70 k0_pay71 k0_pay69
  pointwise
  simp only [sel_at]
  rfl

theorem stay_apply (x : Vec Ideal S1x2x6x256x128 .f32) (d : Fin 2) (h : Fin 6) (v : Fin 256) (k : Fin 128) :
    k0_pay6 x (ix4 d h v k) = x (ix5 0 d h v k) := by
  unfold k0_pay6
  pointwise

theorem copy_apply (x : Vec Ideal S2x6x256x128 .f32) (d : Fin 2) (h : Fin 6) (v : Fin 256) (k : Fin 128) :
    k0_pay5 x (ix5 0 d h v k) = x (ix4 d h v k) := by
  unfold k0_pay5
  pointwise

end Cert.GlaIdeal.Blocks

end
-- ==== Proof.Mix.GlaState.lean ====
/- The state that the gated scan carries over the grid. -/
module

public import proofs.«01_k».proof.Proof.Mix.GlaGate

@[expose] public section

set_option maxRecDepth 16384

noncomputable section

namespace Cert.GlaIdeal.Blocks

open Cert.GlaIdeal Cert.GlaIdeal.Gen Idealize.ShloMosaic Idealize.ShloMosaic.TcCoe Idealize.SL.Sem Cert.GlaMath
open Idealize.ShloMosaic.Pipeline (Dat)

variable (m : (ℓ : Loc nD τ sig) → Buf (Elt Ideal) ℓ) (c : Dev nD)

abbrev aP : S5x4096x5376.Idx → EReal := m ((c.tc : Thread nD τ).loc main_arg0)
abbrev aW : S2x16x768.Idx → EReal := m ((c.tc : Thread nD τ).loc main_arg1)
abbrev aG : S2x768.Idx → EReal := m ((c.tc : Thread nD τ).loc main_arg2)

theorem split_apply (y : S5x4096x5376.Idx → EReal) (a : Fin 80) (ha : a.val < 16) (e : Fin 256) (n : Fin 5376) :
    shapeCast S80x256x5376 y shapeCasts_S5x4096x5376_S80x256x5376 (ix3 a e n)
      = y (ix3 0 (⟨a.val * 256 + e.val, by omega⟩ : Fin 4096) n) := by
  pointwise
  refine congrArg y (congrArg₂ (fun a b => ix3 a b n) (Fin.ext ?_) (Fin.ext ?_))
  · show a.val / 16 = 0
    omega
  · show a.val % 16 * 256 + e.val = a.val * 256 + e.val
    omega

/-- The projections, by segments. -/
theorem rows_eq (a : Fin 80) (ha : a.val < 16) (e : Fin 256) (n : Fin 5376) :
    V m c main_v14 (ix3 a e n) = aP m c (ix3 0 (⟨a.val * 256 + e.val, by omega⟩ : Fin 4096) n) := by
  have e1 : V m c main_v14 = shapeCast S80x256x5376 (aP m c) shapeCasts_S5x4096x5376_S80x256x5376 := by
    dsimp only [V, V0, hostOps0, List.flatten_cons, List.flatten_nil, List.append_nil, List.cons_append, List.nil_append]
    after_results_simp
    try rfl
  rw [e1, split_apply _ a ha]

theorem bias_eq (d : Fin 2) (n : Fin 768) : V m c main_v12 (ix3 d 0 n) = aG m c (ix2 d n) := by
  dsimp only [V, V0, hostOps0, List.flatten_cons, List.flatten_nil, List.append_nil, List.cons_append, List.nil_append]
  after_results_simp
  pointwise

theorem start_eq (b : Fin 16) (d : Fin 2) (h : Fin 6) (v : Fin 256) (k : Fin 128) :
    V m c main_v15 (ix5 b d h v k) = (0 : EReal) := by
  dsimp only [V, V0, hostOps0, List.flatten_cons, List.flatten_nil, List.append_nil, List.cons_append, List.nil_append]
  after_results_simp
  pointwise
  try exact ideal_zero _

/-- The low-rank weights, each direction's with zeros beside them. -/
theorem pieces_eq : V m c main_v11 = concatenate S2x32x768 0
    [⟨S1x32x768, broadcastInDim S1x32x768 ![1, 2] bcast_S32x768_S1x32x768_1_2 (concatenate S32x768 0
      [⟨S16x768, shapeCast S16x768 (extractStridedSlice S1x16x768 ![0, 0, 0] (aW m c) slices_S2x16x768_S1x16x768_0_0_0) shapeCasts_S1x16x768_S16x768⟩,
       ⟨S16x768, broadcastInDim S16x768 ![] bcast_S_S16x768 (constant (F := Ideal) S_ .f32 0x00000000#32)⟩] concatenates_S16x768_S16x768_S32x768_d0)⟩,
     ⟨S1x32x768, broadcastInDim S1x32x768 ![1, 2] bcast_S32x768_S1x32x768_1_2 (concatenate S32x768 0
      [⟨S16x768, broadcastInDim S16x768 ![] bcast_S_S16x768 (constant (F := Ideal) S_ .f32 0x00000000#32)⟩,
       ⟨S16x768, shapeCast S16x768 (extractStridedSlice S1x16x768 ![1, 0, 0] (aW m c) slices_S2x16x768_S1x16x768_1_0_0) shapeCasts_S1x16x768_S16x768⟩] concatenates_S16x768_S16x768_S32x768_d0)⟩]
    concatenates_S1x32x768_S1x32x768_S2x32x768_d0 := by
  dsimp only [V, V0, hostOps0, List.flatten_cons, List.flatten_nil, List.append_nil, List.cons_append, List.nil_append]
  after_results_simp
  refine StableHlo.concatenate_congr _ _ ?_ _ _
  after_results_simp
  rfl

theorem over_apply (y z : S16x768.Idx → EReal) (l : Fin 32) (n : Fin 768) :
    concatenate S32x768 0 [⟨S16x768, y⟩, ⟨S16x768, z⟩] concatenates_S16x768_S16x768_S32x768_d0 (ix2 l n)
      = if h : l.val < 16 then y (ix2 (⟨l.val, h⟩ : Fin 16) n) else z (ix2 (⟨l.val - 16, by omega⟩ : Fin 16) n) := by
  pointwise

theorem first_apply (y z : S1x32x768.Idx → EReal) (l : Fin 32) (n : Fin 768) :
    concatenate S2x32x768 0 [⟨S1x32x768, y⟩, ⟨S1x32x768, z⟩] concatenates_S1x32x768_S1x32x768_S2x32x768_d0 (ix3 0 l n)
      = y (ix3 0 l n) := by
  pointwise

theorem second_apply (y z : S1x32x768.Idx → EReal) (l : Fin 32) (n : Fin 768) :
    concatenate S2x32x768 0 [⟨S1x32x768, y⟩, ⟨S1x32x768, z⟩] concatenates_S1x32x768_S1x32x768_S2x32x768_d0 (ix3 1 l n)
      = z (ix3 0 l n) := by
  pointwise

theorem spread_apply (y : S32x768.Idx → EReal) (l : Fin 32) (n : Fin 768) :
    broadcastInDim S1x32x768 ![1, 2] bcast_S32x768_S1x32x768_1_2 y (ix3 0 l n) = y (ix2 l n) := by
  pointwise

theorem weight0_apply (y : S2x16x768.Idx → EReal) (l : Fin 16) (n : Fin 768) :
    shapeCast S16x768 (extractStridedSlice S1x16x768 ![0, 0, 0] y slices_S2x16x768_S1x16x768_0_0_0)
      shapeCasts_S1x16x768_S16x768 (ix2 l n) = y (ix3 0 l n) := by
  pointwise

theorem weight1_apply (y : S2x16x768.Idx → EReal) (l : Fin 16) (n : Fin 768) :
    shapeCast S16x768 (extractStridedSlice S1x16x768 ![1, 0, 0] y slices_S2x16x768_S1x16x768_1_0_0)
      shapeCasts_S1x16x768_S16x768 (ix2 l n) = y (ix3 1 l n) := by
  pointwise

theorem zeros_apply (l : Fin 16) (n : Fin 768) :
    broadcastInDim S16x768 ![] bcast_S_S16x768 (constant (F := Ideal) S_ .f32 0x00000000#32) (ix2 l n) = (0 : EReal) := by
  pointwise

theorem weights0 (l : Fin 32) (n : Fin 768) : V m c main_v11 (ix3 0 l n)
    = if h : l.val < 16 then aW m c (ix3 0 (⟨l.val, h⟩ : Fin 16) n) else (0 : EReal) := by
  refine (congrFun (pieces_eq m c) _).trans ((first_apply _ _ l n).trans ((spread_apply _ l n).trans
    ((over_apply _ _ l n).trans ?_)))
  by_cases h : l.val < 16
  · rw [dif_pos h, dif_pos h]
    exact weight0_apply _ _ n
  · rw [dif_neg h, dif_neg h]
    exact zeros_apply _ n

theorem weights1 (l : Fin 32) (n : Fin 768) : V m c main_v11 (ix3 1 l n)
    = if l.val < 16 then (0 : EReal) else aW m c (ix3 1 (⟨l.val - 16, by omega⟩ : Fin 16) n) := by
  refine (congrFun (pieces_eq m c) _).trans ((second_apply _ _ l n).trans ((spread_apply _ l n).trans
    ((over_apply _ _ l n).trans ?_)))
  by_cases h : l.val < 16
  · rw [dif_pos h, if_pos h]
    exact zeros_apply _ n
  · rw [dif_neg h, if_neg h]
    exact weight1_apply _ _ n

theorem low0 (x : Fin 32 → EReal) (n : Fin 768) : ∑ l : Fin 32, x l * V m c main_v11 (ix3 0 l n)
    = ∑ l : Fin 16, x ⟨l.val, by omega⟩ * aW m c (ix3 0 l n) := by
  refine (Finset.sum_congr rfl fun l _ => congrArg (x l * ·) (weights0 m c l n)).trans ?_
  refine (Fin.sum_univ_add (a := 16) (b := 16) _).trans ?_
  refine (congrArg₂ (· + ·) (Finset.sum_congr rfl fun l _ => ?_) (Finset.sum_eq_zero fun l _ => ?_)).trans (add_zero _)
  · rw [dif_pos (show (Fin.castAdd 16 l).val < 16 from l.isLt)]
    rfl
  · rw [dif_neg (show ¬ (Fin.natAdd 16 l).val < 16 by show ¬ 16 + l.val < 16; omega), mul_zero]

theorem low1 (x : Fin 32 → EReal) (n : Fin 768) : ∑ l : Fin 32, x l * V m c main_v11 (ix3 1 l n)
    = ∑ l : Fin 16, x ⟨16 + l.val, by omega⟩ * aW m c (ix3 1 l n) := by
  refine (Finset.sum_congr rfl fun l _ => congrArg (x l * ·) (weights1 m c l n)).trans ?_
  refine (Fin.sum_univ_add (a := 16) (b := 16) _).trans ?_
  refine (congrArg₂ (· + ·) (Finset.sum_eq_zero fun l _ => ?_) (Finset.sum_congr rfl fun l _ => ?_)).trans (zero_add _)
  · rw [if_pos (show (Fin.castAdd 16 l).val < 16 from l.isLt), mul_zero]
  · rw [if_neg (show ¬ (Fin.natAdd 16 l).val < 16 by show ¬ 16 + l.val < 16; omega)]
    exact congrArg (_ * ·) (congrArg (fun a => aW m c (ix3 1 a n)) (Fin.ext (by show 16 + l.val - 16 = l.val; omega)))

theorem ld_at {A B C a b e : ℕ} (x : Vec Ideal (⟨3, ![A, B, C]⟩ : Shape) .f32) (o : ℕ)
    (hr : ∀ q, (![o, 0, 0] : Fin 3 → ℕ) q + (![a, b, e] : Fin 3 → ℕ) q ≤ (⟨3, ![A, B, C]⟩ : Shape).size q)
    (i : Fin a) (j : Fin b) (k : Fin e) (i' : Fin A) (j' : Fin B) (k' : Fin C)
    (hi : o + i.val = i'.val) (hj : j.val = j'.val) (hk : k.val = k'.val) :
    View.ld x (Rect.unit (s := (⟨3, ![A, B, C]⟩ : Shape)) ![o, 0, 0] ![a, b, e] hr) (ix3 i j k) = x (ix3 i' j' k') := by
  refine congrArg x (funext fun q => ?_)
  match q with
  | ⟨0, _⟩ => exact Fin.ext (by show o + 1 * i.val = i'.val; omega)
  | ⟨1, _⟩ => exact Fin.ext (by show 0 + 1 * j.val = j'.val; omega)
  | ⟨2, _⟩ => exact Fin.ext (by show 0 + 1 * k.val = k'.val; omega)

theorem fwd_apply (x3 : Vec Ideal S1x64x128 .f32) (x8 : Vec Ideal S2x32x768 .f32) (x9 : Vec Ideal S2x1x768 .f32)
    (r : Fin 64) (n : Fin 768) : fwd x3 x8 x9 (ix2 r n)
      = cum (fun i n => lg (∑ l : Fin 32, x3 (ix3 0 i (⟨l.val, by omega⟩ : Fin 128)) * x8 (ix3 0 l n) + x9 (ix3 0 0 n))) r n := by
  unfold fwd cum
  rw [pay8_apply]
  refine Finset.sum_congr rfl fun i _ => ?_
  refine congrArg (fun a => if i.val ≤ r.val then a else 0) ?_
  unfold gateOf
  refine congrArg lg (congrArg₂ (· + ·) (Finset.sum_congr rfl fun l _ => congrArg₂ (· * ·) ?_ ?_) ?_) <;>
    exact ld_at _ _ _ _ _ _ _ _ _ rfl rfl rfl

theorem bwd_apply (x7 : Vec Ideal S1x64x128 .f32) (x8 : Vec Ideal S2x32x768 .f32) (x9 : Vec Ideal S2x1x768 .f32)
    (r : Fin 64) (n : Fin 768) : bwd x7 x8 x9 (ix2 r n)
      = ∑ i : Fin 64, if r.val ≤ i.val then
          lg (∑ l : Fin 32, x7 (ix3 0 i (⟨l.val, by omega⟩ : Fin 128)) * x8 (ix3 1 l n) + x9 (ix3 1 0 n)) else 0 := by
  unfold bwd
  rw [pay72_apply]
  refine Finset.sum_congr rfl fun i _ => ?_
  refine congrArg (fun a => if r.val ≤ i.val then a else 0) ?_
  unfold gateOf
  refine congrArg lg (congrArg₂ (· + ·) (Finset.sum_congr rfl fun l _ => congrArg₂ (· * ·) ?_ ?_) ?_) <;>
    exact ld_at _ _ _ _ _ _ _ _ _ rfl rfl rfl

theorem idx1 : ∀ t : Fin cfg0.N, win0_1.index t = ![t.val / 4, t.val % 4, 1] :=
  (by decide +kernel : ∀ t : Fin grid0.N, win0_1.index t = ![t.val / 4, t.val % 4, 1])
theorem idx2 : ∀ t : Fin cfg0.N, win0_2.index t = ![t.val / 4, t.val % 4, 1] :=
  (by decide +kernel : ∀ t : Fin grid0.N, win0_2.index t = ![t.val / 4, t.val % 4, 1])
theorem idx3 : ∀ t : Fin cfg0.N, win0_3.index t = ![t.val / 4, t.val % 4, 40] :=
  (by decide +kernel : ∀ t : Fin grid0.N, win0_3.index t = ![t.val / 4, t.val % 4, 40])
theorem idx5 : ∀ t : Fin cfg0.N, win0_5.index t = ![t.val / 4, 3 - t.val % 4, 1] :=
  (by decide +kernel : ∀ t : Fin grid0.N, win0_5.index t = ![t.val / 4, 3 - t.val % 4, 1])
theorem idx6 : ∀ t : Fin cfg0.N, win0_6.index t = ![t.val / 4, 3 - t.val % 4, 1] :=
  (by decide +kernel : ∀ t : Fin grid0.N, win0_6.index t = ![t.val / 4, 3 - t.val % 4, 1])
theorem idx7 : ∀ t : Fin cfg0.N, win0_7.index t = ![t.val / 4, 3 - t.val % 4, 40] :=
  (by decide +kernel : ∀ t : Fin grid0.N, win0_7.index t = ![t.val / 4, 3 - t.val % 4, 40])
theorem idx8 : ∀ t : Fin cfg0.N, win0_8.index t = ![0, 0, 0] :=
  (by decide +kernel : ∀ t : Fin grid0.N, win0_8.index t = ![0, 0, 0])
theorem idx9 : ∀ t : Fin cfg0.N, win0_9.index t = ![0, 0, 0] :=
  (by decide +kernel : ∀ t : Fin grid0.N, win0_9.index t = ![0, 0, 0])
theorem idx10 : ∀ t : Fin cfg0.N, win0_10.index t = ![t.val / 4, 0, 0, 0, 0] :=
  (by decide +kernel : ∀ t : Fin grid0.N, win0_10.index t = ![t.val / 4, 0, 0, 0, 0])
theorem idx13 : ∀ t : Fin cfg0.N, win0_13.index t = ![t.val / 4, 0, 0, 0, 0] :=
  (by decide +kernel : ∀ t : Fin grid0.N, win0_13.index t = ![t.val / 4, 0, 0, 0, 0])

theorem point_lt {n : ℕ} (h : n < cfg0.N) : n < 64 := by
  have e : cfg0.N = 64 := Gen.N_0
  omega

/-- The segment of a point. -/
abbrev seg (n : ℕ) (h : n < cfg0.N) : Fin 16 := ⟨n / 4, by have := point_lt h; omega⟩

variable (t : Fin cfg0.N)

theorem turned (r : Fin 64) : (⟨t.val / 4 * 256 + ((3 - t.val % 4) * 64 + r.val), by have := point_lt t.isLt; omega⟩ : Fin 4096)
    = place 1 (seg t.val t.isLt) t.val (Fin.rev r) := by
  unfold place
  refine Fin.ext ?_
  show t.val / 4 * 256 + ((3 - t.val % 4) * 64 + r.val) = t.val / 4 * 256 + (255 - (t.val % 4 * 64 + (64 - (r.val + 1))))
  omega

theorem blk1 (r : Fin 64) (n : Fin 768) :
    iblk m c 1 t (ix3 0 r n) = keyAt (aP m c) (place 0 (seg t.val t.isLt) t.val r) n := by
  have hl := point_lt t.isLt
  refine Eq.trans ?_ (rows_eq m c (⟨t.val / 4, by omega⟩ : Fin 80) (by show t.val / 4 < 16; omega)
    (⟨t.val % 4 * 64 + r.val, by omega⟩ : Fin 256) (⟨768 + n.val, by omega⟩ : Fin 5376))
  blk_ext [iblk, idx1 t]

theorem blk5 (r : Fin 64) (n : Fin 768) :
    iblk m c 5 t (ix3 0 r n) = keyAt (aP m c) (place 1 (seg t.val t.isLt) t.val (Fin.rev r)) n := by
  have hl := point_lt t.isLt
  refine Eq.trans ?_ ((rows_eq m c (⟨t.val / 4, by omega⟩ : Fin 80) (by show t.val / 4 < 16; omega)
    (⟨(3 - t.val % 4) * 64 + r.val, by omega⟩ : Fin 256) (⟨768 + n.val, by omega⟩ : Fin 5376)).trans ?_)
  · blk_ext [iblk, idx5 t]
  · exact congrArg (aP m c) (congrArg (fun a => ix3 0 a _) (turned t r))

theorem blk2 (r : Fin 64) (n : Fin 1536) :
    X0_2 m c t (ix3 0 r n) = valueAt (aP m c) (place 0 (seg t.val t.isLt) t.val r) n := by
  have hl := point_lt t.isLt
  unfold X0_2 Pipeline.Window.fill
  rw [dif_pos (moved0_2 t _)]
  refine Eq.trans ?_ (rows_eq m c (⟨t.val / 4, by omega⟩ : Fin 80) (by show t.val / 4 < 16; omega)
    (⟨t.val % 4 * 64 + r.val, by omega⟩ : Fin 256) (⟨1536 + n.val, by omega⟩ : Fin 5376))
  blk_ext [iblk, idx2 t]

theorem blk6 (r : Fin 64) (n : Fin 1536) :
    X0_6 m c t (ix3 0 r n) = valueAt (aP m c) (place 1 (seg t.val t.isLt) t.val (Fin.rev r)) n := by
  have hl := point_lt t.isLt
  unfold X0_6 Pipeline.Window.fill
  rw [dif_pos (moved0_6 t _)]
  refine Eq.trans ?_ ((rows_eq m c (⟨t.val / 4, by omega⟩ : Fin 80) (by show t.val / 4 < 16; omega)
    (⟨(3 - t.val % 4) * 64 + r.val, by omega⟩ : Fin 256) (⟨1536 + n.val, by omega⟩ : Fin 5376)).trans ?_)
  · blk_ext [iblk, idx6 t]
  · exact congrArg (aP m c) (congrArg (fun a => ix3 0 a _) (turned t r))

theorem blk3 (r : Fin 64) (l : Fin 128) :
    iblk m c 3 t (ix3 0 r l)
      = aP m c (ix3 0 (place 0 (seg t.val t.isLt) t.val r) (⟨5120 + l.val, by omega⟩ : Fin 5376)) := by
  have hl := point_lt t.isLt
  refine Eq.trans ?_ (rows_eq m c (⟨t.val / 4, by omega⟩ : Fin 80) (by show t.val / 4 < 16; omega)
    (⟨t.val % 4 * 64 + r.val, by omega⟩ : Fin 256) (⟨5120 + l.val, by omega⟩ : Fin 5376))
  blk_ext [iblk, idx3 t]

theorem blk7 (r : Fin 64) (l : Fin 128) :
    iblk m c 7 t (ix3 0 r l)
      = aP m c (ix3 0 (place 1 (seg t.val t.isLt) t.val (Fin.rev r)) (⟨5120 + l.val, by omega⟩ : Fin 5376)) := by
  have hl := point_lt t.isLt
  refine Eq.trans ?_ ((rows_eq m c (⟨t.val / 4, by omega⟩ : Fin 80) (by show t.val / 4 < 16; omega)
    (⟨(3 - t.val % 4) * 64 + r.val, by omega⟩ : Fin 256) (⟨5120 + l.val, by omega⟩ : Fin 5376)).trans ?_)
  · blk_ext [iblk, idx7 t]
  · exact congrArg (aP m c) (congrArg (fun a => ix3 0 a _) (turned t r))

theorem blk8 (d : Fin 2) (l : Fin 32) (n : Fin 768) : iblk m c 8 t (ix3 d l n) = V m c main_v11 (ix3 d l n) := by
  blk_ext [iblk, idx8 t]

theorem blk9 (d : Fin 2) (n : Fin 768) : iblk m c 9 t (ix3 d 0 n) = aG m c (ix2 d n) := by
  rw [← bias_eq m c d n]
  blk_ext [iblk, idx9 t]

theorem blk10 (d : Fin 2) (h : Fin 6) (v : Fin 256) (k : Fin 128) : iblk m c 10 t (ix5 0 d h v k) = (0 : EReal) := by
  rw [← start_eq m c (seg t.val t.isLt) d h v k]
  blk_ext [iblk, idx10 t]

/-- One point's step of the state. -/
theorem step (st : Vec Ideal S2x6x256x128 .f32) (d : Fin 2) (h : Fin 6) (v : Fin 256) (k : Fin 128) :
    newSt (fwd (iblk m c 3 t) (iblk m c 8 t) (iblk m c 9 t)) (bwd (iblk m c 7 t) (iblk m c 8 t) (iblk m c 9 t))
        (iblk m c 1 t) (X0_2 m c t) (iblk m c 5 t) (X0_6 m c t) st (ix4 d h v k)
      = upd (cum (gateAt (aP m c) (aW m c) (aG m c) d ∘ place d (seg t.val t.isLt) t.val))
          63 (keyAt (aP m c) ∘ place d (seg t.val t.isLt) t.val) (valueAt (aP m c) ∘ place d (seg t.val t.isLt) t.val)
          (st (ix4 d h v k)) h v k := by
  unfold newSt
  match d with
  | ⟨0, _⟩ =>
    refine (if_pos rfl).trans ?_
    simp only [fwd_apply, blk1, blk2, blk3, blk8, blk9, low0]
    rfl
  | ⟨1, _⟩ =>
    refine (if_neg Nat.one_ne_zero).trans (Eq.trans ?_ (upd_rev _ _ _ _ h v k))
    simp only [bwd_apply, blk5, blk6, blk7, blk8, blk9, low1]
    rfl

end Cert.GlaIdeal.Blocks

end
-- ==== Proof.Mix.GlaScan.lean ====
/- The array of states that the gated scan leaves. -/
module

public import proofs.«01_k».proof.Proof.Mix.GlaState
public import Idealize.ShloMosaic.Lib.Quiescent
public import Idealize.ShloMosaic.Lib.Pipeline.ReadBack
public import Idealize.ShloMosaic.Lib.StableHlo.RunRead
public import Idealize.ShloMosaic.Lib.KernelVsHost

@[expose] public section

set_option maxRecDepth 16384

noncomputable section

namespace Cert.GlaIdeal.Blocks

open Cert.GlaIdeal Cert.GlaIdeal.Gen Idealize.ShloMosaic Idealize.ShloMosaic.TcCoe Idealize.SL.Sem Cert.GlaMath
open Idealize.ShloMosaic.Pipeline (Dat)

variable (m : (ℓ : Loc nD τ sig) → Buf (Elt Ideal) ℓ) (ρ : Dev nD → PrngReg) (c : Dev nD)

theorem place_mod (d : Fin 2) (b : Fin 16) (n : ℕ) : place d b (n % 4) = place d b n := by
  unfold place
  simp only [Nat.mod_mod]

theorem stateAt_succ (P : S5x4096x5376.Idx → EReal) (w : S2x16x768.Idx → EReal) (g : S2x768.Idx → EReal)
    (d : Fin 2) (b : Fin 16) (n : ℕ) (h : Fin 6) (v : Fin 256) (k : Fin 128) :
    stateAt P w g d b h v k (n % 4 + 1)
      = upd (cum (gateAt P w g d ∘ place d b n)) 63 (keyAt P ∘ place d b n) (valueAt P ∘ place d b n)
          (stateAt P w g d b h v k (n % 4)) h v k := by
  rw [← place_mod]
  rfl

theorem carried : ∀ (n : ℕ) (h : n < cfg0.N) (d : Fin 2) (hd : Fin 6) (v : Fin 256) (k : Fin 128),
    (outsAt0 m c n h).2.2.2 (ix4 d hd v k)
      = stateAt (aP m c) (aW m c) (aG m c) d (seg n h) hd v k (n % 4 + 1) := by
  intro n
  induction n with
  | zero =>
    intro h d hd v k
    rw [outsAt0_A m c ⟨0, h⟩ (Nat.zero_mod _) (by simp)]
    dsimp only
    rw [state_A, step m c ⟨0, h⟩, stay_apply, blk10 m c ⟨0, h⟩, stateAt_succ]
    rfl
  | succ n ih =>
    intro h d hd v k
    by_cases h0 : (n + 1) % 4 = 0
    · rw [outsAt0_A m c ⟨n + 1, h⟩ h0 (by show ¬ (n + 1) % 4 = 3; omega)]
      dsimp only
      rw [state_A, step m c ⟨n + 1, h⟩, stay_apply, blk10 m c ⟨n + 1, h⟩, stateAt_succ, h0]
      rfl
    · have e1 : seg n (Nat.lt_of_succ_lt h) = seg (n + 1) h := Fin.ext (by show n / 4 = (n + 1) / 4; omega)
      have e2 : n % 4 + 1 = (n + 1) % 4 := by omega
      have hi := ih (Nat.lt_of_succ_lt h) d hd v k
      rw [e1, e2] at hi
      by_cases h1 : (n + 1) % 4 = 3
      · rw [outsAt0_C m c ⟨n + 1, h⟩ h0 h1]
        dsimp only
        rw [state_C, step m c ⟨n + 1, h⟩, stateAt_succ, ← hi]
        rfl
      · rw [outsAt0_B m c ⟨n + 1, h⟩ h0 h1]
        dsimp only
        rw [state_B, step m c ⟨n + 1, h⟩, stateAt_succ, ← hi]
        rfl

/-- The array the kernel leaves. -/
def left : S16x2x6x256x128.Idx → EReal := fun i =>
  stateAt (aP m c) (aW m c) (aG m c) (i 1) (i 0) (i 2) (i 3) (i 4) 4

theorem point_eq (t : Fin cfg0.N) (h3 : t.val % 4 = 3) (d : Fin 2) (hd : Fin 6) (v : Fin 256) (k : Fin 128) :
    (outsAt0 m c t.val t.isLt).2.2.1 (ix5 0 d hd v k) = left m c (ix5 (seg t.val t.isLt) d hd v k) := by
  have hc := carried m c t.val t.isLt d hd v k
  rw [h3] at hc
  refine Eq.trans ?_ hc
  rw [outsAt0_C m c t (by omega) h3]
  dsimp only
  rw [out_C, copy_apply]

theorem final : (Gen.dats m 0 c).arrAt 13 cfg0.N = left m c := by
  refine (Gen.dats m 0 c).arrAt_eq_of_covers 13 _ (by decide +kernel) fun t hf y => ?_
  have h3 := (flush0_13 t).mp hf
  blk_simp
  rw [after0_13]
  obtain ⟨d, hd⟩ : ∃ r : Fin 2, r.val = (y (1 : Fin 5)).val := ⟨⟨_, (y (1 : Fin 5)).isLt⟩, rfl⟩
  obtain ⟨h, hh⟩ : ∃ r : Fin 6, r.val = (y (2 : Fin 5)).val := ⟨⟨_, (y (2 : Fin 5)).isLt⟩, rfl⟩
  obtain ⟨v, hv⟩ : ∃ r : Fin 256, r.val = (y (3 : Fin 5)).val := ⟨⟨_, (y (3 : Fin 5)).isLt⟩, rfl⟩
  obtain ⟨k, hk⟩ : ∃ r : Fin 128, r.val = (y (4 : Fin 5)).val := ⟨⟨_, (y (4 : Fin 5)).isLt⟩, rfl⟩
  have hy : y = ix5 0 d h v k := by blk_ext [hd, hh, hv, hk]
  have he : (win0_13.blk t).view.emb y = ix5 (seg t.val t.isLt) d h v k := by
    blk_ext [idx13 t, hd, hh, hv, hk]
  rw [he]
  exact (congrArg (outsAt0 m c t.val t.isLt).2.2.1 hy).trans (point_eq m c t h3 d h v k)

/-- The states, keys before values. -/
def result : S16x2x6x128x256.Idx → EReal := fun i =>
  stateAt (aP m c) (aW m c) (aG m c) (i 1) (i 0) (i 2) (i 4) (i 3) 4

theorem ext5 {a b e f g : ℕ} (i : (⟨5, ![a, b, e, f, g]⟩ : Shape).Idx) : i = ix5 (i 0) (i 1) (i 2) (i 3) (i 4) := by
  funext q
  match q with
  | ⟨0, _⟩ => rfl
  | ⟨1, _⟩ => rfl
  | ⟨2, _⟩ => rfl
  | ⟨3, _⟩ => rfl
  | ⟨4, _⟩ => rfl

theorem swap_apply (y : S16x2x6x256x128.Idx → EReal) (b : Fin 16) (d : Fin 2) (h : Fin 6) (k : Fin 128) (v : Fin 256) :
    transpose S16x2x6x128x256 [0, 1, 2, 4, 3] y transposes_S16x2x6x256x128_S16x2x6x128x256_0_1_2_4_3 (ix5 b d h k v)
      = y (ix5 b d h v k) := by
  pointwise

theorem out_eq : Pipeline.withArrays (cfgs 0).spec c (V0 m c) (fun w => (dats m 0 c).arrAt w (cfgs 0).N)
    (Proc.devRef .tc main_v16_2) = left m c :=
  ((dats m 0 c).withArrays_arrAt sharedIn0 (V0 m c) (A_eq m c) 13).trans (final m c)

theorem result_eq : Pipeline.afterTail₀ cfgs (dats m) 0 (V0 m) [hostOps1] c main_v17 = result m c := by
  unfold Pipeline.afterTail₀
  dsimp only [hostOps1, List.flatten_cons, List.flatten_nil, List.append_nil, List.cons_append, List.nil_append]
  have hout := out_eq m c
  generalize Pipeline.withArrays (cfgs 0).spec c (V0 m c) (fun w => (dats m 0 c).arrAt w (cfgs 0).N) = W at hout ⊢
  after_reads_simp
  rw [hout]
  funext i
  exact (congrArg _ (ext5 i)).trans (swap_apply (left m c) (i 0) (i 1) (i 2) (i 3) (i 4))

/-- The result and the arguments after a run. -/
theorem run_arrays : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h.1 c).2 main_v17 (Pipeline.mem_restRefs_of main_v17 (by decide) (by decide))).trans (result_eq m c), h.2 c⟩)
    (θ_run_and (run_main m ρ) (unchanged m ρ))

end Cert.GlaIdeal.Blocks

end
-- ==== Proof.Mix.GlaRef.lean ====
/- The reference's states of the gated linear attention. -/
module

public import proofs.«01_k».proof.Proof.Mix.GlaMath
public import proofs.«01_k».proof.Proof.Gen.GlaRefIdeal.Read

@[expose] public section

set_option maxRecDepth 16384

noncomputable section

namespace Cert.GlaRefIdeal.Rows

open Cert.GlaRefIdeal Cert.GlaRefIdeal.Gen Cert.GlaRefIdeal.Read Idealize.ShloMosaic Cert.GlaMath

/-- The gates' logarithms, as the reference forms them. -/
def gateOps (y : FVec Ideal S16x256x768 .f32) : FVec Ideal S16x256x768 .f32 :=
  let z := broadcastInDim S16x256x768 ![] bcast_S_S16x256x768 (constant (F := Ideal) S_ .f32 0x00000000#32)
  let a := Host.negf y
  let s := subf a z
  Host.divf (Host.negf (select (cmpf .une s s) (addf a z)
    (addf (maximumf a z) (Host.log1p (Host.exp (Host.negf (Host.absf s)))))))
    (broadcastInDim S16x256x768 ![] bcast_S_S16x256x768 (constant (F := Ideal) S_ .f32 0x41800000#32))

theorem gateOps_apply (y : FVec Ideal S16x256x768 .f32) (b : Fin 16) (e : Fin 256) (n : Fin 768) :
    gateOps y (ix3 b e n) = lg (y (ix3 b e n)) := by
  unfold gateOps lg
  rw [← ls_soft]
  pointwise
  rw [if_neg fun h => h rfl]

/-- The running sums along the chunks. -/
def runOps (y : FVec Ideal S16x256x768 .f32) : FVec Ideal S64x64x768 .f32 :=
  Host.reduceWindowAdd ![1, 64, 1] ![1, 1, 1] ![0, 63, 0] ![0, 0, 0]
    (shapeCast S64x64x768 y shapeCasts_S16x256x768_S64x64x768)
    (broadcastInDim S_ ![] bcast_S_S_ (constant (F := Ideal) S_ .f32 0x00000000#32))
    reduceWindows_S64x64x768_S64x64x768_w1s1p0_0_w64s1p63_0_w1s1p0_0 h_S_

theorem chunk_apply (y : FVec Ideal S16x256x768 .f32) (q : Fin 64) (j : Fin 64) (n : Fin 768) :
    shapeCast S64x64x768 y shapeCasts_S16x256x768_S64x64x768 (ix3 q j n)
      = y (ix3 (⟨q.val / 4, by omega⟩ : Fin 16) (⟨q.val % 4 * 64 + j.val, by omega⟩ : Fin 256) n) := by
  pointwise

theorem runOps_apply (y : FVec Ideal S16x256x768 .f32) (q : Fin 64) (j : Fin 64) (n : Fin 768) :
    runOps y (ix3 q j n) = cum (fun j n => y (ix3 (⟨q.val / 4, by omega⟩ : Fin 16) (⟨q.val % 4 * 64 + j.val, by omega⟩ : Fin 256) n)) j n := by
  unfold cum
  simp only [← chunk_apply]
  refine running_apply (shapeCast S64x64x768 y shapeCasts_S16x256x768_S64x64x768) _ ?_
    reduceWindows_S64x64x768_S64x64x768_w1s1p0_0_w64s1p63_0_w1s1p0_0 q j n
  pointwise

/-- What a chunk adds to the state. -/
def addedOps (k : FVec Ideal S64x64x768 .f32) (v : FVec Ideal S64x64x6x256 .f32) (u : FVec Ideal S64x64x768 .f32) :
    FVec Ideal S16x4x6x128x256 .f32 :=
  shapeCast S16x4x6x128x256 (Host.dotGeneral dot_S64x64x6x128_S64x64x6x256_S64x6x128x256_1_1_3_3_02_02 none
    (shapeCast S64x64x6x128 (mulf k (Host.exp (subf (broadcastInDim S64x64x768 ![0, 1, 2] bcast_S64x1x768_S64x64x768_0_1_2
      (extractStridedSlice S64x1x768 ![0, 63, 0] u slices_S64x64x768_S64x1x768_0_63_0)) u))) shapeCasts_S64x64x768_S64x64x6x128) v)
    shapeCasts_S64x6x128x256_S16x4x6x128x256

/-- What a chunk keeps of the state. -/
def keptOps (u : FVec Ideal S64x64x768 .f32) : FVec Ideal S16x4x6x128x1 .f32 :=
  shapeCast S16x4x6x128x1 (Host.exp (extractStridedSlice S64x1x768 ![0, 63, 0] u slices_S64x64x768_S64x1x768_0_63_0))
    shapeCasts_S64x1x768_S16x4x6x128x1

abbrev chunk (b : Fin 16) (c : Fin 4) : Fin 64 := ⟨b.val * 4 + c.val, by omega⟩

theorem decay_apply (k : FVec Ideal S64x64x768 .f32) (u : FVec Ideal S64x64x768 .f32) (q j : Fin 64) (n : Fin 768) :
    mulf k (Host.exp (subf (broadcastInDim S64x64x768 ![0, 1, 2] bcast_S64x1x768_S64x64x768_0_1_2
      (extractStridedSlice S64x1x768 ![0, 63, 0] u slices_S64x64x768_S64x1x768_0_63_0)) u)) (ix3 q j n)
      = k (ix3 q j n) * Ideal.exp (u (ix3 q 63 n) - u (ix3 q j n)) := by
  pointwise

theorem heads_apply (y : FVec Ideal S64x64x768 .f32) (q j : Fin 64) (h : Fin 6) (k : Fin 128) :
    shapeCast S64x64x6x128 y shapeCasts_S64x64x768_S64x64x6x128 (ix4 q j h k) = y (ix3 q j (lane h k)) := by
  pointwise

theorem dot_apply (y : FVec Ideal S64x64x6x128 .f32) (v : FVec Ideal S64x64x6x256 .f32) (q : Fin 64) (h : Fin 6)
    (k : Fin 128) (w : Fin 256) :
    Host.dotGeneral dot_S64x64x6x128_S64x64x6x256_S64x6x128x256_1_1_3_3_02_02 none y v (ix4 q h k w)
      = ∑ j : Fin 64, y (ix4 q j h k) * v (ix4 q j h w) := by
  pointwise

theorem segs_apply (y : FVec Ideal S64x6x128x256 .f32) (b : Fin 16) (c : Fin 4) (h : Fin 6) (k : Fin 128) (w : Fin 256) :
    shapeCast S16x4x6x128x256 y shapeCasts_S64x6x128x256_S16x4x6x128x256 (ix5 b c h k w) = y (ix4 (chunk b c) h k w) := by
  pointwise

theorem addedOps_apply (k : FVec Ideal S64x64x768 .f32) (v : FVec Ideal S64x64x6x256 .f32) (u : FVec Ideal S64x64x768 .f32)
    (b : Fin 16) (c : Fin 4) (h : Fin 6) (kk : Fin 128) (w : Fin 256) :
    addedOps k v u (ix5 b c h kk w) = ∑ j : Fin 64, k (ix3 (chunk b c) j (lane h kk))
      * Ideal.exp (u (ix3 (chunk b c) 63 (lane h kk)) - u (ix3 (chunk b c) j (lane h kk))) * v (ix4 (chunk b c) j h w) := by
  unfold addedOps
  rw [segs_apply, dot_apply]
  refine Finset.sum_congr rfl fun j _ => ?_
  rw [heads_apply, decay_apply]

theorem keptOps_apply (u : FVec Ideal S64x64x768 .f32) (b : Fin 16) (c : Fin 4) (h : Fin 6) (k : Fin 128) :
    keptOps u (ix5 b c h k 0) = Ideal.exp (u (ix3 (chunk b c) 63 (lane h k))) := by
  unfold keptOps
  pointwise

/-- One step of the recurrence. -/
def stepOps (kept : FVec Ideal S16x1x6x128x1 .f32) (added : FVec Ideal S16x1x6x128x256 .f32)
    (s : FVec Ideal S16x6x128x256 .f32) : FVec Ideal S16x6x128x256 .f32 :=
  addf (mulf (broadcastInDim S16x6x128x256 ![0, 1, 2, 3] bcast_S16x6x128x1_S16x6x128x256_0_1_2_3
    (shapeCast S16x6x128x1 kept shapeCasts_S16x1x6x128x1_S16x6x128x1)) s)
    (shapeCast S16x6x128x256 added shapeCasts_S16x1x6x128x256_S16x6x128x256)

theorem stepOps_apply (kept : FVec Ideal S16x1x6x128x1 .f32) (added : FVec Ideal S16x1x6x128x256 .f32)
    (s : FVec Ideal S16x6x128x256 .f32) (b : Fin 16) (h : Fin 6) (k : Fin 128) (v : Fin 256) :
    stepOps kept added s (ix4 b h k v) = kept (ix5 b 0 h k 0) * s (ix4 b h k v) + added (ix5 b 0 h k v) := by
  unfold stepOps
  pointwise

theorem kept0 (kept : FVec Ideal S16x4x6x128x1 .f32) (b : Fin 16) (h : Fin 6) (k : Fin 128) :
    extractStridedSlice S16x1x6x128x1 ![0, 0, 0, 0, 0] kept slices_S16x4x6x128x1_S16x1x6x128x1_0_0_0_0_0 (ix5 b 0 h k 0) = kept (ix5 b 0 h k 0) := by
  pointwise

theorem added0 (added : FVec Ideal S16x4x6x128x256 .f32) (b : Fin 16) (h : Fin 6) (k : Fin 128) (v : Fin 256) :
    extractStridedSlice S16x1x6x128x256 ![0, 0, 0, 0, 0] added slices_S16x4x6x128x256_S16x1x6x128x256_0_0_0_0_0 (ix5 b 0 h k v) = added (ix5 b 0 h k v) := by
  pointwise

theorem kept1 (kept : FVec Ideal S16x4x6x128x1 .f32) (b : Fin 16) (h : Fin 6) (k : Fin 128) :
    extractStridedSlice S16x1x6x128x1 ![0, 1, 0, 0, 0] kept slices_S16x4x6x128x1_S16x1x6x128x1_0_1_0_0_0 (ix5 b 0 h k 0) = kept (ix5 b 1 h k 0) := by
  pointwise

theorem added1 (added : FVec Ideal S16x4x6x128x256 .f32) (b : Fin 16) (h : Fin 6) (k : Fin 128) (v : Fin 256) :
    extractStridedSlice S16x1x6x128x256 ![0, 1, 0, 0, 0] added slices_S16x4x6x128x256_S16x1x6x128x256_0_1_0_0_0 (ix5 b 0 h k v) = added (ix5 b 1 h k v) := by
  pointwise

theorem kept2 (kept : FVec Ideal S16x4x6x128x1 .f32) (b : Fin 16) (h : Fin 6) (k : Fin 128) :
    extractStridedSlice S16x1x6x128x1 ![0, 2, 0, 0, 0] kept slices_S16x4x6x128x1_S16x1x6x128x1_0_2_0_0_0 (ix5 b 0 h k 0) = kept (ix5 b 2 h k 0) := by
  pointwise

theorem added2 (added : FVec Ideal S16x4x6x128x256 .f32) (b : Fin 16) (h : Fin 6) (k : Fin 128) (v : Fin 256) :
    extractStridedSlice S16x1x6x128x256 ![0, 2, 0, 0, 0] added slices_S16x4x6x128x256_S16x1x6x128x256_0_2_0_0_0 (ix5 b 0 h k v) = added (ix5 b 2 h k v) := by
  pointwise

theorem kept3 (kept : FVec Ideal S16x4x6x128x1 .f32) (b : Fin 16) (h : Fin 6) (k : Fin 128) :
    extractStridedSlice S16x1x6x128x1 ![0, 3, 0, 0, 0] kept slices_S16x4x6x128x1_S16x1x6x128x1_0_3_0_0_0 (ix5 b 0 h k 0) = kept (ix5 b 3 h k 0) := by
  pointwise

theorem added3 (added : FVec Ideal S16x4x6x128x256 .f32) (b : Fin 16) (h : Fin 6) (k : Fin 128) (v : Fin 256) :
    extractStridedSlice S16x1x6x128x256 ![0, 3, 0, 0, 0] added slices_S16x4x6x128x256_S16x1x6x128x256_0_3_0_0_0 (ix5 b 0 h k v) = added (ix5 b 3 h k v) := by
  pointwise

/-- The start of the recurrence. -/
def startOps : FVec Ideal S16x6x128x256 .f32 :=
  broadcastInDim S16x6x128x256 ![] bcast_S_S16x6x128x256 (constant (F := Ideal) S_ .f32 0x00000000#32)

theorem start_apply (b : Fin 16) (h : Fin 6) (k : Fin 128) (v : Fin 256) : startOps (ix4 b h k v) = (0 : EReal) := by
  unfold startOps
  pointwise

/-- The four steps. -/
def stepsOps (kept : FVec Ideal S16x4x6x128x1 .f32) (added : FVec Ideal S16x4x6x128x256 .f32) :
    FVec Ideal S16x6x128x256 .f32 :=
  stepOps (extractStridedSlice S16x1x6x128x1 ![0, 3, 0, 0, 0] kept slices_S16x4x6x128x1_S16x1x6x128x1_0_3_0_0_0)
    (extractStridedSlice S16x1x6x128x256 ![0, 3, 0, 0, 0] added slices_S16x4x6x128x256_S16x1x6x128x256_0_3_0_0_0)
    (stepOps (extractStridedSlice S16x1x6x128x1 ![0, 2, 0, 0, 0] kept slices_S16x4x6x128x1_S16x1x6x128x1_0_2_0_0_0)
    (extractStridedSlice S16x1x6x128x256 ![0, 2, 0, 0, 0] added slices_S16x4x6x128x256_S16x1x6x128x256_0_2_0_0_0)
    (stepOps (extractStridedSlice S16x1x6x128x1 ![0, 1, 0, 0, 0] kept slices_S16x4x6x128x1_S16x1x6x128x1_0_1_0_0_0)
    (extractStridedSlice S16x1x6x128x256 ![0, 1, 0, 0, 0] added slices_S16x4x6x128x256_S16x1x6x128x256_0_1_0_0_0)
    (stepOps (extractStridedSlice S16x1x6x128x1 ![0, 0, 0, 0, 0] kept slices_S16x4x6x128x1_S16x1x6x128x1_0_0_0_0_0)
    (extractStridedSlice S16x1x6x128x256 ![0, 0, 0, 0, 0] added slices_S16x4x6x128x256_S16x1x6x128x256_0_0_0_0_0)
    startOps)))

/-- A direction's states from its keys, values and low-rank sums. -/
def dirOps (k : FVec Ideal S64x64x768 .f32) (v : FVec Ideal S64x64x6x256 .f32) (p : FVec Ideal S16x256x768 .f32) :
    FVec Ideal S16x6x128x256 .f32 :=
  stepsOps (keptOps (runOps (gateOps p))) (addedOps k v (runOps (gateOps p)))

/-- The position of a chunk's place along a segment. -/
abbrev along (c : ℕ) (j : Fin 64) : Fin 256 := ⟨c % 4 * 64 + j.val, by omega⟩

theorem runChunk_apply (p : FVec Ideal S16x256x768 .f32) (b : Fin 16) (c : Fin 4) (j : Fin 64) (n : Fin 768) :
    runOps (gateOps p) (ix3 (chunk b c) j n) = cum (fun j n => lg (p (ix3 b (along c.val j) n))) j n := by
  rw [runOps_apply]
  refine congrArg (fun G => cum G j n) (funext fun i => funext fun n => ?_)
  rw [gateOps_apply]
  refine congrArg (fun a => lg (p a)) (congrArg₂ (fun a e => ix3 a e n) (Fin.ext ?_) (Fin.ext ?_))
  · show (b.val * 4 + c.val) / 4 = b.val
    omega
  · show (b.val * 4 + c.val) % 4 * 64 + i.val = c.val % 4 * 64 + i.val
    omega

theorem dirOps_apply (k : FVec Ideal S64x64x768 .f32) (v : FVec Ideal S64x64x6x256 .f32) (p : FVec Ideal S16x256x768 .f32)
    (G K : ℕ → Fin 64 → Fin 768 → EReal) (W : ℕ → Fin 64 → Fin 1536 → EReal) (b : Fin 16)
    (hG : ∀ (c : Fin 4) j n, lg (p (ix3 b (along c.val j) n)) = G c.val j n)
    (hK : ∀ (c : Fin 4) j n, k (ix3 (chunk b c) j n) = K c.val j n)
    (hV : ∀ (c : Fin 4) j h w, v (ix4 (chunk b c) j h w) = W c.val j (vlane h w))
    (h : Fin 6) (kk : Fin 128) (w : Fin 256) :
    dirOps k v p (ix4 b h kk w) = chain G K W h w kk 4 := by
  have step : ∀ (c : Fin 4) (s : EReal),
      keptOps (runOps (gateOps p)) (ix5 b c h kk 0) * s + addedOps k v (runOps (gateOps p)) (ix5 b c h kk w)
        = upd (cum (G c.val)) 63 (K c.val) (W c.val) s h w kk := fun c s => by
    rw [keptOps_apply, addedOps_apply]
    simp only [runChunk_apply, hG, hK, hV]
    unfold upd
    rw [mul_comm s]
    refine congrArg (_ + ·) (Finset.sum_congr rfl fun j _ => ?_)
    rw [mul_comm (W c.val j (vlane h w))]
  unfold dirOps stepsOps
  simp only [stepOps_apply, kept0, kept1, kept2, kept3, added0, added1, added2, added3, start_apply, step]
  rfl

variable (x0 : (⟨S5x4096x5376, .f32⟩ : BufTy).Contents (Elt Ideal)) (x1 : (⟨S2x16x768, .f32⟩ : BufTy).Contents (Elt Ideal))
  (x2 : (⟨S2x768, .f32⟩ : BufTy).Contents (Elt Ideal))

theorem forward_eq : val_main_v59 (F := Ideal) x0 x1 x2
    = dirOps (val_main_v9 (F := Ideal) x0) (val_main_v11 (F := Ideal) x0) (val_main_v15 (F := Ideal) x0 x1 x2) := rfl

theorem backward_eq : val_main_v118 (F := Ideal) x0 x1 x2
    = dirOps (val_main_v68 (F := Ideal) x0) (val_main_v70 (F := Ideal) x0) (val_main_v74 (F := Ideal) x0 x1 x2) := rfl

/-- The projections' rows of a segment. -/
theorem rows_apply (b : Fin 16) (e : Fin 256) (n : Fin 5376) :
    val_main_v2 (F := Ideal) x0 (ix3 b e n) = x0 (ix3 0 (⟨b.val * 256 + e.val, by omega⟩ : Fin 4096) n) := by
  simp only [val_main_v2, val_main_v1, val_main_v0]
  pointwise

theorem turned_apply (b : Fin 16) (e : Fin 256) (n : Fin 5376) :
    val_main_v60 (F := Ideal) x0 (ix3 b e n) = x0 (ix3 0 (⟨b.val * 256 + (255 - e.val), by omega⟩ : Fin 4096) n) := by
  have h : val_main_v60 (F := Ideal) x0 (ix3 b e n) = val_main_v2 (F := Ideal) x0 (ix3 b (⟨255 - e.val, by omega⟩ : Fin 256) n) := by
    unfold val_main_v60
    generalize val_main_v2 (F := Ideal) x0 = y
    refine congrArg y (funext fun q => ?_)
    match q with
    | ⟨0, _⟩ => rfl
    | ⟨1, _⟩ => exact Fin.ext (by show 256 - (e.val + 1) = 255 - e.val; omega)
    | ⟨2, _⟩ => rfl
  rw [h, rows_apply]

def keysOps (y : FVec Ideal S16x256x5376 .f32) : FVec Ideal S64x64x768 .f32 :=
  shapeCast S64x64x768 (extractStridedSlice S16x256x768 ![0, 0, 768] y slices_S16x256x5376_S16x256x768_0_0_768)
    shapeCasts_S16x256x768_S64x64x768
def valuesOps (y : FVec Ideal S16x256x5376 .f32) : FVec Ideal S64x64x6x256 .f32 :=
  shapeCast S64x64x6x256 (extractStridedSlice S16x256x1536 ![0, 0, 1536] y slices_S16x256x5376_S16x256x1536_0_0_1536)
    shapeCasts_S16x256x1536_S64x64x6x256

theorem keysOps_apply (y : FVec Ideal S16x256x5376 .f32) (b : Fin 16) (c : Fin 4) (j : Fin 64) (n : Fin 768) :
    keysOps y (ix3 (chunk b c) j n) = y (ix3 b (along c.val j) (⟨768 + n.val, by omega⟩ : Fin 5376)) := by
  unfold keysOps
  pointwise
  refine congrArg y (congrArg₂ (fun a e => ix3 a e _) (Fin.ext ?_) (Fin.ext ?_))
  · show (b.val * 4 + c.val) / 4 = b.val
    omega
  · show (b.val * 4 + c.val) % 4 * 64 + j.val = c.val % 4 * 64 + j.val
    omega

theorem valuesOps_apply (y : FVec Ideal S16x256x5376 .f32) (b : Fin 16) (c : Fin 4) (j : Fin 64) (h : Fin 6) (v : Fin 256) :
    valuesOps y (ix4 (chunk b c) j h v) = y (ix3 b (along c.val j) (⟨1536 + (vlane h v).val, by omega⟩ : Fin 5376)) := by
  unfold valuesOps
  pointwise
  refine congrArg y (congrArg₂ (fun a e => ix3 a e _) (Fin.ext ?_) (Fin.ext ?_))
  · show (b.val * 4 + c.val) / 4 = b.val
    omega
  · show (b.val * 4 + c.val) % 4 * 64 + j.val = c.val % 4 * 64 + j.val
    omega

theorem pre0_apply (b : Fin 16) (e : Fin 256) (n : Fin 768) : val_main_v15 (F := Ideal) x0 x1 x2 (ix3 b e n)
    = ∑ l : Fin 16, val_main_v2 (F := Ideal) x0 (ix3 b e (⟨5120 + 16 * 0 + l.val, by omega⟩ : Fin 5376)) * x1 (ix3 0 l n)
      + x2 (ix2 0 n) := by
  simp only [val_main_v15, val_main_v14, val_main_v13, val_main_v12, val_main_v7, val_main_v6, val_main_v5, val_main_v4,
    val_main_v3]
  generalize val_main_v2 (F := Ideal) x0 = y
  pointwise

theorem pre1_apply (b : Fin 16) (e : Fin 256) (n : Fin 768) : val_main_v74 (F := Ideal) x0 x1 x2 (ix3 b e n)
    = ∑ l : Fin 16, val_main_v60 (F := Ideal) x0 (ix3 b e (⟨5120 + 16 * 1 + l.val, by omega⟩ : Fin 5376)) * x1 (ix3 1 l n)
      + x2 (ix2 1 n) := by
  have h : val_main_v61 (F := Ideal) x0 = val_main_v60 (F := Ideal) x0 := rfl
  simp only [val_main_v74, val_main_v73, val_main_v72, val_main_v71, val_main_v66, val_main_v65, val_main_v64,
    val_main_v63, val_main_v62, h]
  generalize val_main_v60 (F := Ideal) x0 = y
  pointwise

theorem forward_apply (b : Fin 16) (h : Fin 6) (k : Fin 128) (v : Fin 256) :
    val_main_v59 (F := Ideal) x0 x1 x2 (ix4 b h k v) = stateAt x0 x1 x2 0 b h v k 4 := by
  rw [forward_eq]
  refine dirOps_apply _ _ _ _ _ _ b (fun c j n => ?_) (fun c j n => ?_) (fun c j h w => ?_) h k v
  · rw [pre0_apply]
    simp only [rows_apply]
    rfl
  · refine (keysOps_apply (val_main_v2 (F := Ideal) x0) b c j n).trans ?_
    rw [rows_apply]
    rfl
  · refine (valuesOps_apply (val_main_v2 (F := Ideal) x0) b c j h w).trans ?_
    rw [rows_apply]
    rfl

theorem backward_apply (b : Fin 16) (h : Fin 6) (k : Fin 128) (v : Fin 256) :
    val_main_v118 (F := Ideal) x0 x1 x2 (ix4 b h k v) = stateAt x0 x1 x2 1 b h v k 4 := by
  rw [backward_eq]
  refine dirOps_apply _ _ _ _ _ _ b (fun c j n => ?_) (fun c j n => ?_) (fun c j h w => ?_) h k v
  · rw [pre1_apply]
    simp only [turned_apply]
    rfl
  · refine (keysOps_apply (val_main_v60 (F := Ideal) x0) b c j n).trans ?_
    rw [turned_apply]
    rfl
  · refine (valuesOps_apply (val_main_v60 (F := Ideal) x0) b c j h w).trans ?_
    rw [turned_apply]
    rfl

theorem stacked_apply (y z : S16x1x6x128x256.Idx → EReal) (b : Fin 16) (d : Fin 2) (h : Fin 6) (k : Fin 128) (v : Fin 256) :
    concatenate S16x2x6x128x256 1 [⟨S16x1x6x128x256, y⟩, ⟨S16x1x6x128x256, z⟩]
        concatenates_S16x1x6x128x256_S16x1x6x128x256_S16x2x6x128x256_d1 (ix5 b d h k v)
      = if d.val < 1 then y (ix5 b 0 h k v) else z (ix5 b 0 h k v) := by
  pointwise
  by_cases hd : d.val < 1
  · simp only [dif_pos hd, if_pos hd]
    exact congrArg (fun a => y (ix5 b a h k v)) (Fin.ext (by simp; omega))
  · simp only [dif_neg hd, if_neg hd]
    exact congrArg (fun a => z (ix5 b a h k v)) (Fin.ext (by simp; omega))

theorem layer_apply (y : S16x6x128x256.Idx → EReal) (b : Fin 16) (h : Fin 6) (k : Fin 128) (v : Fin 256) :
    broadcastInDim S16x1x6x128x256 ![0, 2, 3, 4] bcast_S16x6x128x256_S16x1x6x128x256_0_2_3_4 y (ix5 b 0 h k v)
      = y (ix4 b h k v) := by
  pointwise

theorem result_apply (b : Fin 16) (d : Fin 2) (h : Fin 6) (k : Fin 128) (v : Fin 256) :
    val_main_v121 (F := Ideal) x0 x1 x2 (ix5 b d h k v) = stateAt x0 x1 x2 d b h v k 4 := by
  unfold val_main_v121
  rw [stacked_apply]
  match d with
  | ⟨0, _⟩ =>
    refine (if_pos Nat.zero_lt_one).trans ?_
    unfold val_main_v119
    exact (layer_apply _ b h k v).trans (forward_apply x0 x1 x2 b h k v)
  | ⟨1, _⟩ =>
    refine (if_neg (Nat.lt_irrefl 1)).trans ?_
    unfold val_main_v120
    exact (layer_apply _ b h k v).trans (backward_apply x0 x1 x2 b h k v)

end Cert.GlaRefIdeal.Rows

end
-- ==== Proof.Mix.Gla.lean ====
/- The claims of the gated linear attention's states. -/
module

public import proofs.«01_k».proof.Proof.Mix.GlaScan
public import proofs.«01_k».proof.Proof.Mix.GlaRef
public import proofs.«01_k».proof.Proof.Gen.Gla.Frame
public import proofs.«01_k».proof.Proof.Gen.GlaRefIdeal.Run
public import proofs.«01_k».proof.Defs

@[expose] public section

set_option maxRecDepth 16384

noncomputable section

namespace Cert.GlaClaim

open Idealize.ShloMosaic Idealize.ShloMosaic.TcCoe Idealize.SL.Sem Cert.GlaMath

theorem frame : Cert.quiescent_Gla := fun m ρ _ => Cert.Gla.Gen.frame m ρ

theorem frame_ideal : Cert.quiescent_GlaIdeal := fun m ρ _ => Cert.GlaIdeal.Gen.frame m ρ

theorem frame_reference : Cert.quiescent_GlaRefIdeal := fun m ρ _ =>
  (θ_run Cert.GlaRefIdeal.defs _ _).mono
    (fun r h => ⟨fun c => (h c).2, sem_eq_zero_of_no_sems (by decide) r.2⟩)
    (Cert.GlaRefIdeal.Value.run (F := Ideal) m ρ)

theorem algebraic : Cert.algebraic_GlaIdeal_GlaRefIdeal := by
  intro m ρ m' ρ' hpre hagree
  refine ⟨fun c => Cert.GlaIdeal.Blocks.result m c, Cert.GlaIdeal.Blocks.run_arrays m ρ, ?_⟩
  refine (θ_run Cert.GlaRefIdeal.defs _ _).mono (fun _ h c => ⟨(h c).1.trans ?_, (h c).2⟩)
    (Cert.GlaRefIdeal.Value.run (F := Ideal) m' ρ')
  obtain ⟨e0, e1, e2⟩ := hagree c
  rw [Cert.GlaRefIdeal.Read.val_main_v121_eq,
    show StableHlo.launchContents m' c (Proc.devRef .tc Cert.GlaRefIdeal.main_arg0) = _ from e0,
    show StableHlo.launchContents m' c (Proc.devRef .tc Cert.GlaRefIdeal.main_arg1) = _ from e1,
    show StableHlo.launchContents m' c (Proc.devRef .tc Cert.GlaRefIdeal.main_arg2) = _ from e2]
  funext i
  exact (congrArg _ (Cert.GlaIdeal.Blocks.ext5 i)).trans
    (Cert.GlaRefIdeal.Rows.result_apply _ _ _ (i 0) (i 1) (i 2) (i 3) (i 4))

end Cert.GlaClaim

end
-- ==== Proof.lean ====
/- The certificate: every claim of `Cert.Claim`, from the modules under Proof/. -/
module

public import proofs.«01_k».proof.Proof.Attn.Claim
public import proofs.«01_k».proof.Proof.Mix.EvenIn
public import proofs.«01_k».proof.Proof.Mix.OddIn
public import proofs.«01_k».proof.Proof.Mix.EvenOut
public import proofs.«01_k».proof.Proof.Mix.OddOut
public import proofs.«01_k».proof.Proof.Mix.Query
public import proofs.«01_k».proof.Proof.Mix.Streams
public import proofs.«01_k».proof.Proof.Attn.Context
public import proofs.«01_k».proof.Proof.Mix.Modulation
public import proofs.«01_k».proof.Proof.Mix.Gla

@[expose] public section

noncomputable section

namespace Cert.Proof

open Idealize.ShloMosaic Idealize.SL.Sem Cert.Attn

theorem claim : Cert.Claim :=
  ⟨Cert.Attn.Gen.facts, Cert.AttnIdeal.Gen.facts, Cert.AttnRefIdeal.Gen.facts,
    Cert.EvenIn.Gen.facts, Cert.EvenInIdeal.Gen.facts, Cert.EvenInRefIdeal.Gen.facts,
    Cert.OddIn.Gen.facts, Cert.OddInIdeal.Gen.facts, Cert.OddInRefIdeal.Gen.facts,
    Cert.EvenOut.Gen.facts, Cert.EvenOutIdeal.Gen.facts, Cert.EvenOutRefIdeal.Gen.facts,
    Cert.OddOut.Gen.facts, Cert.OddOutIdeal.Gen.facts, Cert.OddOutRefIdeal.Gen.facts,
    Cert.Query.Gen.facts, Cert.QueryIdeal.Gen.facts, Cert.QueryRefIdeal.Gen.facts,
    Cert.Ctx.Gen.facts, Cert.CtxIdeal.Gen.facts, Cert.CtxRefIdeal.Gen.facts,
    Cert.Streams.Gen.facts, Cert.StreamsIdeal.Gen.facts, Cert.StreamsRefIdeal.Gen.facts,
    Cert.Modu.Gen.facts, Cert.ModuIdeal.Gen.facts, Cert.ModuRefIdeal.Gen.facts,
    Cert.Gla.Gen.facts, Cert.GlaIdeal.Gen.facts, Cert.GlaRefIdeal.Gen.facts,
    Cert.AttnClaim.preFacts, Cert.CtxClaim.preFacts,
    Cert.AttnClaim.frame, Cert.AttnClaim.frame_ideal, Cert.AttnClaim.frame_ideal_pre, Cert.AttnClaim.frame_reference,
    Cert.AttnClaim.frame_reference_pre,
    Cert.EvenInClaim.frame, Cert.EvenInClaim.frame_ideal, Cert.EvenInClaim.frame_reference,
    Cert.OddInClaim.frame, Cert.OddInClaim.frame_ideal, Cert.OddInClaim.frame_reference,
    Cert.EvenOutClaim.frame, Cert.EvenOutClaim.frame_ideal, Cert.EvenOutClaim.frame_reference,
    Cert.OddOutClaim.frame, Cert.OddOutClaim.frame_ideal, Cert.OddOutClaim.frame_reference,
    Cert.QueryClaim.frame, Cert.QueryClaim.frame_ideal, Cert.QueryClaim.frame_reference,
    Cert.CtxClaim.frame, Cert.CtxClaim.frame_ideal, Cert.CtxClaim.frame_ideal_pre, Cert.CtxClaim.frame_reference,
    Cert.CtxClaim.frame_reference_pre,
    Cert.StreamsClaim.frame, Cert.StreamsClaim.frame_ideal, Cert.StreamsClaim.frame_reference,
    Cert.ModuClaim.frame, Cert.ModuClaim.frame_ideal, Cert.ModuClaim.frame_reference,
    Cert.GlaClaim.frame, Cert.GlaClaim.frame_ideal, Cert.GlaClaim.frame_reference,
    trivial, Cert.AttnClaim.algebraic,
    trivial, Cert.EvenInClaim.algebraic,
    trivial, Cert.OddInClaim.algebraic,
    trivial, Cert.EvenOutClaim.algebraic,
    trivial, Cert.OddOutClaim.algebraic,
    trivial, Cert.QueryClaim.algebraic,
    trivial, Cert.CtxClaim.algebraic,
    trivial, Cert.StreamsClaim.algebraic,
    trivial, Cert.ModuClaim.algebraic,
    trivial, Cert.GlaClaim.algebraic⟩

end Cert.Proof

end
